-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6))) = (fun _ => 1#1)

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixRefIdeal (m : (ℓ : Loc Cert.PremixRefIdeal.nD Cert.PremixRefIdeal.τ Cert.PremixRefIdeal.sig) → Buf (Elt Ideal) ℓ) : Prop :=
  True

def Pre_Postmix (m : (ℓ : Loc Cert.Postmix.nD Cert.Postmix.τ Cert.Postmix.sig) → Buf (Elt Bits) ℓ) : Prop :=
  True

def Pre_PostmixIdeal (m : (ℓ : Loc Cert.PostmixIdeal.nD Cert.PostmixIdeal.τ Cert.PostmixIdeal.sig) → Buf (Elt Ideal) ℓ) : Prop :=
  True

def Pre_PostmixRefIdeal (m : (ℓ : Loc Cert.PostmixRefIdeal.nD Cert.PostmixRefIdeal.τ Cert.PostmixRefIdeal.sig) → Buf (Elt Ideal) ℓ) : Prop :=
  True

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_named [hPre_experts_named : Cert.Pre_experts_named.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_named.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_decays_below_infinity [hPre_decays_below_infinity : Cert.Pre_decays_below_infinity.Facts] (m : (ℓ : Loc Cert.GlaIdeal.nD Cert.GlaIdeal.τ Cert.GlaIdeal.sig) → Buf (Elt Ideal) ℓ) : Prop :=
  ∀ c : Dev Cert.GlaIdeal.nD,
    (Cert.Pre_decays_below_infinity.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_decays_below_infinity [hPre_decays_below_infinity : Cert.Pre_decays_below_infinity.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_decays_below_infinity.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4)
      ∧ r.2.mem ((c.tc : Thread Cert.Premix.nD Cert.Premix.τ).loc Cert.Premix.main_arg5) = m ((c.tc : Thread Cert.Premix.nD Cert.Premix.τ).loc Cert.Premix.main_arg5)
      ∧ r.2.mem ((c.tc : Thread Cert.Premix.nD Cert.Premix.τ).loc Cert.Premix.main_arg6) = m ((c.tc : Thread Cert.Premix.nD Cert.Premix.τ).loc Cert.Premix.main_arg6))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
      ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
      ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6))
      ∧ r.2.sem = fun _ => 0)

def quiescent_PremixRefIdeal [hPremixRefIdeal : Cert.PremixRefIdeal.Facts] : Prop :=
  ∀ (m : (ℓ : Loc Cert.PremixRefIdeal.nD Cert.PremixRefIdeal.τ Cert.PremixRefIdeal.sig) → Buf (Elt Ideal) ℓ) (g : Dev Cert.PremixRefIdeal.nD → PrngReg), Pre_PremixRefIdeal m →
    θ_run (Cert.PremixRefIdeal.defs (F := Ideal)) (onTc (τ := Cert.PremixRefIdeal.τ) (Cert.PremixRefIdeal.main (F := Ideal))) ⟨m, fun _ => 0, g⟩ (fun r => (∀ c : Dev Cert.PremixRefIdeal.nD,
      r.2.mem ((c.tc : Thread Cert.PremixRefIdeal.nD Cert.PremixRefIdeal.τ).loc Cert.PremixRefIdeal.main_arg0) = m ((c.tc : Thread Cert.PremixRefIdeal.nD Cert.PremixRefIdeal.τ).loc Cert.PremixRefIdeal.main_arg0)
      ∧ r.2.mem ((c.tc : Thread Cert.PremixRefIdeal.nD Cert.PremixRefIdeal.τ).loc Cert.PremixRefIdeal.main_arg1) = m ((c.tc : Thread Cert.PremixRefIdeal.nD Cert.PremixRefIdeal.τ).loc Cert.PremixRefIdeal.main_arg1)
      ∧ r.2.mem ((c.tc : Thread Cert.PremixRefIdeal.nD Cert.PremixRefIdeal.τ).loc Cert.PremixRefIdeal.main_arg2) = m ((c.tc : Thread Cert.PremixRefIdeal.nD Cert.PremixRefIdeal.τ).loc Cert.PremixRefIdeal.main_arg2)
      ∧ r.2.mem ((c.tc : Thread Cert.PremixRefIdeal.nD Cert.PremixRefIdeal.τ).loc Cert.PremixRefIdeal.main_arg3) = m ((c.tc : Thread Cert.PremixRefIdeal.nD Cert.PremixRefIdeal.τ).loc Cert.PremixRefIdeal.main_arg3)
      ∧ r.2.mem ((c.tc : Thread Cert.PremixRefIdeal.nD Cert.PremixRefIdeal.τ).loc Cert.PremixRefIdeal.main_arg4) = m ((c.tc : Thread Cert.PremixRefIdeal.nD Cert.PremixRefIdeal.τ).loc Cert.PremixRefIdeal.main_arg4)
      ∧ r.2.mem ((c.tc : Thread Cert.PremixRefIdeal.nD Cert.PremixRefIdeal.τ).loc Cert.PremixRefIdeal.main_arg5) = m ((c.tc : Thread Cert.PremixRefIdeal.nD Cert.PremixRefIdeal.τ).loc Cert.PremixRefIdeal.main_arg5)
      ∧ r.2.mem ((c.tc : Thread Cert.PremixRefIdeal.nD Cert.PremixRefIdeal.τ).loc Cert.PremixRefIdeal.main_arg6) = m ((c.tc : Thread Cert.PremixRefIdeal.nD Cert.PremixRefIdeal.τ).loc Cert.PremixRefIdeal.main_arg6))
      ∧ r.2.sem = fun _ => 0)

def quiescent_Postmix [hPostmix : Cert.Postmix.Facts] : Prop :=
  ∀ (m : (ℓ : Loc Cert.Postmix.nD Cert.Postmix.τ Cert.Postmix.sig) → Buf (Elt Bits) ℓ) (g : Dev Cert.Postmix.nD → PrngReg), Pre_Postmix m →
    θ_run (Cert.Postmix.defs (F := Bits)) (onTc (τ := Cert.Postmix.τ) (Cert.Postmix.main (F := Bits))) ⟨m, fun _ => 0, g⟩ (fun r => (∀ c : Dev Cert.Postmix.nD,
      r.2.mem ((c.tc : Thread Cert.Postmix.nD Cert.Postmix.τ).loc Cert.Postmix.main_arg0) = m ((c.tc : Thread Cert.Postmix.nD Cert.Postmix.τ).loc Cert.Postmix.main_arg0)
      ∧ r.2.mem ((c.tc : Thread Cert.Postmix.nD Cert.Postmix.τ).loc Cert.Postmix.main_arg1) = m ((c.tc : Thread Cert.Postmix.nD Cert.Postmix.τ).loc Cert.Postmix.main_arg1)
      ∧ r.2.mem ((c.tc : Thread Cert.Postmix.nD Cert.Postmix.τ).loc Cert.Postmix.main_arg2) = m ((c.tc : Thread Cert.Postmix.nD Cert.Postmix.τ).loc Cert.Postmix.main_arg2)
      ∧ r.2.mem ((c.tc : Thread Cert.Postmix.nD Cert.Postmix.τ).loc Cert.Postmix.main_arg3) = m ((c.tc : Thread Cert.Postmix.nD Cert.Postmix.τ).loc Cert.Postmix.main_arg3)
      ∧ r.2.mem ((c.tc : Thread Cert.Postmix.nD Cert.Postmix.τ).loc Cert.Postmix.main_arg4) = m ((c.tc : Thread Cert.Postmix.nD Cert.Postmix.τ).loc Cert.Postmix.main_arg4)
      ∧ r.2.mem ((c.tc : Thread Cert.Postmix.nD Cert.Postmix.τ).loc Cert.Postmix.main_arg5) = m ((c.tc : Thread Cert.Postmix.nD Cert.Postmix.τ).loc Cert.Postmix.main_arg5)
      ∧ r.2.mem ((c.tc : Thread Cert.Postmix.nD Cert.Postmix.τ).loc Cert.Postmix.main_arg6) = m ((c.tc : Thread Cert.Postmix.nD Cert.Postmix.τ).loc Cert.Postmix.main_arg6)
      ∧ r.2.mem ((c.tc : Thread Cert.Postmix.nD Cert.Postmix.τ).loc Cert.Postmix.main_arg7) = m ((c.tc : Thread Cert.Postmix.nD Cert.Postmix.τ).loc Cert.Postmix.main_arg7)
      ∧ r.2.mem ((c.tc : Thread Cert.Postmix.nD Cert.Postmix.τ).loc Cert.Postmix.main_arg8) = m ((c.tc : Thread Cert.Postmix.nD Cert.Postmix.τ).loc Cert.Postmix.main_arg8)
      ∧ r.2.mem ((c.tc : Thread Cert.Postmix.nD Cert.Postmix.τ).loc Cert.Postmix.main_arg9) = m ((c.tc : Thread Cert.Postmix.nD Cert.Postmix.τ).loc Cert.Postmix.main_arg9)
      ∧ r.2.mem ((c.tc : Thread Cert.Postmix.nD Cert.Postmix.τ).loc Cert.Postmix.main_arg10) = m ((c.tc : Thread Cert.Postmix.nD Cert.Postmix.τ).loc Cert.Postmix.main_arg10)
      ∧ r.2.mem ((c.tc : Thread Cert.Postmix.nD Cert.Postmix.τ).loc Cert.Postmix.main_arg11) = m ((c.tc : Thread Cert.Postmix.nD Cert.Postmix.τ).loc Cert.Postmix.main_arg11)
      ∧ r.2.mem ((c.tc : Thread Cert.Postmix.nD Cert.Postmix.τ).loc Cert.Postmix.main_arg12) = m ((c.tc : Thread Cert.Postmix.nD Cert.Postmix.τ).loc Cert.Postmix.main_arg12)
      ∧ r.2.mem ((c.tc : Thread Cert.Postmix.nD Cert.Postmix.τ).loc Cert.Postmix.main_arg13) = m ((c.tc : Thread Cert.Postmix.nD Cert.Postmix.τ).loc Cert.Postmix.main_arg13))
      ∧ r.2.sem = fun _ => 0)

def quiescent_PostmixIdeal [hPostmixIdeal : Cert.PostmixIdeal.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
      ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
      ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
      ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
      ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11)
      ∧ r.2.mem ((c.tc : Thread Cert.PostmixIdeal.nD Cert.PostmixIdeal.τ).loc Cert.PostmixIdeal.main_arg12) = m ((c.tc : Thread Cert.PostmixIdeal.nD Cert.PostmixIdeal.τ).loc Cert.PostmixIdeal.main_arg12)
      ∧ r.2.mem ((c.tc : Thread Cert.PostmixIdeal.nD Cert.PostmixIdeal.τ).loc Cert.PostmixIdeal.main_arg13) = m ((c.tc : Thread Cert.PostmixIdeal.nD Cert.PostmixIdeal.τ).loc Cert.PostmixIdeal.main_arg13))
      ∧ r.2.sem = fun _ => 0)

def quiescent_PostmixRefIdeal [hPostmixRefIdeal : Cert.PostmixRefIdeal.Facts] : Prop :=
  ∀ (m : (ℓ : Loc Cert.PostmixRefIdeal.nD Cert.PostmixRefIdeal.τ Cert.PostmixRefIdeal.sig) → Buf (Elt Ideal) ℓ) (g : Dev Cert.PostmixRefIdeal.nD → PrngReg), Pre_PostmixRefIdeal m →
    θ_run (Cert.PostmixRefIdeal.defs (F := Ideal)) (onTc (τ := Cert.PostmixRefIdeal.τ) (Cert.PostmixRefIdeal.main (F := Ideal))) ⟨m, fun _ => 0, g⟩ (fun r => (∀ c : Dev Cert.PostmixRefIdeal.nD,
      r.2.mem ((c.tc : Thread Cert.PostmixRefIdeal.nD Cert.PostmixRefIdeal.τ).loc Cert.PostmixRefIdeal.main_arg0) = m ((c.tc : Thread Cert.PostmixRefIdeal.nD Cert.PostmixRefIdeal.τ).loc Cert.PostmixRefIdeal.main_arg0)
      ∧ r.2.mem ((c.tc : Thread Cert.PostmixRefIdeal.nD Cert.PostmixRefIdeal.τ).loc Cert.PostmixRefIdeal.main_arg1) = m ((c.tc : Thread Cert.PostmixRefIdeal.nD Cert.PostmixRefIdeal.τ).loc Cert.PostmixRefIdeal.main_arg1)
      ∧ r.2.mem ((c.tc : Thread Cert.PostmixRefIdeal.nD Cert.PostmixRefIdeal.τ).loc Cert.PostmixRefIdeal.main_arg2) = m ((c.tc : Thread Cert.PostmixRefIdeal.nD Cert.PostmixRefIdeal.τ).loc Cert.PostmixRefIdeal.main_arg2)
      ∧ r.2.mem ((c.tc : Thread Cert.PostmixRefIdeal.nD Cert.PostmixRefIdeal.τ).loc Cert.PostmixRefIdeal.main_arg3) = m ((c.tc : Thread Cert.PostmixRefIdeal.nD Cert.PostmixRefIdeal.τ).loc Cert.PostmixRefIdeal.main_arg3)
      ∧ r.2.mem ((c.tc : Thread Cert.PostmixRefIdeal.nD Cert.PostmixRefIdeal.τ).loc Cert.PostmixRefIdeal.main_arg4) = m ((c.tc : Thread Cert.PostmixRefIdeal.nD Cert.PostmixRefIdeal.τ).loc Cert.PostmixRefIdeal.main_arg4)
      ∧ r.2.mem ((c.tc : Thread Cert.PostmixRefIdeal.nD Cert.PostmixRefIdeal.τ).loc Cert.PostmixRefIdeal.main_arg5) = m ((c.tc : Thread Cert.PostmixRefIdeal.nD Cert.PostmixRefIdeal.τ).loc Cert.PostmixRefIdeal.main_arg5)
      ∧ r.2.mem ((c.tc : Thread Cert.PostmixRefIdeal.nD Cert.PostmixRefIdeal.τ).loc Cert.PostmixRefIdeal.main_arg6) = m ((c.tc : Thread Cert.PostmixRefIdeal.nD Cert.PostmixRefIdeal.τ).loc Cert.PostmixRefIdeal.main_arg6)
      ∧ r.2.mem ((c.tc : Thread Cert.PostmixRefIdeal.nD Cert.PostmixRefIdeal.τ).loc Cert.PostmixRefIdeal.main_arg7) = m ((c.tc : Thread Cert.PostmixRefIdeal.nD Cert.PostmixRefIdeal.τ).loc Cert.PostmixRefIdeal.main_arg7)
      ∧ r.2.mem ((c.tc : Thread Cert.PostmixRefIdeal.nD Cert.PostmixRefIdeal.τ).loc Cert.PostmixRefIdeal.main_arg8) = m ((c.tc : Thread Cert.PostmixRefIdeal.nD Cert.PostmixRefIdeal.τ).loc Cert.PostmixRefIdeal.main_arg8)
      ∧ r.2.mem ((c.tc : Thread Cert.PostmixRefIdeal.nD Cert.PostmixRefIdeal.τ).loc Cert.PostmixRefIdeal.main_arg9) = m ((c.tc : Thread Cert.PostmixRefIdeal.nD Cert.PostmixRefIdeal.τ).loc Cert.PostmixRefIdeal.main_arg9)
      ∧ r.2.mem ((c.tc : Thread Cert.PostmixRefIdeal.nD Cert.PostmixRefIdeal.τ).loc Cert.PostmixRefIdeal.main_arg10) = m ((c.tc : Thread Cert.PostmixRefIdeal.nD Cert.PostmixRefIdeal.τ).loc Cert.PostmixRefIdeal.main_arg10)
      ∧ r.2.mem ((c.tc : Thread Cert.PostmixRefIdeal.nD Cert.PostmixRefIdeal.τ).loc Cert.PostmixRefIdeal.main_arg11) = m ((c.tc : Thread Cert.PostmixRefIdeal.nD Cert.PostmixRefIdeal.τ).loc Cert.PostmixRefIdeal.main_arg11)
      ∧ r.2.mem ((c.tc : Thread Cert.PostmixRefIdeal.nD Cert.PostmixRefIdeal.τ).loc Cert.PostmixRefIdeal.main_arg12) = m ((c.tc : Thread Cert.PostmixRefIdeal.nD Cert.PostmixRefIdeal.τ).loc Cert.PostmixRefIdeal.main_arg12)
      ∧ r.2.mem ((c.tc : Thread Cert.PostmixRefIdeal.nD Cert.PostmixRefIdeal.τ).loc Cert.PostmixRefIdeal.main_arg13) = m ((c.tc : Thread Cert.PostmixRefIdeal.nD Cert.PostmixRefIdeal.τ).loc Cert.PostmixRefIdeal.main_arg13))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_experts_named [hMoeRefIdeal : Cert.MoeRefIdeal.Facts] [hPre_experts_named : Cert.Pre_experts_named.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_named m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaIdeal_pre_decays_below_infinity [hGlaIdeal : Cert.GlaIdeal.Facts] [hPre_decays_below_infinity : Cert.Pre_decays_below_infinity.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_decays_below_infinity m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def quiescent_GlaRefIdeal_pre_decays_below_infinity [hGlaRefIdeal : Cert.GlaRefIdeal.Facts] [hPre_decays_below_infinity : Cert.Pre_decays_below_infinity.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_decays_below_infinity m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)
      ∧ m' ((c.tc : Thread Cert.SwaRefIdeal.nD Cert.SwaRefIdeal.τ).loc Cert.SwaRefIdeal.main_arg6) = m ((c.tc : Thread Cert.SwaIdeal.nD Cert.SwaIdeal.τ).loc Cert.SwaIdeal.main_arg6)) →
    ∃ (v0 : (c : Dev Cert.SwaIdeal.nD) → Buf (Elt Ideal) ((c.tc : Thread Cert.SwaIdeal.nD Cert.SwaIdeal.τ).loc Cert.SwaIdeal.main_v18)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v18) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
          ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v124) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5)
          ∧ r.2.mem ((c.tc : Thread Cert.SwaRefIdeal.nD Cert.SwaRefIdeal.τ).loc Cert.SwaRefIdeal.main_arg6) = m' ((c.tc : Thread Cert.SwaRefIdeal.nD Cert.SwaRefIdeal.τ).loc Cert.SwaRefIdeal.main_arg6))

def preserves_Premix_PremixIdeal : Prop :=
  True

def algebraic_PremixIdeal_PremixRefIdeal [hPremixIdeal : Cert.PremixIdeal.Facts] [hPremixRefIdeal : Cert.PremixRefIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixRefIdeal.nD Cert.PremixRefIdeal.τ Cert.PremixRefIdeal.sig) → Buf (Elt Ideal) ℓ) (g' : Dev Cert.PremixRefIdeal.nD → PrngReg), Pre_PremixIdeal m →
    (∀ c : Dev Cert.PremixIdeal.nD,
      m' ((c.tc : Thread Cert.PremixRefIdeal.nD Cert.PremixRefIdeal.τ).loc Cert.PremixRefIdeal.main_arg0) = m ((c.tc : Thread Cert.PremixIdeal.nD Cert.PremixIdeal.τ).loc Cert.PremixIdeal.main_arg0)
      ∧ m' ((c.tc : Thread Cert.PremixRefIdeal.nD Cert.PremixRefIdeal.τ).loc Cert.PremixRefIdeal.main_arg1) = m ((c.tc : Thread Cert.PremixIdeal.nD Cert.PremixIdeal.τ).loc Cert.PremixIdeal.main_arg1)
      ∧ m' ((c.tc : Thread Cert.PremixRefIdeal.nD Cert.PremixRefIdeal.τ).loc Cert.PremixRefIdeal.main_arg2) = m ((c.tc : Thread Cert.PremixIdeal.nD Cert.PremixIdeal.τ).loc Cert.PremixIdeal.main_arg2)
      ∧ m' ((c.tc : Thread Cert.PremixRefIdeal.nD Cert.PremixRefIdeal.τ).loc Cert.PremixRefIdeal.main_arg3) = m ((c.tc : Thread Cert.PremixIdeal.nD Cert.PremixIdeal.τ).loc Cert.PremixIdeal.main_arg3)
      ∧ m' ((c.tc : Thread Cert.PremixRefIdeal.nD Cert.PremixRefIdeal.τ).loc Cert.PremixRefIdeal.main_arg4) = m ((c.tc : Thread Cert.PremixIdeal.nD Cert.PremixIdeal.τ).loc Cert.PremixIdeal.main_arg4)
      ∧ m' ((c.tc : Thread Cert.PremixRefIdeal.nD Cert.PremixRefIdeal.τ).loc Cert.PremixRefIdeal.main_arg5) = m ((c.tc : Thread Cert.PremixIdeal.nD Cert.PremixIdeal.τ).loc Cert.PremixIdeal.main_arg5)
      ∧ m' ((c.tc : Thread Cert.PremixRefIdeal.nD Cert.PremixRefIdeal.τ).loc Cert.PremixRefIdeal.main_arg6) = m ((c.tc : Thread Cert.PremixIdeal.nD Cert.PremixIdeal.τ).loc Cert.PremixIdeal.main_arg6)) →
    ∃ (v0 : (c : Dev Cert.PremixIdeal.nD) → Buf (Elt Ideal) ((c.tc : Thread Cert.PremixIdeal.nD Cert.PremixIdeal.τ).loc Cert.PremixIdeal.main_v18_0)) (v1 : (c : Dev Cert.PremixIdeal.nD) → Buf (Elt Ideal) ((c.tc : Thread Cert.PremixIdeal.nD Cert.PremixIdeal.τ).loc Cert.PremixIdeal.main_v18_1)) (v2 : (c : Dev Cert.PremixIdeal.nD) → Buf (Elt Ideal) ((c.tc : Thread Cert.PremixIdeal.nD Cert.PremixIdeal.τ).loc Cert.PremixIdeal.main_v18_2)) (v3 : (c : Dev Cert.PremixIdeal.nD) → Buf (Elt Ideal) ((c.tc : Thread Cert.PremixIdeal.nD Cert.PremixIdeal.τ).loc Cert.PremixIdeal.main_v18_3)) (v4 : (c : Dev Cert.PremixIdeal.nD) → Buf (Elt Ideal) ((c.tc : Thread Cert.PremixIdeal.nD Cert.PremixIdeal.τ).loc Cert.PremixIdeal.main_v18_4)) (v5 : (c : Dev Cert.PremixIdeal.nD) → Buf (Elt Ideal) ((c.tc : Thread Cert.PremixIdeal.nD Cert.PremixIdeal.τ).loc Cert.PremixIdeal.main_v18_5)) (v6 : (c : Dev Cert.PremixIdeal.nD) → Buf (Elt Ideal) ((c.tc : Thread Cert.PremixIdeal.nD Cert.PremixIdeal.τ).loc Cert.PremixIdeal.main_v18_6)) (v7 : (c : Dev Cert.PremixIdeal.nD) → Buf (Elt Ideal) ((c.tc : Thread Cert.PremixIdeal.nD Cert.PremixIdeal.τ).loc Cert.PremixIdeal.main_v18_7)) (v8 : (c : Dev Cert.PremixIdeal.nD) → Buf (Elt Ideal) ((c.tc : Thread Cert.PremixIdeal.nD Cert.PremixIdeal.τ).loc Cert.PremixIdeal.main_v18_8)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v18_0) = v0 c
          ∧ r.2.mem ((c.tc : Thread Cert.PremixIdeal.nD Cert.PremixIdeal.τ).loc Cert.PremixIdeal.main_v18_1) = v1 c
          ∧ r.2.mem ((c.tc : Thread Cert.PremixIdeal.nD Cert.PremixIdeal.τ).loc Cert.PremixIdeal.main_v18_2) = v2 c
          ∧ r.2.mem ((c.tc : Thread Cert.PremixIdeal.nD Cert.PremixIdeal.τ).loc Cert.PremixIdeal.main_v18_3) = v3 c
          ∧ r.2.mem ((c.tc : Thread Cert.PremixIdeal.nD Cert.PremixIdeal.τ).loc Cert.PremixIdeal.main_v18_4) = v4 c
          ∧ r.2.mem ((c.tc : Thread Cert.PremixIdeal.nD Cert.PremixIdeal.τ).loc Cert.PremixIdeal.main_v18_5) = v5 c
          ∧ r.2.mem ((c.tc : Thread Cert.PremixIdeal.nD Cert.PremixIdeal.τ).loc Cert.PremixIdeal.main_v18_6) = v6 c
          ∧ r.2.mem ((c.tc : Thread Cert.PremixIdeal.nD Cert.PremixIdeal.τ).loc Cert.PremixIdeal.main_v18_7) = v7 c
          ∧ r.2.mem ((c.tc : Thread Cert.PremixIdeal.nD Cert.PremixIdeal.τ).loc Cert.PremixIdeal.main_v18_8) = v8 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
          ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
          ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6))
      ∧ θ_run (Cert.PremixRefIdeal.defs (F := Ideal)) (onTc (τ := Cert.PremixRefIdeal.τ) (Cert.PremixRefIdeal.main (F := Ideal))) ⟨m', fun _ => 0, g'⟩ (fun r => ∀ c : Dev Cert.PremixRefIdeal.nD,
          r.2.mem ((c.tc : Thread Cert.PremixRefIdeal.nD Cert.PremixRefIdeal.τ).loc Cert.PremixRefIdeal.main_v41) = v0 c
          ∧ r.2.mem ((c.tc : Thread Cert.PremixRefIdeal.nD Cert.PremixRefIdeal.τ).loc Cert.PremixRefIdeal.main_v42) = v1 c
          ∧ r.2.mem ((c.tc : Thread Cert.PremixRefIdeal.nD Cert.PremixRefIdeal.τ).loc Cert.PremixRefIdeal.main_v43) = v2 c
          ∧ r.2.mem ((c.tc : Thread Cert.PremixRefIdeal.nD Cert.PremixRefIdeal.τ).loc Cert.PremixRefIdeal.main_v38) = v3 c
          ∧ r.2.mem ((c.tc : Thread Cert.PremixRefIdeal.nD Cert.PremixRefIdeal.τ).loc Cert.PremixRefIdeal.main_v45) = v4 c
          ∧ r.2.mem ((c.tc : Thread Cert.PremixRefIdeal.nD Cert.PremixRefIdeal.τ).loc Cert.PremixRefIdeal.main_v46) = v5 c
          ∧ r.2.mem ((c.tc : Thread Cert.PremixRefIdeal.nD Cert.PremixRefIdeal.τ).loc Cert.PremixRefIdeal.main_v48) = v6 c
          ∧ r.2.mem ((c.tc : Thread Cert.PremixRefIdeal.nD Cert.PremixRefIdeal.τ).loc Cert.PremixRefIdeal.main_v55) = v7 c
          ∧ r.2.mem ((c.tc : Thread Cert.PremixRefIdeal.nD Cert.PremixRefIdeal.τ).loc Cert.PremixRefIdeal.main_v62) = v8 c
          ∧ r.2.mem ((c.tc : Thread Cert.PremixRefIdeal.nD Cert.PremixRefIdeal.τ).loc Cert.PremixRefIdeal.main_arg0) = m' ((c.tc : Thread Cert.PremixRefIdeal.nD Cert.PremixRefIdeal.τ).loc Cert.PremixRefIdeal.main_arg0)
          ∧ r.2.mem ((c.tc : Thread Cert.PremixRefIdeal.nD Cert.PremixRefIdeal.τ).loc Cert.PremixRefIdeal.main_arg1) = m' ((c.tc : Thread Cert.PremixRefIdeal.nD Cert.PremixRefIdeal.τ).loc Cert.PremixRefIdeal.main_arg1)
          ∧ r.2.mem ((c.tc : Thread Cert.PremixRefIdeal.nD Cert.PremixRefIdeal.τ).loc Cert.PremixRefIdeal.main_arg2) = m' ((c.tc : Thread Cert.PremixRefIdeal.nD Cert.PremixRefIdeal.τ).loc Cert.PremixRefIdeal.main_arg2)
          ∧ r.2.mem ((c.tc : Thread Cert.PremixRefIdeal.nD Cert.PremixRefIdeal.τ).loc Cert.PremixRefIdeal.main_arg3) = m' ((c.tc : Thread Cert.PremixRefIdeal.nD Cert.PremixRefIdeal.τ).loc Cert.PremixRefIdeal.main_arg3)
          ∧ r.2.mem ((c.tc : Thread Cert.PremixRefIdeal.nD Cert.PremixRefIdeal.τ).loc Cert.PremixRefIdeal.main_arg4) = m' ((c.tc : Thread Cert.PremixRefIdeal.nD Cert.PremixRefIdeal.τ).loc Cert.PremixRefIdeal.main_arg4)
          ∧ r.2.mem ((c.tc : Thread Cert.PremixRefIdeal.nD Cert.PremixRefIdeal.τ).loc Cert.PremixRefIdeal.main_arg5) = m' ((c.tc : Thread Cert.PremixRefIdeal.nD Cert.PremixRefIdeal.τ).loc Cert.PremixRefIdeal.main_arg5)
          ∧ r.2.mem ((c.tc : Thread Cert.PremixRefIdeal.nD Cert.PremixRefIdeal.τ).loc Cert.PremixRefIdeal.main_arg6) = m' ((c.tc : Thread Cert.PremixRefIdeal.nD Cert.PremixRefIdeal.τ).loc Cert.PremixRefIdeal.main_arg6))

def preserves_Postmix_PostmixIdeal : Prop :=
  True

def algebraic_PostmixIdeal_PostmixRefIdeal [hPostmixIdeal : Cert.PostmixIdeal.Facts] [hPostmixRefIdeal : Cert.PostmixRefIdeal.Facts] : Prop :=
  ∀ (m : (ℓ : Loc Cert.PostmixIdeal.nD Cert.PostmixIdeal.τ Cert.PostmixIdeal.sig) → Buf (Elt Ideal) ℓ) (g : Dev Cert.PostmixIdeal.nD → PrngReg)
    (m' : (ℓ : Loc Cert.PostmixRefIdeal.nD Cert.PostmixRefIdeal.τ Cert.PostmixRefIdeal.sig) → Buf (Elt Ideal) ℓ) (g' : Dev Cert.PostmixRefIdeal.nD → PrngReg), Pre_PostmixIdeal m →
    (∀ c : Dev Cert.PostmixIdeal.nD,
      m' ((c.tc : Thread Cert.PostmixRefIdeal.nD Cert.PostmixRefIdeal.τ).loc Cert.PostmixRefIdeal.main_arg0) = m ((c.tc : Thread Cert.PostmixIdeal.nD Cert.PostmixIdeal.τ).loc Cert.PostmixIdeal.main_arg0)
      ∧ m' ((c.tc : Thread Cert.PostmixRefIdeal.nD Cert.PostmixRefIdeal.τ).loc Cert.PostmixRefIdeal.main_arg1) = m ((c.tc : Thread Cert.PostmixIdeal.nD Cert.PostmixIdeal.τ).loc Cert.PostmixIdeal.main_arg1)
      ∧ m' ((c.tc : Thread Cert.PostmixRefIdeal.nD Cert.PostmixRefIdeal.τ).loc Cert.PostmixRefIdeal.main_arg2) = m ((c.tc : Thread Cert.PostmixIdeal.nD Cert.PostmixIdeal.τ).loc Cert.PostmixIdeal.main_arg2)
      ∧ m' ((c.tc : Thread Cert.PostmixRefIdeal.nD Cert.PostmixRefIdeal.τ).loc Cert.PostmixRefIdeal.main_arg3) = m ((c.tc : Thread Cert.PostmixIdeal.nD Cert.PostmixIdeal.τ).loc Cert.PostmixIdeal.main_arg3)
      ∧ m' ((c.tc : Thread Cert.PostmixRefIdeal.nD Cert.PostmixRefIdeal.τ).loc Cert.PostmixRefIdeal.main_arg4) = m ((c.tc : Thread Cert.PostmixIdeal.nD Cert.PostmixIdeal.τ).loc Cert.PostmixIdeal.main_arg4)
      ∧ m' ((c.tc : Thread Cert.PostmixRefIdeal.nD Cert.PostmixRefIdeal.τ).loc Cert.PostmixRefIdeal.main_arg5) = m ((c.tc : Thread Cert.PostmixIdeal.nD Cert.PostmixIdeal.τ).loc Cert.PostmixIdeal.main_arg5)
      ∧ m' ((c.tc : Thread Cert.PostmixRefIdeal.nD Cert.PostmixRefIdeal.τ).loc Cert.PostmixRefIdeal.main_arg6) = m ((c.tc : Thread Cert.PostmixIdeal.nD Cert.PostmixIdeal.τ).loc Cert.PostmixIdeal.main_arg6)
      ∧ m' ((c.tc : Thread Cert.PostmixRefIdeal.nD Cert.PostmixRefIdeal.τ).loc Cert.PostmixRefIdeal.main_arg7) = m ((c.tc : Thread Cert.PostmixIdeal.nD Cert.PostmixIdeal.τ).loc Cert.PostmixIdeal.main_arg7)
      ∧ m' ((c.tc : Thread Cert.PostmixRefIdeal.nD Cert.PostmixRefIdeal.τ).loc Cert.PostmixRefIdeal.main_arg8) = m ((c.tc : Thread Cert.PostmixIdeal.nD Cert.PostmixIdeal.τ).loc Cert.PostmixIdeal.main_arg8)
      ∧ m' ((c.tc : Thread Cert.PostmixRefIdeal.nD Cert.PostmixRefIdeal.τ).loc Cert.PostmixRefIdeal.main_arg9) = m ((c.tc : Thread Cert.PostmixIdeal.nD Cert.PostmixIdeal.τ).loc Cert.PostmixIdeal.main_arg9)
      ∧ m' ((c.tc : Thread Cert.PostmixRefIdeal.nD Cert.PostmixRefIdeal.τ).loc Cert.PostmixRefIdeal.main_arg10) = m ((c.tc : Thread Cert.PostmixIdeal.nD Cert.PostmixIdeal.τ).loc Cert.PostmixIdeal.main_arg10)
      ∧ m' ((c.tc : Thread Cert.PostmixRefIdeal.nD Cert.PostmixRefIdeal.τ).loc Cert.PostmixRefIdeal.main_arg11) = m ((c.tc : Thread Cert.PostmixIdeal.nD Cert.PostmixIdeal.τ).loc Cert.PostmixIdeal.main_arg11)
      ∧ m' ((c.tc : Thread Cert.PostmixRefIdeal.nD Cert.PostmixRefIdeal.τ).loc Cert.PostmixRefIdeal.main_arg12) = m ((c.tc : Thread Cert.PostmixIdeal.nD Cert.PostmixIdeal.τ).loc Cert.PostmixIdeal.main_arg12)
      ∧ m' ((c.tc : Thread Cert.PostmixRefIdeal.nD Cert.PostmixRefIdeal.τ).loc Cert.PostmixRefIdeal.main_arg13) = m ((c.tc : Thread Cert.PostmixIdeal.nD Cert.PostmixIdeal.τ).loc Cert.PostmixIdeal.main_arg13)) →
    ∃ (v0 : (c : Dev Cert.PostmixIdeal.nD) → Buf (Elt Ideal) ((c.tc : Thread Cert.PostmixIdeal.nD Cert.PostmixIdeal.τ).loc Cert.PostmixIdeal.main_v8_0)),
      θ_run (Cert.PostmixIdeal.defs (F := Ideal)) (onTc (τ := Cert.PostmixIdeal.τ) (Cert.PostmixIdeal.main (F := Ideal))) ⟨m, fun _ => 0, g⟩ (fun r => ∀ c : Dev Cert.PostmixIdeal.nD,
          r.2.mem ((c.tc : Thread Cert.PostmixIdeal.nD Cert.PostmixIdeal.τ).loc Cert.PostmixIdeal.main_v8_0) = v0 c
          ∧ r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
          ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
          ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
          ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
          ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
          ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
          ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
          ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
          ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
          ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
          ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
          ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11)
          ∧ r.2.mem ((c.tc : Thread Cert.PostmixIdeal.nD Cert.PostmixIdeal.τ).loc Cert.PostmixIdeal.main_arg12) = m ((c.tc : Thread Cert.PostmixIdeal.nD Cert.PostmixIdeal.τ).loc Cert.PostmixIdeal.main_arg12)
          ∧ r.2.mem ((c.tc : Thread Cert.PostmixIdeal.nD Cert.PostmixIdeal.τ).loc Cert.PostmixIdeal.main_arg13) = m ((c.tc : Thread Cert.PostmixIdeal.nD Cert.PostmixIdeal.τ).loc Cert.PostmixIdeal.main_arg13))
      ∧ θ_run (Cert.PostmixRefIdeal.defs (F := Ideal)) (onTc (τ := Cert.PostmixRefIdeal.τ) (Cert.PostmixRefIdeal.main (F := Ideal))) ⟨m', fun _ => 0, g'⟩ (fun r => ∀ c : Dev Cert.PostmixRefIdeal.nD,
          r.2.mem ((c.tc : Thread Cert.PostmixRefIdeal.nD Cert.PostmixRefIdeal.τ).loc Cert.PostmixRefIdeal.main_v15) = v0 c
          ∧ r.2.mem ((c.tc : Thread Cert.PostmixRefIdeal.nD Cert.PostmixRefIdeal.τ).loc Cert.PostmixRefIdeal.main_arg0) = m' ((c.tc : Thread Cert.PostmixRefIdeal.nD Cert.PostmixRefIdeal.τ).loc Cert.PostmixRefIdeal.main_arg0)
          ∧ r.2.mem ((c.tc : Thread Cert.PostmixRefIdeal.nD Cert.PostmixRefIdeal.τ).loc Cert.PostmixRefIdeal.main_arg1) = m' ((c.tc : Thread Cert.PostmixRefIdeal.nD Cert.PostmixRefIdeal.τ).loc Cert.PostmixRefIdeal.main_arg1)
          ∧ r.2.mem ((c.tc : Thread Cert.PostmixRefIdeal.nD Cert.PostmixRefIdeal.τ).loc Cert.PostmixRefIdeal.main_arg2) = m' ((c.tc : Thread Cert.PostmixRefIdeal.nD Cert.PostmixRefIdeal.τ).loc Cert.PostmixRefIdeal.main_arg2)
          ∧ r.2.mem ((c.tc : Thread Cert.PostmixRefIdeal.nD Cert.PostmixRefIdeal.τ).loc Cert.PostmixRefIdeal.main_arg3) = m' ((c.tc : Thread Cert.PostmixRefIdeal.nD Cert.PostmixRefIdeal.τ).loc Cert.PostmixRefIdeal.main_arg3)
          ∧ r.2.mem ((c.tc : Thread Cert.PostmixRefIdeal.nD Cert.PostmixRefIdeal.τ).loc Cert.PostmixRefIdeal.main_arg4) = m' ((c.tc : Thread Cert.PostmixRefIdeal.nD Cert.PostmixRefIdeal.τ).loc Cert.PostmixRefIdeal.main_arg4)
          ∧ r.2.mem ((c.tc : Thread Cert.PostmixRefIdeal.nD Cert.PostmixRefIdeal.τ).loc Cert.PostmixRefIdeal.main_arg5) = m' ((c.tc : Thread Cert.PostmixRefIdeal.nD Cert.PostmixRefIdeal.τ).loc Cert.PostmixRefIdeal.main_arg5)
          ∧ r.2.mem ((c.tc : Thread Cert.PostmixRefIdeal.nD Cert.PostmixRefIdeal.τ).loc Cert.PostmixRefIdeal.main_arg6) = m' ((c.tc : Thread Cert.PostmixRefIdeal.nD Cert.PostmixRefIdeal.τ).loc Cert.PostmixRefIdeal.main_arg6)
          ∧ r.2.mem ((c.tc : Thread Cert.PostmixRefIdeal.nD Cert.PostmixRefIdeal.τ).loc Cert.PostmixRefIdeal.main_arg7) = m' ((c.tc : Thread Cert.PostmixRefIdeal.nD Cert.PostmixRefIdeal.τ).loc Cert.PostmixRefIdeal.main_arg7)
          ∧ r.2.mem ((c.tc : Thread Cert.PostmixRefIdeal.nD Cert.PostmixRefIdeal.τ).loc Cert.PostmixRefIdeal.main_arg8) = m' ((c.tc : Thread Cert.PostmixRefIdeal.nD Cert.PostmixRefIdeal.τ).loc Cert.PostmixRefIdeal.main_arg8)
          ∧ r.2.mem ((c.tc : Thread Cert.PostmixRefIdeal.nD Cert.PostmixRefIdeal.τ).loc Cert.PostmixRefIdeal.main_arg9) = m' ((c.tc : Thread Cert.PostmixRefIdeal.nD Cert.PostmixRefIdeal.τ).loc Cert.PostmixRefIdeal.main_arg9)
          ∧ r.2.mem ((c.tc : Thread Cert.PostmixRefIdeal.nD Cert.PostmixRefIdeal.τ).loc Cert.PostmixRefIdeal.main_arg10) = m' ((c.tc : Thread Cert.PostmixRefIdeal.nD Cert.PostmixRefIdeal.τ).loc Cert.PostmixRefIdeal.main_arg10)
          ∧ r.2.mem ((c.tc : Thread Cert.PostmixRefIdeal.nD Cert.PostmixRefIdeal.τ).loc Cert.PostmixRefIdeal.main_arg11) = m' ((c.tc : Thread Cert.PostmixRefIdeal.nD Cert.PostmixRefIdeal.τ).loc Cert.PostmixRefIdeal.main_arg11)
          ∧ r.2.mem ((c.tc : Thread Cert.PostmixRefIdeal.nD Cert.PostmixRefIdeal.τ).loc Cert.PostmixRefIdeal.main_arg12) = m' ((c.tc : Thread Cert.PostmixRefIdeal.nD Cert.PostmixRefIdeal.τ).loc Cert.PostmixRefIdeal.main_arg12)
          ∧ r.2.mem ((c.tc : Thread Cert.PostmixRefIdeal.nD Cert.PostmixRefIdeal.τ).loc Cert.PostmixRefIdeal.main_arg13) = m' ((c.tc : Thread Cert.PostmixRefIdeal.nD Cert.PostmixRefIdeal.τ).loc Cert.PostmixRefIdeal.main_arg13))

def preserves_Moe_MoeIdeal : Prop :=
  True

def algebraic_MoeIdeal_MoeRefIdeal [hMoeIdeal : Cert.MoeIdeal.Facts] [hMoeRefIdeal : Cert.MoeRefIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v45) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v19) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Gla_GlaIdeal : Prop :=
  True

def algebraic_GlaIdeal_GlaRefIdeal_pre_decays_below_infinity [hGlaIdeal : Cert.GlaIdeal.Facts] [hGlaRefIdeal : Cert.GlaRefIdeal.Facts] [hPre_decays_below_infinity : Cert.Pre_decays_below_infinity.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_decays_below_infinity m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v53) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5))

def Claim : Prop :=
  ∃ (hSwa : Cert.Swa.Facts) (hSwaIdeal : Cert.SwaIdeal.Facts) (hSwaRefIdeal : Cert.SwaRefIdeal.Facts) (hPremix : Cert.Premix.Facts) (hPremixIdeal : Cert.PremixIdeal.Facts) (hPremixRefIdeal : Cert.PremixRefIdeal.Facts) (hPostmix : Cert.Postmix.Facts) (hPostmixIdeal : Cert.PostmixIdeal.Facts) (hPostmixRefIdeal : Cert.PostmixRefIdeal.Facts) (hMoe : Cert.Moe.Facts) (hMoeIdeal : Cert.MoeIdeal.Facts) (hMoeRefIdeal : Cert.MoeRefIdeal.Facts) (hModulation : Cert.Modulation.Facts) (hModulationIdeal : Cert.ModulationIdeal.Facts) (hModulationRefIdeal : Cert.ModulationRefIdeal.Facts) (hGla : Cert.Gla.Facts) (hGlaIdeal : Cert.GlaIdeal.Facts) (hGlaRefIdeal : Cert.GlaRefIdeal.Facts) (hPre_finite : Cert.Pre_finite.Facts) (hPre_experts_named : Cert.Pre_experts_named.Facts) (hPre_decays_below_infinity : Cert.Pre_decays_below_infinity.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_Premix (hPremix := hPremix)
    ∧ quiescent_PremixIdeal (hPremixIdeal := hPremixIdeal)
    ∧ quiescent_PremixRefIdeal (hPremixRefIdeal := hPremixRefIdeal)
    ∧ quiescent_Postmix (hPostmix := hPostmix)
    ∧ quiescent_PostmixIdeal (hPostmixIdeal := hPostmixIdeal)
    ∧ quiescent_PostmixRefIdeal (hPostmixRefIdeal := hPostmixRefIdeal)
    ∧ quiescent_Moe (hMoe := hMoe) (hPre_experts_named := hPre_experts_named)
    ∧ quiescent_MoeIdeal (hMoeIdeal := hMoeIdeal) (hPre_experts_named := hPre_experts_named)
    ∧ quiescent_MoeRefIdeal (hMoeRefIdeal := hMoeRefIdeal)
    ∧ quiescent_MoeRefIdeal_pre_experts_named (hMoeRefIdeal := hMoeRefIdeal) (hPre_experts_named := hPre_experts_named)
    ∧ quiescent_Modulation (hModulation := hModulation)
    ∧ quiescent_ModulationIdeal (hModulationIdeal := hModulationIdeal)
    ∧ quiescent_ModulationRefIdeal (hModulationRefIdeal := hModulationRefIdeal)
    ∧ quiescent_Gla (hGla := hGla)
    ∧ quiescent_GlaIdeal (hGlaIdeal := hGlaIdeal)
    ∧ quiescent_GlaIdeal_pre_decays_below_infinity (hGlaIdeal := hGlaIdeal) (hPre_decays_below_infinity := hPre_decays_below_infinity)
    ∧ quiescent_GlaRefIdeal (hGlaRefIdeal := hGlaRefIdeal)
    ∧ quiescent_GlaRefIdeal_pre_decays_below_infinity (hGlaRefIdeal := hGlaRefIdeal) (hPre_decays_below_infinity := hPre_decays_below_infinity)
    ∧ preserves_Swa_SwaIdeal
    ∧ algebraic_SwaIdeal_SwaRefIdeal_pre_finite (hSwaIdeal := hSwaIdeal) (hSwaRefIdeal := hSwaRefIdeal) (hPre_finite := hPre_finite)
    ∧ preserves_Premix_PremixIdeal
    ∧ algebraic_PremixIdeal_PremixRefIdeal (hPremixIdeal := hPremixIdeal) (hPremixRefIdeal := hPremixRefIdeal)
    ∧ preserves_Postmix_PostmixIdeal
    ∧ algebraic_PostmixIdeal_PostmixRefIdeal (hPostmixIdeal := hPostmixIdeal) (hPostmixRefIdeal := hPostmixRefIdeal)
    ∧ preserves_Moe_MoeIdeal
    ∧ algebraic_MoeIdeal_MoeRefIdeal (hMoeIdeal := hMoeIdeal) (hMoeRefIdeal := hMoeRefIdeal) (hPre_experts_named := hPre_experts_named)
    ∧ preserves_Modulation_ModulationIdeal
    ∧ algebraic_ModulationIdeal_ModulationRefIdeal (hModulationIdeal := hModulationIdeal) (hModulationRefIdeal := hModulationRefIdeal)
    ∧ preserves_Gla_GlaIdeal
    ∧ algebraic_GlaIdeal_GlaRefIdeal_pre_decays_below_infinity (hGlaIdeal := hGlaIdeal) (hGlaRefIdeal := hGlaRefIdeal) (hPre_decays_below_infinity := hPre_decays_below_infinity)
-- ==== Pre_decays_below_infinity.lean ====
abbrev S65536x256 : Shape := ⟨2, ![65536, 256]⟩
abbrev S65536x512 : Shape := ⟨2, ![65536, 512]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .bf16) (main_arg1 : FVec F S65536x256 .bf16) (main_arg2 : FVec F S65536x512 .bf16) (main_arg3 : FVec F S65536x256 .f32) (main_arg4 : FVec F S65536x512 .bf16) (main_arg5 : FVec F S512 .f32) : IVec S_ 1 :=
  let main_cst : FVec F S_ .f32 := constant S_ .f32 0x7F800000#32
  let main_v0 : FVec F S65536x256 .f32 := broadcastInDim S65536x256 ![] bcast_S_S65536x256 main_cst
  let main_v1 : IVec S65536x256 1 := cmpf .olt main_arg3 main_v0
  let main_c : IVec S_ 1 := constantI S_ 1 1#1
  let main_v2 : IVec S_ 1 := (fun x v => Host.reduce IntOp.andi x v reducesTo_S65536x256_S_d0_1 h_S_) main_v1 main_c
  main_v2
-- ==== Pre_experts_named.lean ====
abbrev S152 : Shape := ⟨1, ![152]⟩
abbrev S1 : Shape := ⟨1, ![1]⟩
abbrev S77824x1152 : Shape := ⟨2, ![77824, 1152]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S152 32) (main_arg1 : IVec S152 32) (main_arg2 : IVec S1 32) (main_arg3 : FVec F S77824x1152 .f32) (main_arg4 : FVec F S2x16x1024x512 .f32) (main_arg5 : FVec F S2x16x1024x512 .f32) (main_arg6 : FVec F S2x16x512x1024 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_c_2 : IVec S_ 32 := constantI S_ 32 0#32
  let main_v6 : IVec S152 32 := broadcastInDim S152 ![] bcast_S_S152 main_c_2
  let main_v7 : IVec S152 1 := cmpi .sge main_arg1 main_v6
  let main_c_3 : IVec S_ 32 := constantI S_ 32 16#32
  let main_v8 : IVec S152 32 := broadcastInDim S152 ![] bcast_S_S152 main_c_3
  let main_v9 : IVec S152 1 := cmpi .slt main_arg1 main_v8
  let main_v10 : IVec S152 1 := andi main_v7 main_v9
  let main_c_4 : IVec S_ 1 := constantI S_ 1 1#1
  let main_v11 : IVec S_ 1 := (fun x v => Host.reduce IntOp.andi x v reducesTo_S152_S_d0 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg2 main_v13
  let main_c_6 : IVec S_ 1 := constantI S_ 1 1#1
  let main_v15 : IVec S_ 1 := (fun x v => Host.reduce IntOp.andi x v reducesTo_S1_S_d0 h_S_) main_v14 main_c_6
  fn_part1 (F := F) main_v12 main_v15
-- ==== Pre_finite.lean ====
abbrev S65536x512 : Shape := ⟨2, ![65536, 512]⟩
abbrev S65536x256 : Shape := ⟨2, ![65536, 256]⟩
abbrev S65536x8 : Shape := ⟨2, ![65536, 8]⟩
abbrev S64 : Shape := ⟨1, ![64]⟩
abbrev S8 : Shape := ⟨1, ![8]⟩
abbrev S65536x128 : Shape := ⟨2, ![65536, 128]⟩
abbrev S_ : Shape := ⟨0, ![]⟩

class Facts : Prop where
  slices_S65536x256_S65536x128_0_0 : S65536x256.Slices ![0, 0] S65536x128
  bitsLt_bf16_f32 : FTy.bits .bf16 < FTy.bits .f32
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536x8 : S_.BroadcastsInDim S65536x8 (![] : Fin 0 → Fin S65536x8.rank)
  reducesTo_S65536x8_S_d0_1 : S65536x8.ReducesTo [0, 1] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_arg4 : FVec F S64 .f32) (main_arg5 : FVec F S64 .f32) (main_arg6 : FVec F S8 .f32) (main_v5 : IVec S_ 1) (main_v10 : IVec S_ 1) (main_v14 : IVec S_ 1) (main_v15 : FVec F S65536x8 .f32) (main_v16 : FVec F S65536x8 .f32) : IVec S_ 1 :=
  let main_v17 : IVec S65536x8 1 := cmpf .olt main_v15 main_v16
  let main_c_5 : IVec S_ 1 := constantI S_ 1 1#1
  let main_v18 : IVec S_ 1 := (fun x v => Host.reduce IntOp.andi x v reducesTo_S65536x8_S_d0_1 h_S_) main_v17 main_c_5
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : FVec F S64 .f32 := Host.absf main_arg5
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : FVec F S8 .f32 := Host.absf main_arg6
  let main_cst_10 : FVec F S_ .f32 := constant S_ .f32 0x7F800000#32
  let main_v28 : FVec F S8 .f32 := broadcastInDim S8 ![] bcast_S_S8 main_cst_10
  let main_v29 : IVec S8 1 := cmpf .olt main_v27 main_v28
  let main_c_11 : IVec S_ 1 := constantI S_ 1 1#1
  let main_v30 : IVec S_ 1 := (fun x v => Host.reduce IntOp.andi x v reducesTo_S8_S_d0 h_S_) main_v29 main_c_11
  let main_v31 : IVec S_ 1 := andi main_v5 main_v10
  let main_v32 : IVec S_ 1 := andi main_v31 main_v14
  let main_v33 : IVec S_ 1 := andi main_v32 main_v18
  fn_part2 (F := F) main_v22 main_v26 main_v30 main_v33

def fn {F : FTy → Type} [FloatOps F] (main_arg0 : FVec F S65536x512 .bf16) (main_arg1 : FVec F S65536x256 .bf16) (main_arg2 : FVec F S65536x8 .f32) (main_arg3 : FVec F S65536x8 .f32) (main_arg4 : FVec F S64 .f32) (main_arg5 : FVec F S64 .f32) (main_arg6 : FVec F S8 .f32) : IVec S_ 1 :=
  let main_v0 : FVec F S65536x128 .bf16 := (extractStridedSlice S65536x128 ![0, 0] · slices_S65536x256_S65536x128_0_0) main_arg1
  let main_v1 : FVec F S65536x512 .f32 := (extf .f32 · bitsLt_bf16_f32) main_arg0
  let main_v2 : FVec F S65536x512 .f32 := Host.absf main_v1
  let main_cst : FVec F S_ .f32 := constant S_ .f32 0x7F800000#32
  let main_v3 : FVec F S65536x512 .f32 := broadcastInDim S65536x512 ![] bcast_S_S65536x512 main_cst
  let main_v4 : IVec S65536x512 1 := cmpf .olt main_v2 main_v3
  let main_c : IVec S_ 1 := constantI S_ 1 1#1
  let main_v5 : IVec S_ 1 := (fun x v => Host.reduce IntOp.andi x v reducesTo_S65536x512_S_d0_1 h_S_) main_v4 main_c
  let main_v6 : FVec F S65536x128 .f32 := (extf .f32 · bitsLt_bf16_f32) main_v0
  let main_v7 : FVec F S65536x128 .f32 := Host.absf main_v6
  let main_cst_0 : FVec F S_ .f32 := constant S_ .f32 0x7F800000#32
  let main_v8 : FVec F S65536x128 .f32 := broadcastInDim S65536x128 ![] bcast_S_S65536x128 main_cst_0
  let main_v9 : IVec S65536x128 1 := cmpf .olt main_v7 main_v8
  let main_c_1 : IVec S_ 1 := constantI S_ 1 1#1
  let main_v10 : IVec S_ 1 := (fun x v => Host.reduce IntOp.andi x v reducesTo_S65536x128_S_d0_1 h_S_) main_v9 main_c_1
  let main_v11 : FVec F S65536x8 .f32 := Host.absf main_arg2
  let main_cst_2 : FVec F S_ .f32 := constant S_ .f32 0x7F800000#32
  let main_v12 : FVec F S65536x8 .f32 := broadcastInDim S65536x8 ![] bcast_S_S65536x8 main_cst_2
  let main_v13 : IVec S65536x8 1 := cmpf .olt main_v11 main_v12
  let main_c_3 : IVec S_ 1 := constantI S_ 1 1#1
  let main_v14 : IVec S_ 1 := (fun x v => Host.reduce IntOp.andi x v reducesTo_S65536x8_S_d0_1 h_S_) main_v13 main_c_3
  let main_v15 : FVec F S65536x8 .f32 := Host.absf main_arg3
  let main_cst_4 : FVec F S_ .f32 := constant S_ .f32 0x7F800000#32
  let main_v16 : FVec F S65536x8 .f32 := broadcastInDim S65536x8 ![] bcast_S_S65536x8 main_cst_4
  fn_part1 (F := F) main_arg4 main_arg5 main_arg6 main_v5 main_v10 main_v14 main_v15 main_v16
-- ==== Swa.lean ====
abbrev S65536x512 : Shape := ⟨2, ![65536, 512]⟩
abbrev S65536x256 : Shape := ⟨2, ![65536, 256]⟩
abbrev S65536x8 : Shape := ⟨2, ![65536, 8]⟩
abbrev S64 : Shape := ⟨1, ![64]⟩
abbrev S8 : Shape := ⟨1, ![8]⟩
abbrev S_ : Shape := ⟨0, ![]⟩
abbrev S65536x48 : Shape := ⟨2, ![65536, 48]⟩
abbrev S65536x64 : Shape := ⟨2, ![65536, 64]⟩
abbrev S65536x128 : Shape := ⟨2, ![65536, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S512x512 : Shape := ⟨2, ![512, 512]⟩
abbrev S512x128 : Shape := ⟨2, ![512, 128]⟩
abbrev S128x128 : Shape := ⟨2, ![128, 128]⟩
abbrev S640x128 : Shape := ⟨2, ![640, 128]⟩
abbrev S128x512 : Shape := ⟨2, ![128, 512]⟩
abbrev S1x512 : Shape := ⟨2, ![1, 512]⟩
abbrev S512 : Shape := ⟨1, ![512]⟩

abbrev nBuf : Space → Nat
  | .hbm => 28
  | .vmem => 23
  | .smem => 0
  | _ => 0

abbrev bufTy : (tb : Table) → Fin (tcTables nBuf tb) → BufTy
  | .hbm, ⟨0, _⟩ => ⟨S65536x512, .bf16⟩
  | .hbm, ⟨1, _⟩ => ⟨S65536x256, .bf16⟩
  | .hbm, ⟨2, _⟩ => ⟨S65536x8, .f32⟩
  | .hbm, ⟨3, _⟩ => ⟨S65536x8, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S_, .f32⟩
  | .hbm, ⟨8, _⟩ => ⟨S65536x48, .f32⟩
  | .hbm, ⟨9, _⟩ => ⟨S65536x64, .f32⟩
  | .hbm, ⟨10, _⟩ => ⟨S65536x8, .f32⟩
  | .hbm, ⟨11, _⟩ => ⟨S_, .f32⟩
  | .hbm, ⟨12, _⟩ => ⟨S65536x48, .f32⟩
  | .hbm, ⟨13, _⟩ => ⟨S65536x48, .f32⟩
  | .hbm, ⟨14, _⟩ => ⟨S65536x64, .f32⟩
  | .hbm, ⟨15, _⟩ => ⟨S65536x128, .f32⟩
  | .hbm, ⟨16, _⟩ => ⟨S65536x128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S8x1, .f32⟩
  | .hbm, ⟨26, _⟩ => ⟨S8x128, .f32⟩
  | .hbm, ⟨27, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S128x128, .bf16⟩
  | .local _ .vmem, ⟨5, _⟩ => ⟨S128x128, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S8x128, .f32⟩
  | .local _ .vmem, ⟨21, _⟩ => ⟨S512x512, .bf16⟩
  | .local _ .vmem, ⟨22, _⟩ => ⟨S512x512, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S65536x512 : Shape := ⟨2, ![65536, 512]⟩
abbrev S65536x256 : Shape := ⟨2, ![65536, 256]⟩
abbrev S65536x8 : Shape := ⟨2, ![65536, 8]⟩
abbrev S64 : Shape := ⟨1, ![64]⟩
abbrev S8 : Shape := ⟨1, ![8]⟩
abbrev S8x8192x1x8 : Shape := ⟨4, ![8, 8192, 1, 8]⟩
abbrev S8x8192x8x64 : Shape := ⟨4, ![8, 8192, 8, 64]⟩
abbrev S65536x128 : Shape := ⟨2, ![65536, 128]⟩
abbrev S_ : Shape := ⟨0, ![]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x8x8 : Shape := ⟨4, ![8, 8192, 8, 8]⟩
abbrev S8x8192x8x48 : Shape := ⟨4, ![8, 8192, 8, 48]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x8 : Shape := ⟨4, ![8, 8192, 2, 8]⟩
abbrev S8x8192x2x48 : Shape := ⟨4, ![8, 8192, 2, 48]⟩
abbrev S8x64x128x2x4x64 : Shape := ⟨6, ![8, 64, 128, 2, 4, 64]⟩
abbrev S8x64x128x2x64 : Shape := ⟨5, ![8, 64, 128, 2, 64]⟩
abbrev S8x63x128x2x64 : Shape := ⟨5, ![8, 63, 128, 2, 64]⟩
abbrev S8x64x256x2x64 : Shape := ⟨5, ![8, 64, 256, 2, 64]⟩
abbrev S8x64x2x256x128x4 : Shape := ⟨6, ![8, 64, 2, 256, 128, 4]⟩
abbrev S8x64x2x4x128x256 : Shape := ⟨6, ![8, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x64x4x128 : Shape := ⟨6, ![8, 64, 2, 64, 4, 128]⟩

abbrev nBuf : Space → Nat
  | .hbm => 152
  | .vmem => 0
  | .smem => 0
  | _ => 0

abbrev hbmTy0_0 (i : Nat) : BufTy := match i % 128 with
  | 0 => ⟨S65536x512, .bf16⟩
  | 1 => ⟨S65536x256, .bf16⟩
  | 2 => ⟨S65536x8, .f32⟩
  | 3 => ⟨S65536x8, .f32⟩
  | 4 => ⟨S64, .f32⟩
  | 5 => ⟨S64, .f32⟩
  | 6 => ⟨S8, .f32⟩
  | 7 => ⟨S8x8192x1x8, .f32⟩
  | 8 => ⟨S8x8192x1x8, .f32⟩
  | 9 => ⟨S65536x512, .f32⟩
  | 10 => ⟨S8x8192x8x64, .f32⟩
  | 11 => ⟨S65536x256, .f32⟩
  | 12 => ⟨S65536x128, .f32⟩
  | 13 => ⟨S65536x128, .f32⟩
  | 14 => ⟨S8x8192x8x64, .f32⟩
  | 15 => ⟨S_, .f32⟩
  | 16 => ⟨S8x8192x8, .f32⟩
  | 17 => ⟨S8x8192x8x1, .f32⟩
  | 18 => ⟨S_, .f32⟩
  | 19 => ⟨S8x8192x8x1, .f32⟩
  | 20 => ⟨S8x8192x8x1, .f32⟩
  | 21 => ⟨S_, .f32⟩
  | 22 => ⟨S8x8192x8x1, .f32⟩
  | 23 => ⟨S8x8192x8x1, .f32⟩
  | 24 => ⟨S8x8192x8x1, .f32⟩
  | 25 => ⟨S8x8192x8x64, .f32⟩
  | 26 => ⟨S8x8192x8x64, .f32⟩
  | 27 => ⟨S1x1x1x64, .f32⟩
  | 28 => ⟨S8x8192x8x64, .f32⟩
  | 29 => ⟨S8x8192x8x64, .f32⟩
  | 30 => ⟨S8x8192x8x8, .f32⟩
  | 31 => ⟨S8x8192x8x8, .f32⟩
  | 32 => ⟨S8x8192x8x8, .f32⟩
  | 33 => ⟨S8x8192x8x8, .f32⟩
  | 34 => ⟨S8x8192x8x8, .f32⟩
  | 35 => ⟨S8x8192x8x8, .f32⟩
  | 36 => ⟨S8x8192x8x8, .f32⟩
  | 37 => ⟨S8x8192x8x8, .f32⟩
  | 38 => ⟨S8x8192x8x8, .f32⟩
  | 39 => ⟨S8x8192x8x8, .f32⟩
  | 40 => ⟨S8x8192x8x8, .f32⟩
  | 41 => ⟨S8x8192x8x8, .f32⟩
  | 42 => ⟨S8x8192x8x48, .f32⟩
  | 43 => ⟨S8x8192x8x64, .f32⟩
  | 44 => ⟨S8x8192x2x64, .f32⟩
  | 45 => ⟨S8x8192x2x64, .f32⟩
  | 46 => ⟨S_, .f32⟩
  | 47 => ⟨S8x8192x2, .f32⟩
  | 48 => ⟨S8x8192x2x1, .f32⟩
  | 49 => ⟨S_, .f32⟩
  | 50 => ⟨S8x8192x2x1, .f32⟩
  | 51 => ⟨S8x8192x2x1, .f32⟩
  | 52 => ⟨S_, .f32⟩
  | 53 => ⟨S8x8192x2x1, .f32⟩
  | 54 => ⟨S8x8192x2x1, .f32⟩
  | 55 => ⟨S8x8192x2x1, .f32⟩
  | 56 => ⟨S8x8192x2x64, .f32⟩
  | 57 => ⟨S8x8192x2x64, .f32⟩
  | 58 => ⟨S1x1x1x64, .f32⟩
  | 59 => ⟨S8x8192x2x64, .f32⟩
  | 60 => ⟨S8x8192x2x64, .f32⟩
  | 61 => ⟨S8x8192x2x8, .f32⟩
  | 62 => ⟨S8x8192x2x8, .f32⟩
  | 63 => ⟨S8x8192x2x8, .f32⟩
  | 64 => ⟨S8x8192x2x8, .f32⟩
  | 65 => ⟨S8x8192x2x8, .f32⟩
  | 66 => ⟨S8x8192x2x8, .f32⟩
  | 67 => ⟨S8x8192x2x8, .f32⟩
  | 68 => ⟨S8x8192x2x8, .f32⟩
  | 69 => ⟨S8x8192x2x8, .f32⟩
  | 70 => ⟨S8x8192x2x8, .f32⟩
  | 71 => ⟨S8x8192x2x8, .f32⟩
  | 72 => ⟨S8x8192x2x8, .f32⟩
  | 73 => ⟨S8x8192x2x48, .f32⟩
  | 74 => ⟨S8x8192x2x64, .f32⟩
  | 75 => ⟨S8x64x128x2x4x64, .f32⟩
  | 76 => ⟨S8x64x128x2x64, .f32⟩
  | 77 => ⟨S8x64x128x2x64, .f32⟩
  | 78 => ⟨S8x63x128x2x64, .f32⟩
  | 79 => ⟨S_, .i32⟩
  | 80 => ⟨S_, .f32⟩
  | 81 => ⟨S8x64x128x2x64, .f32⟩
  | 82 => ⟨S8x64x256x2x64, .f32⟩
  | 83 => ⟨S8x63x128x2x64, .f32⟩
  | 84 => ⟨S_, .i32⟩
  | 85 => ⟨S_, .f32⟩
  | 86 => ⟨S8x64x128x2x64, .f32⟩
  | 87 => ⟨S8x64x256x2x64, .f32⟩
  | 88 => ⟨S8x64x2x256x128x4, .f32⟩
  | 89 => ⟨S8x64x2x4x128x256, .f32⟩
  | 90 => ⟨S_, .f32⟩
  | 91 => ⟨S8x64x2x4x128x256, .f32⟩
  | 92 => ⟨S8x64x2x4x128x256, .f32⟩
  | 93 => ⟨S128, .i32⟩
  | 94 => ⟨S128x1, .i32⟩
  | 95 => ⟨S256, .i32⟩
  | 96 => ⟨S1x256, .i32⟩
  | 97 => ⟨S128x256, .i32⟩
  | 98 => ⟨S128x256, .i32⟩
  | 99 => ⟨S128x256, .i1⟩
  | 100 => ⟨S_, .i32⟩
  | 101 => ⟨S128x1, .i32⟩
  | 102 => ⟨S128x1, .i32⟩
  | 103 => ⟨S128x256, .i32⟩
  | 104 => ⟨S128x256, .i32⟩
  | 105 => ⟨S128x256, .i1⟩
  | 106 => ⟨S128x256, .i1⟩
  | 107 => ⟨S1x128x256, .i1⟩
  | 108 => ⟨S64, .i32⟩
  | 109 => ⟨S64x1x1, .i32⟩
  | 110 => ⟨S_, .i32⟩
  | 111 => ⟨S64x1x1, .i32⟩
  | 112 => ⟨S64x1x1, .i1⟩
  | 113 => ⟨S_, .i32⟩
  | 114 => ⟨S1x256, .i32⟩
  | 115 => ⟨S1x256, .i1⟩
  | 116 => ⟨S1x1x256, .i1⟩
  | 117 => ⟨S64x1x256, .i1⟩
  | 118 => ⟨S64x1x256, .i1⟩
  | 119 => ⟨S64x1x256, .i1⟩
  | 120 => ⟨S64x128x256, .i1⟩
  | 121 => ⟨S64x128x256, .i1⟩
  | 122 => ⟨S64x128x256, .i1⟩
  | 123 => ⟨S1x64x1x1x128x256, .i1⟩
  | 124 => ⟨S_, .f32⟩
  | 125 => ⟨S_, .f32⟩
  | 126 => ⟨S8x64x2x4x128x256, .i1⟩
  | 127 => ⟨S8x64x2x4x128x256, .f32⟩
  | _ => ⟨S65536x512, .bf16⟩

abbrev hbmTy0_1 (i : Nat) : BufTy := match i % 128 with
  | 0 => ⟨S8x64x2x4x128x256, .f32⟩
  | 1 => ⟨S2x4, .f32⟩
  | 2 => ⟨S1x1x2x4x1x1, .f32⟩
  | 3 => ⟨S_, .f32⟩
  | 4 => ⟨S8x64x2x4x128, .f32⟩
  | 5 => ⟨S8x64x2x4x128x1, .f32⟩
  | 6 => ⟨S8x64x2x4x128x1, .f32⟩
  | 7 => ⟨S8x64x2x4x128x1, .f32⟩
  | 8 => ⟨S8x64x2x4x128x256, .f32⟩
  | 9 => ⟨S8x64x2x4x128x256, .f32⟩
  | 10 => ⟨S8x64x2x4x128x256, .f32⟩
  | 11 => ⟨S_, .f32⟩
  | 12 => ⟨S8x64x2x4x128, .f32⟩
  | 13 => ⟨S8x64x2x4x128x1, .f32⟩
  | 14 => ⟨S8x64x2x4x128x1, .f32⟩
  | 15 => ⟨S8x64x2x4x128x1, .f32⟩
  | 16 => ⟨S8x64x2x4x128x1, .f32⟩
  | 17 => ⟨S8x64x2x4x128x1, .f32⟩
  | 18 => ⟨S8x64x2x4x128x256, .f32⟩
  | 19 => ⟨S8x64x2x4x128x256, .f32⟩
  | 20 => ⟨S8x64x2x64x4x128, .f32⟩
  | 21 => ⟨S8x64x128x2x4x64, .f32⟩
  | 22 => ⟨S65536x512, .f32⟩
  | 23 => ⟨S65536x512, .bf16⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c : Ref sig .tc := ⟨.hbm, 79, rfl⟩
abbrev main_call0_v0 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_5 : Ref sig .tc := ⟨.hbm, 84, rfl⟩
abbrev main_call1_v0 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c_7 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_c_8 : Ref sig .tc := ⟨.hbm, 110, rfl⟩
abbrev main_v91 : Ref sig .tc := ⟨.hbm, 111, rfl⟩
abbrev main_v92 : Ref sig .tc := ⟨.hbm, 112, rfl⟩
abbrev main_c_9 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_10 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_11 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_12 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩

abbrev nD : Nat := 1
abbrev τ : Topo := Topo.v7x

variable {F : FTy → Type} [FloatOps F]
-- ==== Premix.lean ====
abbrev S65536x1024 : Shape := ⟨2, ![65536, 1024]⟩
abbrev S1024 : Shape := ⟨1, ![1024]⟩
abbrev S8x1x1024 : Shape := ⟨3, ![8, 1, 1024]⟩
abbrev S1024x4368 : Shape := ⟨2, ![1024, 4368]⟩
abbrev S16x256 : Shape := ⟨2, ![16, 256]⟩
abbrev S256 : Shape := ⟨1, ![256]⟩
abbrev S1024x256 : Shape := ⟨2, ![1024, 256]⟩
abbrev S1024x512 : Shape := ⟨2, ![1024, 512]⟩
abbrev S1024x128 : Shape := ⟨2, ![1024, 128]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x4480 : Shape := ⟨2, ![1024, 4480]⟩
abbrev S112x256 : Shape := ⟨2, ![112, 256]⟩
abbrev S128x256 : Shape := ⟨2, ![128, 256]⟩
abbrev S1x1024 : Shape := ⟨2, ![1, 1024]⟩
abbrev S1x256 : Shape := ⟨2, ![1, 256]⟩
abbrev S65536x256 : Shape := ⟨2, ![65536, 256]⟩
abbrev S65536x512 : Shape := ⟨2, ![65536, 512]⟩
abbrev S512x1024 : Shape := ⟨2, ![512, 1024]⟩
abbrev S1x1x1024 : Shape := ⟨3, ![1, 1, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 36
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4368, .f32⟩
  | .hbm, ⟨5, _⟩ => ⟨S16x256, .f32⟩
  | .hbm, ⟨6, _⟩ => ⟨S256, .f32⟩
  | .hbm, ⟨7, _⟩ => ⟨S1024x4368, .bf16⟩
  | .hbm, ⟨8, _⟩ => ⟨S1024x256, .bf16⟩
  | .hbm, ⟨9, _⟩ => ⟨S1024x256, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x128, .bf16⟩
  | .hbm, ⟨14, _⟩ => ⟨S1024x128, .bf16⟩
  | .hbm, ⟨15, _⟩ => ⟨S1024x1024, .bf16⟩
  | .hbm, ⟨16, _⟩ => ⟨S1024x1024, .bf16⟩
  | .hbm, ⟨17, _⟩ => ⟨S1024x16, .bf16⟩
  | .hbm, ⟨18, _⟩ => ⟨S_, .bf16⟩
  | .hbm, ⟨19, _⟩ => ⟨S1024x112, .bf16⟩
  | .hbm, ⟨20, _⟩ => ⟨S1024x4480, .bf16⟩
  | .hbm, ⟨21, _⟩ => ⟨S_, .f32⟩
  | .hbm, ⟨22, _⟩ => ⟨S112x256, .f32⟩
  | .hbm, ⟨23, _⟩ => ⟨S128x256, .f32⟩
  | .hbm, ⟨24, _⟩ => ⟨S128x256, .bf16⟩
  | .hbm, ⟨25, _⟩ => ⟨S1x1024, .f32⟩
  | .hbm, ⟨26, _⟩ => ⟨S1x256, .f32⟩
  | .hbm, ⟨27, _⟩ => ⟨S65536x256, .bf16⟩
  | .hbm, ⟨28, _⟩ => ⟨S65536x256, .bf16⟩
  | .hbm, ⟨29, _⟩ => ⟨S65536x512, .bf16⟩
  | .hbm, ⟨30, _⟩ => ⟨S65536x256, .f32⟩
  | .hbm, ⟨31, _⟩ => ⟨S65536x512, .bf16⟩
  | .hbm, ⟨32, _⟩ => ⟨S65536x512, .bf16⟩
  | .hbm, ⟨33, _⟩ => ⟨S65536x256, .bf16⟩
  | .hbm, ⟨34, _⟩ => ⟨S65536x1024, .bf16⟩
  | .hbm, ⟨35, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4480, .bf16⟩
  | .local _ .vmem, ⟨8, _⟩ => ⟨S128x256, .bf16⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x256, .bf16⟩
  | .local _ .vmem, ⟨23, _⟩ => ⟨S512x256, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4480 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PremixRefIdeal.lean ====
abbrev S65536x1024 : Shape := ⟨2, ![65536, 1024]⟩
abbrev S1024 : Shape := ⟨1, ![1024]⟩
abbrev S8x1x1024 : Shape := ⟨3, ![8, 1, 1024]⟩
abbrev S1024x4368 : Shape := ⟨2, ![1024, 4368]⟩
abbrev S16x256 : Shape := ⟨2, ![16, 256]⟩
abbrev S256 : Shape := ⟨1, ![256]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S65536x4368 : Shape := ⟨2, ![65536, 4368]⟩
abbrev S65536x256 : Shape := ⟨2, ![65536, 256]⟩
abbrev S65536x512 : Shape := ⟨2, ![65536, 512]⟩
abbrev S65536x16 : Shape := ⟨2, ![65536, 16]⟩
abbrev S65536x128 : Shape := ⟨2, ![65536, 128]⟩
abbrev S1x256 : Shape := ⟨2, ![1, 256]⟩

abbrev nBuf : Space → Nat
  | .hbm => 103
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4368, .f32⟩
  | .hbm, ⟨5, _⟩ => ⟨S16x256, .f32⟩
  | .hbm, ⟨6, _⟩ => ⟨S256, .f32⟩
  | .hbm, ⟨7, _⟩ => ⟨S8x8192x1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S65536x1024, .f32⟩
  | .hbm, ⟨32, _⟩ => ⟨S65536x4368, .f32⟩
  | .hbm, ⟨33, _⟩ => ⟨S65536x256, .f32⟩
  | .hbm, ⟨34, _⟩ => ⟨S65536x256, .f32⟩
  | .hbm, ⟨35, _⟩ => ⟨S65536x512, .f32⟩
  | .hbm, ⟨36, _⟩ => ⟨S65536x16, .f32⟩
  | .hbm, ⟨37, _⟩ => ⟨S65536x512, .f32⟩
  | .hbm, ⟨38, _⟩ => ⟨S65536x512, .f32⟩
  | .hbm, ⟨39, _⟩ => ⟨S65536x128, .f32⟩
  | .hbm, ⟨40, _⟩ => ⟨S65536x128, .f32⟩
  | .hbm, ⟨41, _⟩ => ⟨S65536x1024, .f32⟩
  | .hbm, ⟨42, _⟩ => ⟨S65536x1024, .f32⟩
  | .hbm, ⟨43, _⟩ => ⟨S65536x256, .f32⟩
  | .hbm, ⟨44, _⟩ => ⟨S1x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .i1⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S_, .f32⟩
  | .hbm, ⟨67, _⟩ => ⟨S65536x256, .f32⟩
  | .hbm, ⟨68, _⟩ => ⟨S65536x256, .f32⟩
  | .hbm, ⟨69, _⟩ => ⟨S65536x256, .bf16⟩
  | .hbm, ⟨70, _⟩ => ⟨S65536x256, .bf16⟩
  | .hbm, ⟨71, _⟩ => ⟨S65536x512, .bf16⟩
  | .hbm, ⟨72, _⟩ => ⟨S65536x512, .f32⟩
  | .hbm, ⟨73, _⟩ => ⟨S65536x512, .f32⟩
  | .hbm, ⟨74, _⟩ => ⟨S_, .f32⟩
  | .hbm, ⟨75, _⟩ => ⟨S65536x512, .f32⟩
  | .hbm, ⟨76, _⟩ => ⟨S65536x512, .f32⟩
  | .hbm, ⟨77, _⟩ => ⟨S_, .f32⟩
  | .hbm, ⟨78, _⟩ => ⟨S65536x512, .f32⟩
  | .hbm, ⟨79, _⟩ => ⟨S65536x512, .f32⟩
  | .hbm, ⟨80, _⟩ => ⟨S65536x512, .f32⟩
  | .hbm, ⟨81, _⟩ => ⟨S65536x512, .bf16⟩
  | .hbm, ⟨82, _⟩ => ⟨S65536x512, .bf16⟩
  | .hbm, ⟨83, _⟩ => ⟨S65536x256, .f32⟩
  | .hbm, ⟨84, _⟩ => ⟨S65536x256, .bf16⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S65536x1024, .f32⟩
  | .hbm, ⟨89, _⟩ => ⟨S65536x1024, .f32⟩
  | .hbm, ⟨90, _⟩ => ⟨S_, .f32⟩
  | .hbm, ⟨91, _⟩ => ⟨S65536x1024, .f32⟩
  | .hbm, ⟨92, _⟩ => ⟨S65536x1024, .f32⟩
  | .hbm, ⟨93, _⟩ => ⟨S65536x1024, .bf16⟩
  | .hbm, ⟨94, _⟩ => ⟨S65536x1024, .f32⟩
  | .hbm, ⟨95, _⟩ => ⟨S65536x1024, .f32⟩
  | .hbm, ⟨96, _⟩ => ⟨S_, .f32⟩
  | .hbm, ⟨97, _⟩ => ⟨S65536x1024, .f32⟩
  | .hbm, ⟨98, _⟩ => ⟨S65536x1024, .f32⟩
  | .hbm, ⟨99, _⟩ => ⟨S_, .f32⟩
  | .hbm, ⟨100, _⟩ => ⟨S65536x1024, .f32⟩
  | .hbm, ⟨101, _⟩ => ⟨S65536x1024, .f32⟩
  | .hbm, ⟨102, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_5 : Ref sig .tc := ⟨.hbm, 87, rfl⟩
abbrev main_v51 : Ref sig .tc := ⟨.hbm, 88, rfl⟩
abbrev main_v52 : Ref sig .tc := ⟨.hbm, 89, rfl⟩
abbrev main_cst_6 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_cst_8 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩

abbrev nD : Nat := 1
abbrev τ : Topo := Topo.v7x

variable {F : FTy → Type} [FloatOps F]
-- ==== Postmix.lean ====
abbrev S65536x512 : Shape := ⟨2, ![65536, 512]⟩
abbrev S65536x1024 : Shape := ⟨2, ![65536, 1024]⟩
abbrev S8x1x1024 : Shape := ⟨3, ![8, 1, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S1024x112 : Shape := ⟨2, ![1024, 112]⟩
abbrev S1024x128 : Shape := ⟨2, ![1024, 128]⟩
abbrev S16x1 : Shape := ⟨2, ![16, 1]⟩
abbrev S1x1024 : Shape := ⟨2, ![1, 1024]⟩
abbrev S65536x1152 : Shape := ⟨2, ![65536, 1152]⟩
abbrev S128x1x512 : Shape := ⟨3, ![128, 1, 512]⟩
abbrev S32x128 : Shape := ⟨2, ![32, 128]⟩
abbrev S512x512 : Shape := ⟨2, ![512, 512]⟩
abbrev S1x1x1024 : Shape := ⟨3, ![1, 1, 1024]⟩
abbrev S512x1152 : Shape := ⟨2, ![512, 1152]⟩
abbrev S1x1x512 : Shape := ⟨3, ![1, 1, 512]⟩
abbrev S256x256 : Shape := ⟨2, ![256, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩
abbrev S1x256 : Shape := ⟨2, ![1, 256]⟩
abbrev S32x256 : Shape := ⟨2, ![32, 256]⟩
abbrev S1x1x256 : Shape := ⟨3, ![1, 1, 256]⟩
abbrev S126x256 : Shape := ⟨2, ![126, 256]⟩

abbrev nBuf : Space → Nat
  | .hbm => 28
  | .vmem => 32
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .bf16⟩
  | .hbm, ⟨3, _⟩ => ⟨S65536x1024, .bf16⟩
  | .hbm, ⟨4, _⟩ => ⟨S65536x1024, .f32⟩
  | .hbm, ⟨5, _⟩ => ⟨S8x1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8x1x1024, .f32⟩
  | .hbm, ⟨11, _⟩ => ⟨S8x1x1024, .f32⟩
  | .hbm, ⟨12, _⟩ => ⟨S1024x16, .f32⟩
  | .hbm, ⟨13, _⟩ => ⟨S16, .f32⟩
  | .hbm, ⟨14, _⟩ => ⟨S1024x16, .bf16⟩
  | .hbm, ⟨15, _⟩ => ⟨S_, .bf16⟩
  | .hbm, ⟨16, _⟩ => ⟨S1024x112, .bf16⟩
  | .hbm, ⟨17, _⟩ => ⟨S1024x128, .bf16⟩
  | .hbm, ⟨18, _⟩ => ⟨S16x1, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S65536x1024, .f32⟩
  | .hbm, ⟨24, _⟩ => ⟨S65536x1152, .f32⟩
  | .hbm, ⟨25, _⟩ => ⟨S128x1x512, .i32⟩
  | .hbm, ⟨26, _⟩ => ⟨S128x1x512, .i32⟩
  | .hbm, ⟨27, _⟩ => ⟨S32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x128, .bf16⟩
  | .local _ .vmem, ⟨21, _⟩ => ⟨S16x1, .f32⟩
  | .local _ .vmem, ⟨22, _⟩ => ⟨S512x1024, .f32⟩
  | .local _ .vmem, ⟨23, _⟩ => ⟨S512x1024, .f32⟩
  | .local _ .vmem, ⟨24, _⟩ => ⟨S512x1152, .f32⟩
  | .local _ .vmem, ⟨25, _⟩ => ⟨S512x1152, .f32⟩
  | .local _ .vmem, ⟨26, _⟩ => ⟨S1x1x512, .i32⟩
  | .local _ .vmem, ⟨27, _⟩ => ⟨S1x1x512, .i32⟩
  | .local _ .vmem, ⟨28, _⟩ => ⟨S1x1x512, .i32⟩
  | .local _ .vmem, ⟨29, _⟩ => ⟨S1x1x512, .i32⟩
  | .local _ .vmem, ⟨30, _⟩ => ⟨S32x128, .f32⟩
  | .local _ .vmem, ⟨31, _⟩ => ⟨S32x128, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1152 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== PostmixRefIdeal.lean ====
abbrev S65536x512 : Shape := ⟨2, ![65536, 512]⟩
abbrev S65536x1024 : Shape := ⟨2, ![65536, 1024]⟩
abbrev S8x1x1024 : Shape := ⟨3, ![8, 1, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S8x8192x1024 : Shape := ⟨3, ![8, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .bf16⟩
  | .hbm, ⟨3, _⟩ => ⟨S65536x1024, .bf16⟩
  | .hbm, ⟨4, _⟩ => ⟨S65536x1024, .f32⟩
  | .hbm, ⟨5, _⟩ => ⟨S8x1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8x1x1024, .f32⟩
  | .hbm, ⟨11, _⟩ => ⟨S8x1x1024, .f32⟩
  | .hbm, ⟨12, _⟩ => ⟨S1024x16, .f32⟩
  | .hbm, ⟨13, _⟩ => ⟨S16, .f32⟩
  | .hbm, ⟨14, _⟩ => ⟨S65536x512, .f32⟩
  | .hbm, ⟨15, _⟩ => ⟨S65536x1024, .f32⟩
  | .hbm, ⟨16, _⟩ => ⟨S65536x512, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Moe.lean ====
abbrev S152 : Shape := ⟨1, ![152]⟩
abbrev S1 : Shape := ⟨1, ![1]⟩
abbrev S77824x1152 : Shape := ⟨2, ![77824, 1152]⟩
abbrev S2x16x1024x512 : Shape := ⟨4, ![2, 16, 1024, 512]⟩
abbrev S2x16x512x1024 : Shape := ⟨4, ![2, 16, 512, 1024]⟩
abbrev S77824x1024 : Shape := ⟨2, ![77824, 1024]⟩
abbrev S512x1152 : Shape := ⟨2, ![512, 1152]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 16
  | .smem => 3
  | _ => 0

abbrev bufTy : (tb : Table) → Fin (tcTables nBuf tb) → BufTy
  | .hbm, ⟨0, _⟩ => ⟨S77824x1152, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S512x1024, .f32⟩
  | .local _ .vmem, ⟨15, _⟩ => ⟨S512x1024, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S77824x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoeRefIdeal.lean ====
abbrev S152 : Shape := ⟨1, ![152]⟩
abbrev S1 : Shape := ⟨1, ![1]⟩
abbrev S77824x1152 : Shape := ⟨2, ![77824, 1152]⟩
abbrev S2x16x1024x512 : Shape := ⟨4, ![2, 16, 1024, 512]⟩
abbrev S2x16x512x1024 : Shape := ⟨4, ![2, 16, 512, 1024]⟩
abbrev S77824x1024 : Shape := ⟨2, ![77824, 1024]⟩
abbrev S152x512x1024 : Shape := ⟨3, ![152, 512, 1024]⟩
abbrev S77824x128 : Shape := ⟨2, ![77824, 128]⟩
abbrev S152x512x128 : Shape := ⟨3, ![152, 512, 128]⟩
abbrev S152x512x1 : Shape := ⟨3, ![152, 512, 1]⟩
abbrev S1x16x1024x512 : Shape := ⟨4, ![1, 16, 1024, 512]⟩
abbrev S16x1024x512 : Shape := ⟨3, ![16, 1024, 512]⟩
abbrev S152x1 : Shape := ⟨2, ![152, 1]⟩
abbrev S152x1024x512 : Shape := ⟨3, ![152, 1024, 512]⟩
abbrev S1x16x512x1024 : Shape := ⟨4, ![1, 16, 512, 1024]⟩
abbrev S16x512x1024 : Shape := ⟨3, ![16, 512, 1024]⟩
abbrev S152x512x512 : Shape := ⟨3, ![152, 512, 512]⟩
abbrev S_ : Shape := ⟨0, ![]⟩
abbrev S152x1x1 : Shape := ⟨3, ![152, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S1, .i32⟩
  | .hbm, ⟨3, _⟩ => ⟨S77824x1152, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S77824x1024, .f32⟩
  | .hbm, ⟨8, _⟩ => ⟨S152x512x1024, .f32⟩
  | .hbm, ⟨9, _⟩ => ⟨S77824x128, .f32⟩
  | .hbm, ⟨10, _⟩ => ⟨S152x512x128, .f32⟩
  | .hbm, ⟨11, _⟩ => ⟨S152x512x1, .f32⟩
  | .hbm, ⟨12, _⟩ => ⟨S1x16x1024x512, .f32⟩
  | .hbm, ⟨13, _⟩ => ⟨S16x1024x512, .f32⟩
  | .hbm, ⟨14, _⟩ => ⟨S152x1, .i32⟩
  | .hbm, ⟨15, _⟩ => ⟨S152x1024x512, .f32⟩
  | .hbm, ⟨16, _⟩ => ⟨S1x16x1024x512, .f32⟩
  | .hbm, ⟨17, _⟩ => ⟨S16x1024x512, .f32⟩
  | .hbm, ⟨18, _⟩ => ⟨S152x1, .i32⟩
  | .hbm, ⟨19, _⟩ => ⟨S152x1024x512, .f32⟩
  | .hbm, ⟨20, _⟩ => ⟨S1x16x512x1024, .f32⟩
  | .hbm, ⟨21, _⟩ => ⟨S16x512x1024, .f32⟩
  | .hbm, ⟨22, _⟩ => ⟨S152x1, .i32⟩
  | .hbm, ⟨23, _⟩ => ⟨S152x512x1024, .f32⟩
  | .hbm, ⟨24, _⟩ => ⟨S152x512x512, .f32⟩
  | .hbm, ⟨25, _⟩ => ⟨S152x512x512, .f32⟩
  | .hbm, ⟨26, _⟩ => ⟨S152x512x512, .f32⟩
  | .hbm, ⟨27, _⟩ => ⟨S_, .f32⟩
  | .hbm, ⟨28, _⟩ => ⟨S152x512x512, .f32⟩
  | .hbm, ⟨29, _⟩ => ⟨S152x512x512, .f32⟩
  | .hbm, ⟨30, _⟩ => ⟨S_, .f32⟩
  | .hbm, ⟨31, _⟩ => ⟨S152x512x512, .f32⟩
  | .hbm, ⟨32, _⟩ => ⟨S152x512x512, .f32⟩
  | .hbm, ⟨33, _⟩ => ⟨S152x512x512, .f32⟩
  | .hbm, ⟨34, _⟩ => ⟨S152x512x512, .f32⟩
  | .hbm, ⟨35, _⟩ => ⟨S152x512x512, .f32⟩
  | .hbm, ⟨36, _⟩ => ⟨S152x512x1024, .f32⟩
  | .hbm, ⟨37, _⟩ => ⟨S152x512x1024, .f32⟩
  | .hbm, ⟨38, _⟩ => ⟨S152x512x1024, .f32⟩
  | .hbm, ⟨39, _⟩ => ⟨S152x512x1, .f32⟩
  | .hbm, ⟨40, _⟩ => ⟨S1x16x1024x512, .f32⟩
  | .hbm, ⟨41, _⟩ => ⟨S16x1024x512, .f32⟩
  | .hbm, ⟨42, _⟩ => ⟨S152x1, .i32⟩
  | .hbm, ⟨43, _⟩ => ⟨S152x1024x512, .f32⟩
  | .hbm, ⟨44, _⟩ => ⟨S1x16x1024x512, .f32⟩
  | .hbm, ⟨45, _⟩ => ⟨S16x1024x512, .f32⟩
  | .hbm, ⟨46, _⟩ => ⟨S152x1, .i32⟩
  | .hbm, ⟨47, _⟩ => ⟨S152x1024x512, .f32⟩
  | .hbm, ⟨48, _⟩ => ⟨S1x16x512x1024, .f32⟩
  | .hbm, ⟨49, _⟩ => ⟨S16x512x1024, .f32⟩
  | .hbm, ⟨50, _⟩ => ⟨S152x1, .i32⟩
  | .hbm, ⟨51, _⟩ => ⟨S152x512x1024, .f32⟩
  | .hbm, ⟨52, _⟩ => ⟨S152x512x512, .f32⟩
  | .hbm, ⟨53, _⟩ => ⟨S152x512x512, .f32⟩
  | .hbm, ⟨54, _⟩ => ⟨S152x512x512, .f32⟩
  | .hbm, ⟨55, _⟩ => ⟨S_, .f32⟩
  | .hbm, ⟨56, _⟩ => ⟨S152x512x512, .f32⟩
  | .hbm, ⟨57, _⟩ => ⟨S152x512x512, .f32⟩
  | .hbm, ⟨58, _⟩ => ⟨S_, .f32⟩
  | .hbm, ⟨59, _⟩ => ⟨S152x512x512, .f32⟩
  | .hbm, ⟨60, _⟩ => ⟨S152x512x512, .f32⟩
  | .hbm, ⟨61, _⟩ => ⟨S152x512x512, .f32⟩
  | .hbm, ⟨62, _⟩ => ⟨S152x512x512, .f32⟩
  | .hbm, ⟨63, _⟩ => ⟨S152x512x512, .f32⟩
  | .hbm, ⟨64, _⟩ => ⟨S152x512x1024, .f32⟩
  | .hbm, ⟨65, _⟩ => ⟨S152x512x1024, .f32⟩
  | .hbm, ⟨66, _⟩ => ⟨S152x512x1024, .f32⟩
  | .hbm, ⟨67, _⟩ => ⟨S152x512x1024, .f32⟩
  | .hbm, ⟨68, _⟩ => ⟨S152, .i32⟩
  | .hbm, ⟨69, _⟩ => ⟨S_, .i32⟩
  | .hbm, ⟨70, _⟩ => ⟨S152, .i32⟩
  | .hbm, ⟨71, _⟩ => ⟨S152, .i1⟩
  | .hbm, ⟨72, _⟩ => ⟨S152x1x1, .i1⟩
  | .hbm, ⟨73, _⟩ => ⟨S_, .f32⟩
  | .hbm, ⟨74, _⟩ => ⟨S_, .f32⟩
  | .hbm, ⟨75, _⟩ => ⟨S152x512x1024, .i1⟩
  | .hbm, ⟨76, _⟩ => ⟨S152x512x1024, .f32⟩
  | .hbm, ⟨77, _⟩ => ⟨S152x512x1024, .f32⟩
  | .hbm, ⟨78, _⟩ => ⟨S77824x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_call3_v0 : Ref sig .tc := ⟨.hbm, 25, rfl⟩
abbrev main_call3_v1 : Ref sig .tc := ⟨.hbm, 26, rfl⟩
abbrev main_call3_cst : Ref sig .tc := ⟨.hbm, 27, rfl⟩
abbrev main_call3_v2 : Ref sig .tc := ⟨.hbm, 28, rfl⟩
abbrev main_call3_v3 : Ref sig .tc := ⟨.hbm, 29, rfl⟩
abbrev main_call3_cst_0 : Ref sig .tc := ⟨.hbm, 30, rfl⟩
abbrev main_call3_v4 : Ref sig .tc := ⟨.hbm, 31, rfl⟩
abbrev main_call3_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call4_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call5_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call6_v0 : Ref sig .tc := ⟨.hbm, 50, rfl⟩
abbrev main_v30 : Ref sig .tc := ⟨.hbm, 51, rfl⟩
abbrev main_v31 : Ref sig .tc := ⟨.hbm, 52, rfl⟩
abbrev main_call7_v0 : Ref sig .tc := ⟨.hbm, 53, rfl⟩
abbrev main_call7_v1 : Ref sig .tc := ⟨.hbm, 54, rfl⟩
abbrev main_call7_cst : Ref sig .tc := ⟨.hbm, 55, rfl⟩
abbrev main_call7_v2 : Ref sig .tc := ⟨.hbm, 56, rfl⟩
abbrev main_call7_v3 : Ref sig .tc := ⟨.hbm, 57, rfl⟩
abbrev main_call7_cst_0 : Ref sig .tc := ⟨.hbm, 58, rfl⟩
abbrev main_call7_v4 : Ref sig .tc := ⟨.hbm, 59, rfl⟩
abbrev main_call7_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst : Ref sig .tc := ⟨.hbm, 73, rfl⟩
abbrev main_call8_v0 : Ref sig .tc := ⟨.hbm, 74, rfl⟩
abbrev main_call8_v1 : Ref sig .tc := ⟨.hbm, 75, rfl⟩
abbrev main_call8_v2 : Ref sig .tc := ⟨.hbm, 76, rfl⟩
abbrev main_v44 : Ref sig .tc := ⟨.hbm, 77, rfl⟩
abbrev main_v45 : Ref sig .tc := ⟨.hbm, 78, rfl⟩

abbrev nD : Nat := 1
abbrev τ : Topo := Topo.v7x

variable {F : FTy → Type} [FloatOps F]
-- ==== Modulation.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Gla.lean ====
abbrev S65536x256 : Shape := ⟨2, ![65536, 256]⟩
abbrev S65536x512 : Shape := ⟨2, ![65536, 512]⟩
abbrev S512 : Shape := ⟨1, ![512]⟩
abbrev S1x512 : Shape := ⟨2, ![1, 512]⟩
abbrev S1024x256 : Shape := ⟨2, ![1024, 256]⟩
abbrev S1024x512 : Shape := ⟨2, ![1024, 512]⟩
abbrev S4x64x128 : Shape := ⟨3, ![4, 64, 128]⟩
abbrev S64x64 : Shape := ⟨2, ![64, 64]⟩
abbrev S64x256 : Shape := ⟨2, ![64, 256]⟩
abbrev S1x256 : Shape := ⟨2, ![1, 256]⟩
abbrev S64x128 : Shape := ⟨2, ![64, 128]⟩
abbrev S256x128 : Shape := ⟨2, ![256, 128]⟩
abbrev S64x512 : Shape := ⟨2, ![64, 512]⟩
abbrev S256x256 : Shape := ⟨2, ![256, 256]⟩
abbrev S256x512 : Shape := ⟨2, ![256, 512]⟩
abbrev S128x256 : Shape := ⟨2, ![128, 256]⟩
abbrev S1x64x128 : Shape := ⟨3, ![1, 64, 128]⟩
abbrev S512x512 : Shape := ⟨2, ![512, 512]⟩
abbrev S64 : Shape := ⟨1, ![64]⟩
abbrev S64x1 : Shape := ⟨2, ![64, 1]⟩
abbrev S1x128 : Shape := ⟨2, ![1, 128]⟩

abbrev nBuf : Space → Nat
  | .hbm => 8
  | .vmem => 14
  | .smem => 0
  | _ => 0

abbrev bufTy : (tb : Table) → Fin (tcTables nBuf tb) → BufTy
  | .hbm, ⟨0, _⟩ => ⟨S65536x256, .bf16⟩
  | .hbm, ⟨1, _⟩ => ⟨S65536x256, .bf16⟩
  | .hbm, ⟨2, _⟩ => ⟨S65536x512, .bf16⟩
  | .hbm, ⟨3, _⟩ => ⟨S65536x256, .f32⟩
  | .hbm, ⟨4, _⟩ => ⟨S65536x512, .bf16⟩
  | .hbm, ⟨5, _⟩ => ⟨S512, .f32⟩
  | .hbm, ⟨6, _⟩ => ⟨S1x512, .f32⟩
  | .hbm, ⟨7, _⟩ => ⟨S65536x512, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S4x64x128, .f32⟩
  | _, _ => ⟨S65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GlaRefIdeal.lean ====
abbrev S65536x256 : Shape := ⟨2, ![65536, 256]⟩
abbrev S65536x512 : Shape := ⟨2, ![65536, 512]⟩
abbrev S512 : Shape := ⟨1, ![512]⟩
abbrev S8x128x64x4x64 : Shape := ⟨5, ![8, 128, 64, 4, 64]⟩
abbrev S_ : Shape := ⟨0, ![]⟩
abbrev S8x128x64x4x128 : Shape := ⟨5, ![8, 128, 64, 4, 128]⟩
abbrev S64x64 : Shape := ⟨2, ![64, 64]⟩
abbrev S8x128x4x64x64 : Shape := ⟨5, ![8, 128, 4, 64, 64]⟩
abbrev S8x128x4x128x64 : Shape := ⟨5, ![8, 128, 4, 128, 64]⟩
abbrev S8x128x1x4x64 : Shape := ⟨5, ![8, 128, 1, 4, 64]⟩
abbrev S8x128x4x64 : Shape := ⟨4, ![8, 128, 4, 64]⟩
abbrev S128x8x4x64x128 : Shape := ⟨5, ![128, 8, 4, 64, 128]⟩
abbrev S8x4x64x128 : Shape := ⟨4, ![8, 4, 64, 128]⟩
abbrev S128x8x4x64 : Shape := ⟨4, ![128, 8, 4, 64]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S4x128 : Shape := ⟨2, ![4, 128]⟩
abbrev S1x1x4x128 : Shape := ⟨4, ![1, 1, 4, 128]⟩

abbrev nBuf : Space → Nat
  | .hbm => 110
  | .vmem => 0
  | .smem => 0
  | _ => 0

abbrev bufTy : (tb : Table) → Fin (tcTables nBuf tb) → BufTy
  | .hbm, ⟨0, _⟩ => ⟨S65536x256, .bf16⟩
  | .hbm, ⟨1, _⟩ => ⟨S65536x256, .bf16⟩
  | .hbm, ⟨2, _⟩ => ⟨S65536x512, .bf16⟩
  | .hbm, ⟨3, _⟩ => ⟨S65536x256, .f32⟩
  | .hbm, ⟨4, _⟩ => ⟨S65536x512, .bf16⟩
  | .hbm, ⟨5, _⟩ => ⟨S512, .f32⟩
  | .hbm, ⟨6, _⟩ => ⟨S8x128x64x4x64, .f32⟩
  | .hbm, ⟨7, _⟩ => ⟨S_, .f32⟩
  | .hbm, ⟨8, _⟩ => ⟨S_, .f32⟩
  | .hbm, ⟨9, _⟩ => ⟨S8x128x64x4x64, .f32⟩
  | .hbm, ⟨10, _⟩ => ⟨S65536x256, .f32⟩
  | .hbm, ⟨11, _⟩ => ⟨S8x128x64x4x64, .f32⟩
  | .hbm, ⟨12, _⟩ => ⟨S65536x256, .f32⟩
  | .hbm, ⟨13, _⟩ => ⟨S8x128x64x4x64, .f32⟩
  | .hbm, ⟨14, _⟩ => ⟨S65536x512, .f32⟩
  | .hbm, ⟨15, _⟩ => ⟨S8x128x64x4x128, .f32⟩
  | .hbm, ⟨16, _⟩ => ⟨S8x128x64x4x64, .f32⟩
  | .hbm, ⟨17, _⟩ => ⟨S8x128x64x4x64, .f32⟩
  | .hbm, ⟨18, _⟩ => ⟨S8x128x64x4x64, .f32⟩
  | .hbm, ⟨19, _⟩ => ⟨S8x128x64x4x64, .f32⟩
  | .hbm, ⟨20, _⟩ => ⟨S8x128x64x4x64, .f32⟩
  | .hbm, ⟨21, _⟩ => ⟨S_, .i1⟩
  | .hbm, ⟨22, _⟩ => ⟨S64x64, .i1⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .i1⟩
  | .hbm, ⟨30, _⟩ => ⟨S64x64, .i1⟩
  | .hbm, ⟨31, _⟩ => ⟨S64x64, .i1⟩
  | .hbm, ⟨32, _⟩ => ⟨S8x128x4x64x64, .f32⟩
  | .hbm, ⟨33, _⟩ => ⟨S_, .f32⟩
  | .hbm, ⟨34, _⟩ => ⟨S_, .f32⟩
  | .hbm, ⟨35, _⟩ => ⟨S8x128x4x64x64, .i1⟩
  | .hbm, ⟨36, _⟩ => ⟨S8x128x4x64x64, .f32⟩
  | .hbm, ⟨37, _⟩ => ⟨S8x128x4x64x64, .f32⟩
  | .hbm, ⟨38, _⟩ => ⟨S8x128x4x128x64, .f32⟩
  | .hbm, ⟨39, _⟩ => ⟨S8x128x64x4x128, .f32⟩
  | .hbm, ⟨40, _⟩ => ⟨S8x128x1x4x64, .f32⟩
  | .hbm, ⟨41, _⟩ => ⟨S8x128x4x64, .f32⟩
  | .hbm, ⟨42, _⟩ => ⟨S8x128x1x4x64, .f32⟩
  | .hbm, ⟨43, _⟩ => ⟨S8x128x64x4x64, .f32⟩
  | .hbm, ⟨44, _⟩ => ⟨S8x128x64x4x64, .f32⟩
  | .hbm, ⟨45, _⟩ => ⟨S8x128x64x4x64, .f32⟩
  | .hbm, ⟨46, _⟩ => ⟨S8x128x64x4x64, .f32⟩
  | .hbm, ⟨47, _⟩ => ⟨S128x8x4x64x128, .f32⟩
  | .hbm, ⟨48, _⟩ => ⟨S_, .f32⟩
  | .hbm, ⟨49, _⟩ => ⟨S8x4x64x128, .f32⟩
  | .hbm, ⟨50, _⟩ => ⟨S8x128x4x64, .f32⟩
  | .hbm, ⟨51, _⟩ => ⟨S128x8x4x64, .f32⟩
  | .hbm, ⟨52, _⟩ => ⟨S_, .f32⟩
  | .hbm, ⟨53, _⟩ => ⟨S128x8x4x64x128, .f32⟩
  | .hbm, ⟨54, _⟩ => ⟨S_, .i32⟩
  | .hbm, ⟨55, _⟩ => ⟨S128x8x4x64, .f32⟩
  | .hbm, ⟨56, _⟩ => ⟨S128x8x4x64x128, .f32⟩
  | .hbm, ⟨57, _⟩ => ⟨S_, .i32⟩
  | .hbm, ⟨58, _⟩ => ⟨S8x4x64x128, .f32⟩
  | .hbm, ⟨59, _⟩ => ⟨S128x8x4x64x128, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x4x64, .f32⟩
  | .hbm, ⟨66, _⟩ => ⟨S8x4x64, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x8x4x64x128, .f32⟩
  | .hbm, ⟨72, _⟩ => ⟨S8x4x64x128, .f32⟩
  | .hbm, ⟨73, _⟩ => ⟨S8x4x64x1, .f32⟩
  | .hbm, ⟨74, _⟩ => ⟨S8x4x64x128, .f32⟩
  | .hbm, ⟨75, _⟩ => ⟨S8x4x64x128, .f32⟩
  | .hbm, ⟨76, _⟩ => ⟨S8x4x64x128, .f32⟩
  | .hbm, ⟨77, _⟩ => ⟨S1x8x4x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S128x8x4x64x128, .f32⟩
  | .hbm, ⟨83, _⟩ => ⟨S_, .i32⟩
  | .hbm, ⟨84, _⟩ => ⟨S_, .i32⟩
  | .hbm, ⟨85, _⟩ => ⟨S8x128x4x128x64, .f32⟩
  | .hbm, ⟨86, _⟩ => ⟨S8x128x64x4x128, .f32⟩
  | .hbm, ⟨87, _⟩ => ⟨S8x128x64x4x128, .f32⟩
  | .hbm, ⟨88, _⟩ => ⟨S8x8192x4x128, .f32⟩
  | .hbm, ⟨89, _⟩ => ⟨S8x8192x4x128, .f32⟩
  | .hbm, ⟨90, _⟩ => ⟨S_, .f32⟩
  | .hbm, ⟨91, _⟩ => ⟨S8x8192x4, .f32⟩
  | .hbm, ⟨92, _⟩ => ⟨S8x8192x4x1, .f32⟩
  | .hbm, ⟨93, _⟩ => ⟨S_, .f32⟩
  | .hbm, ⟨94, _⟩ => ⟨S8x8192x4x1, .f32⟩
  | .hbm, ⟨95, _⟩ => ⟨S8x8192x4x1, .f32⟩
  | .hbm, ⟨96, _⟩ => ⟨S_, .f32⟩
  | .hbm, ⟨97, _⟩ => ⟨S8x8192x4x1, .f32⟩
  | .hbm, ⟨98, _⟩ => ⟨S8x8192x4x1, .f32⟩
  | .hbm, ⟨99, _⟩ => ⟨S8x8192x4x1, .f32⟩
  | .hbm, ⟨100, _⟩ => ⟨S8x8192x4x128, .f32⟩
  | .hbm, ⟨101, _⟩ => ⟨S8x8192x4x128, .f32⟩
  | .hbm, ⟨102, _⟩ => ⟨S4x128, .f32⟩
  | .hbm, ⟨103, _⟩ => ⟨S1x1x4x128, .f32⟩
  | .hbm, ⟨104, _⟩ => ⟨S8x8192x4x128, .f32⟩
  | .hbm, ⟨105, _⟩ => ⟨S8x8192x4x128, .f32⟩
  | .hbm, ⟨106, _⟩ => ⟨S65536x512, .f32⟩
  | .hbm, ⟨107, _⟩ => ⟨S65536x512, .f32⟩
  | .hbm, ⟨108, _⟩ => ⟨S65536x512, .f32⟩
  | .hbm, ⟨109, _⟩ => ⟨S65536x512, .bf16⟩
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_0 : Ref sig .tc := ⟨.hbm, 29, rfl⟩
abbrev main_call1_v5 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_c_2 : Ref sig .tc := ⟨.hbm, 54, rfl⟩
abbrev main_v31_0 : Ref sig .tc := ⟨.hbm, 55, rfl⟩
abbrev main_v31_1 : Ref sig .tc := ⟨.hbm, 56, rfl⟩
abbrev main_v31_2 : Ref sig .tc := ⟨.hbm, 57, rfl⟩
abbrev main_v31_3 : Ref sig .tc := ⟨.hbm, 58, rfl⟩
abbrev main_v31_4 : Ref sig .tc := ⟨.hbm, 59, rfl⟩
abbrev main_while0c_c_10 : Ref sig .tc := ⟨.hbm, 60, rfl⟩
abbrev main_while0c_v54 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v54 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v55 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_call5_v0 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_c_2 : Ref sig .tc := ⟨.hbm, 81, rfl⟩
abbrev main_while0b_v60 : Ref sig .tc := ⟨.hbm, 82, rfl⟩
abbrev main_while0b_c_10 : Ref sig .tc := ⟨.hbm, 83, rfl⟩
abbrev main_while0b_v61 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_3 : Ref sig .tc := ⟨.hbm, 90, rfl⟩
abbrev main_v37 : Ref sig .tc := ⟨.hbm, 91, rfl⟩
abbrev main_v38 : Ref sig .tc := ⟨.hbm, 92, rfl⟩
abbrev main_cst_4 : Ref sig .tc := ⟨.hbm, 93, rfl⟩
abbrev main_v39 : Ref sig .tc := ⟨.hbm, 94, rfl⟩
abbrev main_v40 : Ref sig .tc := ⟨.hbm, 95, rfl⟩
abbrev main_cst_5 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩

abbrev nD : Nat := 1
abbrev τ : Topo := Topo.v7x

variable {F : FTy → Type} [FloatOps F]

abbrev main_while0_count : Scf.Loop 32 := ⟨0#32, 128#32, 1#32⟩
-- ==== Proof.Swa.Unit.lean ====
/- The words in which the body of the attention call is read: one window of 128 queries of one key/value head. -/
module

public import proofs.«01_k».proof.Proof.Gen.SwaIdeal.Frame

@[expose] public section

set_option maxRecDepth 16384

noncomputable section

namespace Cert.Proof.SwaKernel

open Cert.SwaIdeal Cert.SwaIdeal.Gen Idealize.ShloMosaic

variable {F : FTy → Type} [FloatOps F] [Named F]

/-- 128 rows of a stack of 512. -/
def rows512 {e : FTy} (x : FVec F S512x128 e) (o : ℕ) (h : S512x128.Slices ![o, 0] S128x128) : FVec F S128x128 e :=
  extractStridedSlice S128x128 ![o, 0] x h

/-- 128 rows of the 640 keys or values a grid step sees. -/
def rows640 {e : FTy} (x : FVec F S640x128 e) (o : ℕ) (h : S640x128.Slices ![o, 0] S128x128) : FVec F S128x128 e :=
  extractStridedSlice S128x128 ![o, 0] x h

/-- On the first 64 lanes `a`, on the last 64 `b`. -/
def lanes (a b : FVec F S128x128 .f32) : FVec F S128x128 .f32 :=
  select (broadcastTo S128x128 (shapeCast S1x128 k0_pay4 shapeCasts_S1x128_S1x128) broadcasts_S1x128_S128x128) a b

/-- All lanes zero. -/
def zeros128 : FVec F S128x128 .f32 := broadcast S128x128 (Scalar.ofBits .f32 0x00000000#32)

/-- Four heads' queries stacked, each on its half of the lanes with zeros on the other half. -/
def stack (a b : FVec F S128x128 .f32) : FVec F S512x128 .bf16 :=
  truncf .bf16 (concatenate S512x128 0 [⟨S128x128, lanes a zeros128⟩, ⟨S128x128, lanes zeros128 a⟩,
    ⟨S128x128, lanes b zeros128⟩, ⟨S128x128, lanes zeros128 b⟩]
    concatenates_S128x128_S128x128_S128x128_S128x128_S512x128_d0) bitsLt_bf16_f32

/-- Keys against stacked queries. -/
def against (k : FVec F S128x128 .bf16) (q : FVec F S512x128 .bf16) : FVec F S128x512 .f32 :=
  matmul dot_S128x128_S512x128_S128x512_1_1_0_0_n_n none k q (constant S128x512 .f32 0x00000000#32)

/-- The scores of one window: a key at or before its query is of the window's own block, a later one of the block before. -/
def scores (cur prev : FVec F S128x512 .f32) : FVec F S128x512 .f32 := select k0_pay33 cur prev

/-- The earlier block's scores at the first window of a step: masked on the step that opens the sequence. -/
def opening (step : BitVec 32) (prev : FVec F S128x512 .f32) : FVec F S128x512 .f32 :=
  Scalar.select (Scalar.cmpi .sgt step 0#32) prev (broadcast S128x512 (Named.named κ "mask" 0xF149F2CA#32))

/-- The four heads' sinks, each over its 128 queries. -/
def sinkRow (x : FVec F S8x128 .f32) (a b c d : ℕ) (ha : S8x128.Slices ![a, 0] S1x128) (hb : S8x128.Slices ![b, 0] S1x128)
    (hc : S8x128.Slices ![c, 0] S1x128) (hd : S8x128.Slices ![d, 0] S1x128) : FVec F S1x512 .f32 :=
  concatenate S1x512 1 [⟨S1x128, extractStridedSlice S1x128 ![a, 0] x ha⟩, ⟨S1x128, extractStridedSlice S1x128 ![b, 0] x hb⟩,
    ⟨S1x128, extractStridedSlice S1x128 ![c, 0] x hc⟩, ⟨S1x128, extractStridedSlice S1x128 ![d, 0] x hd⟩]
    concatenates_S1x128_S1x128_S1x128_S1x128_S1x512_d1

/-- The largest score of each query, the sink counted. -/
def top (s : FVec F S128x512 .f32) (sink : FVec F S1x512 .f32) : FVec F S1x512 .f32 :=
  maximumf (shapeCast S1x512 (multiReduction .maximumf [0] S512 s 0xFF800000#32 reduces_S128x512_S512 (.inl rfl) rfl)
    shapeCasts_S512_S1x512) sink

/-- The exponentials of the scores less their largest. -/
def weights (s : FVec F S128x512 .f32) (sink : FVec F S1x512 .f32) : FVec F S128x512 .f32 :=
  exp (subf s (broadcastTo S128x512 (top s sink) broadcasts_S1x512_S128x512))

/-- Their sum, the sink's exponential counted. -/
def total (s : FVec F S128x512 .f32) (sink : FVec F S1x512 .f32) : FVec F S1x512 .f32 :=
  addf (shapeCast S1x512 (multiReduction .add [0] S512 (weights s sink) 0x00000000#32 reduces_S128x512_S512 (.inl rfl) rfl)
    shapeCasts_S512_S1x512) (exp (subf sink (top s sink)))

/-- The probabilities. -/
def probs (s : FVec F S128x512 .f32) (sink : FVec F S1x512 .f32) : FVec F S128x512 .bf16 :=
  truncf .bf16 (mulf (weights s sink) (broadcastTo S128x512
    (divf (broadcast S1x512 (Scalar.ofBits .f32 0x3F800000#32)) (total s sink)) broadcasts_S1x512_S128x512)) bitsLt_bf16_f32

/-- All probabilities zero. -/
def none512 : FVec F S128x512 .bf16 := broadcast S128x512 (Scalar.ofBits .bf16 0x0000#16)

/-- The values weighted by the probabilities, own block and earlier block. -/
def mixed (p : FVec F S128x512 .bf16) (cur prev : FVec F S128x128 .bf16) : FVec F S512x128 .f32 :=
  addf
    (matmul dot_S128x512_S128x128_S512x128_0_0_1_1_n_n none (select k0_pay33 p none512) cur (constant S512x128 .f32 0x00000000#32))
    (matmul dot_S128x512_S128x128_S512x128_0_0_1_1_n_n none (select k0_pay33 none512 p) prev (constant S512x128 .f32 0x00000000#32))

/-- One window: scores, probabilities, weighted values. -/
def window (s : FVec F S128x512 .f32) (sink : FVec F S1x512 .f32) (cur prev : FVec F S128x128 .bf16) : FVec F S512x128 .f32 :=
  mixed (probs s sink) cur prev

/-- The first two heads' results side by side. -/
def firstPair (u : FVec F S512x128 .f32) : FVec F S128x128 .bf16 :=
  truncf .bf16 (lanes (rows512 u 0 slices_S512x128_o0_0_S128x128) (rows512 u 128 slices_S512x128_o128_0_S128x128)) bitsLt_bf16_f32

/-- The last two heads' results side by side. -/
def lastPair (u : FVec F S512x128 .f32) : FVec F S128x128 .bf16 :=
  truncf .bf16 (lanes (rows512 u 256 slices_S512x128_o256_0_S128x128) (rows512 u 384 slices_S512x128_o384_0_S128x128)) bitsLt_bf16_f32

section Step

variable (i : grid0.Coords) (x0 : Vec F S512x512 .bf16) (x1 : Vec F S512x128 .bf16) (x2 : Vec F S128x128 .bf16)
  (x3 : Vec F S512x128 .bf16) (x4 : Vec F S128x128 .bf16) (x5 x6 : Vec F S512x128 .f32) (x7 x8 : Vec F S128x128 .f32)
  (x9 x10 : Vec F S1x128 .f32) (x11 : Vec F S8x128 .f32)

/-- The 640 keys, normed and turned. -/
def keys : FVec F S640x128 .f32 :=
  k0_pay14 k0_pay5 k0_pay6 (k0_pay9 (View.ld x5 r0_0) (View.ld x7 r0_1)) (k0_pay10 (View.ld x6 r0_0) (View.ld x8 r0_1))
    (k0_pay11 (View.ld x2 r0_1) (View.ld x1 r0_0)) (k0_pay12 (View.ld x10 r0_2)) (k0_pay13 (View.ld x2 r0_1) (View.ld x1 r0_0))
    (constant S640x128 .f32 0x00000000#32)

/-- The 640 values. -/
def vals : FVec F S640x128 .f32 := k0_pay16 (View.ld x4 r0_1) (View.ld x3 r0_0)

/-- A head's 64 lanes on both halves: the first key/value head's. -/
def twice0 (x : FVec F S640x128 .f32) : FVec F S640x128 .bf16 :=
  truncf .bf16 (select (broadcastTo S640x128 (shapeCast S1x128 k0_pay4 shapeCasts_S1x128_S1x128) broadcasts_S1x128_S640x128) x
    (dynamicRotate 1 64#32 none x rotates_S640x128_d1)) bitsLt_bf16_f32

/-- A head's 64 lanes on both halves: the second key/value head's. -/
def twice1 (x : FVec F S640x128 .f32) : FVec F S640x128 .bf16 :=
  truncf .bf16 (select (broadcastTo S640x128 (shapeCast S1x128 k0_pay4 shapeCasts_S1x128_S1x128) broadcasts_S1x128_S640x128)
    (dynamicRotate 1 64#32 none x rotates_S640x128_d1) x) bitsLt_bf16_f32

/-- 128 lanes of the queries, normed, turned and scaled. -/
def query (xq : Vec F S512x128 .bf16) : FVec F S512x128 .f32 :=
  k0_pay27 k0_pay5 k0_pay6 (k0_pay7 (View.ld x5 r0_0)) (k0_pay8 (View.ld x6 r0_0)) xq (View.ld x9 r0_2)

/-- The stacked queries of window rows `o` for the first key/value head. -/
def stack0 (o : ℕ) (h : S512x128.Slices ![o, 0] S128x128) : FVec F S512x128 .bf16 :=
  stack (rows512 (query x5 x6 x9 (View.ld x0 r0_3)) o h) (rows512 (query x5 x6 x9 (View.ld x0 r0_4)) o h)

/-- The stacked queries of window rows `o` for the second key/value head. -/
def stack1 (o : ℕ) (h : S512x128.Slices ![o, 0] S128x128) : FVec F S512x128 .bf16 :=
  stack (rows512 (query x5 x6 x9 (View.ld x0 r0_5)) o h) (rows512 (query x5 x6 x9 (View.ld x0 r0_6)) o h)

/-- The first key/value head's four sinks. -/
def sinks0 : FVec F S1x512 .f32 :=
  sinkRow (k0_pay34 (View.ld x11 r0_7)) 0 1 2 3 slices_S8x128_o0_0_S1x128 slices_S8x128_o1_0_S1x128
    slices_S8x128_o2_0_S1x128 slices_S8x128_o3_0_S1x128

/-- The second key/value head's four sinks. -/
def sinks1 : FVec F S1x512 .f32 :=
  sinkRow (k0_pay34 (View.ld x11 r0_7)) 4 5 6 7 slices_S8x128_o4_0_S1x128 slices_S8x128_o5_0_S1x128
    slices_S8x128_o6_0_S1x128 slices_S8x128_o7_0_S1x128

/-- The first window of a step. -/
def open0 : FVec F S512x128 .f32 :=
  let k := twice0 (keys x1 x2 x5 x6 x7 x8 x10); let v := twice0 (vals x3 x4)
  let q := stack0 x0 x5 x6 x9 0 slices_S512x128_o0_0_S128x128
  window (scores (against (rows640 k 128 slices_S640x128_o128_0_S128x128) q)
      (opening (BitVec.ofNat 32 (i 1).val) (against (rows640 k 0 slices_S640x128_o0_0_S128x128) q)))
    (sinks0 x11) (rows640 v 128 slices_S640x128_o128_0_S128x128) (rows640 v 0 slices_S640x128_o0_0_S128x128)

/-- The same for the second key/value head. -/
def open1 : FVec F S512x128 .f32 :=
  let k := twice1 (keys x1 x2 x5 x6 x7 x8 x10); let v := twice1 (vals x3 x4)
  let q := stack1 x0 x5 x6 x9 0 slices_S512x128_o0_0_S128x128
  window (scores (against (rows640 k 128 slices_S640x128_o128_0_S128x128) q)
      (opening (BitVec.ofNat 32 (i 1).val) (against (rows640 k 0 slices_S640x128_o0_0_S128x128) q)))
    (sinks1 x11) (rows640 v 128 slices_S640x128_o128_0_S128x128) (rows640 v 0 slices_S640x128_o0_0_S128x128)

/-- A later window of a step, its queries at rows `o` of the block, the earlier keys at rows `o` of the 640. -/
def later0 (o o' : ℕ) (hq : S512x128.Slices ![o, 0] S128x128) (hp : S640x128.Slices ![o, 0] S128x128)
    (hc : S640x128.Slices ![o', 0] S128x128) : FVec F S512x128 .f32 :=
  let k := twice0 (keys x1 x2 x5 x6 x7 x8 x10); let v := twice0 (vals x3 x4); let q := stack0 x0 x5 x6 x9 o hq
  window (scores (against (rows640 k o' hc) q) (against (rows640 k o hp) q)) (sinks0 x11) (rows640 v o' hc) (rows640 v o hp)

/-- The same for the second key/value head. -/
def later1 (o o' : ℕ) (hq : S512x128.Slices ![o, 0] S128x128) (hp : S640x128.Slices ![o, 0] S128x128)
    (hc : S640x128.Slices ![o', 0] S128x128) : FVec F S512x128 .f32 :=
  let k := twice1 (keys x1 x2 x5 x6 x7 x8 x10); let v := twice1 (vals x3 x4); let q := stack1 x0 x5 x6 x9 o hq
  window (scores (against (rows640 k o' hc) q) (against (rows640 k o hp) q)) (sinks1 x11) (rows640 v o' hc) (rows640 v o hp)

set_option maxHeartbeats 4000000 in
/-- What a grid step leaves in the output block, in these words. -/
theorem out_eq : out0_12 i x0 x1 x2 x3 x4 x5 x6 x7 x8 x9 x10 x11
    = View.canon [
      ⟨r0_23, lastPair (later1 x0 x1 x2 x3 x4 x5 x6 x7 x8 x9 x10 x11 384 512 slices_S512x128_o384_0_S128x128
        slices_S640x128_o384_0_S128x128 slices_S640x128_o512_0_S128x128)⟩,
      ⟨r0_22, firstPair (later1 x0 x1 x2 x3 x4 x5 x6 x7 x8 x9 x10 x11 384 512 slices_S512x128_o384_0_S128x128
        slices_S640x128_o384_0_S128x128 slices_S640x128_o512_0_S128x128)⟩,
      ⟨r0_21, lastPair (later0 x0 x1 x2 x3 x4 x5 x6 x7 x8 x9 x10 x11 384 512 slices_S512x128_o384_0_S128x128
        slices_S640x128_o384_0_S128x128 slices_S640x128_o512_0_S128x128)⟩,
      ⟨r0_20, firstPair (later0 x0 x1 x2 x3 x4 x5 x6 x7 x8 x9 x10 x11 384 512 slices_S512x128_o384_0_S128x128
        slices_S640x128_o384_0_S128x128 slices_S640x128_o512_0_S128x128)⟩,
      ⟨r0_19, lastPair (later1 x0 x1 x2 x3 x4 x5 x6 x7 x8 x9 x10 x11 256 384 slices_S512x128_o256_0_S128x128
        slices_S640x128_o256_0_S128x128 slices_S640x128_o384_0_S128x128)⟩,
      ⟨r0_18, firstPair (later1 x0 x1 x2 x3 x4 x5 x6 x7 x8 x9 x10 x11 256 384 slices_S512x128_o256_0_S128x128
        slices_S640x128_o256_0_S128x128 slices_S640x128_o384_0_S128x128)⟩,
      ⟨r0_17, lastPair (later0 x0 x1 x2 x3 x4 x5 x6 x7 x8 x9 x10 x11 256 384 slices_S512x128_o256_0_S128x128
        slices_S640x128_o256_0_S128x128 slices_S640x128_o384_0_S128x128)⟩,
      ⟨r0_16, firstPair (later0 x0 x1 x2 x3 x4 x5 x6 x7 x8 x9 x10 x11 256 384 slices_S512x128_o256_0_S128x128
        slices_S640x128_o256_0_S128x128 slices_S640x128_o384_0_S128x128)⟩,
      ⟨r0_15, lastPair (later1 x0 x1 x2 x3 x4 x5 x6 x7 x8 x9 x10 x11 128 256 slices_S512x128_o128_0_S128x128
        slices_S640x128_o128_0_S128x128 slices_S640x128_o256_0_S128x128)⟩,
      ⟨r0_14, firstPair (later1 x0 x1 x2 x3 x4 x5 x6 x7 x8 x9 x10 x11 128 256 slices_S512x128_o128_0_S128x128
        slices_S640x128_o128_0_S128x128 slices_S640x128_o256_0_S128x128)⟩,
      ⟨r0_13, lastPair (later0 x0 x1 x2 x3 x4 x5 x6 x7 x8 x9 x10 x11 128 256 slices_S512x128_o128_0_S128x128
        slices_S640x128_o128_0_S128x128 slices_S640x128_o256_0_S128x128)⟩,
      ⟨r0_12, firstPair (later0 x0 x1 x2 x3 x4 x5 x6 x7 x8 x9 x10 x11 128 256 slices_S512x128_o128_0_S128x128
        slices_S640x128_o128_0_S128x128 slices_S640x128_o256_0_S128x128)⟩,
      ⟨r0_11, lastPair (open1 i x0 x1 x2 x3 x4 x5 x6 x7 x8 x9 x10 x11)⟩,
      ⟨r0_10, firstPair (open1 i x0 x1 x2 x3 x4 x5 x6 x7 x8 x9 x10 x11)⟩,
      ⟨r0_9, lastPair (open0 i x0 x1 x2 x3 x4 x5 x6 x7 x8 x9 x10 x11)⟩,
      ⟨r0_8, firstPair (open0 i x0 x1 x2 x3 x4 x5 x6 x7 x8 x9 x10 x11)⟩] := by
  rfl

end Step

end Cert.Proof.SwaKernel

end
-- ==== Proof.Swa.Math.lean ====
/- The mathematics of one query of the sliding-window attention, over the extended reals: the norm, the turn by position,
   the softmax with a sink over one window kept as 128 scores, and the same over a band of 256 with masked scores. -/
module

public import Idealize.ShloMosaic.Lib.Pointwise

@[expose] public section

noncomputable section

namespace Cert.Proof.Attention

open Idealize.ShloMosaic

/-! ### Extended reals -/

/-- A value that is a real number. -/
def Fin' (x : EReal) : Prop := ∃ r : ℝ, x = r

theorem Fin'.zero : Fin' 0 := ⟨0, by simp⟩
theorem Fin'.add {x y : EReal} (hx : Fin' x) (hy : Fin' y) : Fin' (x + y) := by
  obtain ⟨a, rfl⟩ := hx; obtain ⟨b, rfl⟩ := hy; exact ⟨a + b, by push_cast; rfl⟩
theorem Fin'.neg {x : EReal} (hx : Fin' x) : Fin' (-x) := by
  obtain ⟨a, rfl⟩ := hx; exact ⟨-a, by push_cast; rfl⟩
theorem Fin'.sub {x y : EReal} (hx : Fin' x) (hy : Fin' y) : Fin' (x - y) := by
  obtain ⟨a, rfl⟩ := hx; obtain ⟨b, rfl⟩ := hy; exact ⟨a - b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.sum {ι : Type} (s : Finset ι) {f : ι → EReal} (h : ∀ i, Fin' (f i)) : Fin' (∑ i ∈ s, f i) :=
  Finset.sum_induction f Fin' (fun _ _ => Fin'.add) Fin'.zero fun i _ => h i
theorem Fin'.ne_top {x : EReal} (h : Fin' x) : x ≠ ⊤ := by obtain ⟨a, rfl⟩ := h; exact EReal.coe_ne_top a
theorem Fin'.ne_bot {x : EReal} (h : Fin' x) : x ≠ ⊥ := by obtain ⟨a, rfl⟩ := h; exact EReal.coe_ne_bot a

/-- A number that is not negative may be taken out of a sum on its right. -/
theorem sum_mul_const {ι : Type} (s : Finset ι) (f : ι → EReal) (c : ℝ) (hc : 0 ≤ c) :
    ∑ i ∈ s, f i * (c : EReal) = (∑ i ∈ s, f i) * c := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

theorem exp_bot_sub (m : EReal) : Ideal.exp (⊥ - m) = 0 := by
  rw [sub_eq_add_neg, EReal.bot_add]; rfl

theorem exp_nonneg (x : EReal) : 0 ≤ Ideal.exp x := by
  induction x with
  | bot => exact le_rfl
  | top => exact le_top
  | coe r => exact (EReal.coe_nonneg.2 (Real.exp_pos r).le : (0 : EReal) ≤ ((Real.exp r : ℝ) : EReal))

theorem exp_pos_of_fin {x : EReal} (h : Fin' x) : 0 < Ideal.exp x := by
  obtain ⟨r, rfl⟩ := h
  show (0 : EReal) < ((Real.exp r : ℝ) : EReal)
  exact_mod_cast Real.exp_pos r

/-- Dividing by a value that is not zero is multiplying by its reciprocal. -/
theorem mul_recip (x t : EReal) (ht : t ≠ 0) : x * Ideal.div 1 t = Ideal.div x t := by
  simp [Ideal.div, ht]

theorem div_zero_left (t : EReal) (ht : t ≠ 0) : Ideal.div 0 t = 0 := by simp [Ideal.div, ht]

/-! ### The norm and the turn -/

/-- The small number the norm adds. -/
abbrev eps : EReal := Ideal.ofBits .f32 0x358637BD#32

theorem eps_eq : ∃ r : ℝ, 0 < r ∧ eps = r := by
  refine ⟨(8388608 + 407485 : ℕ) * 2 ^ (-43 : ℤ), by positivity, ?_⟩
  simp [Ideal.ofBits, Ideal.ieee, -EReal.coe_mul]

theorem sixtyFourth : Ideal.ofBits .f32 0x3C800000#32 = ((1 / 64 : ℝ) : EReal) := by
  simp [Ideal.ofBits, Ideal.ieee, -EReal.coe_mul]; norm_num

theorem sixtyFour : Ideal.ofBits .f32 0x42800000#32 = ((64 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A head's vector over its root mean square, times the gain. -/
def normed (x g : Fin 64 → EReal) (d : Fin 64) : EReal :=
  x d * Ideal.rsqrt ((∑ k, x k * x k) * ((1 / 64 : ℝ) : EReal) + eps) * g d

/-- The first sixteen lanes turned by the position's angles in pairs eight apart, the others kept. -/
def turned (y : Fin 64 → EReal) (c s : Fin 8 → EReal) (d : Fin 64) : EReal :=
  if h : d.val < 8 then y d * c ⟨d.val, h⟩ - y ⟨d.val + 8, by omega⟩ * s ⟨d.val, h⟩
  else if h' : d.val < 16 then y d * c ⟨d.val - 8, by omega⟩ + y ⟨d.val - 8, by omega⟩ * s ⟨d.val - 8, by omega⟩
  else y d

theorem normed_fin {x g : Fin 64 → EReal} (hx : ∀ d, Fin' (x d)) (hg : ∀ d, Fin' (g d)) (d : Fin 64) : Fin' (normed x g d) := by
  refine Fin'.mul (Fin'.mul (hx d) ?_) (hg d)
  choose a ha using hx
  obtain ⟨e, he, hee⟩ := eps_eq
  have hs : (∑ k, x k * x k) * ((1 / 64 : ℝ) : EReal) + eps = (((∑ k, a k * a k) * (1 / 64) + e : ℝ) : EReal) := by
    rw [hee, EReal.coe_add, EReal.coe_mul, coe_sum]; simp only [ha, EReal.coe_mul]
  have h0 : 0 < (∑ k, a k * a k) * (1 / 64) + e := by
    have : 0 ≤ ∑ k, a k * a k := Finset.sum_nonneg fun k _ => mul_self_nonneg _
    positivity
  rw [hs]
  refine ⟨(Real.sqrt ((∑ k, a k * a k) * (1 / 64) + e))⁻¹, ?_⟩
  show (if _ < 0 then _ else if _ = 0 then _ else _) = _
  rw [if_neg (not_lt.mpr h0.le), if_neg h0.ne']

theorem turned_fin {y : Fin 64 → EReal} {c s : Fin 8 → EReal} (hy : ∀ d, Fin' (y d)) (hc : ∀ d, Fin' (c d)) (hs : ∀ d, Fin' (s d))
    (d : Fin 64) : Fin' (turned y c s d) := by
  unfold turned
  split
  · exact ((hy _).mul (hc _)).sub ((hy _).mul (hs _))
  · split
    · exact ((hy _).mul (hc _)).add ((hy _).mul (hs _))
    · exact hy _

/-! ### The softmax with a sink -/

/-- The largest of a row of scores and the sink. -/
def peak {n : ℕ} (s : Fin n → EReal) (sink : EReal) : EReal := max (Finset.univ.fold max ⊥ s) sink

/-- The sum of the exponentials, the sink's counted. -/
def mass {n : ℕ} (s : Fin n → EReal) (sink : EReal) : EReal :=
  (∑ j, Ideal.exp (s j - peak s sink)) + Ideal.exp (sink - peak s sink)

/-- The result from the 128 scores of a window: keys up to the query's place are the own block's, later ones the block's before. -/
def fromWindow (s : Fin 128 → EReal) (sink : EReal) (own before : Fin 128 → EReal) (i : ℕ) : EReal :=
  (∑ j, (if j.val ≤ i then Ideal.exp (s j - peak s sink) * Ideal.div 1 (mass s sink) else 0) * own j)
    + ∑ j, (if j.val ≤ i then 0 else Ideal.exp (s j - peak s sink) * Ideal.div 1 (mass s sink)) * before j

/-- The result from a band of 256 scores. -/
def fromBand (s : Fin 256 → EReal) (sink : EReal) (v : Fin 256 → EReal) : EReal :=
  ∑ j, v j * Ideal.div (Ideal.exp (s j - peak s sink)) (mass s sink)

/-- The masked band: of the block before, the keys later than the query's place, where there is a block before; of the own
    block, the keys up to it. -/
def band (past : Prop) [Decidable past] (i : ℕ) (prev cur : Fin 128 → EReal) (j : Fin 256) : EReal :=
  if h : j.val < 128 then (if i < j.val ∧ past then prev ⟨j.val, h⟩ else ⊥)
  else if j.val - 128 ≤ i then cur ⟨j.val - 128, by omega⟩ else ⊥

/-- The band folded onto one window. -/
def fold128 (past : Prop) [Decidable past] (i : ℕ) (prev cur : Fin 128 → EReal) (j : Fin 128) : EReal :=
  if j.val ≤ i then cur j else if past then prev j else ⊥

theorem fold128_congr {p q : Prop} [Decidable p] [Decidable q] (h : p ↔ q) (i : ℕ) (prev cur : Fin 128 → EReal) :
    fold128 p i prev cur = fold128 q i prev cur := by
  funext j
  simp only [fold128, h]

theorem fold_max_iff {n : ℕ} (s : Fin n → EReal) (z : EReal) : Finset.univ.fold max ⊥ s ≤ z ↔ ∀ j, s j ≤ z := by
  rw [Finset.fold_max_le]; simp

theorem peak_band (past : Prop) [Decidable past] (i : ℕ) (prev cur : Fin 128 → EReal) (sink : EReal) :
    peak (band past i prev cur) sink = peak (fold128 past i prev cur) sink := by
  unfold peak
  congr 1
  refine le_antisymm ?_ ?_
  · rw [fold_max_iff]
    intro j
    by_cases h : j.val < 128
    · by_cases hp : i < j.val ∧ past
      · refine le_trans (le_of_eq ?_) ((fold_max_iff _ _).1 le_rfl ⟨j.val, h⟩)
        simp [band, fold128, h, hp.1, hp.2, not_le.mpr hp.1]
      · simp [band, h, hp]
    · by_cases hp : j.val - 128 ≤ i
      · refine le_trans (le_of_eq ?_) ((fold_max_iff _ _).1 le_rfl ⟨j.val - 128, by omega⟩)
        simp only [band, fold128, h, hp, dite_false, if_true]
      · simp only [band, h, hp, dite_false, if_false, bot_le]
  · rw [fold_max_iff]
    intro j
    by_cases hj : j.val ≤ i
    · refine le_trans (le_of_eq ?_) ((fold_max_iff _ _).1 le_rfl ⟨128 + j.val, by omega⟩)
      simp [band, fold128, hj]
    · by_cases hp : past
      · refine le_trans (le_of_eq ?_) ((fold_max_iff _ _).1 le_rfl ⟨j.val, by omega⟩)
        simp [band, fold128, hj, hp, not_le.mp hj]
      · simp [fold128, hj, hp]

/-- A sum over the band as a sum over the window of what the two halves hold. -/
theorem sum_band (f : Fin 256 → EReal) :
    ∑ j, f j = (∑ j : Fin 128, f ⟨128 + j.val, by omega⟩) + ∑ j : Fin 128, f ⟨j.val, by omega⟩ := by
  rw [Fin.sum_univ_two_halves 128 128 rfl f, add_comm]

theorem exp_band_hi (past : Prop) [Decidable past] (i : ℕ) (prev cur : Fin 128 → EReal) (m : EReal) (j : Fin 128) :
    Ideal.exp (band past i prev cur ⟨128 + j.val, by omega⟩ - m)
      = if j.val ≤ i then Ideal.exp (fold128 past i prev cur j - m) else 0 := by
  by_cases h : j.val ≤ i
  · simp [band, fold128, h]
  · simp [band, h, exp_bot_sub]

theorem exp_band_lo (past : Prop) [Decidable past] (i : ℕ) (prev cur : Fin 128 → EReal) (m : EReal) (j : Fin 128) :
    Ideal.exp (band past i prev cur ⟨j.val, by omega⟩ - m)
      = if j.val ≤ i then 0 else Ideal.exp (fold128 past i prev cur j - m) := by
  by_cases h : j.val ≤ i
  · simp [band, h, not_lt.mpr h, exp_bot_sub]
  · by_cases hp : past
    · simp [band, fold128, h, hp, not_le.mp h]
    · simp [band, fold128, h, hp, exp_bot_sub]

theorem mass_band (past : Prop) [Decidable past] (i : ℕ) (prev cur : Fin 128 → EReal) (sink : EReal) :
    mass (band past i prev cur) sink = mass (fold128 past i prev cur) sink := by
  unfold mass
  rw [peak_band, sum_band, ← Finset.sum_add_distrib]
  congr 1
  refine Finset.sum_congr rfl fun j _ => ?_
  rw [exp_band_hi, exp_band_lo]
  split <;> simp

/-- With scores below infinity and a finite sink the sum of the exponentials is not zero. -/
theorem mass_ne_zero {n : ℕ} (s : Fin n → EReal) (sink : EReal) (hs : ∀ j, s j ≠ ⊤) (hk : Fin' sink) : mass s sink ≠ 0 := by
  have hm : Fin' (peak s sink) := by
    obtain ⟨k, rfl⟩ := hk
    have h1 : peak s (k : EReal) ≠ ⊤ := by
      unfold peak
      have : Finset.univ.fold max ⊥ s < ⊤ := by
        rw [Finset.fold_max_lt]; exact ⟨bot_lt_top, fun j _ => lt_top_iff_ne_top.2 (hs j)⟩
      exact (max_lt this (EReal.coe_lt_top k)).ne
    have h2 : peak s (k : EReal) ≠ ⊥ := by
      have : (k : EReal) ≤ peak s (k : EReal) := le_max_right _ _
      exact fun h => EReal.coe_ne_bot k (le_bot_iff.1 (h ▸ this))
    exact ⟨_, (EReal.coe_toReal h1 h2).symm⟩
  have hp : 0 < Ideal.exp (sink - peak s sink) := exp_pos_of_fin (hk.sub hm)
  have hn : 0 ≤ ∑ j, Ideal.exp (s j - peak s sink) := Finset.sum_nonneg fun j _ => exp_nonneg _
  unfold mass
  exact (lt_of_lt_of_le hp (le_add_of_nonneg_left hn)).ne'

/-- THE BAND IS THE WINDOW: where the earlier block exists the two sides' earlier scores and values are the same; where it does
    not, the band's are masked. -/
theorem fromBand_eq (past : Prop) [Decidable past] (i : ℕ) (prev cur prev' own before before' : Fin 128 → EReal) (sink : EReal)
    (v : Fin 256 → EReal) (hv : ∀ j : Fin 128, v ⟨128 + j.val, by omega⟩ = own j) (hv' : ∀ j : Fin 128, v ⟨j.val, by omega⟩ = before' j)
    (hp : past → prev' = prev ∧ before' = before) (hs : ∀ j, fold128 past i prev cur j ≠ ⊤) (hk : Fin' sink) :
    fromBand (band past i prev' cur) sink v = fromWindow (fold128 past i prev cur) sink own before i := by
  have hf : fold128 past i prev' cur = fold128 past i prev cur := by
    funext j
    by_cases h : past
    · rw [(hp h).1]
    · simp [fold128, h]
  have ht := mass_ne_zero (fold128 past i prev cur) sink hs hk
  unfold fromBand fromWindow
  rw [mass_band, peak_band, hf, sum_band]
  congr 1
  · refine Finset.sum_congr rfl fun j _ => ?_
    rw [exp_band_hi, hf, hv, mul_comm]
    congr 1
    split
    · rw [mul_recip _ _ ht]
    · rw [div_zero_left _ ht]
  · refine Finset.sum_congr rfl fun j _ => ?_
    rw [exp_band_lo, hf, hv']
    by_cases h : j.val ≤ i
    · simp only [h, if_true, div_zero_left _ ht, mul_zero, zero_mul]
    · simp only [h, if_false]
      by_cases hq : past
      · rw [(hp hq).2, mul_recip _ _ ht, mul_comm]
      · simp only [fold128, h, hq, if_false, exp_bot_sub, div_zero_left _ ht, mul_zero, zero_mul]

end Cert.Proof.Attention

end
-- ==== Proof.Swa.Read.lean ====
/- The words of the attention call's body read at an index over the extended reals. -/
module

public import proofs.«01_k».proof.Proof.Swa.Unit
public import proofs.«01_k».proof.Proof.Swa.Math

@[expose] public section

set_option maxRecDepth 16384

noncomputable section

namespace Cert.Proof.SwaKernel

open Cert.SwaIdeal Cert.SwaIdeal.Gen Idealize.ShloMosaic Cert.Proof.Attention

/-- Lane `d` of the half `h` of 128 lanes. -/
abbrev lane (h : Fin 2) (d : Fin 64) : Fin 128 := ⟨64 * h.val + d.val, by omega⟩

/-- Query `i` of the head `g` of four stacked heads. -/
abbrev col (g : Fin 4) (i : Fin 128) : Fin 512 := ⟨128 * g.val + i.val, by omega⟩

theorem fin2 (h : Fin 2) : h = 0 ∨ h = 1 := by revert h; decide

theorem fin4 (g : Fin 4) : g = 0 ∨ g = 1 ∨ g = 2 ∨ g = 3 := by revert g; decide

/-! ### The words that decide -/

theorem bit_iff (b : Bool) : (if b = true then 1#1 else 0#1 : BitVec 1) = BitVec.ofBool b := by cases b <;> rfl

theorem select_ite {α : Type} (p : Prop) [Decidable p] (a b : α) :
    Scalar.select (if p then 1#1 else 0#1) a b = if p then a else b := by
  by_cases h : p <;> simp [h, Scalar.select]

theorem slt64 (l : Fin 128) : IntOp.cmpi .slt (BitVec.ofNat 32 l.val) 64#32 = if l.val < 64 then 1#1 else 0#1 := by
  revert l; decide

theorem low8 (l : Fin 128) : IntOp.cmpi .slt (IntOp.andi (BitVec.ofNat 32 l.val) 63#32) 8#32 = if l.val % 64 < 8 then 1#1 else 0#1 := by
  revert l; decide

theorem half_word (l : Fin 128) : IntOp.shrsi .vector (BitVec.ofNat 32 l.val) 6#32 = if l.val < 64 then 0#32 else 1#32 := by
  revert l; decide

theorem same_half (x l : Fin 128) : IntOp.cmpi .eq (IntOp.shrsi .vector (BitVec.ofNat 32 x.val) 6#32)
    (IntOp.shrsi .vector (BitVec.ofNat 32 l.val) 6#32) = if (x.val < 64 ↔ l.val < 64) then 1#1 else 0#1 := by
  rw [half_word, half_word]
  by_cases hx : x.val < 64 <;> by_cases hl : l.val < 64 <;> simp [hx, hl] <;> decide

theorem same_lanes (a b : Fin 2) (x d : Fin 64) : IntOp.cmpi .eq (IntOp.shrsi .vector (BitVec.ofNat 32 (64 * a.val + x.val)) 6#32)
    (IntOp.shrsi .vector (BitVec.ofNat 32 (64 * b.val + d.val)) 6#32) = if a = b then 1#1 else 0#1 := by
  rw [same_half (lane a x) (lane b d)]
  rcases fin2 a with rfl | rfl <;> rcases fin2 b with rfl | rfl <;> simp <;> omega

theorem sle_word (x i : Fin 128) : IntOp.cmpi .sle (BitVec.ofNat 32 x.val) (BitVec.ofNat 32 i.val) = if x.val ≤ i.val then 1#1 else 0#1 := by
  have h : (BitVec.ofNat 32 x.val).sle (BitVec.ofNat 32 i.val) = decide (x.val ≤ i.val) := by
    rw [BitVec.sle_eq_decide, BitVec.toInt_ofNat', BitVec.toInt_ofNat']
    have := x.isLt; have := i.isLt
    congr 1; rw [eq_iff_iff, Int.bmod_eq_of_le, Int.bmod_eq_of_le] <;> omega
  show BitVec.ofBool _ = _
  rw [h]; by_cases hx : x.val ≤ i.val <;> simp [hx]

theorem causal (x : Fin 128) (g : Fin 4) (i : Fin 128) : k0_pay33 (ix2 x (col g i)) = if x.val ≤ i.val then 1#1 else 0#1 := by
  rw [← sle_word]
  pointwise [k0_pay33]
  have := i.isLt
  rcases fin4 g with rfl | rfl | rfl | rfl
  · rw [dif_pos (by simp)]; congr 2; simp
  · rw [dif_neg (by simp), dif_pos (by simp)]; congr 2; simp
  · rw [dif_neg (by simp; omega), dif_neg (by simp; omega), dif_pos (by simp; omega)]; congr 2; simp; omega
  · rw [dif_neg (by simp; omega), dif_neg (by simp; omega), dif_neg (by simp; omega)]; congr 2; simp; omega

theorem step_word (n : ℕ) (hn : n < 16) : Scalar.cmpi .sgt (BitVec.ofNat 32 n) 0#32 = if 0 < n then 1#1 else 0#1 := by
  interval_cases n <;> decide

/-! ### Norm and turn on 128 lanes -/

/-- The norm of both halves of a row of 128 lanes, each over its own half. -/
def nrm (a g : Fin 128 → EReal) (l : Fin 128) : EReal :=
  a l * Ideal.rsqrt ((∑ x : Fin 128, Scalar.select (IntOp.cmpi .eq (IntOp.shrsi .vector (BitVec.ofNat 32 x.val) 6#32)
    (IntOp.shrsi .vector (BitVec.ofNat 32 l.val) 6#32)) (a x * a x * Ideal.ofBits .f32 1015021568#32) 0)
    + Ideal.ofBits .f32 897988541#32) * g l

/-- The turn of both halves, the lane eight away found by rotating the row. -/
def trn (a g c s : Fin 128 → EReal) (l : Fin 128) : EReal :=
  nrm a g l * c l + Scalar.select (IntOp.cmpi .slt (IntOp.andi (BitVec.ofNat 32 l.val) 63#32) 8#32)
    (nrm a g ⟨(l.val + 128 - 120) % 128, by omega⟩) (nrm a g ⟨(l.val + 128 - 8) % 128, by omega⟩) * s l

theorem sum_lanes (f : Fin 128 → EReal) : ∑ l, f l = (∑ d, f (lane 0 d)) + ∑ d, f (lane 1 d) := by
  rw [Fin.sum_univ_two_halves 64 64 rfl f]
  congr 1 <;> refine Finset.sum_congr rfl fun d _ => congrArg f (Fin.ext ?_) <;> simp

theorem nrm_lane (a g : Fin 128 → EReal) (h : Fin 2) (d : Fin 64) :
    nrm a g (lane h d) = normed (fun k => a (lane h k)) (fun k => g (lane h k)) d := by
  unfold nrm normed
  rw [show Ideal.ofBits .f32 1015021568#32 = _ from sixtyFourth, show Ideal.ofBits .f32 897988541#32 = eps from rfl,
    ← sum_mul_const _ _ _ (by norm_num), sum_lanes]
  simp only [same_lanes, select_ite]
  congr 3
  rcases fin2 h with rfl | rfl <;> simp

/-- On tables that hold the angles of one position on both halves, the rotated rows give the turned heads. -/
theorem trn_lane (a g c s : Fin 128 → EReal) (cs sn : Fin 8 → EReal) (h : Fin 2)
    (hc : ∀ d : Fin 64, c (lane h d) = if hd : d.val < 8 then cs ⟨d.val, hd⟩ else if hd' : d.val < 16 then cs ⟨d.val - 8, by omega⟩ else 1)
    (hs : ∀ d : Fin 64, s (lane h d) = if hd : d.val < 8 then -sn ⟨d.val, hd⟩ else if hd' : d.val < 16 then sn ⟨d.val - 8, by omega⟩ else 0)
    (d : Fin 64) :
    trn a g c s (lane h d) = turned (normed (fun k => a (lane h k)) (fun k => g (lane h k))) cs sn d := by
  unfold trn turned
  rw [low8, select_ite, hc, hs, nrm_lane]
  have hm : (64 * h.val + d.val) % 64 = d.val := by omega
  by_cases h8 : d.val < 8
  · have e : (⟨((lane h d).val + 128 - 120) % 128, by omega⟩ : Fin 128) = lane h ⟨d.val + 8, by omega⟩ := Fin.ext (by simp; omega)
    rw [e, nrm_lane]
    simp only [hm, h8, if_true, dite_true]
    rw [mul_neg, ← sub_eq_add_neg]
  · by_cases h16 : d.val < 16
    · have e : (⟨((lane h d).val + 128 - 8) % 128, by omega⟩ : Fin 128) = lane h ⟨d.val - 8, by omega⟩ := Fin.ext (by simp; omega)
      rw [e, nrm_lane]
      simp only [hm, h8, h16, if_false, dite_true, dite_false]
    · simp only [hm, h8, h16, if_false, dite_false, mul_zero, add_zero, mul_one]

theorem query_apply (x5 x6 : Vec Ideal S512x128 .f32) (x9 : Vec Ideal S1x128 .f32) (a : Vec Ideal S512x128 .bf16) (c : Fin 512) (l : Fin 128) :
    query x5 x6 x9 a (ix2 c l)
      = trn (fun l => a (ix2 c l)) (fun l => x9 (ix2 0 l)) (fun l => x5 (ix2 c l)) (fun l => x6 (ix2 c l)) l * ((1 / 8 : ℝ) : EReal) := by
  rw [← eighth]
  pointwise [query, k0_pay27, k0_pay5, k0_pay6, k0_pay7, k0_pay8]
  rfl

theorem keys_lo (x1 : Vec Ideal S512x128 .bf16) (x2 : Vec Ideal S128x128 .bf16) (x5 x6 : Vec Ideal S512x128 .f32)
    (x7 x8 : Vec Ideal S128x128 .f32) (x10 : Vec Ideal S1x128 .f32) (c : Fin 640) (l : Fin 128) (hc : c.val < 128) :
    keys x1 x2 x5 x6 x7 x8 x10 (ix2 c l)
      = trn (fun l => x2 (ix2 ⟨c.val, hc⟩ l)) (fun l => x10 (ix2 0 l)) (fun l => x7 (ix2 ⟨c.val, hc⟩ l)) (fun l => x8 (ix2 ⟨c.val, hc⟩ l)) l := by
  pointwise [keys, k0_pay14, k0_pay13, k0_pay12, k0_pay11, k0_pay10, k0_pay9, k0_pay5, k0_pay6, k0_pay7, k0_pay8]
  simp only [hc, dite_true]
  rfl

theorem keys_hi (x1 : Vec Ideal S512x128 .bf16) (x2 : Vec Ideal S128x128 .bf16) (x5 x6 : Vec Ideal S512x128 .f32)
    (x7 x8 : Vec Ideal S128x128 .f32) (x10 : Vec Ideal S1x128 .f32) (c : Fin 640) (l : Fin 128) (hc : ¬ c.val < 128) :
    keys x1 x2 x5 x6 x7 x8 x10 (ix2 c l)
      = trn (fun l => x1 (ix2 ⟨c.val - 128, by omega⟩ l)) (fun l => x10 (ix2 0 l)) (fun l => x5 (ix2 ⟨c.val - 128, by omega⟩ l))
        (fun l => x6 (ix2 ⟨c.val - 128, by omega⟩ l)) l := by
  pointwise [keys, k0_pay14, k0_pay13, k0_pay12, k0_pay11, k0_pay10, k0_pay9, k0_pay5, k0_pay6, k0_pay7, k0_pay8]
  simp only [hc, dite_false]
  rfl

theorem vals_apply (x3 : Vec Ideal S512x128 .bf16) (x4 : Vec Ideal S128x128 .bf16) (c : Fin 640) (l : Fin 128) :
    vals x3 x4 (ix2 c l) = if hc : c.val < 128 then x4 (ix2 ⟨c.val, hc⟩ l) else x3 (ix2 ⟨c.val - 128, by omega⟩ l) := by
  pointwise [vals, k0_pay16]

/-! ### One window -/

theorem twice0_apply (a : FVec Ideal S640x128 .f32) (c : Fin 640) (h : Fin 2) (d : Fin 64) :
    twice0 a (ix2 c (lane h d)) = a (ix2 c (lane 0 d)) := by
  pointwise [twice0, k0_pay4]
  rw [slt64 (lane h d), select_ite]
  rcases fin2 h with rfl | rfl
  · rw [if_pos (by simp)]
  · rw [if_neg (by simp)]; congr 2; apply Fin.ext; simp; omega

theorem twice1_apply (a : FVec Ideal S640x128 .f32) (c : Fin 640) (h : Fin 2) (d : Fin 64) :
    twice1 a (ix2 c (lane h d)) = a (ix2 c (lane 1 d)) := by
  pointwise [twice1, k0_pay4]
  rw [slt64 (lane h d), select_ite]
  rcases fin2 h with rfl | rfl
  · rw [if_pos (by simp)]; congr 2; apply Fin.ext; simp; omega
  · rw [if_neg (by simp)]

theorem rows640_apply (a : FVec Ideal S640x128 .bf16) (o : ℕ) (h : S640x128.Slices ![o, 0] S128x128) (ho : o + 128 ≤ 640) (j l : Fin 128) :
    rows640 a o h (ix2 j l) = a (ix2 ⟨o + j.val, by omega⟩ l) := by
  pointwise [rows640]

theorem rows512_apply (a : FVec Ideal S512x128 .f32) (o : ℕ) (h : S512x128.Slices ![o, 0] S128x128) (ho : o + 128 ≤ 512) (j l : Fin 128) :
    rows512 a o h (ix2 j l) = a (ix2 ⟨o + j.val, by omega⟩ l) := by
  pointwise [rows512]

/-- The half of its lanes on which a stacked head sits. -/
abbrev side (g : Fin 4) : Fin 2 := ⟨g.val % 2, by omega⟩

theorem stack_apply (a b : FVec Ideal S128x128 .f32) (g : Fin 4) (i : Fin 128) (h : Fin 2) (d : Fin 64) :
    stack a b (ix2 (col g i) (lane h d)) = if h = side g then (if g.val < 2 then a else b) (ix2 i (lane h d)) else 0 := by
  have e : stack a b (ix2 (col g i) (lane h d)) = if g.val < 2 then (if g.val % 2 = 0 then if h.val = 0 then a (ix2 i (lane h d)) else 0
        else if h.val = 0 then 0 else a (ix2 i (lane h d)))
      else (if g.val % 2 = 0 then if h.val = 0 then b (ix2 i (lane h d)) else 0 else if h.val = 0 then 0 else b (ix2 i (lane h d))) := by
    have hw : (64 * h.val + d.val < 64) = (h.val = 0) := by apply propext; omega
    pointwise [stack, lanes, zeros128, k0_pay4]
    rw [slt64 (lane h d)]
    simp only [select_ite, hw]
    have := i.isLt
    rcases fin4 g with rfl | rfl | rfl | rfl
    · rw [dif_pos (by simp)]; simp
    · rw [dif_neg (by simp), dif_pos (by simp)]; simp
    · rw [dif_neg (by simp; omega), dif_neg (by simp; omega), dif_pos (by simp; omega)]
      have q : (⟨128 * (2 : Fin 4).val + i.val - 128 - 128, by simp; omega⟩ : Fin 128) = i := Fin.ext (by simp; omega)
      rw [q]; simp
    · rw [dif_neg (by simp; omega), dif_neg (by simp; omega), dif_neg (by simp; omega)]
      have q : (⟨128 * (3 : Fin 4).val + i.val - 128 - 128 - 128, by simp; omega⟩ : Fin 128) = i := Fin.ext (by simp; omega)
      rw [q]; simp
  rw [e]
  rcases fin2 h with rfl | rfl <;> rcases fin4 g with rfl | rfl | rfl | rfl <;> simp [side]

theorem against_apply (k : FVec Ideal S128x128 .bf16) (a b : FVec Ideal S128x128 .f32) (j : Fin 128) (g : Fin 4) (i : Fin 128) :
    against k (stack a b) (ix2 j (col g i))
      = ∑ d, k (ix2 j (lane (side g) d)) * (if g.val < 2 then a else b) (ix2 i (lane (side g) d)) := by
  have e : against k (stack a b) (ix2 j (col g i)) = ∑ x, k (ix2 j x) * stack a b (ix2 (col g i) x) := by
    generalize stack a b = q
    pointwise [against]
  rw [e, sum_lanes]
  simp only [stack_apply]
  rcases (by omega : g.val % 2 = 0 ∨ g.val % 2 = 1) with h | h
  · have e0 : side g = 0 := Fin.ext h
    rw [e0]; simp
  · have e0 : side g = 1 := Fin.ext h
    rw [e0]; simp

theorem scores_apply (cur prev : FVec Ideal S128x512 .f32) (j : Fin 128) (g : Fin 4) (i : Fin 128) :
    scores cur prev (ix2 j (col g i)) = if j.val ≤ i.val then cur (ix2 j (col g i)) else prev (ix2 j (col g i)) := by
  rw [← select_ite, ← causal j g i]
  pointwise [scores]

theorem opening_apply (n : ℕ) (hn : n < 16) (prev : FVec Ideal S128x512 .f32) (j : Fin 128) (c : Fin 512) :
    opening (BitVec.ofNat 32 n) prev (ix2 j c) = if 0 < n then prev (ix2 j c) else ⊥ := by
  have e : opening (BitVec.ofNat 32 n) prev (ix2 j c)
      = Scalar.select (Scalar.cmpi .sgt (BitVec.ofNat 32 n) 0#32) (prev (ix2 j c)) (Named.named κ "mask" 0xF149F2CA#32) := by
    pointwise [opening]
  rw [e, step_word n hn, select_ite]
  rfl

theorem sinkRow_apply (x : FVec Ideal S8x128 .f32) (a b c d : ℕ) (ha : S8x128.Slices ![a, 0] S1x128) (hb : S8x128.Slices ![b, 0] S1x128)
    (hc : S8x128.Slices ![c, 0] S1x128) (hd : S8x128.Slices ![d, 0] S1x128) (h8 : a < 8 ∧ b < 8 ∧ c < 8 ∧ d < 8) (g : Fin 4) (i : Fin 128) :
    sinkRow x a b c d ha hb hc hd (ix2 0 (col g i))
      = x (ix2 (![⟨a, h8.1⟩, ⟨b, h8.2.1⟩, ⟨c, h8.2.2.1⟩, ⟨d, h8.2.2.2⟩] g) i) := by
  pointwise [sinkRow]
  have := i.isLt
  rcases fin4 g with rfl | rfl | rfl | rfl
  all_goals
    simp (disch := omega) only [dif_pos, dif_neg]
    congr 2 <;> apply Fin.ext <;> simp <;> try omega

theorem start : Ideal.ofBits .f32 4286578688#32 = ⊥ := by
  simp [Ideal.ofBits, Ideal.ieee, -EReal.coe_mul]

theorem probs_apply (s : FVec Ideal S128x512 .f32) (k : FVec Ideal S1x512 .f32) (j : Fin 128) (c : Fin 512) :
    probs s k (ix2 j c) = Ideal.exp (s (ix2 j c) - peak (fun j => s (ix2 j c)) (k (ix2 0 c)))
      * Ideal.div 1 (mass (fun j => s (ix2 j c)) (k (ix2 0 c))) := by
  unfold mass peak
  rw [← start]
  pointwise [probs, weights, total, top]

theorem window_apply (s : FVec Ideal S128x512 .f32) (k : FVec Ideal S1x512 .f32) (cur prev : FVec Ideal S128x128 .bf16)
    (g : Fin 4) (i : Fin 128) (l : Fin 128) :
    window s k cur prev (ix2 (col g i) l)
      = fromWindow (fun j => s (ix2 j (col g i))) (k (ix2 0 (col g i))) (fun j => cur (ix2 j l)) (fun j => prev (ix2 j l)) i.val := by
  have e (p : FVec Ideal S128x512 .bf16) : mixed p cur prev (ix2 (col g i) l)
      = (∑ x, Scalar.select (k0_pay33 (ix2 x (col g i))) (p (ix2 x (col g i)) * cur (ix2 x l)) 0)
        + ∑ x, Scalar.select (k0_pay33 (ix2 x (col g i))) 0 (p (ix2 x (col g i)) * prev (ix2 x l)) := by
    pointwise [mixed, none512]
  unfold window fromWindow
  rw [e]
  simp only [causal, select_ite, probs_apply]
  congr 1 <;> refine Finset.sum_congr rfl fun x _ => ?_ <;> split <;> simp

theorem firstPair_apply (u : FVec Ideal S512x128 .f32) (i : Fin 128) (h : Fin 2) (d : Fin 64) :
    firstPair u (ix2 i (lane h d)) = u (ix2 (col ⟨h.val, by omega⟩ i) (lane h d)) := by
  pointwise [firstPair, lanes, rows512, k0_pay4]
  rw [slt64 (lane h d), select_ite]
  rcases fin2 h with rfl | rfl
  · rw [if_pos (by simp)]; congr 2; apply Fin.ext; simp
  · rw [if_neg (by simp)]; rfl

theorem lastPair_apply (u : FVec Ideal S512x128 .f32) (i : Fin 128) (h : Fin 2) (d : Fin 64) :
    lastPair u (ix2 i (lane h d)) = u (ix2 (col ⟨2 + h.val, by omega⟩ i) (lane h d)) := by
  pointwise [lastPair, lanes, rows512, k0_pay4]
  rw [slt64 (lane h d), select_ite]
  rcases fin2 h with rfl | rfl
  · rw [if_pos (by simp)]; rfl
  · rw [if_neg (by simp)]; rfl

end Cert.Proof.SwaKernel

end
-- ==== Proof.Swa.Step.lean ====
/- What one grid step of the attention call leaves in the output block, read at an index. -/
module

public import proofs.«01_k».proof.Proof.Swa.Read

@[expose] public section

set_option maxRecDepth 16384

noncomputable section

namespace Cert.Proof.SwaKernel

open Cert.SwaIdeal Cert.SwaIdeal.Gen Idealize.ShloMosaic Cert.Proof.Attention

/-- Row `i` of window `w` of the block. -/
abbrev rowOf (w : Fin 4) (i : Fin 128) : Fin 512 := ⟨128 * w.val + i.val, by omega⟩

/-- The column of head `4 * kv + 2 * p + h`, lane `d`. -/
abbrev colOf (kv p h : Fin 2) (d : Fin 64) : Fin 512 := ⟨128 * (2 * kv.val + p.val) + (64 * h.val + d.val), by omega⟩

/-- The row of the head's sink. -/
abbrev headOf (kv p h : Fin 2) : Fin 8 := ⟨4 * kv.val + (2 * p.val + h.val), by omega⟩

/-- The row of the 640 for key `j` of the block before window `w`. -/
abbrev before (w : Fin 4) (j : Fin 128) : Fin 640 := ⟨128 * w.val + j.val, by omega⟩

/-- The row of the 640 for key `j` of window `w`. -/
abbrev own (w : Fin 4) (j : Fin 128) : Fin 640 := ⟨128 * w.val + 128 + j.val, by omega⟩

section Step

variable (i : grid0.Coords) (x0 : Vec Ideal S512x512 .bf16) (x1 : Vec Ideal S512x128 .bf16) (x2 : Vec Ideal S128x128 .bf16)
  (x3 : Vec Ideal S512x128 .bf16) (x4 : Vec Ideal S128x128 .bf16) (x5 x6 : Vec Ideal S512x128 .f32) (x7 x8 : Vec Ideal S128x128 .f32)
  (x9 x10 : Vec Ideal S1x128 .f32) (x11 : Vec Ideal S8x128 .f32)

/-- A head's query, normed and turned, before the scale. -/
def qAt (c : Fin 512) (kv p h : Fin 2) (d : Fin 64) : EReal :=
  trn (fun l => x0 (ix2 c ⟨128 * (2 * kv.val + p.val) + l.val, by omega⟩)) (fun l => x9 (ix2 0 l)) (fun l => x5 (ix2 c l))
    (fun l => x6 (ix2 c l)) (lane h d)

/-- The score of a query against row `r` of the 640 keys. -/
def scoreAt (w : Fin 4) (a : Fin 128) (kv p h : Fin 2) (r : Fin 640) : EReal :=
  (∑ d, keys x1 x2 x5 x6 x7 x8 x10 (ix2 r (lane kv d)) * qAt x0 x5 x6 x9 (rowOf w a) kv p h d) * ((1 / 8 : ℝ) : EReal)

/-- The output block at row `a` of window `w`, head `4 * kv + 2 * p + h`, lane `d`. -/
def cell (w : Fin 4) (a : Fin 128) (kv p h : Fin 2) (d : Fin 64) : EReal :=
  fromWindow (fold128 (0 < w.val ∨ 0 < (i 1).val) a.val (fun j => scoreAt x0 x1 x2 x5 x6 x7 x8 x9 x10 w a kv p h (before w j))
      (fun j => scoreAt x0 x1 x2 x5 x6 x7 x8 x9 x10 w a kv p h (own w j)))
    (x11 (ix2 (headOf kv p h) a)) (fun j => vals x3 x4 (ix2 (own w j) (lane kv d))) (fun j => vals x3 x4 (ix2 (before w j) (lane kv d))) a.val

theorem ld3 (c : Fin 512) (l : Fin 128) : View.ld x0 r0_3 (ix2 c l) = x0 (ix2 c ⟨0 + l.val, by omega⟩) := by
  pointwise []

theorem head_cases (p h : Fin 2) : (p = 0 ∧ h = 0) ∨ (p = 0 ∧ h = 1) ∨ (p = 1 ∧ h = 0) ∨ (p = 1 ∧ h = 1) := by
  revert p h; decide

/-- One head's keys against its queries, for the first key/value head. -/
theorem against0 (w : Fin 4) (o r : ℕ) (ho : S512x128.Slices ![o, 0] S128x128) (hr : S640x128.Slices ![r, 0] S128x128)
    (ew : o = 128 * w.val) (er : r + 128 ≤ 640) (j a : Fin 128) (p h : Fin 2) (g : Fin 4) (eg : g.val = 2 * p.val + h.val) :
    against (rows640 (twice0 (keys x1 x2 x5 x6 x7 x8 x10)) r hr) (stack0 x0 x5 x6 x9 o ho) (ix2 j (col g a))
      = scoreAt x0 x1 x2 x5 x6 x7 x8 x9 x10 w a 0 p h ⟨r + j.val, by omega⟩ := by
  subst ew
  have eh : side g = h := Fin.ext (by simp [side]; omega)
  unfold stack0 scoreAt
  rw [against_apply, ← sum_mul_const _ _ _ (by norm_num), eh]
  refine Finset.sum_congr rfl fun d _ => ?_
  rw [rows640_apply _ _ _ er, twice0_apply, mul_assoc]
  congr 1
  unfold qAt
  rcases fin2 p with rfl | rfl
  · rw [if_pos (by simp at eg; omega), rows512_apply _ _ _ (by omega), query_apply]
    congr 3; funext l
    pointwise []
  · rw [if_neg (by simp at eg; omega), rows512_apply _ _ _ (by omega), query_apply]
    congr 3; funext l
    pointwise []

/-- The same for the second. -/
theorem against1 (w : Fin 4) (o r : ℕ) (ho : S512x128.Slices ![o, 0] S128x128) (hr : S640x128.Slices ![r, 0] S128x128)
    (ew : o = 128 * w.val) (er : r + 128 ≤ 640) (j a : Fin 128) (p h : Fin 2) (g : Fin 4) (eg : g.val = 2 * p.val + h.val) :
    against (rows640 (twice1 (keys x1 x2 x5 x6 x7 x8 x10)) r hr) (stack1 x0 x5 x6 x9 o ho) (ix2 j (col g a))
      = scoreAt x0 x1 x2 x5 x6 x7 x8 x9 x10 w a 1 p h ⟨r + j.val, by omega⟩ := by
  subst ew
  have eh : side g = h := Fin.ext (by simp [side]; omega)
  unfold stack1 scoreAt
  rw [against_apply, ← sum_mul_const _ _ _ (by norm_num), eh]
  refine Finset.sum_congr rfl fun d _ => ?_
  rw [rows640_apply _ _ _ er, twice1_apply, mul_assoc]
  congr 1
  unfold qAt
  rcases fin2 p with rfl | rfl
  · rw [if_pos (by simp at eg; omega), rows512_apply _ _ _ (by omega), query_apply]
    congr 3; funext l
    pointwise []
  · rw [if_neg (by simp at eg; omega), rows512_apply _ _ _ (by omega), query_apply]
    congr 3; funext l
    pointwise []

theorem sinks0_apply (p h : Fin 2) (g : Fin 4) (eg : g.val = 2 * p.val + h.val) (a : Fin 128) :
    sinks0 x11 (ix2 0 (col g a)) = x11 (ix2 (headOf 0 p h) a) := by
  unfold sinks0
  rw [sinkRow_apply _ _ _ _ _ _ _ _ _ (by omega)]
  have eg' : headOf 0 p h = ⟨g.val, by omega⟩ := Fin.ext (by simp [headOf]; omega)
  rw [eg']
  pointwise [k0_pay34]
  rcases fin4 g with rfl | rfl | rfl | rfl <;> rfl

theorem sinks1_apply (p h : Fin 2) (g : Fin 4) (eg : g.val = 2 * p.val + h.val) (a : Fin 128) :
    sinks1 x11 (ix2 0 (col g a)) = x11 (ix2 (headOf 1 p h) a) := by
  unfold sinks1
  rw [sinkRow_apply _ _ _ _ _ _ _ _ _ (by omega)]
  have eg' : headOf 1 p h = ⟨4 + g.val, by omega⟩ := Fin.ext (by simp [headOf]; omega)
  rw [eg']
  pointwise [k0_pay34]
  rcases fin4 g with rfl | rfl | rfl | rfl <;> rfl

theorem later0_apply (w : Fin 4) (hw : 0 < w.val) (o o' : ℕ) (hq : S512x128.Slices ![o, 0] S128x128) (hp : S640x128.Slices ![o, 0] S128x128)
    (hc : S640x128.Slices ![o', 0] S128x128) (eo : o = 128 * w.val) (eo' : o' = 128 * w.val + 128) (a : Fin 128) (p h h' : Fin 2)
    (g : Fin 4) (eg : g.val = 2 * p.val + h.val) (d : Fin 64) :
    later0 x0 x1 x2 x3 x4 x5 x6 x7 x8 x9 x10 x11 o o' hq hp hc (ix2 (col g a) (lane h' d))
      = cell i x0 x1 x2 x3 x4 x5 x6 x7 x8 x9 x10 x11 w a 0 p h d := by
  unfold later0 cell
  simp only
  rw [window_apply, sinks0_apply x11 p h g eg]
  subst eo eo'
  congr 1
  · funext j
    rw [scores_apply, against0 x0 x1 x2 x5 x6 x7 x8 x9 x10 w _ _ _ _ rfl (by omega) _ _ p h g eg,
      against0 x0 x1 x2 x5 x6 x7 x8 x9 x10 w _ _ _ _ rfl (by omega) _ _ p h g eg]
    simp only [fold128, hw, true_or, if_true]
  · funext j
    rw [rows640_apply _ _ _ (by omega), twice0_apply]
  · funext j
    rw [rows640_apply _ _ _ (by omega), twice0_apply]

theorem later1_apply (w : Fin 4) (hw : 0 < w.val) (o o' : ℕ) (hq : S512x128.Slices ![o, 0] S128x128) (hp : S640x128.Slices ![o, 0] S128x128)
    (hc : S640x128.Slices ![o', 0] S128x128) (eo : o = 128 * w.val) (eo' : o' = 128 * w.val + 128) (a : Fin 128) (p h h' : Fin 2)
    (g : Fin 4) (eg : g.val = 2 * p.val + h.val) (d : Fin 64) :
    later1 x0 x1 x2 x3 x4 x5 x6 x7 x8 x9 x10 x11 o o' hq hp hc (ix2 (col g a) (lane h' d))
      = cell i x0 x1 x2 x3 x4 x5 x6 x7 x8 x9 x10 x11 w a 1 p h d := by
  unfold later1 cell
  simp only
  rw [window_apply, sinks1_apply x11 p h g eg]
  subst eo eo'
  congr 1
  · funext j
    rw [scores_apply, against1 x0 x1 x2 x5 x6 x7 x8 x9 x10 w _ _ _ _ rfl (by omega) _ _ p h g eg,
      against1 x0 x1 x2 x5 x6 x7 x8 x9 x10 w _ _ _ _ rfl (by omega) _ _ p h g eg]
    simp only [fold128, hw, true_or, if_true]
  · funext j
    rw [rows640_apply _ _ _ (by omega), twice1_apply]
  · funext j
    rw [rows640_apply _ _ _ (by omega), twice1_apply]

theorem open0_apply (a : Fin 128) (p h h' : Fin 2) (g : Fin 4) (eg : g.val = 2 * p.val + h.val) (d : Fin 64) :
    open0 i x0 x1 x2 x3 x4 x5 x6 x7 x8 x9 x10 x11 (ix2 (col g a) (lane h' d))
      = cell i x0 x1 x2 x3 x4 x5 x6 x7 x8 x9 x10 x11 0 a 0 p h d := by
  unfold open0 cell
  simp only
  rw [window_apply, sinks0_apply x11 p h g eg]
  congr 1
  · funext j
    rw [scores_apply, opening_apply _ (i 1).isLt, against0 x0 x1 x2 x5 x6 x7 x8 x9 x10 0 0 128 _ _ rfl (by omega) _ _ p h g eg,
      against0 x0 x1 x2 x5 x6 x7 x8 x9 x10 0 0 0 _ _ rfl (by omega) _ _ p h g eg]
    have e1 : (⟨128 + j.val, by omega⟩ : Fin 640) = own 0 j := Fin.ext (by simp [own])
    have e2 : (⟨0 + j.val, by omega⟩ : Fin 640) = before 0 j := Fin.ext (by simp [before])
    rw [e1, e2]
    simp [fold128]
  · funext j
    rw [rows640_apply _ _ _ (by omega), twice0_apply]; rfl
  · funext j
    rw [rows640_apply _ _ _ (by omega), twice0_apply]; rfl

theorem open1_apply (a : Fin 128) (p h h' : Fin 2) (g : Fin 4) (eg : g.val = 2 * p.val + h.val) (d : Fin 64) :
    open1 i x0 x1 x2 x3 x4 x5 x6 x7 x8 x9 x10 x11 (ix2 (col g a) (lane h' d))
      = cell i x0 x1 x2 x3 x4 x5 x6 x7 x8 x9 x10 x11 0 a 1 p h d := by
  unfold open1 cell
  simp only
  rw [window_apply, sinks1_apply x11 p h g eg]
  congr 1
  · funext j
    rw [scores_apply, opening_apply _ (i 1).isLt, against1 x0 x1 x2 x5 x6 x7 x8 x9 x10 0 0 128 _ _ rfl (by omega) _ _ p h g eg,
      against1 x0 x1 x2 x5 x6 x7 x8 x9 x10 0 0 0 _ _ rfl (by omega) _ _ p h g eg]
    have e1 : (⟨128 + j.val, by omega⟩ : Fin 640) = own 0 j := Fin.ext (by simp [own])
    have e2 : (⟨0 + j.val, by omega⟩ : Fin 640) = before 0 j := Fin.ext (by simp [before])
    rw [e1, e2]
    simp [fold128]
  · funext j
    rw [rows640_apply _ _ _ (by omega), twice1_apply]; rfl
  · funext j
    rw [rows640_apply _ _ _ (by omega), twice1_apply]; rfl

/-- The output block by the row and the column of an index. -/
def byIndex (y : S512x512.Idx) : EReal :=
  cell i x0 x1 x2 x3 x4 x5 x6 x7 x8 x9 x10 x11 ⟨(y 0).val / 128, by have : (y 0).val < 512 := (y 0).isLt; omega⟩
    ⟨(y 0).val % 128, by omega⟩ ⟨(y 1).val / 256, by have : (y 1).val < 512 := (y 1).isLt; omega⟩ ⟨(y 1).val / 128 % 2, by omega⟩
    ⟨(y 1).val / 64 % 2, by omega⟩ ⟨(y 1).val % 64, by omega⟩

theorem byIndex_apply (w : Fin 4) (a : Fin 128) (kv p h : Fin 2) (d : Fin 64) :
    byIndex i x0 x1 x2 x3 x4 x5 x6 x7 x8 x9 x10 x11 (ix2 (rowOf w a) (colOf kv p h d))
      = cell i x0 x1 x2 x3 x4 x5 x6 x7 x8 x9 x10 x11 w a kv p h d := by
  have e0 : ((ix2 (rowOf w a) (colOf kv p h d) : S512x512.Idx) 0).val = 128 * w.val + a.val := rfl
  have e1 : ((ix2 (rowOf w a) (colOf kv p h d) : S512x512.Idx) 1).val = 128 * (2 * kv.val + p.val) + (64 * h.val + d.val) := rfl
  unfold byIndex
  congr 1 <;> apply Fin.ext <;> simp only [e0, e1] <;> omega

/-- A piece of the block is its cells, when its entries are those of one window and one pair of heads. -/
theorem piece (r : S128x128.Idx → S512x512.Idx) (f : FVec Ideal S128x128 .bf16) (w : Fin 4) (kv p : Fin 2)
    (hr : ∀ (a l : Fin 128), r (ix2 a l) = ix2 (rowOf w a) (⟨128 * (2 * kv.val + p.val) + l.val, by omega⟩ : Fin 512))
    (hf : ∀ (a : Fin 128) (h : Fin 2) (d : Fin 64), f (ix2 a (lane h d)) = cell i x0 x1 x2 x3 x4 x5 x6 x7 x8 x9 x10 x11 w a kv p h d)
    (x : S128x128.Idx) : f x = byIndex i x0 x1 x2 x3 x4 x5 x6 x7 x8 x9 x10 x11 (r x) := by
  obtain ⟨a, l, rfl⟩ : ∃ (a l : Fin 128), x = ix2 a l := ⟨x 0, x 1, by funext k; match k with | ⟨0, _⟩ => rfl | ⟨1, _⟩ => rfl⟩
  obtain ⟨h, d, rfl⟩ : ∃ (h : Fin 2) (d : Fin 64), l = lane h d := ⟨⟨l.val / 64, by omega⟩, ⟨l.val % 64, by omega⟩, Fin.ext (by simp; omega)⟩
  rw [hr, hf, ← byIndex_apply]

theorem out_apply (y : S512x512.Idx) : out0_12 i x0 x1 x2 x3 x4 x5 x6 x7 x8 x9 x10 x11 y
    = byIndex i x0 x1 x2 x3 x4 x5 x6 x7 x8 x9 x10 x11 y := by
  rw [out_eq]
  refine View.canon_apply_of_pieces (Val := Elt Ideal) (e := .bf16) (byIndex i x0 x1 x2 x3 x4 x5 x6 x7 x8 x9 x10 x11) _ ?_ y (cover0_12 _ _ _ _ _ _ _ _ _ _ _ _ _ _ _ _ y)
  simp only [List.forall_mem_cons]
  refine ⟨?_, ?_, ?_, ?_, ?_, ?_, ?_, ?_, ?_, ?_, ?_, ?_, ?_, ?_, ?_, ?_, by simp⟩
  · exact piece i x0 x1 x2 x3 x4 x5 x6 x7 x8 x9 x10 x11 _ _ 3 1 1 (fun a l => by funext k; match k with | ⟨0, _⟩ => exact Fin.ext (by simp [r0_23]) | ⟨1, _⟩ => exact Fin.ext (by simp [r0_23]))
      fun a h d => (lastPair_apply _ a h d).trans (later1_apply i x0 x1 x2 x3 x4 x5 x6 x7 x8 x9 x10 x11 3 (by decide) _ _ _ _ _ rfl rfl a 1 h h _ (by simp) d)
  · exact piece i x0 x1 x2 x3 x4 x5 x6 x7 x8 x9 x10 x11 _ _ 3 1 0 (fun a l => by funext k; match k with | ⟨0, _⟩ => exact Fin.ext (by simp [r0_22]) | ⟨1, _⟩ => exact Fin.ext (by simp [r0_22]))
      fun a h d => (firstPair_apply _ a h d).trans (later1_apply i x0 x1 x2 x3 x4 x5 x6 x7 x8 x9 x10 x11 3 (by decide) _ _ _ _ _ rfl rfl a 0 h h _ (by simp) d)
  · exact piece i x0 x1 x2 x3 x4 x5 x6 x7 x8 x9 x10 x11 _ _ 3 0 1 (fun a l => by funext k; match k with | ⟨0, _⟩ => exact Fin.ext (by simp [r0_21]) | ⟨1, _⟩ => exact Fin.ext (by simp [r0_21]))
      fun a h d => (lastPair_apply _ a h d).trans (later0_apply i x0 x1 x2 x3 x4 x5 x6 x7 x8 x9 x10 x11 3 (by decide) _ _ _ _ _ rfl rfl a 1 h h _ (by simp) d)
  · exact piece i x0 x1 x2 x3 x4 x5 x6 x7 x8 x9 x10 x11 _ _ 3 0 0 (fun a l => by funext k; match k with | ⟨0, _⟩ => exact Fin.ext (by simp [r0_20]) | ⟨1, _⟩ => exact Fin.ext (by simp [r0_20]))
      fun a h d => (firstPair_apply _ a h d).trans (later0_apply i x0 x1 x2 x3 x4 x5 x6 x7 x8 x9 x10 x11 3 (by decide) _ _ _ _ _ rfl rfl a 0 h h _ (by simp) d)
  · exact piece i x0 x1 x2 x3 x4 x5 x6 x7 x8 x9 x10 x11 _ _ 2 1 1 (fun a l => by funext k; match k with | ⟨0, _⟩ => exact Fin.ext (by simp [r0_19]) | ⟨1, _⟩ => exact Fin.ext (by simp [r0_19]))
      fun a h d => (lastPair_apply _ a h d).trans (later1_apply i x0 x1 x2 x3 x4 x5 x6 x7 x8 x9 x10 x11 2 (by decide) _ _ _ _ _ rfl rfl a 1 h h _ (by simp) d)
  · exact piece i x0 x1 x2 x3 x4 x5 x6 x7 x8 x9 x10 x11 _ _ 2 1 0 (fun a l => by funext k; match k with | ⟨0, _⟩ => exact Fin.ext (by simp [r0_18]) | ⟨1, _⟩ => exact Fin.ext (by simp [r0_18]))
      fun a h d => (firstPair_apply _ a h d).trans (later1_apply i x0 x1 x2 x3 x4 x5 x6 x7 x8 x9 x10 x11 2 (by decide) _ _ _ _ _ rfl rfl a 0 h h _ (by simp) d)
  · exact piece i x0 x1 x2 x3 x4 x5 x6 x7 x8 x9 x10 x11 _ _ 2 0 1 (fun a l => by funext k; match k with | ⟨0, _⟩ => exact Fin.ext (by simp [r0_17]) | ⟨1, _⟩ => exact Fin.ext (by simp [r0_17]))
      fun a h d => (lastPair_apply _ a h d).trans (later0_apply i x0 x1 x2 x3 x4 x5 x6 x7 x8 x9 x10 x11 2 (by decide) _ _ _ _ _ rfl rfl a 1 h h _ (by simp) d)
  · exact piece i x0 x1 x2 x3 x4 x5 x6 x7 x8 x9 x10 x11 _ _ 2 0 0 (fun a l => by funext k; match k with | ⟨0, _⟩ => exact Fin.ext (by simp [r0_16]) | ⟨1, _⟩ => exact Fin.ext (by simp [r0_16]))
      fun a h d => (firstPair_apply _ a h d).trans (later0_apply i x0 x1 x2 x3 x4 x5 x6 x7 x8 x9 x10 x11 2 (by decide) _ _ _ _ _ rfl rfl a 0 h h _ (by simp) d)
  · exact piece i x0 x1 x2 x3 x4 x5 x6 x7 x8 x9 x10 x11 _ _ 1 1 1 (fun a l => by funext k; match k with | ⟨0, _⟩ => exact Fin.ext (by simp [r0_15]) | ⟨1, _⟩ => exact Fin.ext (by simp [r0_15]))
      fun a h d => (lastPair_apply _ a h d).trans (later1_apply i x0 x1 x2 x3 x4 x5 x6 x7 x8 x9 x10 x11 1 (by decide) _ _ _ _ _ rfl rfl a 1 h h _ (by simp) d)
  · exact piece i x0 x1 x2 x3 x4 x5 x6 x7 x8 x9 x10 x11 _ _ 1 1 0 (fun a l => by funext k; match k with | ⟨0, _⟩ => exact Fin.ext (by simp [r0_14]) | ⟨1, _⟩ => exact Fin.ext (by simp [r0_14]))
      fun a h d => (firstPair_apply _ a h d).trans (later1_apply i x0 x1 x2 x3 x4 x5 x6 x7 x8 x9 x10 x11 1 (by decide) _ _ _ _ _ rfl rfl a 0 h h _ (by simp) d)
  · exact piece i x0 x1 x2 x3 x4 x5 x6 x7 x8 x9 x10 x11 _ _ 1 0 1 (fun a l => by funext k; match k with | ⟨0, _⟩ => exact Fin.ext (by simp [r0_13]) | ⟨1, _⟩ => exact Fin.ext (by simp [r0_13]))
      fun a h d => (lastPair_apply _ a h d).trans (later0_apply i x0 x1 x2 x3 x4 x5 x6 x7 x8 x9 x10 x11 1 (by decide) _ _ _ _ _ rfl rfl a 1 h h _ (by simp) d)
  · exact piece i x0 x1 x2 x3 x4 x5 x6 x7 x8 x9 x10 x11 _ _ 1 0 0 (fun a l => by funext k; match k with | ⟨0, _⟩ => exact Fin.ext (by simp [r0_12]) | ⟨1, _⟩ => exact Fin.ext (by simp [r0_12]))
      fun a h d => (firstPair_apply _ a h d).trans (later0_apply i x0 x1 x2 x3 x4 x5 x6 x7 x8 x9 x10 x11 1 (by decide) _ _ _ _ _ rfl rfl a 0 h h _ (by simp) d)
  · exact piece i x0 x1 x2 x3 x4 x5 x6 x7 x8 x9 x10 x11 _ _ 0 1 1 (fun a l => by funext k; match k with | ⟨0, _⟩ => exact Fin.ext (by simp [r0_11]) | ⟨1, _⟩ => exact Fin.ext (by simp [r0_11]))
      fun a h d => (lastPair_apply _ a h d).trans (open1_apply i x0 x1 x2 x3 x4 x5 x6 x7 x8 x9 x10 x11 a 1 h h _ (by simp) d)
  · exact piece i x0 x1 x2 x3 x4 x5 x6 x7 x8 x9 x10 x11 _ _ 0 1 0 (fun a l => by funext k; match k with | ⟨0, _⟩ => exact Fin.ext (by simp [r0_10]) | ⟨1, _⟩ => exact Fin.ext (by simp [r0_10]))
      fun a h d => (firstPair_apply _ a h d).trans (open1_apply i x0 x1 x2 x3 x4 x5 x6 x7 x8 x9 x10 x11 a 0 h h _ (by simp) d)
  · exact piece i x0 x1 x2 x3 x4 x5 x6 x7 x8 x9 x10 x11 _ _ 0 0 1 (fun a l => by funext k; match k with | ⟨0, _⟩ => exact Fin.ext (by simp [r0_9]) | ⟨1, _⟩ => exact Fin.ext (by simp [r0_9]))
      fun a h d => (lastPair_apply _ a h d).trans (open0_apply i x0 x1 x2 x3 x4 x5 x6 x7 x8 x9 x10 x11 a 1 h h _ (by simp) d)
  · exact piece i x0 x1 x2 x3 x4 x5 x6 x7 x8 x9 x10 x11 _ _ 0 0 0 (fun a l => by funext k; match k with | ⟨0, _⟩ => exact Fin.ext (by simp [r0_8]) | ⟨1, _⟩ => exact Fin.ext (by simp [r0_8]))
      fun a h d => (firstPair_apply _ a h d).trans (open0_apply i x0 x1 x2 x3 x4 x5 x6 x7 x8 x9 x10 x11 a 0 h h _ (by simp) d)

end Step

end Cert.Proof.SwaKernel

end
-- ==== Proof.Swa.Spec.lean ====
/- Sliding-window attention of the layer, written once over the extended reals: from the queries, the keys and values, the
   angles, the gains and the sinks of every token. -/
module

public import proofs.«01_k».proof.Proof.Swa.Math

@[expose] public section

noncomputable section

namespace Cert.Proof.Attention

open Idealize.ShloMosaic

/-- Token `a` of the 128 of window `w`. -/
abbrev tok (w : Fin 512) (a : Fin 128) : Fin 65536 := ⟨128 * w.val + a.val, by omega⟩

/-- The window before (its own where there is none). -/
abbrev prior (w : Fin 512) : Fin 512 := ⟨w.val - 1, by omega⟩

/-- Lane `d` of query head `g` of key/value head `kv`. -/
abbrev qcol (kv : Fin 2) (g : Fin 4) (d : Fin 64) : Fin 512 := ⟨64 * (4 * kv.val + g.val) + d.val, by omega⟩

/-- Lane `d` of the keys' head `kv`. -/
abbrev kcol (kv : Fin 2) (d : Fin 64) : Fin 256 := ⟨64 * kv.val + d.val, by omega⟩

/-- Lane `d` of the values' head `kv`. -/
abbrev vcol (kv : Fin 2) (d : Fin 64) : Fin 256 := ⟨128 + (64 * kv.val + d.val), by omega⟩

/-- The number of a head. -/
abbrev headNo (kv : Fin 2) (g : Fin 4) : Fin 8 := ⟨4 * kv.val + g.val, by omega⟩

section
variable (Q : Fin 65536 → Fin 512 → EReal) (KV : Fin 65536 → Fin 256 → EReal) (C S : Fin 65536 → Fin 8 → EReal)
  (gq gk : Fin 64 → EReal) (sk : Fin 8 → EReal)

/-- A token's key, normed and turned. -/
def keyOf (n : Fin 65536) (kv : Fin 2) : Fin 64 → EReal := turned (normed (fun k => KV n (kcol kv k)) gk) (C n) (S n)

/-- A token's query, normed and turned. -/
def queryOf (n : Fin 65536) (kv : Fin 2) (g : Fin 4) : Fin 64 → EReal := turned (normed (fun k => Q n (qcol kv g k)) gq) (C n) (S n)

/-- The score of token `n`'s query against token `r`'s key. -/
def scoreOf (n r : Fin 65536) (kv : Fin 2) (g : Fin 4) : EReal :=
  (∑ d, keyOf KV C S gk r kv d * queryOf Q C S gq n kv g d) * ((1 / 8 : ℝ) : EReal)

/-- The result of token `a` of window `w`: every sequence has 64 windows, the first of which has none before it. -/
def answer (w : Fin 512) (a : Fin 128) (kv : Fin 2) (g : Fin 4) (d : Fin 64) : EReal :=
  fromWindow (fold128 (0 < w.val % 64) a.val (fun j => scoreOf Q KV C S gq gk (tok w a) (tok (prior w) j) kv g)
      (fun j => scoreOf Q KV C S gq gk (tok w a) (tok w j) kv g))
    (sk (headNo kv g)) (fun j => KV (tok w j) (vcol kv d)) (fun j => KV (tok (prior w) j) (vcol kv d)) a.val

theorem scoreOf_fin (hQ : ∀ n l, Fin' (Q n l)) (hK : ∀ n kv d, Fin' (KV n (kcol kv d))) (hC : ∀ n d, Fin' (C n d)) (hS : ∀ n d, Fin' (S n d))
    (hq : ∀ d, Fin' (gq d)) (hk : ∀ d, Fin' (gk d)) (n r : Fin 65536) (kv : Fin 2) (g : Fin 4) : Fin' (scoreOf Q KV C S gq gk n r kv g) := by
  refine Fin'.mul (Fin'.sum _ fun d => Fin'.mul ?_ ?_) ⟨_, rfl⟩
  · exact turned_fin (normed_fin (fun k => hK _ _ _) hk) (hC _) (hS _) d
  · exact turned_fin (normed_fin (fun k => hQ _ _) hq) (hC _) (hS _) d

end

end Cert.Proof.Attention

end
-- ==== Proof.Swa.Host.lean ====
/- What the attention call's host lines leave: the tables, the gains on both halves of 128 lanes, the sinks over 128 queries. -/
module

public import proofs.«01_k».proof.Proof.Swa.Step
public import proofs.«01_k».proof.Proof.Swa.Spec

@[expose] public section

set_option maxRecDepth 16384

noncomputable section

namespace Cert.Proof.SwaKernel

open Cert.SwaIdeal Cert.SwaIdeal.Gen Idealize.ShloMosaic Cert.Proof.Attention Idealize.ShloMosaic.TcCoe

variable (m : (ℓ : Loc nD τ sig) → Buf (Elt Ideal) ℓ)

/-- The cosines' table: the angles' cosines twice, ones after, the whole on both halves. -/
def cosTable (a : Vec Ideal S65536x8 .f32) : Vec Ideal S65536x128 .f32 :=
  let t := concatenate S65536x64 1 [⟨S65536x8, a⟩, ⟨S65536x8, a⟩,
    ⟨S65536x48, broadcastInDim S65536x48 ![] bcast_S_S65536x48 (constant (F := Ideal) S_ .f32 0x3F800000#32)⟩]
    concatenates_S65536x8_S65536x8_S65536x48_S65536x64_d1
  concatenate S65536x128 1 [⟨S65536x64, t⟩, ⟨S65536x64, t⟩] concatenates_S65536x64_S65536x64_S65536x128_d1

/-- The sines' table: their negatives, the sines, zeros after, the whole on both halves. -/
def sinTable (a : Vec Ideal S65536x8 .f32) : Vec Ideal S65536x128 .f32 :=
  let t := concatenate S65536x64 1 [⟨S65536x8, Host.negf a⟩, ⟨S65536x8, a⟩,
    ⟨S65536x48, mulf (broadcastInDim S65536x48 ![] bcast_S_S65536x48 (constant (F := Ideal) S_ .f32 0x00000000#32))
      (broadcastInDim S65536x48 ![] bcast_S_S65536x48 (constant (F := Ideal) S_ .f32 0x3F800000#32))⟩]
    concatenates_S65536x8_S65536x8_S65536x48_S65536x64_d1
  concatenate S65536x128 1 [⟨S65536x64, t⟩, ⟨S65536x64, t⟩] concatenates_S65536x64_S65536x64_S65536x128_d1

theorem V_cos (c : Dev nD) : V m c main_v6 = cosTable (m ((c : Thread nD τ).loc main_arg2)) := by
  unfold_abbrev_sides
  after_results
  rfl

theorem V_sin (c : Dev nD) : V m c main_v7 = sinTable (m ((c : Thread nD τ).loc main_arg3)) := by
  unfold_abbrev_sides
  after_results
  rfl

theorem cosTable_apply (a : Vec Ideal S65536x8 .f32) (n : Fin 65536) (h : Fin 2) (d : Fin 64) :
    cosTable a (ix2 n (lane h d)) = if hd : d.val < 8 then a (ix2 n ⟨d.val, hd⟩)
        else if hd' : d.val < 16 then a (ix2 n ⟨d.val - 8, by omega⟩) else (1 : EReal) := by
  rcases fin2 h with rfl | rfl
  · pointwise [cosTable]
    by_cases h8 : d.val < 8
    · simp only [h8, dite_true]
    · by_cases h16 : d.val < 16
      · simp only [h8, h16, dite_true, dite_false, (by omega : d.val - 8 < 8)]
      · simp only [h8, h16, dite_false]
        rw [dif_neg (by omega)]
  · pointwise [cosTable]
    by_cases h8 : d.val < 8
    · simp only [h8, dite_true]
    · by_cases h16 : d.val < 16
      · simp only [h8, h16, dite_true, dite_false, (by omega : d.val - 8 < 8)]
      · simp only [h8, h16, dite_false]
        rw [dif_neg (by omega)]

theorem sinTable_apply (a : Vec Ideal S65536x8 .f32) (n : Fin 65536) (h : Fin 2) (d : Fin 64) :
    sinTable a (ix2 n (lane h d)) = if hd : d.val < 8 then -(a (ix2 n ⟨d.val, hd⟩) : EReal)
        else if hd' : d.val < 16 then a (ix2 n ⟨d.val - 8, by omega⟩) else (0 : EReal) := by
  rcases fin2 h with rfl | rfl
  · pointwise [sinTable]
    by_cases h8 : d.val < 8
    · simp only [h8, dite_true]
    · by_cases h16 : d.val < 16
      · simp only [h8, h16, dite_true, dite_false, (by omega : d.val - 8 < 8)]
      · simp only [h8, h16, dite_false]
        rw [dif_neg (by omega)]
  · pointwise [sinTable]
    by_cases h8 : d.val < 8
    · simp only [h8, dite_true]
    · by_cases h16 : d.val < 16
      · simp only [h8, h16, dite_true, dite_false, (by omega : d.val - 8 < 8)]
      · simp only [h8, h16, dite_false]
        rw [dif_neg (by omega)]

theorem q_gains (c : Dev nD) (h : Fin 2) (d : Fin 64) :
    (V m c main_v11 : Vec Ideal S1x128 .f32) (ix2 0 (lane h d)) = (m ((c : Thread nD τ).loc main_arg4) : Vec Ideal S64 .f32) (ix1 d) := by
  unfold_abbrev_sides
  after_results
  pointwise []
  exact congrArg _ (congrArg ix1 (Fin.ext (by simp)))

theorem k_gains (c : Dev nD) (h : Fin 2) (d : Fin 64) :
    (V m c main_v15 : Vec Ideal S1x128 .f32) (ix2 0 (lane h d)) = (m ((c : Thread nD τ).loc main_arg5) : Vec Ideal S64 .f32) (ix1 d) := by
  unfold_abbrev_sides
  after_results
  pointwise []
  exact congrArg _ (congrArg ix1 (Fin.ext (by simp)))

theorem sinks_wide (c : Dev nD) (h : Fin 8) (a : Fin 128) :
    (V m c main_v17 : Vec Ideal S8x128 .f32) (ix2 h a) = (m ((c : Thread nD τ).loc main_arg6) : Vec Ideal S8 .f32) (ix1 h) := by
  unfold_abbrev_sides
  after_results
  pointwise []

end Cert.Proof.SwaKernel

end
-- ==== Proof.Swa.Array.lean ====
/- The attention call's result array: every token's every head is the attention of `Spec`. -/
module

public import proofs.«01_k».proof.Proof.Gen.SwaIdeal.Value
public import proofs.«01_k».proof.Proof.Swa.Host

@[expose] public section

set_option maxRecDepth 16384

noncomputable section

namespace Cert.Proof.SwaKernel

open Cert.SwaIdeal Cert.SwaIdeal.Gen Idealize.ShloMosaic Cert.Proof.Attention Idealize.ShloMosaic.TcCoe

/-! ### Which block each window is at -/

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = t.val ∧ win0_1.index t 1 = 0 :=
  (by decide +kernel : ∀ t : Fin grid0.N, win0_1.index t 0 = t.val ∧ win0_1.index t 1 = 0)

theorem at2 : ∀ t : Fin cfg0.N, win0_2.index t 0 = 4 * t.val - 1 ∧ win0_2.index t 1 = 0 :=
  (by decide +kernel : ∀ t : Fin grid0.N, win0_2.index t 0 = 4 * t.val - 1 ∧ win0_2.index t 1 = 0)

theorem at3 : ∀ t : Fin cfg0.N, win0_3.index t 0 = t.val ∧ win0_3.index t 1 = 1 :=
  (by decide +kernel : ∀ t : Fin grid0.N, win0_3.index t 0 = t.val ∧ win0_3.index t 1 = 1)

theorem at4 : ∀ t : Fin cfg0.N, win0_4.index t 0 = 4 * t.val - 1 ∧ win0_4.index t 1 = 1 :=
  (by decide +kernel : ∀ t : Fin grid0.N, win0_4.index t 0 = 4 * t.val - 1 ∧ win0_4.index t 1 = 1)

theorem at5 : ∀ t : Fin cfg0.N, win0_5.index t 0 = t.val ∧ win0_5.index t 1 = 0 :=
  (by decide +kernel : ∀ t : Fin grid0.N, win0_5.index t 0 = t.val ∧ win0_5.index t 1 = 0)

theorem at6 : ∀ t : Fin cfg0.N, win0_6.index t 0 = t.val ∧ win0_6.index t 1 = 0 :=
  (by decide +kernel : ∀ t : Fin grid0.N, win0_6.index t 0 = t.val ∧ win0_6.index t 1 = 0)

theorem at7 : ∀ t : Fin cfg0.N, win0_7.index t 0 = 4 * t.val - 1 ∧ win0_7.index t 1 = 0 :=
  (by decide +kernel : ∀ t : Fin grid0.N, win0_7.index t 0 = 4 * t.val - 1 ∧ win0_7.index t 1 = 0)

theorem at8 : ∀ t : Fin cfg0.N, win0_8.index t 0 = 4 * t.val - 1 ∧ win0_8.index t 1 = 0 :=
  (by decide +kernel : ∀ t : Fin grid0.N, win0_8.index t 0 = 4 * t.val - 1 ∧ win0_8.index t 1 = 0)

theorem at9 : ∀ t : Fin cfg0.N, win0_9.index t 0 = 0 ∧ win0_9.index t 1 = 0 :=
  (by decide +kernel : ∀ t : Fin grid0.N, win0_9.index t 0 = 0 ∧ win0_9.index t 1 = 0)

theorem at10 : ∀ t : Fin cfg0.N, win0_10.index t 0 = 0 ∧ win0_10.index t 1 = 0 :=
  (by decide +kernel : ∀ t : Fin grid0.N, win0_10.index t 0 = 0 ∧ win0_10.index t 1 = 0)

theorem at11 : ∀ t : Fin cfg0.N, win0_11.index t 0 = 0 ∧ win0_11.index t 1 = 0 :=
  (by decide +kernel : ∀ t : Fin grid0.N, win0_11.index t 0 = 0 ∧ win0_11.index t 1 = 0)

theorem at12 : ∀ t : Fin cfg0.N, win0_12.index t 0 = t.val ∧ win0_12.index t 1 = 0 :=
  (by decide +kernel : ∀ t : Fin grid0.N, win0_12.index t 0 = t.val ∧ win0_12.index t 1 = 0)

theorem step_of : ∀ t : Fin cfg0.N, (grid0.coords t 1).val = t.val % 16 :=
  (by decide +kernel : ∀ t : Fin grid0.N, (grid0.coords t 1).val = t.val % 16)

theorem lt_points (t : Fin cfg0.N) : t.val < 128 := t.isLt

variable (m : (ℓ : Loc nD τ sig) → Buf (Elt Ideal) ℓ)

/-! ### What each window's block holds -/

theorem blk0 (c : Dev nD) (t : Fin cfg0.N) (r : Fin 512) (l : Fin 512) :
    (iblk m c 0 t : Vec Ideal S512x512 .bf16) (ix2 r l) = (m ((c : Thread nD τ).loc main_arg0) : Vec Ideal S65536x512 .bf16) (ix2 ⟨512 * (t.val) + r.val, by have := lt_points t; omega⟩ l) := by
  unfold iblk
  rw [View.read_apply]
  show V m c main_arg0 _ = _
  rw [V_main_arg0]
  refine congrArg _ (funext fun a => Fin.ext ?_)
  have hi := at0 t
  match a with
  | ⟨0, _⟩ => show win0_0.index t 0 * 512 + 1 * r.val = 512 * (t.val) + r.val; rw [hi.1]; omega
  | ⟨1, _⟩ => show win0_0.index t 1 * 512 + 1 * l.val = l.val; rw [hi.2]; omega

theorem blk1 (c : Dev nD) (t : Fin cfg0.N) (r : Fin 512) (l : Fin 128) :
    (iblk m c 1 t : Vec Ideal S512x128 .bf16) (ix2 r l) = (m ((c : Thread nD τ).loc main_arg1) : Vec Ideal S65536x256 .bf16) (ix2 ⟨512 * (t.val) + r.val, by have := lt_points t; omega⟩ ⟨l.val, by omega⟩) := by
  unfold iblk
  rw [View.read_apply]
  show V m c main_arg1 _ = _
  rw [V_main_arg1]
  refine congrArg _ (funext fun a => Fin.ext ?_)
  have hi := at1 t
  match a with
  | ⟨0, _⟩ => show win0_1.index t 0 * 512 + 1 * r.val = 512 * (t.val) + r.val; rw [hi.1]; omega
  | ⟨1, _⟩ => show win0_1.index t 1 * 128 + 1 * l.val = l.val; rw [hi.2]; omega

theorem blk2 (c : Dev nD) (t : Fin cfg0.N) (r : Fin 128) (l : Fin 128) :
    (iblk m c 2 t : Vec Ideal S128x128 .bf16) (ix2 r l) = (m ((c : Thread nD τ).loc main_arg1) : Vec Ideal S65536x256 .bf16) (ix2 ⟨128 * (4 * t.val - 1) + r.val, by have := lt_points t; omega⟩ ⟨l.val, by omega⟩) := by
  unfold iblk
  rw [View.read_apply]
  show V m c main_arg1 _ = _
  rw [V_main_arg1]
  refine congrArg _ (funext fun a => Fin.ext ?_)
  have hi := at2 t
  match a with
  | ⟨0, _⟩ => show win0_2.index t 0 * 128 + 1 * r.val = 128 * (4 * t.val - 1) + r.val; rw [hi.1]; omega
  | ⟨1, _⟩ => show win0_2.index t 1 * 128 + 1 * l.val = l.val; rw [hi.2]; omega

theorem blk3 (c : Dev nD) (t : Fin cfg0.N) (r : Fin 512) (l : Fin 128) :
    (iblk m c 3 t : Vec Ideal S512x128 .bf16) (ix2 r l) = (m ((c : Thread nD τ).loc main_arg1) : Vec Ideal S65536x256 .bf16) (ix2 ⟨512 * (t.val) + r.val, by have := lt_points t; omega⟩ ⟨128 + l.val, by omega⟩) := by
  unfold iblk
  rw [View.read_apply]
  show V m c main_arg1 _ = _
  rw [V_main_arg1]
  refine congrArg _ (funext fun a => Fin.ext ?_)
  have hi := at3 t
  match a with
  | ⟨0, _⟩ => show win0_3.index t 0 * 512 + 1 * r.val = 512 * (t.val) + r.val; rw [hi.1]; omega
  | ⟨1, _⟩ => show win0_3.index t 1 * 128 + 1 * l.val = 128 + l.val; rw [hi.2]; omega

theorem blk4 (c : Dev nD) (t : Fin cfg0.N) (r : Fin 128) (l : Fin 128) :
    (iblk m c 4 t : Vec Ideal S128x128 .bf16) (ix2 r l) = (m ((c : Thread nD τ).loc main_arg1) : Vec Ideal S65536x256 .bf16) (ix2 ⟨128 * (4 * t.val - 1) + r.val, by have := lt_points t; omega⟩ ⟨128 + l.val, by omega⟩) := by
  unfold iblk
  rw [View.read_apply]
  show V m c main_arg1 _ = _
  rw [V_main_arg1]
  refine congrArg _ (funext fun a => Fin.ext ?_)
  have hi := at4 t
  match a with
  | ⟨0, _⟩ => show win0_4.index t 0 * 128 + 1 * r.val = 128 * (4 * t.val - 1) + r.val; rw [hi.1]; omega
  | ⟨1, _⟩ => show win0_4.index t 1 * 128 + 1 * l.val = 128 + l.val; rw [hi.2]; omega

theorem blk5 (c : Dev nD) (t : Fin cfg0.N) (r : Fin 512) (l : Fin 128) :
    (iblk m c 5 t : Vec Ideal S512x128 .f32) (ix2 r l) = (V m c main_v6 : Vec Ideal S65536x128 .f32) (ix2 ⟨512 * (t.val) + r.val, by have := lt_points t; omega⟩ l) := by
  unfold iblk
  rw [View.read_apply]
  show V m c main_v6 _ = _
  refine congrArg _ (funext fun a => Fin.ext ?_)
  have hi := at5 t
  match a with
  | ⟨0, _⟩ => show win0_5.index t 0 * 512 + 1 * r.val = 512 * (t.val) + r.val; rw [hi.1]; omega
  | ⟨1, _⟩ => show win0_5.index t 1 * 128 + 1 * l.val = l.val; rw [hi.2]; omega

theorem blk6 (c : Dev nD) (t : Fin cfg0.N) (r : Fin 512) (l : Fin 128) :
    (iblk m c 6 t : Vec Ideal S512x128 .f32) (ix2 r l) = (V m c main_v7 : Vec Ideal S65536x128 .f32) (ix2 ⟨512 * (t.val) + r.val, by have := lt_points t; omega⟩ l) := by
  unfold iblk
  rw [View.read_apply]
  show V m c main_v7 _ = _
  refine congrArg _ (funext fun a => Fin.ext ?_)
  have hi := at6 t
  match a with
  | ⟨0, _⟩ => show win0_6.index t 0 * 512 + 1 * r.val = 512 * (t.val) + r.val; rw [hi.1]; omega
  | ⟨1, _⟩ => show win0_6.index t 1 * 128 + 1 * l.val = l.val; rw [hi.2]; omega

theorem blk7 (c : Dev nD) (t : Fin cfg0.N) (r : Fin 128) (l : Fin 128) :
    (iblk m c 7 t : Vec Ideal S128x128 .f32) (ix2 r l) = (V m c main_v6 : Vec Ideal S65536x128 .f32) (ix2 ⟨128 * (4 * t.val - 1) + r.val, by have := lt_points t; omega⟩ l) := by
  unfold iblk
  rw [View.read_apply]
  show V m c main_v6 _ = _
  refine congrArg _ (funext fun a => Fin.ext ?_)
  have hi := at7 t
  match a with
  | ⟨0, _⟩ => show win0_7.index t 0 * 128 + 1 * r.val = 128 * (4 * t.val - 1) + r.val; rw [hi.1]; omega
  | ⟨1, _⟩ => show win0_7.index t 1 * 128 + 1 * l.val = l.val; rw [hi.2]; omega

theorem blk8 (c : Dev nD) (t : Fin cfg0.N) (r : Fin 128) (l : Fin 128) :
    (iblk m c 8 t : Vec Ideal S128x128 .f32) (ix2 r l) = (V m c main_v7 : Vec Ideal S65536x128 .f32) (ix2 ⟨128 * (4 * t.val - 1) + r.val, by have := lt_points t; omega⟩ l) := by
  unfold iblk
  rw [View.read_apply]
  show V m c main_v7 _ = _
  refine congrArg _ (funext fun a => Fin.ext ?_)
  have hi := at8 t
  match a with
  | ⟨0, _⟩ => show win0_8.index t 0 * 128 + 1 * r.val = 128 * (4 * t.val - 1) + r.val; rw [hi.1]; omega
  | ⟨1, _⟩ => show win0_8.index t 1 * 128 + 1 * l.val = l.val; rw [hi.2]; omega

theorem blk9 (c : Dev nD) (t : Fin cfg0.N) (r : Fin 1) (l : Fin 128) :
    (iblk m c 9 t : Vec Ideal S1x128 .f32) (ix2 r l) = (V m c main_v11 : Vec Ideal S1x128 .f32) (ix2 r l) := by
  unfold iblk
  rw [View.read_apply]
  show V m c main_v11 _ = _
  refine congrArg _ (funext fun a => Fin.ext ?_)
  have hi := at9 t
  match a with
  | ⟨0, _⟩ => show win0_9.index t 0 * 1 + 1 * r.val = r.val; rw [hi.1]; omega
  | ⟨1, _⟩ => show win0_9.index t 1 * 128 + 1 * l.val = l.val; rw [hi.2]; omega

theorem blk10 (c : Dev nD) (t : Fin cfg0.N) (r : Fin 1) (l : Fin 128) :
    (iblk m c 10 t : Vec Ideal S1x128 .f32) (ix2 r l) = (V m c main_v15 : Vec Ideal S1x128 .f32) (ix2 r l) := by
  unfold iblk
  rw [View.read_apply]
  show V m c main_v15 _ = _
  refine congrArg _ (funext fun a => Fin.ext ?_)
  have hi := at10 t
  match a with
  | ⟨0, _⟩ => show win0_10.index t 0 * 1 + 1 * r.val = r.val; rw [hi.1]; omega
  | ⟨1, _⟩ => show win0_10.index t 1 * 128 + 1 * l.val = l.val; rw [hi.2]; omega

theorem blk11 (c : Dev nD) (t : Fin cfg0.N) (r : Fin 8) (l : Fin 128) :
    (iblk m c 11 t : Vec Ideal S8x128 .f32) (ix2 r l) = (V m c main_v17 : Vec Ideal S8x128 .f32) (ix2 r l) := by
  unfold iblk
  rw [View.read_apply]
  show V m c main_v17 _ = _
  refine congrArg _ (funext fun a => Fin.ext ?_)
  have hi := at11 t
  match a with
  | ⟨0, _⟩ => show win0_11.index t 0 * 8 + 1 * r.val = r.val; rw [hi.1]; omega
  | ⟨1, _⟩ => show win0_11.index t 1 * 128 + 1 * l.val = l.val; rw [hi.2]; omega

end Cert.Proof.SwaKernel

end
-- ==== Proof.Swa.Result.lean ====
/- The attention call's result array: every token's every head is the attention of `Spec`. -/
module

public import proofs.«01_k».proof.Proof.Swa.Array

@[expose] public section

set_option maxRecDepth 16384

noncomputable section

namespace Cert.Proof.SwaKernel

open Cert.SwaIdeal Cert.SwaIdeal.Gen Idealize.ShloMosaic Cert.Proof.Attention Idealize.ShloMosaic.TcCoe

variable (m : (ℓ : Loc nD τ sig) → Buf (Elt Ideal) ℓ) (c : Dev nD)

/-- The arguments as functions of their indices. -/
abbrev argQ (n : Fin 65536) (l : Fin 512) : EReal := (m ((c : Thread nD τ).loc main_arg0) : Vec Ideal S65536x512 .bf16) (ix2 n l)
abbrev argKV (n : Fin 65536) (l : Fin 256) : EReal := (m ((c : Thread nD τ).loc main_arg1) : Vec Ideal S65536x256 .bf16) (ix2 n l)
abbrev argC (n : Fin 65536) (l : Fin 8) : EReal := (m ((c : Thread nD τ).loc main_arg2) : Vec Ideal S65536x8 .f32) (ix2 n l)
abbrev argS (n : Fin 65536) (l : Fin 8) : EReal := (m ((c : Thread nD τ).loc main_arg3) : Vec Ideal S65536x8 .f32) (ix2 n l)
abbrev argGq (d : Fin 64) : EReal := (m ((c : Thread nD τ).loc main_arg4) : Vec Ideal S64 .f32) (ix1 d)
abbrev argGk (d : Fin 64) : EReal := (m ((c : Thread nD τ).loc main_arg5) : Vec Ideal S64 .f32) (ix1 d)
abbrev argK (h : Fin 8) : EReal := (m ((c : Thread nD τ).loc main_arg6) : Vec Ideal S8 .f32) (ix1 h)

/-- The attention of the arguments. -/
abbrev attention (w : Fin 512) (a : Fin 128) (kv : Fin 2) (g : Fin 4) (d : Fin 64) : EReal :=
  answer (argQ m c) (argKV m c) (argC m c) (argS m c) (argGq m c) (argGk m c) (argK m c) w a kv g d

/-- The head of a pair and a half. -/
abbrev headIn (p h : Fin 2) : Fin 4 := ⟨2 * p.val + h.val, by omega⟩

/-- The window of the sequence that is window `w` of step `t`. -/
abbrev winOf (t : Fin cfg0.N) (w : Fin 4) : Fin 512 := ⟨4 * t.val + w.val, by have := lt_points t; omega⟩

theorem query_row (t : Fin cfg0.N) (w : Fin 4) (a : Fin 128) (kv p h : Fin 2) (d : Fin 64) :
    qAt (iblk m c 0 t) (iblk m c 5 t) (iblk m c 6 t) (iblk m c 9 t) (rowOf w a) kv p h d
      = queryOf (argQ m c) (argC m c) (argS m c) (argGq m c) (tok (winOf t w) a) kv (headIn p h) d := by
  have ht := lt_points t
  have en : (⟨512 * t.val + (rowOf w a).val, by omega⟩ : Fin 65536) = tok (winOf t w) a := Fin.ext (by simp; omega)
  unfold qAt queryOf
  rw [trn_lane _ _ _ _ (argC m c (tok (winOf t w) a)) (argS m c (tok (winOf t w) a)) h]
  · congr 1
    congr 1
    · funext k
      refine (blk0 m c t _ _).trans ?_
      rw [en]
      exact congrArg (fun l => argQ m c _ l) (Fin.ext (by simp; omega))
    · funext k
      exact (blk9 m c t _ _).trans (q_gains m c h k)
  · intro k
    refine (blk5 m c t _ _).trans ?_
    rw [V_cos, en]
    exact cosTable_apply _ _ _ _
  · intro k
    refine (blk6 m c t _ _).trans ?_
    rw [V_sin, en]
    exact sinTable_apply _ _ _ _

theorem key_own (t : Fin cfg0.N) (r : Fin 640) (hr : ¬ r.val < 128) (w : Fin 512) (a : Fin 128) (e : 512 * t.val + (r.val - 128) = 128 * w.val + a.val)
    (kv : Fin 2) (d : Fin 64) :
    keys (iblk m c 1 t) (iblk m c 2 t) (iblk m c 5 t) (iblk m c 6 t) (iblk m c 7 t) (iblk m c 8 t) (iblk m c 10 t) (ix2 r (lane kv d))
      = keyOf (argKV m c) (argC m c) (argS m c) (argGk m c) (tok w a) kv d := by
  have ht := lt_points t
  have en : (⟨512 * t.val + (⟨r.val - 128, by omega⟩ : Fin 512).val, by omega⟩ : Fin 65536) = tok w a := Fin.ext e
  refine (keys_hi _ _ _ _ _ _ _ r (lane kv d) hr).trans ?_
  unfold keyOf
  rw [trn_lane _ _ _ _ (argC m c (tok w a)) (argS m c (tok w a)) kv]
  · congr 1
    congr 1
    · funext k
      refine (blk1 m c t _ _).trans ?_
      rw [en]
    · funext k
      exact (blk10 m c t _ _).trans (k_gains m c kv k)
  · intro k
    refine (blk5 m c t _ _).trans ?_
    rw [V_cos, en]
    exact cosTable_apply _ _ _ _
  · intro k
    refine (blk6 m c t _ _).trans ?_
    rw [V_sin, en]
    exact sinTable_apply _ _ _ _

theorem key_before (t : Fin cfg0.N) (r : Fin 640) (hr : r.val < 128) (w : Fin 512) (a : Fin 128) (e : 128 * (4 * t.val - 1) + r.val = 128 * w.val + a.val)
    (kv : Fin 2) (d : Fin 64) :
    keys (iblk m c 1 t) (iblk m c 2 t) (iblk m c 5 t) (iblk m c 6 t) (iblk m c 7 t) (iblk m c 8 t) (iblk m c 10 t) (ix2 r (lane kv d))
      = keyOf (argKV m c) (argC m c) (argS m c) (argGk m c) (tok w a) kv d := by
  have ht := lt_points t
  have en : (⟨128 * (4 * t.val - 1) + (⟨r.val, hr⟩ : Fin 128).val, by omega⟩ : Fin 65536) = tok w a := Fin.ext e
  refine (keys_lo _ _ _ _ _ _ _ r (lane kv d) hr).trans ?_
  unfold keyOf
  rw [trn_lane _ _ _ _ (argC m c (tok w a)) (argS m c (tok w a)) kv]
  · congr 1
    congr 1
    · funext k
      refine (blk2 m c t _ _).trans ?_
      rw [en]
    · funext k
      exact (blk10 m c t _ _).trans (k_gains m c kv k)
  · intro k
    refine (blk7 m c t _ _).trans ?_
    rw [V_cos, en]
    exact cosTable_apply _ _ _ _
  · intro k
    refine (blk8 m c t _ _).trans ?_
    rw [V_sin, en]
    exact sinTable_apply _ _ _ _

theorem val_own (t : Fin cfg0.N) (w : Fin 4) (j : Fin 128) (kv : Fin 2) (d : Fin 64) :
    vals (iblk m c 3 t) (iblk m c 4 t) (ix2 (own w j) (lane kv d)) = argKV m c (tok (winOf t w) j) (vcol kv d) := by
  have ht := lt_points t
  refine (vals_apply _ _ _ _).trans ?_
  rw [dif_neg (by simp; omega)]
  refine (blk3 m c t _ _).trans ?_
  exact congrArg (fun n => argKV m c n (vcol kv d)) (Fin.ext (by simp; omega))

theorem val_before (t : Fin cfg0.N) (w : Fin 4) (j : Fin 128) (kv : Fin 2) (d : Fin 64) :
    vals (iblk m c 3 t) (iblk m c 4 t) (ix2 (before w j) (lane kv d)) = argKV m c (tok (prior (winOf t w)) j) (vcol kv d) := by
  have ht := lt_points t
  refine (vals_apply _ _ _ _).trans ?_
  by_cases hw : w.val = 0
  · rw [dif_pos (by simp; omega)]
    refine (blk4 m c t _ _).trans ?_
    exact congrArg (fun n => argKV m c n (vcol kv d)) (Fin.ext (by simp; omega))
  · rw [dif_neg (by simp; omega)]
    refine (blk3 m c t _ _).trans ?_
    exact congrArg (fun n => argKV m c n (vcol kv d)) (Fin.ext (by simp; omega))

theorem score_own (t : Fin cfg0.N) (w : Fin 4) (a j : Fin 128) (kv p h : Fin 2) :
    scoreAt (iblk m c 0 t) (iblk m c 1 t) (iblk m c 2 t) (iblk m c 5 t) (iblk m c 6 t) (iblk m c 7 t) (iblk m c 8 t) (iblk m c 9 t)
        (iblk m c 10 t) w a kv p h (own w j)
      = scoreOf (argQ m c) (argKV m c) (argC m c) (argS m c) (argGq m c) (argGk m c) (tok (winOf t w) a) (tok (winOf t w) j) kv (headIn p h) := by
  unfold scoreAt scoreOf
  congr 1
  refine Finset.sum_congr rfl fun d _ => ?_
  rw [query_row, key_own m c t (own w j) (by simp; omega) (winOf t w) j (by simp; omega)]

theorem score_before (t : Fin cfg0.N) (w : Fin 4) (a j : Fin 128) (kv p h : Fin 2) :
    scoreAt (iblk m c 0 t) (iblk m c 1 t) (iblk m c 2 t) (iblk m c 5 t) (iblk m c 6 t) (iblk m c 7 t) (iblk m c 8 t) (iblk m c 9 t)
        (iblk m c 10 t) w a kv p h (before w j)
      = scoreOf (argQ m c) (argKV m c) (argC m c) (argS m c) (argGq m c) (argGk m c) (tok (winOf t w) a) (tok (prior (winOf t w)) j) kv (headIn p h) := by
  unfold scoreAt scoreOf
  congr 1
  refine Finset.sum_congr rfl fun d _ => ?_
  rw [query_row]
  by_cases hw : w.val = 0
  · rw [key_before m c t (before w j) (by simp; omega) (prior (winOf t w)) j (by simp; omega)]
  · rw [key_own m c t (before w j) (by simp; omega) (prior (winOf t w)) j (by simp; omega)]

theorem cell_eq (t : Fin cfg0.N) (w : Fin 4) (a : Fin 128) (kv p h : Fin 2) (d : Fin 64) :
    cell (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) w a kv p h d
      = attention m c (winOf t w) a kv (headIn p h) d := by
  unfold cell attention answer
  have hp : (0 < w.val ∨ 0 < (grid0.coords t 1).val) ↔ 0 < (winOf t w).val % 64 := by
    rw [step_of t]; simp; omega
  simp only [score_own, score_before, val_own, val_before]
  congr 1
  · exact fold128_congr hp _ _ _
  · exact (blk11 m c t _ _).trans (sinks_wide m c _ _)

/-- The result array. -/
def result : (⟨S65536x512, .bf16⟩ : BufTy).Contents (Elt Ideal) := fun y =>
  attention m c ⟨(y 0).val / 128, by have : (y 0).val < 65536 := (y 0).isLt; omega⟩ ⟨(y 0).val % 128, by omega⟩
    ⟨(y 1).val / 256, by have : (y 1).val < 512 := (y 1).isLt; omega⟩ ⟨(y 1).val / 64 % 4, by omega⟩ ⟨(y 1).val % 64, by omega⟩

theorem flushed_eq (t : Fin cfg0.N) (hf : (cfg0.win 12).flush t = true) :
    (dats m 0 c).flushed 12 t = ((cfg0.win 12).blk t).view.read (Elt Ideal) (result m c) := by
  rw [Cert.SwaIdeal.Value.flushed12]
  have ht := lt_points t
  funext y
  rw [View.read_apply]
  refine (out_apply _ _ _ _ _ _ _ _ _ _ _ _ _ y).trans ?_
  unfold byIndex
  refine (cell_eq m c t _ _ _ _ _ _).trans ?_
  have hi := at12 t
  have h0 : (y 0).val < 512 := (y 0).isLt
  have h1 : (y 1).val < 512 := (y 1).isLt
  have e0 : ((((cfg0.win 12).blk t).view.emb y) 0).val = 512 * t.val + (y 0).val := by
    show win0_12.index t 0 * 512 + 1 * (y 0).val = _
    rw [hi.1]; omega
  have e1 : ((((cfg0.win 12).blk t).view.emb y) 1).val = (y 1).val := by
    show win0_12.index t 1 * 512 + 1 * (y 1).val = _
    rw [hi.2]; omega
  show _ = result m c _
  unfold result
  congr 1 <;> apply Fin.ext <;> simp only [e0, e1] <;> omega

theorem final : (dats m 0 c).arrAt 12 cfg0.N = result m c :=
  (dats m 0 c).arrAt_eq_of_cover 12 (result m c) (flushed_eq m c) fun i => by
    have h0 : (i 0).val < 65536 := (i 0).isLt
    have h1 : (i 1).val < 512 := (i 1).isLt
    let t : Fin cfg0.N := ⟨(i 0).val / 512, show _ < 128 by omega⟩
    refine ⟨t, flush0_12 t, ?_⟩
    show i ∈ ((View.whole main_v18).slice (win0_12.rect t)).set
    rw [View.set_slice_whole, Rect.mem_set_unit]
    intro a
    have hi := at12 t
    match a with
    | ⟨0, _⟩ => show win0_12.index t 0 * 512 ≤ (i 0).val ∧ (i 0).val < win0_12.index t 0 * 512 + 512
                rw [hi.1]; simp only [t]; omega
    | ⟨1, _⟩ => show win0_12.index t 1 * 512 ≤ (i 1).val ∧ (i 1).val < win0_12.index t 1 * 512 + 512
                rw [hi.2]; omega

end Cert.Proof.SwaKernel

end
-- ==== Proof.Swa.Ref.lean ====
/- The attention reference's stages, read at an index: the same normed and turned heads, the band of scores, its largest
   score and its mass. -/
module

public import proofs.«01_k».proof.Proof.Gen.SwaRefIdeal.Read
public import proofs.«01_k».proof.Proof.Swa.Spec
public import Idealize.ShloMosaic.Lib.Pointwise

@[expose] public section

set_option maxRecDepth 16384

noncomputable section

namespace Cert.Proof.SwaReference

open Cert.SwaRefIdeal Cert.SwaRefIdeal.Gen Cert.SwaRefIdeal.Read Idealize.ShloMosaic Cert.Proof.Attention

variable (x0 : Vec Ideal S65536x512 .bf16) (x1 : Vec Ideal S65536x256 .bf16) (x2 x3 : Vec Ideal S65536x8 .f32) (x4 x5 : Vec Ideal S64 .f32)
  (x6 : Vec Ideal S8 .f32)

/-- Token `s` of sequence `b`. -/
abbrev pos (b : Fin 8) (s : Fin 8192) : Fin 65536 := ⟨b.val * 8192 + s.val, by omega⟩

theorem div_sixtyFour (x : EReal) : Ideal.div x (Ideal.ofBits .f32 0x42800000#32) = x * ((1 / 64 : ℝ) : EReal) := by
  rw [sixtyFour]
  unfold Ideal.div
  rw [if_neg (by norm_num)]
  congr 1
  rw [← EReal.coe_inv]
  norm_num

theorem lowest : Ideal.ofBits .f32 0xFF800000#32 = ⊥ := by simp [Ideal.ofBits, Ideal.ieee]

theorem query_normed (b : Fin 8) (s : Fin 8192) (h : Fin 8) (d : Fin 64) :
    val_main_v19 (F := Ideal) x0 x4 (ix4 b s h d)
      = normed (fun k => x0 (ix2 (pos b s) ⟨h.val * 64 + k.val, by omega⟩)) (fun k => x4 (ix1 k)) d := by
  pointwise [val_main_v19, val_main_v18, val_main_v17, val_main_v16, val_main_v15, val_main_v14, val_main_v13, val_main_v12, val_main_v11,
    val_main_v10, val_main_v9, val_main_v8, val_main_v7, val_main_v3, val_main_v2, val_main_cst, val_main_cst_0, val_main_cst_1]
  unfold normed
  rw [div_sixtyFour]

theorem query_turned (b : Fin 8) (s : Fin 8192) (h : Fin 8) (d : Fin 64) :
    val_main_v33 (F := Ideal) x0 x2 x3 x4 (ix4 b s h d)
      = turned (fun k => val_main_v19 (F := Ideal) x0 x4 (ix4 b s h k)) (fun k => x2 (ix2 (pos b s) k)) (fun k => x3 (ix2 (pos b s) k)) d := by
  pointwise [val_main_v33, val_main_v32, val_main_v31, val_main_v30, val_main_v29, val_main_v28, val_main_v27, val_main_v26, val_main_v25,
    val_main_v24, val_main_v23, val_main_v22, val_main_v21, val_main_v20, val_main_v0, val_main_v1]
  unfold turned
  obtain ⟨y, hy⟩ : ∃ y : Fin 64 → EReal, ∀ k, val_main_v19 (F := Ideal) x0 x4 (ix4 b s h k) = y k := ⟨_, fun _ => rfl⟩
  simp only [hy]
  by_cases h8 : d.val < 8
  · rw [dif_pos h8, dif_pos h8]
    congr! 4 <;> omega
  · rw [dif_neg h8, dif_neg h8]
    by_cases h16 : d.val < 16
    · rw [dif_pos (show d.val - 8 < 8 by omega), dif_pos h16]
      congr! 5 <;> (try apply Fin.ext) <;> (try dsimp only) <;> omega
    · rw [dif_neg (show ¬ d.val - 8 < 8 by omega), dif_neg h16]
      congr! 2 <;> (try apply Fin.ext) <;> (try dsimp only) <;> omega

theorem key_normed (b : Fin 8) (s : Fin 8192) (h : Fin 2) (d : Fin 64) :
    val_main_v47 (F := Ideal) x1 x5 (ix4 b s h d)
      = normed (fun k => x1 (ix2 (pos b s) ⟨h.val * 64 + k.val, by omega⟩)) (fun k => x5 (ix1 k)) d := by
  pointwise [val_main_v47, val_main_v46, val_main_v45, val_main_v44, val_main_v43, val_main_v42, val_main_v41, val_main_v40, val_main_v39,
    val_main_v38, val_main_v37, val_main_v36, val_main_v35, val_main_v34, val_main_v5, val_main_v4, val_main_cst_2, val_main_cst_3, val_main_cst_4]
  unfold normed
  rw [div_sixtyFour]

theorem key_turned (b : Fin 8) (s : Fin 8192) (h : Fin 2) (d : Fin 64) :
    val_main_v61 (F := Ideal) x1 x2 x3 x5 (ix4 b s h d)
      = turned (fun k => val_main_v47 (F := Ideal) x1 x5 (ix4 b s h k)) (fun k => x2 (ix2 (pos b s) k)) (fun k => x3 (ix2 (pos b s) k)) d := by
  pointwise [val_main_v61, val_main_v60, val_main_v59, val_main_v58, val_main_v57, val_main_v56, val_main_v55, val_main_v54, val_main_v53,
    val_main_v52, val_main_v51, val_main_v50, val_main_v49, val_main_v48, val_main_v0, val_main_v1]
  unfold turned
  obtain ⟨y, hy⟩ : ∃ y : Fin 64 → EReal, ∀ k, val_main_v47 (F := Ideal) x1 x5 (ix4 b s h k) = y k := ⟨_, fun _ => rfl⟩
  simp only [hy]
  by_cases h8 : d.val < 8
  · rw [dif_pos h8, dif_pos h8]
    congr! 4 <;> omega
  · rw [dif_neg h8, dif_neg h8]
    by_cases h16 : d.val < 16
    · rw [dif_pos (show d.val - 8 < 8 by omega), dif_pos h16]
      congr! 5 <;> (try apply Fin.ext) <;> (try dsimp only) <;> omega
    · rw [dif_neg (show ¬ d.val - 8 < 8 by omega), dif_neg h16]
      congr! 2 <;> (try apply Fin.ext) <;> (try dsimp only) <;> omega

/-- Window `n` of sequence `b`, among all the windows. -/
abbrev win (b : Fin 8) (n : Fin 64) : Fin 512 := ⟨64 * b.val + n.val, by omega⟩

/-- The arguments as functions of their indices. -/
abbrev fQ (n : Fin 65536) (l : Fin 512) : EReal := x0 (ix2 n l)
abbrev fKV (n : Fin 65536) (l : Fin 256) : EReal := x1 (ix2 n l)
abbrev fA (x : Vec Ideal S65536x8 .f32) (n : Fin 65536) (l : Fin 8) : EReal := x (ix2 n l)
abbrev fG (x : Vec Ideal S64 .f32) (d : Fin 64) : EReal := x (ix1 d)
abbrev fK (h : Fin 8) : EReal := x6 (ix1 h)

theorem query_at (b : Fin 8) (n : Fin 64) (i : Fin 128) (kv : Fin 2) (g : Fin 4) (d : Fin 64) :
    val_main_v62 (F := Ideal) x0 x2 x3 x4 (ix6 b n i kv g d)
      = queryOf (fQ x0) (fA x2) (fA x3) (fG x4) (tok (win b n) i) kv g d := by
  pointwise [val_main_v62]
  rw [query_turned]
  unfold queryOf
  have e : pos b ⟨n.val * 128 + i.val, by omega⟩ = tok (win b n) i := Fin.ext (by simp; omega)
  rw [e]
  congr 1
  funext k
  rw [query_normed, e]
  congr 1
  funext k
  exact congrArg (fun l => x0 (ix2 _ l)) (Fin.ext (by simp; omega))

theorem key_at (b : Fin 8) (n : Fin 64) (i : Fin 128) (kv : Fin 2) (d : Fin 64) :
    val_main_v63 (F := Ideal) x1 x2 x3 x5 (ix5 b n i kv d) = keyOf (fKV x1) (fA x2) (fA x3) (fG x5) (tok (win b n) i) kv d := by
  pointwise [val_main_v63]
  rw [key_turned]
  unfold keyOf
  have e : pos b ⟨n.val * 128 + i.val, by omega⟩ = tok (win b n) i := Fin.ext (by simp; omega)
  rw [e]
  congr 1
  funext k
  rw [key_normed, e]
  congr 1
  funext k
  exact congrArg (fun l => x1 (ix2 _ l)) (Fin.ext (by simp; omega))

theorem value_at (b : Fin 8) (n : Fin 64) (i : Fin 128) (kv : Fin 2) (d : Fin 64) :
    val_main_v64 (F := Ideal) x1 (ix5 b n i kv d) = fKV x1 (tok (win b n) i) (vcol kv d) := by
  pointwise [val_main_v64, val_main_v6, val_main_v4]
  congr! 2 <;> (try apply Fin.ext) <;> (try dsimp only) <;> omega

end Cert.Proof.SwaReference

end
-- ==== Proof.Swa.RefPad.lean ====
/- The attention reference's windows: the window before beside the own, of the keys and of the values. -/
module

public import proofs.«01_k».proof.Proof.Swa.Ref

@[expose] public section

set_option maxRecDepth 16384

noncomputable section

namespace Cert.Proof.SwaReference

open Cert.SwaRefIdeal Cert.SwaRefIdeal.Gen Cert.SwaRefIdeal.Read Idealize.ShloMosaic Cert.Proof.Attention

variable (x0 : Vec Ideal S65536x512 .bf16) (x1 : Vec Ideal S65536x256 .bf16) (x2 x3 : Vec Ideal S65536x8 .f32) (x4 x5 : Vec Ideal S64 .f32)
  (x6 : Vec Ideal S8 .f32)

/-- The blocks of one array, the one before beside the own: what a padded and joined array holds. -/
def joined (y : Fin 8 → Fin 64 → Fin 128 → EReal) (z : EReal) (b : Fin 8) (n : Fin 64) (j : Fin 256) : EReal :=
  if h : j.val < 128 then (if 1 ≤ n.val then y b ⟨n.val - 1, by omega⟩ ⟨j.val, h⟩ else z) else y b n ⟨j.val - 128, by omega⟩

theorem keys_before (b : Fin 8) (n : Fin 64) (j : Fin 128) (kv : Fin 2) (d : Fin 64) :
    val_main_v66 (F := Ideal) x1 x2 x3 x5 (ix5 b n j kv d)
      = if 1 ≤ n.val then val_main_v63 (F := Ideal) x1 x2 x3 x5 (ix5 b ⟨n.val - 1, by omega⟩ j kv d)
        else (val_main_call0_v0 (F := Ideal) (Shape.Idx.first h_S_) : EReal) := by
  pointwise [val_main_v66, val_main_v65]
  generalize val_main_v63 (F := Ideal) x1 x2 x3 x5 = y
  have h : n.val - 1 < 63 := by omega
  simp only [h, and_true]
  by_cases h1 : 1 ≤ n.val
  · rw [dif_pos h1, if_pos h1]
  · rw [dif_neg h1, if_neg h1]

theorem keys_joined (b : Fin 8) (n : Fin 64) (j : Fin 256) (kv : Fin 2) (d : Fin 64) :
    val_main_v67 (F := Ideal) x1 x2 x3 x5 (ix5 b n j kv d)
      = joined (fun b n j => val_main_v63 (F := Ideal) x1 x2 x3 x5 (ix5 b n j kv d)) (val_main_call0_v0 (F := Ideal) (Shape.Idx.first h_S_)) b n j := by
  unfold joined
  pointwise [val_main_v67]
  by_cases hj : j.val < 128
  · rw [dif_pos hj, dif_pos hj, keys_before]
  · rw [dif_neg hj, dif_neg hj]

theorem values_before (b : Fin 8) (n : Fin 64) (j : Fin 128) (kv : Fin 2) (d : Fin 64) :
    val_main_v69 (F := Ideal) x1 (ix5 b n j kv d)
      = if 1 ≤ n.val then val_main_v64 (F := Ideal) x1 (ix5 b ⟨n.val - 1, by omega⟩ j kv d)
        else (val_main_call1_v0 (F := Ideal) (Shape.Idx.first h_S_) : EReal) := by
  pointwise [val_main_v69, val_main_v68]
  generalize val_main_v64 (F := Ideal) x1 = y
  have h : n.val - 1 < 63 := by omega
  simp only [h, and_true]
  by_cases h1 : 1 ≤ n.val
  · rw [dif_pos h1, if_pos h1]
  · rw [dif_neg h1, if_neg h1]

theorem values_joined (b : Fin 8) (n : Fin 64) (j : Fin 256) (kv : Fin 2) (d : Fin 64) :
    val_main_v70 (F := Ideal) x1 (ix5 b n j kv d)
      = joined (fun b n j => val_main_v64 (F := Ideal) x1 (ix5 b n j kv d)) (val_main_call1_v0 (F := Ideal) (Shape.Idx.first h_S_)) b n j := by
  unfold joined
  pointwise [val_main_v70]
  by_cases hj : j.val < 128
  · rw [dif_pos hj, dif_pos hj, values_before]
  · rw [dif_neg hj, dif_neg hj]

end Cert.Proof.SwaReference

end
-- ==== Proof.Swa.RefBand.lean ====
/- The attention reference's band: the window before beside the own, the masked scores, and the result they give. -/
module

public import proofs.«01_k».proof.Proof.Swa.RefPad
public import Idealize.ShloMosaic.Lib.Affine

@[expose] public section

set_option maxRecDepth 16384

noncomputable section

namespace Cert.Proof.SwaReference

open Cert.SwaRefIdeal Cert.SwaRefIdeal.Gen Cert.SwaRefIdeal.Read Idealize.ShloMosaic Cert.Proof.Attention

variable (x0 : Vec Ideal S65536x512 .bf16) (x1 : Vec Ideal S65536x256 .bf16) (x2 x3 : Vec Ideal S65536x8 .f32) (x4 x5 : Vec Ideal S64 .f32)
  (x6 : Vec Ideal S8 .f32)

theorem bit_cases : ∀ w : BitVec 1, w = 0#1 ∨ w = 1#1 := by decide

/-- A word that is one exactly where `p`. -/
theorem word_eq {w : BitVec 1} {p : Prop} [Decidable p] (h : w = 1#1 ↔ p) : w = if p then 1#1 else 0#1 := by
  by_cases hp : p
  · rw [if_pos hp]; exact h.mpr hp
  · rw [if_neg hp]
    have hw : w ≠ 1#1 := fun e => hp (h.mp e)
    exact (bit_cases w).resolve_right hw

theorem toInt_small (n : ℕ) (h : n < 1024) : (BitVec.ofNat 32 n).toInt = n := by
  rw [BitVec.toInt_ofNat', Int.bmod_eq_of_le] <;> omega

theorem mask_word (n : Fin 64) (i : Fin 128) (j : Fin 256) : val_main_v101 (F := Ideal) (ix3 n i j)
      = if (i.val < j.val ∧ j.val ≤ i.val + 128) ∧ (0 < n.val ∨ 128 ≤ j.val) then 1#1 else 0#1 := by
  pointwise [val_main_v101, val_main_v100, val_main_v99, val_main_v98, val_main_v97, val_main_v96, val_main_v95, val_main_v94, val_main_v93,
    val_main_v92, val_main_v91, val_main_v90, val_main_v89, val_main_v88, val_main_v87, val_main_v86, val_main_v85, val_main_v84, val_main_v83,
    val_main_v82, val_main_v81, val_main_v80, val_main_v79, val_main_v78, val_main_v77, val_main_v76, val_main_v75, val_main_c_7, val_main_c_8,
    val_main_c_9]
  have hi := i.isLt; have hj := j.isLt; have hn := n.isLt
  have e1 : IntOp.cmpi .sgt (BitVec.ofNat 32 j.val) (BitVec.ofNat 32 i.val) = if i.val < j.val then 1#1 else 0#1 := by
    refine word_eq ?_
    rw [IntOp.cmpi_sgt, toInt_small _ (by omega), toInt_small _ (by omega)]; omega
  have e2 : IntOp.cmpi .sle (BitVec.ofNat 32 j.val) (IntOp.addi (BitVec.ofNat 32 i.val) 128#32) = if j.val ≤ i.val + 128 then 1#1 else 0#1 := by
    refine word_eq ?_
    rw [show IntOp.addi (BitVec.ofNat 32 i.val) 128#32 = BitVec.ofNat 32 (i.val + 128) by rw [BitVec.ofNat_add]; rfl, IntOp.cmpi_sle,
      toInt_small _ (by omega), toInt_small _ (by omega)]; omega
  have e3 : IntOp.cmpi .sgt (BitVec.ofNat 32 n.val) 0#32 = if 0 < n.val then 1#1 else 0#1 := by
    refine word_eq ?_
    rw [IntOp.cmpi_sgt, toInt_small n.val (by omega), toInt_small 0 (by omega)]; omega
  have e4 : IntOp.cmpi .sge (BitVec.ofNat 32 j.val) 128#32 = if 128 ≤ j.val then 1#1 else 0#1 := by
    refine word_eq ?_
    rw [IntOp.cmpi_sge, toInt_small j.val (by omega), toInt_small 128 (by omega)]; omega
  rw [e1, e2, e3, e4]
  by_cases h1 : i.val < j.val <;> by_cases h2 : j.val ≤ i.val + 128 <;> by_cases h3 : 0 < n.val <;> by_cases h4 : 128 ≤ j.val <;>
    simp only [h1, h2, h3, h4, if_true, if_false, and_true, and_false, or_true, or_false, true_and, false_and, true_or, false_or] <;> decide

theorem score_at (b : Fin 8) (n : Fin 64) (kv : Fin 2) (g : Fin 4) (i : Fin 128) (j : Fin 256) :
    val_main_v103 (F := Ideal) x0 x1 x2 x3 x4 x5 (ix6 b n kv g i j)
      = if (i.val < j.val ∧ j.val ≤ i.val + 128) ∧ (0 < n.val ∨ 128 ≤ j.val) then
          (∑ d, val_main_v67 (F := Ideal) x1 x2 x3 x5 (ix5 b n j kv d) * val_main_v62 (F := Ideal) x0 x2 x3 x4 (ix6 b n i kv g d)) * ((1 / 8 : ℝ) : EReal)
        else ⊥ := by
  have h := mask_word n i j
  revert h
  generalize hw : val_main_v101 (F := Ideal) = w
  intro h
  pointwise [val_main_v103, val_main_v74, val_main_v73, val_main_v72, val_main_v71, val_main_call2_v0, val_main_call2_v1, val_main_call2_v2, val_main_v102, val_main_cst_6,
    val_main_cst_10]
  rw [hw, h, eighth]
  generalize (∑ d, val_main_v67 (F := Ideal) x1 x2 x3 x5 (ix5 b n j kv d) * val_main_v62 (F := Ideal) x0 x2 x3 x4 (ix6 b n i kv g d)) = z
  by_cases hp : (i.val < j.val ∧ j.val ≤ i.val + 128) ∧ (0 < n.val ∨ 128 ≤ j.val)
  · rw [if_pos hp, if_pos hp]; rfl
  · rw [if_neg hp, if_neg hp]; exact lowest

/-- The scores of a query are the masked band of its own window's and the window's before. -/
theorem scores_band (b : Fin 8) (n : Fin 64) (kv : Fin 2) (g : Fin 4) (i : Fin 128) :
    ∃ prev : Fin 128 → EReal, (0 < n.val → prev = fun j => scoreOf (fQ x0) (fKV x1) (fA x2) (fA x3) (fG x4) (fG x5) (tok (win b n) i) (tok (prior (win b n)) j) kv g) ∧
      (fun j : Fin 256 => (val_main_v103 (F := Ideal) x0 x1 x2 x3 x4 x5 (ix6 b n kv g i j) : EReal))
        = band (0 < n.val) i.val prev (fun j => scoreOf (fQ x0) (fKV x1) (fA x2) (fA x3) (fG x4) (fG x5) (tok (win b n) i) (tok (win b n) j) kv g) := by
  refine ⟨fun j => scoreOf (fQ x0) (fKV x1) (fA x2) (fA x3) (fG x4) (fG x5) (tok (win b n) i) (tok (prior (win b n)) j) kv g, fun _ => rfl, ?_⟩
  funext j
  rw [score_at]
  simp only [keys_joined, query_at, joined, key_at]
  unfold band
  by_cases hj : j.val < 128
  · simp only [dif_pos hj]
    by_cases hn : 0 < n.val
    · have hp : tok (win b ⟨n.val - 1, by omega⟩) ⟨j.val, hj⟩ = tok (prior (win b n)) ⟨j.val, hj⟩ := Fin.ext (by simp; omega)
      by_cases hi : i.val < j.val
      · rw [if_pos ⟨⟨hi, by omega⟩, .inl hn⟩, if_pos ⟨hi, hn⟩]
        simp only [if_pos (show 1 ≤ n.val from hn), hp]
        rfl
      · rw [if_neg (fun h => hi h.1.1), if_neg (fun h => hi h.1)]
    · rw [if_neg (fun h => h.2.elim hn (by omega)), if_neg (fun h => hn h.2)]
  · simp only [dif_neg hj]
    by_cases hi : j.val - 128 ≤ i.val
    · rw [if_pos ⟨⟨by omega, by omega⟩, .inr (by omega)⟩, if_pos hi]
      rfl
    · rw [if_neg (fun h => hi (by omega)), if_neg hi]

/-! ### The largest score and the mass -/

theorem along (h : S8x64x2x4x128x256.Reduces [5] S8x64x2x4x128) (b : Fin 8) (n : Fin 64) (kv : Fin 2) (g : Fin 4) (i : Fin 128) (j : Fin 256) :
    h.lift (ix5 b n kv g i) j = ix6 b n kv g i j := by
  funext a
  match a with
  | ⟨0, _⟩ => rfl
  | ⟨1, _⟩ => rfl
  | ⟨2, _⟩ => rfl
  | ⟨3, _⟩ => rfl
  | ⟨4, _⟩ => rfl
  | ⟨5, _⟩ => rfl

theorem reduces : S8x64x2x4x128x256.Reduces [5] S8x64x2x4x128 := by decide

theorem largest_at (b : Fin 8) (n : Fin 64) (kv : Fin 2) (g : Fin 4) (i : Fin 128) :
    val_main_v106 (F := Ideal) x0 x1 x2 x3 x4 x5 (ix5 b n kv g i)
      = Finset.univ.fold max (⊥ : EReal) fun j : Fin 256 => val_main_v103 (F := Ideal) x0 x1 x2 x3 x4 x5 (ix6 b n kv g i j) := by
  unfold val_main_v106
  generalize val_main_v103 (F := Ideal) x0 x1 x2 x3 x4 x5 = y
  refine (Host.reduce_eq_fold_single _ _ _ _ reduces _ _).trans ?_
  show Finset.univ.fold max (Ideal.ofBits .f32 0xFF800000#32) _ = _
  rw [lowest]
  congr 1
  funext j
  exact congrArg y (along _ b n kv g i j)

theorem sum_at (y : Vec Ideal S8x64x2x4x128x256 .f32) (b : Fin 8) (n : Fin 64) (kv : Fin 2) (g : Fin 4) (i : Fin 128) :
    Ideal.hostReduceAdd reducesTo_S8x64x2x4x128x256_S8x64x2x4x128_d5 y (0 : EReal) (ix5 b n kv g i) = ∑ j : Fin 256, y (ix6 b n kv g i j) := by
  rw [Ideal.hostReduceAdd_single _ reduces, zero_add]
  exact Finset.sum_congr rfl fun j _ => congrArg y (along _ b n kv g i j)

theorem peak_of  (b : Fin 8) (n : Fin 64) (kv : Fin 2) (g : Fin 4) (i : Fin 128) (z : Fin 1)  (f : EReal)  (h : val_main_v106 (F := Ideal) x0 x1 x2 x3 x4 x5 (ix5 b n kv g i) = f):
    (val_main_v109 (F := Ideal) x0 x1 x2 x3 x4 x5 x6) (ix6 b n kv g i z) = max f (fK x6 (headNo kv g)) := by
  rw [val_main_v109_apply, val_main_v107_apply, val_main_v108_apply, val_main_v105_apply, val_main_v104_apply]
  revert h
  generalize val_main_v106 (F := Ideal) x0 x1 x2 x3 x4 x5 = y
  intro h
  have e : idx_main_v107 (ix6 b n kv g i z) = ix5 b n kv g i := by
    funext a
    match a with
    | ⟨0, _⟩ => rfl
    | ⟨1, _⟩ => rfl
    | ⟨2, _⟩ => rfl
    | ⟨3, _⟩ => rfl
    | ⟨4, _⟩ => rfl
  rw [e, h]
  have e' : idx_main_v104 (idx_main_v105 (idx_main_v108 (ix6 b n kv g i z))) = ix1 (headNo kv g) := by
    funext a
    match a with
    | ⟨0, _⟩ => exact Fin.ext (by show kv.val * 4 + g.val = 4 * kv.val + g.val; omega)
  rw [e']
  rfl

theorem peak_at (b : Fin 8) (n : Fin 64) (kv : Fin 2) (g : Fin 4) (i : Fin 128) (z : Fin 1) :
    val_main_v109 (F := Ideal) x0 x1 x2 x3 x4 x5 x6 (ix6 b n kv g i z)
      = peak (fun j : Fin 256 => val_main_v103 (F := Ideal) x0 x1 x2 x3 x4 x5 (ix6 b n kv g i j)) (fK x6 (headNo kv g)) :=
  peak_of x0 x1 x2 x3 x4 x5 x6 b n kv g i z _ (largest_at x0 x1 x2 x3 x4 x5 b n kv g i)

theorem exp_at (b : Fin 8) (n : Fin 64) (kv : Fin 2) (g : Fin 4) (i : Fin 128) (j : Fin 256) :
    val_main_v112 (F := Ideal) x0 x1 x2 x3 x4 x5 x6 (ix6 b n kv g i j)
      = Ideal.exp (val_main_v103 (F := Ideal) x0 x1 x2 x3 x4 x5 (ix6 b n kv g i j)
          - peak (fun j : Fin 256 => val_main_v103 (F := Ideal) x0 x1 x2 x3 x4 x5 (ix6 b n kv g i j)) (fK x6 (headNo kv g))) := by
  have h := peak_at x0 x1 x2 x3 x4 x5 x6 b n kv g i 0
  pointwise [val_main_v112, val_main_v111, val_main_v110]
  rw [← h]

theorem mass_at (b : Fin 8) (n : Fin 64) (kv : Fin 2) (g : Fin 4) (i : Fin 128) (z : Fin 1) :
    val_main_v118 (F := Ideal) x0 x1 x2 x3 x4 x5 x6 (ix6 b n kv g i z)
      = mass (fun j : Fin 256 => val_main_v103 (F := Ideal) x0 x1 x2 x3 x4 x5 (ix6 b n kv g i j)) (fK x6 (headNo kv g)) := by
  have e : val_main_v113 (F := Ideal) x0 x1 x2 x3 x4 x5 x6 (ix5 b n kv g i)
      = ∑ j : Fin 256, val_main_v112 (F := Ideal) x0 x1 x2 x3 x4 x5 x6 (ix6 b n kv g i j) := by
    rw [← sum_at]
    unfold val_main_v113
    refine congrArg (fun z => Ideal.hostReduceAdd _ _ z _) ?_
    show Ideal.ofBits .f32 0x00000000#32 = 0
    simp [Ideal.ofBits, Ideal.ieee]
  simp only [exp_at] at e
  unfold mass
  rw [← e]
  have h := peak_at x0 x1 x2 x3 x4 x5 x6 b n kv g i 0
  obtain rfl : z = 0 := Subsingleton.elim _ _
  pointwise [val_main_v118, val_main_v117, val_main_v116, val_main_v115, val_main_v114, val_main_v105, val_main_v104]
  rw [← h]
  rw [show (⟨kv.val * 4 + g.val, by omega⟩ : Fin 8) = headNo kv g from Fin.ext (by show kv.val * 4 + g.val = 4 * kv.val + g.val; omega)]

/-! ### The result -/

theorem weight_at (b : Fin 8) (n : Fin 64) (kv : Fin 2) (g : Fin 4) (i : Fin 128) (j : Fin 256) :
    val_main_v120 (F := Ideal) x0 x1 x2 x3 x4 x5 x6 (ix6 b n kv g i j)
      = Ideal.div (val_main_v112 (F := Ideal) x0 x1 x2 x3 x4 x5 x6 (ix6 b n kv g i j)) (val_main_v118 (F := Ideal) x0 x1 x2 x3 x4 x5 x6 (ix6 b n kv g i 0)) := by
  pointwise [val_main_v120, val_main_v119]

theorem result_band (b : Fin 8) (n : Fin 64) (kv : Fin 2) (g : Fin 4) (i : Fin 128) (d : Fin 64) :
    val_main_v122 (F := Ideal) x0 x1 x2 x3 x4 x5 x6 (ix6 b n i kv g d)
      = fromBand (fun j : Fin 256 => val_main_v103 (F := Ideal) x0 x1 x2 x3 x4 x5 (ix6 b n kv g i j)) (fK x6 (headNo kv g))
          (fun j => val_main_v70 (F := Ideal) x1 (ix5 b n j kv d)) := by
  unfold fromBand
  simp only [← exp_at, ← mass_at x0 x1 x2 x3 x4 x5 x6 b n kv g i 0]
  pointwise [val_main_v122, val_main_v121]
  simp only [weight_at, exp_at]

theorem result_at (hQ : ∀ n l, Fin' (fQ x0 n l)) (hK : ∀ n kv d, Fin' (fKV x1 n (kcol kv d))) (hC : ∀ n d, Fin' (fA x2 n d)) (hS : ∀ n d, Fin' (fA x3 n d))
    (hq : ∀ d, Fin' (fG x4 d)) (hk : ∀ d, Fin' (fG x5 d)) (hs : ∀ h, Fin' (fK x6 h)) (b : Fin 8) (n : Fin 64) (kv : Fin 2) (g : Fin 4) (i : Fin 128)
    (d : Fin 64) : val_main_v122 (F := Ideal) x0 x1 x2 x3 x4 x5 x6 (ix6 b n i kv g d)
      = answer (fQ x0) (fKV x1) (fA x2) (fA x3) (fG x4) (fG x5) (fK x6) (win b n) i kv g d := by
  obtain ⟨prev, hprev, e⟩ := scores_band x0 x1 x2 x3 x4 x5 b n kv g i
  rw [result_band, e]
  unfold answer
  have hw : 0 < (win b n).val % 64 ↔ 0 < n.val := by simp; omega
  rw [fold128_congr hw]
  refine fromBand_eq (0 < n.val) i.val _ _ prev _ _ (fun j => (val_main_v70 (F := Ideal) x1 (ix5 b n ⟨j.val, by omega⟩ kv d) : EReal)) _ _ ?_ ?_ ?_ ?_ (hs _)
  · intro j
    rw [values_joined]
    simp only [joined, value_at, show ¬ 128 + j.val < 128 by omega, dite_false]
    congr 2
    exact Fin.ext (by simp)
  · intro j; rfl
  · intro hn
    refine ⟨hprev hn, ?_⟩
    funext j
    rw [values_joined]
    simp only [joined, value_at, j.isLt, dite_true, if_pos (show 1 ≤ n.val from hn)]
    congr 1
    exact Fin.ext (by simp; omega)
  · intro j
    have hf := fun n r => scoreOf_fin (fQ x0) (fKV x1) (fA x2) (fA x3) (fG x4) (fG x5) hQ hK hC hS hq hk n r kv g
    unfold fold128
    split
    · exact (hf _ _).ne_top
    · split
      · exact (hf _ _).ne_top
      · exact bot_ne_top

/-- The result array of the reference. -/
theorem result_eq (hQ : ∀ n l, Fin' (fQ x0 n l)) (hK : ∀ n kv d, Fin' (fKV x1 n (kcol kv d))) (hC : ∀ n d, Fin' (fA x2 n d)) (hS : ∀ n d, Fin' (fA x3 n d))
    (hq : ∀ d, Fin' (fG x4 d)) (hk : ∀ d, Fin' (fG x5 d)) (hs : ∀ h, Fin' (fK x6 h)) (n : Fin 65536) (l : Fin 512) :
    val_main_v124 (F := Ideal) x0 x1 x2 x3 x4 x5 x6 (ix2 n l)
      = answer (fQ x0) (fKV x1) (fA x2) (fA x3) (fG x4) (fG x5) (fK x6) ⟨n.val / 128, by omega⟩ ⟨n.val % 128, by omega⟩ ⟨l.val / 256, by omega⟩
          ⟨l.val / 64 % 4, by omega⟩ ⟨l.val % 64, by omega⟩ := by
  pointwise [val_main_v124, val_main_v123]
  rw [result_at x0 x1 x2 x3 x4 x5 x6 hQ hK hC hS hq hk hs]
  congr 1 <;> apply Fin.ext <;> simp <;> omega

end Cert.Proof.SwaReference

end
-- ==== Proof.Swa.Pre.lean ====
/- The attention call's precondition, read entry by entry: every value that enters a score is a real number. -/
module

public import proofs.«01_k».proof.Pre_finite
public import proofs.«01_k».proof.Proof.Swa.Spec
public import Idealize.ShloMosaic.Lib.ReduceAll
public import Idealize.ShloMosaic.Lib.Affine
public import Idealize.ShloMosaic.Lib.Pointwise
public import Idealize.ShloMosaic.Lib.KernelVsHost

@[expose] public section

noncomputable section

namespace Cert.Pre_finite.Gen

open Idealize.ShloMosaic Cert.Pre_finite

instance facts : Cert.Pre_finite.Facts where
  slices_S65536x256_S65536x128_0_0 := by decide
  bitsLt_bf16_f32 := by decide
  bcast_S_S65536x512 := by decide
  reducesTo_S65536x512_S_d0_1 := by decide
  h_S_ := by decide
  bcast_S_S65536x128 := by decide
  reducesTo_S65536x128_S_d0_1 := by decide
  bcast_S_S65536x8 := by decide
  reducesTo_S65536x8_S_d0_1 := by decide
  bcast_S_S64 := by decide
  reducesTo_S64_S_d0 := by decide
  bcast_S_S8 := by decide
  reducesTo_S8_S_d0 := by decide

end Cert.Pre_finite.Gen

namespace Cert.Proof.Attention

open Idealize.ShloMosaic Cert.Pre_finite Cert.Pre_finite.Facts

/-- An absolute value below the infinity's word is a real number's. -/
theorem fin_of_word (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A conjunction over a whole array that comes out true: each entry's absolute value is below the infinity. -/
theorem fin_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : Fin' (x i) := by
  have : Subsingleton S_.Idx := ⟨fun a b => funext fun k => k.elim0⟩
  refine fin_of_word _ ?_
  exact Host.reduce_andi_all _ _ h hu j e i

/-- The seven conditions apart. -/
theorem entries {x0 : FVec Ideal S65536x512 .bf16} {x1 : FVec Ideal S65536x256 .bf16} {x2 x3 : FVec Ideal S65536x8 .f32} {x4 x5 : FVec Ideal S64 .f32}
    {x6 : FVec Ideal S8 .f32} (h : Cert.Pre_finite.fn (F := Ideal) x0 x1 x2 x3 x4 x5 x6 = fun _ => 1#1) :
    (∀ n l, Fin' (x0 (ix2 n l))) ∧ (∀ n kv d, Fin' (x1 (ix2 n (kcol kv d)))) ∧ (∀ n l, Fin' (x2 (ix2 n l))) ∧ (∀ n l, Fin' (x3 (ix2 n l)))
      ∧ (∀ d, Fin' (x4 (ix1 d))) ∧ (∀ d, Fin' (x5 (ix1 d))) ∧ ∀ d, Fin' (x6 (ix1 d)) := by
  have h0 := congrFun h ix0
  unfold fn fn_part1 fn_part2 at h0
  dsimp only at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  refine ⟨fun n l => fin_of_all _ _ _ _ _ e0 (ix2 n l), fun n kv d => ?_, fun n l => fin_of_all _ _ _ _ _ e2 (ix2 n l),
    fun n l => fin_of_all _ _ _ _ _ e3 (ix2 n l), fun d => fin_of_all _ _ _ _ _ e4 (ix1 d), fun d => fin_of_all _ _ _ _ _ e5 (ix1 d),
    fun d => fin_of_all _ _ _ _ _ e6 (ix1 d)⟩
  have := fin_of_all _ _ _ _ _ e1 (ix2 n ⟨64 * kv.val + d.val, by omega⟩)
  pointwise at this
  exact this

end Cert.Proof.Attention

end
-- ==== Proof.Swa.Claim.lean ====
/- The attention's value claim: the kernel's array and the reference's are the same function of the arguments. -/
module

public import proofs.«01_k».proof.Defs
public import proofs.«01_k».proof.Proof.Swa.Result
public import proofs.«01_k».proof.Proof.Swa.RefBand
public import proofs.«01_k».proof.Proof.Swa.Pre

@[expose] public section

set_option maxRecDepth 16384

noncomputable section

namespace Cert.Proof

open Idealize.ShloMosaic Idealize.SL.Sem Idealize.ShloMosaic.TcCoe Cert.Proof.Attention

section
open Cert.SwaIdeal Cert.SwaIdeal.Gen

/-- What the kernel's run leaves. -/
theorem swa_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18) = SwaKernel.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.SwaIdeal.Value.run_blocks m g)
  obtain ⟨h0, hk⟩ := h c
  exact ⟨h0.trans (SwaKernel.final m c), hk⟩

end

section
open Cert.SwaRefIdeal Cert.SwaRefIdeal.Gen Cert.SwaRefIdeal.Read

/-- What the reference's run leaves. -/
theorem swa_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v124) = val_main_v124 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.SwaRefIdeal.Value.run m g)
  obtain ⟨h0, hk⟩ := h c
  exact ⟨h0.trans (val_main_v124_eq (Idealize.ShloMosaic.StableHlo.launchContents m c)), hk⟩

end

section
open Cert.SwaRefIdeal Cert.SwaRefIdeal.Gen Cert.SwaRefIdeal.Read

variable (m : (ℓ : Loc Cert.SwaIdeal.nD Cert.SwaIdeal.τ Cert.SwaIdeal.sig) → Buf (Elt Ideal) ℓ) (c : Dev Cert.SwaIdeal.nD)

/-- The kernel's arguments, as the reference's. -/
abbrev s0 : Vec Ideal S65536x512 .bf16 := m ((c.tc : Thread Cert.SwaIdeal.nD Cert.SwaIdeal.τ).loc Cert.SwaIdeal.main_arg0)
abbrev s1 : Vec Ideal S65536x256 .bf16 := m ((c.tc : Thread Cert.SwaIdeal.nD Cert.SwaIdeal.τ).loc Cert.SwaIdeal.main_arg1)
abbrev s2 : Vec Ideal S65536x8 .f32 := m ((c.tc : Thread Cert.SwaIdeal.nD Cert.SwaIdeal.τ).loc Cert.SwaIdeal.main_arg2)
abbrev s3 : Vec Ideal S65536x8 .f32 := m ((c.tc : Thread Cert.SwaIdeal.nD Cert.SwaIdeal.τ).loc Cert.SwaIdeal.main_arg3)
abbrev s4 : Vec Ideal S64 .f32 := m ((c.tc : Thread Cert.SwaIdeal.nD Cert.SwaIdeal.τ).loc Cert.SwaIdeal.main_arg4)
abbrev s5 : Vec Ideal S64 .f32 := m ((c.tc : Thread Cert.SwaIdeal.nD Cert.SwaIdeal.τ).loc Cert.SwaIdeal.main_arg5)
abbrev s6 : Vec Ideal S8 .f32 := m ((c.tc : Thread Cert.SwaIdeal.nD Cert.SwaIdeal.τ).loc Cert.SwaIdeal.main_arg6)

theorem swa_same (hp : Cert.Pre_finite.fn (F := Ideal) (s0 m c) (s1 m c) (s2 m c) (s3 m c) (s4 m c) (s5 m c) (s6 m c) = fun _ => 1#1)
    (x0 : Vec Ideal S65536x512 .bf16) (x1 : Vec Ideal S65536x256 .bf16) (x2 x3 : Vec Ideal S65536x8 .f32) (x4 x5 : Vec Ideal S64 .f32)
    (x6 : Vec Ideal S8 .f32) (e0 : x0 = s0 m c) (e1 : x1 = s1 m c) (e2 : x2 = s2 m c) (e3 : x3 = s3 m c) (e4 : x4 = s4 m c) (e5 : x5 = s5 m c)
    (e6 : x6 = s6 m c) : val_main_v124 (F := Ideal) x0 x1 x2 x3 x4 x5 x6 = SwaKernel.result m c := by
  subst e0 e1 e2 e3 e4 e5 e6
  obtain ⟨h0, h1, h2, h3, h4, h5, h6⟩ := entries hp
  funext y
  obtain ⟨n, l, rfl⟩ : ∃ (n : Fin 65536) (l : Fin 512), y = ix2 n l :=
    ⟨y 0, y 1, by funext k; match k with | ⟨0, _⟩ => rfl | ⟨1, _⟩ => rfl⟩
  exact SwaReference.result_eq _ _ _ _ _ _ _ h0 h1 h2 h3 h4 h5 h6 n l

end

theorem algebraic_swa : Cert.algebraic_SwaIdeal_SwaRefIdeal_pre_finite := by
  intro m g m' g' hp hm
  refine ⟨fun c => SwaKernel.result m c, swa_kernel m g, ?_⟩
  refine (θ_run Cert.SwaRefIdeal.defs _ _).mono (fun r h c => ?_) (swa_reference m' g')
  obtain ⟨h0, hk⟩ := h c
  obtain ⟨e0, e1, e2, e3, e4, e5, e6⟩ := hm c
  exact ⟨h0.trans (swa_same m c (hp c) _ _ _ _ _ _ _ e0 e1 e2 e3 e4 e5 e6), hk⟩

end Cert.Proof

end
-- ==== Proof.Premix.Spec.lean ====
/- The projection that opens a layer, written once over the extended reals: the normed and modulated row, its products with
   the weight's columns, and what is made of them. -/
module

public import Idealize.ShloMosaic.Lib.Pointwise

@[expose] public section

noncomputable section

namespace Cert.Proof.Projection

open Idealize.ShloMosaic

/-- A row normed by its root mean square, times the gain, scaled and shifted. -/
def hidden (x g sc sh : Fin 1024 → EReal) (k : Fin 1024) : EReal :=
  x k * Ideal.rsqrt (Ideal.div (∑ l, x l * x l) (Ideal.ofBits .f32 0x44800000#32) + Ideal.ofBits .f32 0x358637BD#32) * g k * (1 + sc k) + sh k

/-- The logarithm of the logistic function, over 16. -/
def logSig (z : EReal) : EReal :=
  (min z 0 - Ideal.log1p (Ideal.exp (0 - max z (-z)))) * Ideal.ofBits .f32 0x3D800000#32

section
variable (X : Fin 65536 → Fin 1024 → EReal) (G : Fin 1024 → EReal) (SC SH : Fin 8 → Fin 1024 → EReal)
  (W : Fin 1024 → Fin 4368 → EReal) (A : Fin 16 → Fin 256 → EReal) (B : Fin 256 → EReal)

/-- The sequence of a token. -/
abbrev seqOf (n : Fin 65536) : Fin 8 := ⟨n.val / 8192, by omega⟩

/-- Token `n`'s product with column `j` of the weight. -/
def proj (n : Fin 65536) (j : Fin 4368) : EReal := ∑ k, hidden (X n) G (SC (seqOf n)) (SH (seqOf n)) k * W k j

/-- The decay's argument: the product of the low rank with the second weight, and the bias. -/
def decay (n : Fin 65536) (j : Fin 256) : EReal := ∑ r : Fin 16, proj X G SC SH W n ⟨1024 + r.val, by omega⟩ * A r j + B j

end

/-- A sum over 128 lanes whose lanes past the first 16 are zero is a sum over 16. -/
theorem sum_low (f : Fin 128 → EReal) (h : ∀ r, 16 ≤ r.val → f r = 0) : ∑ r, f r = ∑ r : Fin 16, f ⟨r.val, by omega⟩ := by
  rw [Fin.sum_univ_add (a := 16) (b := 112) f]
  rw [Finset.sum_eq_zero (s := Finset.univ) (f := fun i : Fin 112 => f (Fin.natAdd 16 i)) (fun i _ => h _ (by simp)), add_zero]
  rfl

end Cert.Proof.Projection

end
-- ==== Proof.Premix.Block.lean ====
/- One step of the projection's call: every output block, entry by entry, from the step's input blocks. -/
module

public import proofs.«01_k».proof.Proof.Gen.PremixIdeal.Value
public import proofs.«01_k».proof.Proof.Premix.Spec

@[expose] public section

set_option maxRecDepth 16384

noncomputable section

namespace Cert.Proof.PremixKernel

open Cert.PremixIdeal Cert.PremixIdeal.Gen Idealize.ShloMosaic Idealize.ShloMosaic.TcCoe Cert.Proof.Projection

variable (x0 : Vec Ideal S512x1024 .f32) (x1 : Vec Ideal S1x1024 .f32) (x2 x3 : Vec Ideal S1x1x1024 .f32) (x4 : Vec Ideal S1024x4480 .bf16)
  (x5 : Vec Ideal S128x256 .bf16) (x6 : Vec Ideal S1x256 .f32)

/-- Row `r` of the step's block, normed and modulated. -/
def row (r : Fin 512) (k : Fin 1024) : EReal :=
  hidden (fun l => x0 (ix2 r l)) (fun l => x1 (ix2 0 l)) (fun l => x2 (ix3 0 0 l)) (fun l => x3 (ix3 0 0 l)) k

/-- Its product with column `j` of the packed weight. -/
def prod (r : Fin 512) (j : Fin 4480) : EReal := ∑ k, row x0 x1 x2 x3 r k * x4 (ix2 k j)

/-- Its decay's argument, over the 128 padded lanes. -/
def gate (r : Fin 512) (j : Fin 256) : EReal := ∑ l : Fin 128, prod x0 x1 x2 x3 x4 r ⟨4352 + l.val, by omega⟩ * x5 (ix2 l j) + x6 (ix2 0 j)

theorem row_eq (r : Fin 512) (k : Fin 1024) : k0_pay15 x0 x1 x2 x3 x4 x5 x6 (ix2 r k) = row x0 x1 x2 x3 r k := by
  pointwise [k0_pay15, k0_pay2]
  rfl

theorem idx2 {a b : ℕ} (x : Shape.Idx ⟨2, ![a, b]⟩) : ∃ (r : Fin a) (j : Fin b), x = ix2 r j :=
  ⟨x 0, x 1, by funext k; match k with | ⟨0, _⟩ => rfl | ⟨1, _⟩ => rfl⟩

/-! ### What the stores leave -/

theorem canon256 {e : EltTy} (f : Vec Ideal S512x256 e) (r : Fin 512) (j : Fin 256) :
    View.canon (Val := Elt Ideal) (s := S512x256) (e := e) [⟨r0_4, f⟩] (ix2 r j) = f (ix2 r j) := by
  have h : r0_4.emb (ix2 r j) = ix2 r j := by
    funext k; match k with | ⟨0, _⟩ => exact Fin.ext (by simp [r0_4]) | ⟨1, _⟩ => exact Fin.ext (by simp [r0_4])
  exact (congrArg _ h.symm).trans (View.canon_cons_emb _ _ _ _)

theorem canon512 {e : EltTy} (f : Vec Ideal S512x512 e) (r : Fin 512) (j : Fin 512) :
    View.canon (Val := Elt Ideal) (s := S512x512) (e := e) [⟨r0_7, f⟩] (ix2 r j) = f (ix2 r j) := by
  have h : r0_7.emb (ix2 r j) = ix2 r j := by
    funext k; match k with | ⟨0, _⟩ => exact Fin.ext (by simp [r0_7]) | ⟨1, _⟩ => exact Fin.ext (by simp [r0_7])
  exact (congrArg _ h.symm).trans (View.canon_cons_emb _ _ _ _)

theorem out7 (r : Fin 512) (j : Fin 256) :
    out0_7 x0 x1 x2 x3 x4 x5 x6 (ix2 r j) = prod x0 x1 x2 x3 x4 r ⟨j.val, by omega⟩ * Ideal.ofBits .f32 0x3E000000#32 := by
  unfold out0_7
  refine (canon256 _ r j).trans ?_
  have h := row_eq x0 x1 x2 x3 x4 x5 x6 r
  unfold k0_pay15 at h
  pointwise [k0_pay3]
  simp only [h, prod]

theorem out8 (r : Fin 512) (j : Fin 256) : out0_8 x0 x1 x2 x3 x4 x5 x6 (ix2 r j) = prod x0 x1 x2 x3 x4 r ⟨256 + j.val, by omega⟩ := by
  unfold out0_8
  refine (canon256 _ r j).trans ?_
  pointwise [k0_pay5, k0_pay4]
  simp only [row_eq, prod]

theorem out9 (r : Fin 512) (j : Fin 512) : out0_9 x0 x1 x2 x3 x4 x5 x6 (ix2 r j) = prod x0 x1 x2 x3 x4 r ⟨512 + j.val, by omega⟩ := by
  unfold out0_9
  refine (canon512 _ r j).trans ?_
  pointwise [k0_pay6]
  simp only [row_eq, prod]

theorem out10 (r : Fin 512) (j : Fin 256) : out0_10 x0 x1 x2 x3 x4 x5 x6 (ix2 r j) = logSig (gate x0 x1 x2 x3 x4 x5 x6 r j) := by
  unfold out0_10
  refine (canon256 _ r j).trans ?_
  pointwise [k0_pay1, k0_pay14]
  simp only [row_eq]
  rfl

theorem out11 (r : Fin 512) (j : Fin 512) : out0_11 x0 x1 x2 x3 x4 x5 x6 (ix2 r j)
    = prod x0 x1 x2 x3 x4 r ⟨1024 + j.val, by omega⟩ * Ideal.logistic (prod x0 x1 x2 x3 x4 r ⟨1024 + j.val, by omega⟩) := by
  unfold out0_11
  refine (canon512 _ r j).trans ?_
  pointwise [k0_pay7]
  simp only [row_eq, prod]

theorem out12 (r : Fin 512) (j : Fin 512) : out0_12 x0 x1 x2 x3 x4 x5 x6 (ix2 r j) = prod x0 x1 x2 x3 x4 r ⟨1536 + j.val, by omega⟩ := by
  unfold out0_12
  refine (canon512 _ r j).trans ?_
  pointwise [k0_pay8]
  simp only [row_eq, prod]

theorem out13 (r : Fin 512) (j : Fin 256) : out0_13 x0 x1 x2 x3 x4 x5 x6 (ix2 r j) = prod x0 x1 x2 x3 x4 r ⟨2048 + j.val, by omega⟩ := by
  unfold out0_13
  refine (canon256 _ r j).trans ?_
  pointwise [k0_pay9]
  simp only [row_eq, prod]

theorem left_emb (r j : Fin 512) : r0_12.emb (ix2 r j) = ix2 r (⟨j.val, by omega⟩ : Fin 1024) := by
  funext k; match k with | ⟨0, _⟩ => exact Fin.ext (by simp [r0_12]) | ⟨1, _⟩ => exact Fin.ext (by simp [r0_12])

theorem right_emb (r j : Fin 512) : r0_15.emb (ix2 r j) = ix2 r (⟨512 + j.val, by omega⟩ : Fin 1024) := by
  funext k; match k with | ⟨0, _⟩ => exact Fin.ext (by simp [r0_15]) | ⟨1, _⟩ => exact Fin.ext (by simp [r0_15])

theorem left_part (f : Vec Ideal S512x512 .bf16) (G : S512x1024.Idx → EReal)
    (h : ∀ (r : Fin 512) (j : Fin 512), f (ix2 r j) = G (ix2 r (⟨j.val, by omega⟩ : Fin 1024))) (x : S512x512.Idx) : f x = G (r0_12.emb x) := by
  obtain ⟨r, j, rfl⟩ := idx2 x
  rw [left_emb, h]

theorem right_part (f : Vec Ideal S512x512 .bf16) (G : S512x1024.Idx → EReal)
    (h : ∀ (r : Fin 512) (j : Fin 512), f (ix2 r j) = G (ix2 r (⟨512 + j.val, by omega⟩ : Fin 1024))) (x : S512x512.Idx) : f x = G (r0_15.emb x) := by
  obtain ⟨r, j, rfl⟩ := idx2 x
  rw [right_emb, h]

/-- The logistic function of the packed weight's columns from `o` on. -/
def sigAt (o : ℕ) (ho : o + 1024 ≤ 4480) (y : S512x1024.Idx) : EReal :=
  Ideal.logistic (prod x0 x1 x2 x3 x4 (y 0) ⟨o + (y 1).val, by have : (y 1).val < 1024 := (y 1).isLt; omega⟩)

theorem out14 (r : Fin 512) (j : Fin 1024) : out0_14 x0 x1 x2 x3 x4 x5 x6 (ix2 r j) = Ideal.logistic (prod x0 x1 x2 x3 x4 r ⟨2304 + j.val, by omega⟩) := by
  refine (View.canon_apply_of_pieces (Val := Elt Ideal) (e := .bf16) (sigAt x0 x1 x2 x3 x4 2304 (by omega)) _ ?_ (ix2 r j) (cover0_14 _ _ _)).trans rfl
  simp only [List.forall_mem_cons]
  refine ⟨?_, ?_, by simp⟩
  · refine right_part _ _ fun r j => ?_
    pointwise [k0_pay12]
    simp only [row_eq]
    unfold sigAt prod
    congr! 6
    simp; omega
  · refine left_part _ _ fun r j => ?_
    pointwise [k0_pay10]
    simp only [row_eq]
    rfl

theorem out15 (r : Fin 512) (j : Fin 1024) : out0_15 x0 x1 x2 x3 x4 x5 x6 (ix2 r j) = Ideal.logistic (prod x0 x1 x2 x3 x4 r ⟨3328 + j.val, by omega⟩) := by
  refine (View.canon_apply_of_pieces (Val := Elt Ideal) (e := .bf16) (sigAt x0 x1 x2 x3 x4 3328 (by omega)) _ ?_ (ix2 r j) (cover0_15 _ _ _)).trans rfl
  simp only [List.forall_mem_cons]
  refine ⟨?_, ?_, by simp⟩
  · refine right_part _ _ fun r j => ?_
    pointwise [k0_pay13]
    simp only [row_eq]
    unfold sigAt prod
    congr! 6
    simp; omega
  · refine left_part _ _ fun r j => ?_
    pointwise [k0_pay11]
    simp only [row_eq]
    rfl

end Cert.Proof.PremixKernel

end
-- ==== Proof.Premix.Array.lean ====
/- The projection's arrays: the packed weights its host lines leave, the blocks of every step, and the nine result arrays. -/
module

public import proofs.«01_k».proof.Proof.Premix.Block

@[expose] public section

set_option maxRecDepth 16384

noncomputable section

namespace Cert.Proof.PremixKernel

open Cert.PremixIdeal Cert.PremixIdeal.Gen Idealize.ShloMosaic Idealize.ShloMosaic.TcCoe Cert.Proof.Projection

/-! ### The packed weights -/

/-- The weight's columns in the kernel's order, zero columns after. -/
def packed (w : Vec Ideal S1024x4368 .f32) : Vec Ideal S1024x4480 .bf16 :=
  let a : Vec Ideal S1024x4368 .bf16 := truncf (F := Ideal) .bf16 w bitsLt_bf16_f32
  concatenate S1024x4480 1 [⟨S1024x256, extractStridedSlice S1024x256 ![0, 0] a slices_S1024x4368_S1024x256_0_0⟩,
    ⟨S1024x256, extractStridedSlice S1024x256 ![0, 256] a slices_S1024x4368_S1024x256_0_256⟩,
    ⟨S1024x512, extractStridedSlice S1024x512 ![0, 512] a slices_S1024x4368_S1024x512_0_512⟩,
    ⟨S1024x512, extractStridedSlice S1024x512 ![0, 1040] a slices_S1024x4368_S1024x512_0_1040⟩,
    ⟨S1024x512, extractStridedSlice S1024x512 ![0, 1552] a slices_S1024x4368_S1024x512_0_1552⟩,
    ⟨S1024x128, extractStridedSlice S1024x128 ![0, 2064] a slices_S1024x4368_S1024x128_0_2064⟩,
    ⟨S1024x128, extractStridedSlice S1024x128 ![0, 2192] a slices_S1024x4368_S1024x128_0_2192⟩,
    ⟨S1024x1024, extractStridedSlice S1024x1024 ![0, 2320] a slices_S1024x4368_S1024x1024_0_2320⟩,
    ⟨S1024x1024, extractStridedSlice S1024x1024 ![0, 3344] a slices_S1024x4368_S1024x1024_0_3344⟩,
    ⟨S1024x16, extractStridedSlice S1024x16 ![0, 1024] a slices_S1024x4368_S1024x16_0_1024⟩,
    ⟨S1024x112, broadcastInDim S1024x112 ![] bcast_S_S1024x112 (constant (F := Ideal) S_ .bf16 0#16)⟩]
    concatenates_S1024x256_S1024x256_S1024x512_S1024x512_S1024x512_S1024x128_S1024x128_S1024x1024_S1024x1024_S1024x16_S1024x112_S1024x4480_d1

variable (w : Vec Ideal S1024x4368 .f32)

theorem packed_first (k : Fin 1024) (j : Fin 4480) (h : j.val < 1024) : packed w (ix2 k j) = w (ix2 k (⟨j.val, by omega⟩ : Fin 4368)) := by
  pointwise [packed]
  by_cases h1 : j.val < 256
  · rw [dif_pos h1]
  · rw [dif_neg h1]
    by_cases h2 : j.val - 256 < 256
    · rw [dif_pos h2]; exact congrArg (fun l => w (ix2 k l)) (Fin.ext (by simp; omega))
    · rw [dif_neg h2, dif_pos (by omega)]; exact congrArg (fun l => w (ix2 k l)) (Fin.ext (by simp; omega))

theorem packed_later (k : Fin 1024) (j : Fin 4480) (h : 1024 ≤ j.val) (h' : j.val < 4352) :
    packed w (ix2 k j) = w (ix2 k (⟨16 + j.val, by omega⟩ : Fin 4368)) := by
  pointwise [packed]
  rw [dif_neg (by omega), dif_neg (by omega), dif_neg (by omega)]
  by_cases h1 : j.val - 256 - 256 - 512 < 512
  · rw [dif_pos h1]; exact congrArg (fun l => w (ix2 k l)) (Fin.ext (by simp; omega))
  rw [dif_neg h1]
  by_cases h2 : j.val - 256 - 256 - 512 - 512 < 512
  · rw [dif_pos h2]; exact congrArg (fun l => w (ix2 k l)) (Fin.ext (by simp; omega))
  rw [dif_neg h2]
  by_cases h3 : j.val - 256 - 256 - 512 - 512 - 512 < 128
  · rw [dif_pos h3]; exact congrArg (fun l => w (ix2 k l)) (Fin.ext (by simp; omega))
  rw [dif_neg h3]
  by_cases h4 : j.val - 256 - 256 - 512 - 512 - 512 - 128 < 128
  · rw [dif_pos h4]; exact congrArg (fun l => w (ix2 k l)) (Fin.ext (by simp; omega))
  rw [dif_neg h4]
  by_cases h5 : j.val - 256 - 256 - 512 - 512 - 512 - 128 - 128 < 1024
  · rw [dif_pos h5]; exact congrArg (fun l => w (ix2 k l)) (Fin.ext (by simp; omega))
  rw [dif_neg h5, dif_pos (by omega)]
  exact congrArg (fun l => w (ix2 k l)) (Fin.ext (by simp; omega))

theorem packed_low (k : Fin 1024) (r : Fin 16) :
    packed w (ix2 k (⟨4352 + r.val, by omega⟩ : Fin 4480)) = w (ix2 k (⟨1024 + r.val, by omega⟩ : Fin 4368)) := by
  pointwise [packed]
  rw [dif_neg (by omega), dif_neg (by omega), dif_neg (by omega), dif_neg (by omega), dif_neg (by omega), dif_neg (by omega), dif_neg (by omega),
    dif_neg (by omega), dif_neg (by omega), dif_pos (by omega)]
  exact congrArg (fun l => w (ix2 k l)) (Fin.ext (by simp; omega))

variable (m : (ℓ : Loc nD τ sig) → Buf (Elt Ideal) ℓ) (c : Dev nD)

theorem V_packed : V m c main_v12 = packed (m ((c : Thread nD τ).loc main_arg4)) := by
  unfold_abbrev_sides
  after_results
  rfl

theorem V_second (k : Fin 128) (j : Fin 256) : (V m c main_v15 : Vec Ideal S128x256 .bf16) (ix2 k j)
    = if h : k.val < 16 then (m ((c : Thread nD τ).loc main_arg5) : Vec Ideal S16x256 .f32) (ix2 ⟨k.val, h⟩ j) else (0 : EReal) := by
  unfold_abbrev_sides
  after_results
  pointwise []

theorem V_gain (z : Fin 1) (j : Fin 1024) : (V m c main_v16 : Vec Ideal S1x1024 .f32) (ix2 z j)
    = (m ((c : Thread nD τ).loc main_arg1) : Vec Ideal S1024 .f32) (ix1 j) := by
  unfold_abbrev_sides
  after_results
  pointwise []

theorem V_bias (z : Fin 1) (j : Fin 256) : (V m c main_v17 : Vec Ideal S1x256 .f32) (ix2 z j)
    = (m ((c : Thread nD τ).loc main_arg6) : Vec Ideal S256 .f32) (ix1 j) := by
  unfold_abbrev_sides
  after_results
  pointwise []

/-! ### Which block each window is at -/

theorem at0 : ∀ t : Fin cfg0.N, win0_0.index t 0 = t.val ∧ win0_0.index t 1 = 0 :=
  (by decide +kernel : ∀ t : Fin grid0.N, win0_0.index t 0 = t.val ∧ win0_0.index t 1 = 0)

theorem at7 : ∀ t : Fin cfg0.N, win0_7.index t 0 = t.val ∧ win0_7.index t 1 = 0 :=
  (by decide +kernel : ∀ t : Fin grid0.N, win0_7.index t 0 = t.val ∧ win0_7.index t 1 = 0)

theorem at8 : ∀ t : Fin cfg0.N, win0_8.index t 0 = t.val ∧ win0_8.index t 1 = 0 :=
  (by decide +kernel : ∀ t : Fin grid0.N, win0_8.index t 0 = t.val ∧ win0_8.index t 1 = 0)

theorem at9 : ∀ t : Fin cfg0.N, win0_9.index t 0 = t.val ∧ win0_9.index t 1 = 0 :=
  (by decide +kernel : ∀ t : Fin grid0.N, win0_9.index t 0 = t.val ∧ win0_9.index t 1 = 0)

theorem at10 : ∀ t : Fin cfg0.N, win0_10.index t 0 = t.val ∧ win0_10.index t 1 = 0 :=
  (by decide +kernel : ∀ t : Fin grid0.N, win0_10.index t 0 = t.val ∧ win0_10.index t 1 = 0)

theorem at11 : ∀ t : Fin cfg0.N, win0_11.index t 0 = t.val ∧ win0_11.index t 1 = 0 :=
  (by decide +kernel : ∀ t : Fin grid0.N, win0_11.index t 0 = t.val ∧ win0_11.index t 1 = 0)

theorem at12 : ∀ t : Fin cfg0.N, win0_12.index t 0 = t.val ∧ win0_12.index t 1 = 0 :=
  (by decide +kernel : ∀ t : Fin grid0.N, win0_12.index t 0 = t.val ∧ win0_12.index t 1 = 0)

theorem at13 : ∀ t : Fin cfg0.N, win0_13.index t 0 = t.val ∧ win0_13.index t 1 = 0 :=
  (by decide +kernel : ∀ t : Fin grid0.N, win0_13.index t 0 = t.val ∧ win0_13.index t 1 = 0)

theorem at14 : ∀ t : Fin cfg0.N, win0_14.index t 0 = t.val ∧ win0_14.index t 1 = 0 :=
  (by decide +kernel : ∀ t : Fin grid0.N, win0_14.index t 0 = t.val ∧ win0_14.index t 1 = 0)

theorem at15 : ∀ t : Fin cfg0.N, win0_15.index t 0 = t.val ∧ win0_15.index t 1 = 0 :=
  (by decide +kernel : ∀ t : Fin grid0.N, win0_15.index t 0 = t.val ∧ win0_15.index t 1 = 0)

theorem at1 : ∀ t : Fin cfg0.N, win0_1.index t 0 = 0 ∧ win0_1.index t 1 = 0 :=
  (by decide +kernel : ∀ t : Fin grid0.N, win0_1.index t 0 = 0 ∧ win0_1.index t 1 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = 0 ∧ win0_5.index t 1 = 0 :=
  (by decide +kernel : ∀ t : Fin grid0.N, win0_5.index t 0 = 0 ∧ win0_5.index t 1 = 0)

theorem at6 : ∀ t : Fin cfg0.N, win0_6.index t 0 = 0 ∧ win0_6.index t 1 = 0 :=
  (by decide +kernel : ∀ t : Fin grid0.N, win0_6.index t 0 = 0 ∧ win0_6.index t 1 = 0)

theorem at2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

theorem at3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

theorem lt_points (t : Fin cfg0.N) : t.val < 128 := t.isLt

/-! ### What each window's block holds -/

theorem blk0 (t : Fin cfg0.N) (r : Fin 512) (k : Fin 1024) :
    (iblk m c 0 t : Vec Ideal S512x1024 .f32) (ix2 r k) = (m ((c : Thread nD τ).loc main_arg0) : Vec Ideal S65536x1024 .f32) (ix2 ⟨512 * t.val + r.val, by have := lt_points t; omega⟩ k) := by
  unfold iblk
  rw [View.read_apply]
  show V m c main_arg0 _ = _
  have hi := at0 t
  have ht := lt_points t
  rw [V_main_arg0]
  refine congrArg _ (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem blk2 (t : Fin cfg0.N) (k : Fin 1024) :
    (iblk m c 2 t : Vec Ideal S1x1x1024 .f32) (ix3 0 0 k) = (m ((c : Thread nD τ).loc main_arg2) : Vec Ideal S8x1x1024 .f32) (ix3 ⟨t.val / 16, by have := lt_points t; omega⟩ 0 k) := by
  unfold iblk
  rw [View.read_apply]
  show V m c main_arg2 _ = _
  have hi := at2 t
  have ht := lt_points t
  rw [V_main_arg2]
  refine congrArg _ (funext fun a => Fin.ext ?_)
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 1024 + 1 * k.val = k.val; rw [hi.2.2]; omega

theorem blk3 (t : Fin cfg0.N) (k : Fin 1024) :
    (iblk m c 3 t : Vec Ideal S1x1x1024 .f32) (ix3 0 0 k) = (m ((c : Thread nD τ).loc main_arg3) : Vec Ideal S8x1x1024 .f32) (ix3 ⟨t.val / 16, by have := lt_points t; omega⟩ 0 k) := by
  unfold iblk
  rw [View.read_apply]
  show V m c main_arg3 _ = _
  have hi := at3 t
  have ht := lt_points t
  rw [V_main_arg3]
  refine congrArg _ (funext fun a => Fin.ext ?_)
  match a with
  | ⟨0, _⟩ => show win0_3.index t 0 * 1 + 1 * 0 = t.val / 16; rw [hi.1]; omega
  | ⟨1, _⟩ => show win0_3.index t 1 * 1 + 1 * 0 = 0; rw [hi.2.1]
  | ⟨2, _⟩ => show win0_3.index t 2 * 1024 + 1 * k.val = k.val; rw [hi.2.2]; omega

theorem blk1 (t : Fin cfg0.N) (k : Fin 1024) :
    (iblk m c 1 t : Vec Ideal S1x1024 .f32) (ix2 0 k) = (V m c main_v16 : Vec Ideal S1x1024 .f32) (ix2 0 k) := by
  unfold iblk
  rw [View.read_apply]
  show V m c main_v16 _ = _
  have hi := at1 t
  have ht := lt_points t
  refine congrArg _ (funext fun a => Fin.ext ?_)
  match a with
  | ⟨0, _⟩ => show win0_1.index t 0 * 1 + 1 * 0 = 0; rw [hi.1]
  | ⟨1, _⟩ => show win0_1.index t 1 * 1024 + 1 * k.val = k.val; rw [hi.2]; omega

theorem blk4 (t : Fin cfg0.N) (k : Fin 1024) (j : Fin 4480) :
    (iblk m c 4 t : Vec Ideal S1024x4480 .bf16) (ix2 k j) = (V m c main_v12 : Vec Ideal S1024x4480 .bf16) (ix2 k j) := by
  unfold iblk
  rw [View.read_apply]
  show V m c main_v12 _ = _
  have hi := at4 t
  have ht := lt_points t
  refine congrArg _ (funext fun a => Fin.ext ?_)
  match a with
  | ⟨0, _⟩ => show win0_4.index t 0 * 1024 + 1 * k.val = k.val; rw [hi.1]; omega
  | ⟨1, _⟩ => show win0_4.index t 1 * 4480 + 1 * j.val = j.val; rw [hi.2]; omega

theorem blk5 (t : Fin cfg0.N) (k : Fin 128) (j : Fin 256) :
    (iblk m c 5 t : Vec Ideal S128x256 .bf16) (ix2 k j) = (V m c main_v15 : Vec Ideal S128x256 .bf16) (ix2 k j) := by
  unfold iblk
  rw [View.read_apply]
  show V m c main_v15 _ = _
  have hi := at5 t
  have ht := lt_points t
  refine congrArg _ (funext fun a => Fin.ext ?_)
  match a with
  | ⟨0, _⟩ => show win0_5.index t 0 * 128 + 1 * k.val = k.val; rw [hi.1]; omega
  | ⟨1, _⟩ => show win0_5.index t 1 * 256 + 1 * j.val = j.val; rw [hi.2]; omega

theorem blk6 (t : Fin cfg0.N) (k : Fin 256) :
    (iblk m c 6 t : Vec Ideal S1x256 .f32) (ix2 0 k) = (V m c main_v17 : Vec Ideal S1x256 .f32) (ix2 0 k) := by
  unfold iblk
  rw [View.read_apply]
  show V m c main_v17 _ = _
  have hi := at6 t
  have ht := lt_points t
  refine congrArg _ (funext fun a => Fin.ext ?_)
  match a with
  | ⟨0, _⟩ => show win0_6.index t 0 * 1 + 1 * 0 = 0; rw [hi.1]
  | ⟨1, _⟩ => show win0_6.index t 1 * 256 + 1 * k.val = k.val; rw [hi.2]; omega

/-! ### The step's rows are the projection's -/

/-- The arguments as functions of their indices. -/
abbrev aX (n : Fin 65536) (k : Fin 1024) : EReal := (m ((c : Thread nD τ).loc main_arg0) : Vec Ideal S65536x1024 .f32) (ix2 n k)
abbrev aG (k : Fin 1024) : EReal := (m ((c : Thread nD τ).loc main_arg1) : Vec Ideal S1024 .f32) (ix1 k)
abbrev aSC (b : Fin 8) (k : Fin 1024) : EReal := (m ((c : Thread nD τ).loc main_arg2) : Vec Ideal S8x1x1024 .f32) (ix3 b 0 k)
abbrev aSH (b : Fin 8) (k : Fin 1024) : EReal := (m ((c : Thread nD τ).loc main_arg3) : Vec Ideal S8x1x1024 .f32) (ix3 b 0 k)
abbrev aW (k : Fin 1024) (j : Fin 4368) : EReal := (m ((c : Thread nD τ).loc main_arg4) : Vec Ideal S1024x4368 .f32) (ix2 k j)
abbrev aA (r : Fin 16) (j : Fin 256) : EReal := (m ((c : Thread nD τ).loc main_arg5) : Vec Ideal S16x256 .f32) (ix2 r j)
abbrev aB (j : Fin 256) : EReal := (m ((c : Thread nD τ).loc main_arg6) : Vec Ideal S256 .f32) (ix1 j)

/-- The projection of the arguments. -/
abbrev P (n : Fin 65536) (j : Fin 4368) : EReal := proj (aX m c) (aG m c) (aSC m c) (aSH m c) (aW m c) n j
abbrev D (n : Fin 65536) (j : Fin 256) : EReal := decay (aX m c) (aG m c) (aSC m c) (aSH m c) (aW m c) (aA m c) (aB m c) n j

/-- Row `r` of step `t`. -/
abbrev step (t : Fin cfg0.N) (r : Fin 512) : Fin 65536 := ⟨512 * t.val + r.val, by have := lt_points t; omega⟩

theorem row_at (t : Fin cfg0.N) (r : Fin 512) (k : Fin 1024) :
    row (iblk m c 0 t) (iblk m c 1 t) (iblk m c 2 t) (iblk m c 3 t) r k
      = hidden (aX m c (step t r)) (aG m c) (aSC m c (seqOf (step t r))) (aSH m c (seqOf (step t r))) k := by
  have ht := lt_points t
  have e : (⟨t.val / 16, by omega⟩ : Fin 8) = seqOf (step t r) := Fin.ext (by simp; omega)
  unfold row
  congr 1
  · funext l; exact blk0 m c t r l
  · funext l; exact (blk1 m c t l).trans (V_gain m c 0 l)
  · funext l; rw [← e]; exact blk2 m c t l
  · funext l; rw [← e]; exact blk3 m c t l

theorem prod_at (t : Fin cfg0.N) (r : Fin 512) (j : Fin 4480) (j' : Fin 4368)
    (h : ∀ k, packed (m ((c : Thread nD τ).loc main_arg4)) (ix2 k j) = aW m c k j') :
    prod (iblk m c 0 t) (iblk m c 1 t) (iblk m c 2 t) (iblk m c 3 t) (iblk m c 4 t) r j = P m c (step t r) j' := by
  unfold prod P proj
  refine Finset.sum_congr rfl fun k _ => ?_
  rw [row_at]
  refine congrArg _ ((blk4 m c t k j).trans ?_)
  rw [V_packed]
  exact h k

theorem prod_first (t : Fin cfg0.N) (r : Fin 512) (j : Fin 4480) (h : j.val < 1024) :
    prod (iblk m c 0 t) (iblk m c 1 t) (iblk m c 2 t) (iblk m c 3 t) (iblk m c 4 t) r j = P m c (step t r) ⟨j.val, by omega⟩ :=
  prod_at m c t r j _ fun k => packed_first _ k j h

theorem prod_later (t : Fin cfg0.N) (r : Fin 512) (j : Fin 4480) (h : 1024 ≤ j.val) (h' : j.val < 4352) :
    prod (iblk m c 0 t) (iblk m c 1 t) (iblk m c 2 t) (iblk m c 3 t) (iblk m c 4 t) r j = P m c (step t r) ⟨16 + j.val, by omega⟩ :=
  prod_at m c t r j _ fun k => packed_later _ k j h h'

theorem low_zero (t : Fin cfg0.N) (l : Fin 128) (j : Fin 256) (h : 16 ≤ l.val) : (iblk m c 5 t : Vec Ideal S128x256 .bf16) (ix2 l j) = (0 : EReal) := by
  refine (blk5 m c t l j).trans ((V_second m c l j).trans ?_)
  rw [dif_neg (by omega)]

theorem low_at (t : Fin cfg0.N) (l : Fin 16) (j : Fin 256) :
    (iblk m c 5 t : Vec Ideal S128x256 .bf16) (ix2 (⟨l.val, by omega⟩ : Fin 128) j) = aA m c l j := by
  refine (blk5 m c t _ j).trans ((V_second m c _ j).trans ?_)
  rw [dif_pos l.isLt]

theorem bias_at (t : Fin cfg0.N) (j : Fin 256) : (iblk m c 6 t : Vec Ideal S1x256 .f32) (ix2 0 j) = aB m c j :=
  (blk6 m c t j).trans (V_bias m c 0 j)

/-- The kernel's decay, from what its padded blocks hold. -/
theorem gate_of (x0 : Vec Ideal S512x1024 .f32) (x1 : Vec Ideal S1x1024 .f32) (x2 x3 : Vec Ideal S1x1x1024 .f32) (x4 : Vec Ideal S1024x4480 .bf16)
    (x5 : Vec Ideal S128x256 .bf16) (x6 : Vec Ideal S1x256 .f32) (r : Fin 512) (j : Fin 256) (p q : Fin 16 → EReal) (b : EReal)
    (hp : ∀ l : Fin 16, prod x0 x1 x2 x3 x4 r ⟨4352 + l.val, by omega⟩ = p l) (hq : ∀ l : Fin 16, x5 (ix2 (⟨l.val, by omega⟩ : Fin 128) j) = q l)
    (h0 : ∀ l : Fin 128, 16 ≤ l.val → x5 (ix2 l j) = (0 : EReal)) (hb : x6 (ix2 0 j) = b) : gate x0 x1 x2 x3 x4 x5 x6 r j = ∑ l, p l * q l + b := by
  unfold gate
  rw [sum_low _ fun l hl => by rw [h0 l hl, mul_zero], hb]
  congr 1
  exact Finset.sum_congr rfl fun l _ => by rw [← hp, ← hq]

theorem gate_at (t : Fin cfg0.N) (r : Fin 512) (j : Fin 256) :
    gate (iblk m c 0 t) (iblk m c 1 t) (iblk m c 2 t) (iblk m c 3 t) (iblk m c 4 t) (iblk m c 5 t) (iblk m c 6 t) r j = D m c (step t r) j :=
  gate_of _ _ _ _ _ _ _ r j (fun l => P m c (step t r) ⟨1024 + l.val, by omega⟩) (fun l => aA m c l j) (aB m c j)
    (fun l => prod_at m c t r _ ⟨1024 + l.val, by omega⟩ fun k => packed_low _ k l) (fun l => low_at m c t l j) (fun l hl => low_zero m c t l j hl)
    (bias_at m c t j)

/-! ### The result arrays -/

/-- Result 0 at token `n`, column `j`. -/
def val7 (n : Fin 65536) (j : Fin 256) : EReal := P m c n ⟨j.val, by omega⟩ * Ideal.ofBits .f32 0x3E000000#32

theorem cell7 (t : Fin cfg0.N) (r : Fin 512) (j : Fin 256) :
    out0_7 (iblk m c 0 t) (iblk m c 1 t) (iblk m c 2 t) (iblk m c 3 t) (iblk m c 4 t) (iblk m c 5 t) (iblk m c 6 t) (ix2 r j) = val7 m c (step t r) j := by
  rw [out7]
  rw [prod_first m c t r ⟨j.val, by omega⟩ (by simp; omega)]
  rfl

theorem flushed_eq7 (t : Fin cfg0.N) (hf : (cfg0.win 7).flush t = true) :
    (dats m 0 c).flushed 7 t = ((cfg0.win 7).blk t).view.read (Elt Ideal) (fun y : S65536x256.Idx => (val7 m c (y 0) (y 1) : EReal)) := by
  rw [Cert.PremixIdeal.Value.flushed7]
  have ht := lt_points t
  funext y
  rw [View.read_apply]
  obtain ⟨r, j, rfl⟩ := idx2 (a := 512) (b := 256) y
  refine (cell7 m c t r j).trans ?_
  have hi := at7 t
  have e0 : (((cfg0.win 7).blk t).view.emb (ix2 r j)) 0 = step t r := Fin.ext (by
    show win0_7.index t 0 * 512 + 1 * r.val = _
    rw [hi.1]; simp; omega)
  have e1 : (((cfg0.win 7).blk t).view.emb (ix2 r j)) 1 = j := Fin.ext (by
    show win0_7.index t 1 * 256 + 1 * j.val = _
    rw [hi.2]; omega)
  show _ = val7 m c _ _
  rw [e0, e1]

theorem final7 : (dats m 0 c).arrAt 7 cfg0.N = fun y : S65536x256.Idx => (val7 m c (y 0) (y 1) : EReal) :=
  (dats m 0 c).arrAt_eq_of_cover 7 _ (flushed_eq7 m c) fun i => by
    have h0 : (i 0).val < 65536 := (i 0).isLt
    have h1 : (i 1).val < 256 := (i 1).isLt
    let t : Fin cfg0.N := ⟨(i 0).val / 512, show _ < 128 by omega⟩
    refine ⟨t, flush0_7 t, ?_⟩
    show i ∈ ((View.whole main_v18_0).slice (win0_7.rect t)).set
    rw [View.set_slice_whole, Rect.mem_set_unit]
    intro a
    have hi := at7 t
    match a with
    | ⟨0, _⟩ => show win0_7.index t 0 * 512 ≤ (i 0).val ∧ (i 0).val < win0_7.index t 0 * 512 + 512
                rw [hi.1]; simp only [t]; omega
    | ⟨1, _⟩ => show win0_7.index t 1 * 256 ≤ (i 1).val ∧ (i 1).val < win0_7.index t 1 * 256 + 256
                rw [hi.2]; omega

/-- Result 1 at token `n`, column `j`. -/
def val8 (n : Fin 65536) (j : Fin 256) : EReal := P m c n ⟨256 + j.val, by omega⟩

theorem cell8 (t : Fin cfg0.N) (r : Fin 512) (j : Fin 256) :
    out0_8 (iblk m c 0 t) (iblk m c 1 t) (iblk m c 2 t) (iblk m c 3 t) (iblk m c 4 t) (iblk m c 5 t) (iblk m c 6 t) (ix2 r j) = val8 m c (step t r) j := by
  rw [out8]
  rw [prod_first m c t r ⟨256 + j.val, by omega⟩ (by simp; omega)]
  rfl

theorem flushed_eq8 (t : Fin cfg0.N) (hf : (cfg0.win 8).flush t = true) :
    (dats m 0 c).flushed 8 t = ((cfg0.win 8).blk t).view.read (Elt Ideal) (fun y : S65536x256.Idx => (val8 m c (y 0) (y 1) : EReal)) := by
  rw [Cert.PremixIdeal.Value.flushed8]
  have ht := lt_points t
  funext y
  rw [View.read_apply]
  obtain ⟨r, j, rfl⟩ := idx2 (a := 512) (b := 256) y
  refine (cell8 m c t r j).trans ?_
  have hi := at8 t
  have e0 : (((cfg0.win 8).blk t).view.emb (ix2 r j)) 0 = step t r := Fin.ext (by
    show win0_8.index t 0 * 512 + 1 * r.val = _
    rw [hi.1]; simp; omega)
  have e1 : (((cfg0.win 8).blk t).view.emb (ix2 r j)) 1 = j := Fin.ext (by
    show win0_8.index t 1 * 256 + 1 * j.val = _
    rw [hi.2]; omega)
  show _ = val8 m c _ _
  rw [e0, e1]

theorem final8 : (dats m 0 c).arrAt 8 cfg0.N = fun y : S65536x256.Idx => (val8 m c (y 0) (y 1) : EReal) :=
  (dats m 0 c).arrAt_eq_of_cover 8 _ (flushed_eq8 m c) fun i => by
    have h0 : (i 0).val < 65536 := (i 0).isLt
    have h1 : (i 1).val < 256 := (i 1).isLt
    let t : Fin cfg0.N := ⟨(i 0).val / 512, show _ < 128 by omega⟩
    refine ⟨t, flush0_8 t, ?_⟩
    show i ∈ ((View.whole main_v18_1).slice (win0_8.rect t)).set
    rw [View.set_slice_whole, Rect.mem_set_unit]
    intro a
    have hi := at8 t
    match a with
    | ⟨0, _⟩ => show win0_8.index t 0 * 512 ≤ (i 0).val ∧ (i 0).val < win0_8.index t 0 * 512 + 512
                rw [hi.1]; simp only [t]; omega
    | ⟨1, _⟩ => show win0_8.index t 1 * 256 ≤ (i 1).val ∧ (i 1).val < win0_8.index t 1 * 256 + 256
                rw [hi.2]; omega

/-- Result 2 at token `n`, column `j`. -/
def val9 (n : Fin 65536) (j : Fin 512) : EReal := P m c n ⟨512 + j.val, by omega⟩

theorem cell9 (t : Fin cfg0.N) (r : Fin 512) (j : Fin 512) :
    out0_9 (iblk m c 0 t) (iblk m c 1 t) (iblk m c 2 t) (iblk m c 3 t) (iblk m c 4 t) (iblk m c 5 t) (iblk m c 6 t) (ix2 r j) = val9 m c (step t r) j := by
  rw [out9]
  rw [prod_first m c t r ⟨512 + j.val, by omega⟩ (by simp; omega)]
  rfl

theorem flushed_eq9 (t : Fin cfg0.N) (hf : (cfg0.win 9).flush t = true) :
    (dats m 0 c).flushed 9 t = ((cfg0.win 9).blk t).view.read (Elt Ideal) (fun y : S65536x512.Idx => (val9 m c (y 0) (y 1) : EReal)) := by
  rw [Cert.PremixIdeal.Value.flushed9]
  have ht := lt_points t
  funext y
  rw [View.read_apply]
  obtain ⟨r, j, rfl⟩ := idx2 (a := 512) (b := 512) y
  refine (cell9 m c t r j).trans ?_
  have hi := at9 t
  have e0 : (((cfg0.win 9).blk t).view.emb (ix2 r j)) 0 = step t r := Fin.ext (by
    show win0_9.index t 0 * 512 + 1 * r.val = _
    rw [hi.1]; simp; omega)
  have e1 : (((cfg0.win 9).blk t).view.emb (ix2 r j)) 1 = j := Fin.ext (by
    show win0_9.index t 1 * 512 + 1 * j.val = _
    rw [hi.2]; omega)
  show _ = val9 m c _ _
  rw [e0, e1]

theorem final9 : (dats m 0 c).arrAt 9 cfg0.N = fun y : S65536x512.Idx => (val9 m c (y 0) (y 1) : EReal) :=
  (dats m 0 c).arrAt_eq_of_cover 9 _ (flushed_eq9 m c) fun i => by
    have h0 : (i 0).val < 65536 := (i 0).isLt
    have h1 : (i 1).val < 512 := (i 1).isLt
    let t : Fin cfg0.N := ⟨(i 0).val / 512, show _ < 128 by omega⟩
    refine ⟨t, flush0_9 t, ?_⟩
    show i ∈ ((View.whole main_v18_2).slice (win0_9.rect t)).set
    rw [View.set_slice_whole, Rect.mem_set_unit]
    intro a
    have hi := at9 t
    match a with
    | ⟨0, _⟩ => show win0_9.index t 0 * 512 ≤ (i 0).val ∧ (i 0).val < win0_9.index t 0 * 512 + 512
                rw [hi.1]; simp only [t]; omega
    | ⟨1, _⟩ => show win0_9.index t 1 * 512 ≤ (i 1).val ∧ (i 1).val < win0_9.index t 1 * 512 + 512
                rw [hi.2]; omega

/-- Result 3 at token `n`, column `j`. -/
def val10 (n : Fin 65536) (j : Fin 256) : EReal := logSig (D m c n j)

theorem cell10 (t : Fin cfg0.N) (r : Fin 512) (j : Fin 256) :
    out0_10 (iblk m c 0 t) (iblk m c 1 t) (iblk m c 2 t) (iblk m c 3 t) (iblk m c 4 t) (iblk m c 5 t) (iblk m c 6 t) (ix2 r j) = val10 m c (step t r) j := by
  rw [out10]
  rw [gate_at]
  rfl

theorem flushed_eq10 (t : Fin cfg0.N) (hf : (cfg0.win 10).flush t = true) :
    (dats m 0 c).flushed 10 t = ((cfg0.win 10).blk t).view.read (Elt Ideal) (fun y : S65536x256.Idx => (val10 m c (y 0) (y 1) : EReal)) := by
  rw [Cert.PremixIdeal.Value.flushed10]
  have ht := lt_points t
  funext y
  rw [View.read_apply]
  obtain ⟨r, j, rfl⟩ := idx2 (a := 512) (b := 256) y
  refine (cell10 m c t r j).trans ?_
  have hi := at10 t
  have e0 : (((cfg0.win 10).blk t).view.emb (ix2 r j)) 0 = step t r := Fin.ext (by
    show win0_10.index t 0 * 512 + 1 * r.val = _
    rw [hi.1]; simp; omega)
  have e1 : (((cfg0.win 10).blk t).view.emb (ix2 r j)) 1 = j := Fin.ext (by
    show win0_10.index t 1 * 256 + 1 * j.val = _
    rw [hi.2]; omega)
  show _ = val10 m c _ _
  rw [e0, e1]

theorem final10 : (dats m 0 c).arrAt 10 cfg0.N = fun y : S65536x256.Idx => (val10 m c (y 0) (y 1) : EReal) :=
  (dats m 0 c).arrAt_eq_of_cover 10 _ (flushed_eq10 m c) fun i => by
    have h0 : (i 0).val < 65536 := (i 0).isLt
    have h1 : (i 1).val < 256 := (i 1).isLt
    let t : Fin cfg0.N := ⟨(i 0).val / 512, show _ < 128 by omega⟩
    refine ⟨t, flush0_10 t, ?_⟩
    show i ∈ ((View.whole main_v18_3).slice (win0_10.rect t)).set
    rw [View.set_slice_whole, Rect.mem_set_unit]
    intro a
    have hi := at10 t
    match a with
    | ⟨0, _⟩ => show win0_10.index t 0 * 512 ≤ (i 0).val ∧ (i 0).val < win0_10.index t 0 * 512 + 512
                rw [hi.1]; simp only [t]; omega
    | ⟨1, _⟩ => show win0_10.index t 1 * 256 ≤ (i 1).val ∧ (i 1).val < win0_10.index t 1 * 256 + 256
                rw [hi.2]; omega

/-- Result 4 at token `n`, column `j`. -/
def val11 (n : Fin 65536) (j : Fin 512) : EReal := P m c n ⟨1040 + j.val, by omega⟩ * Ideal.logistic (P m c n ⟨1040 + j.val, by omega⟩)

theorem cell11 (t : Fin cfg0.N) (r : Fin 512) (j : Fin 512) :
    out0_11 (iblk m c 0 t) (iblk m c 1 t) (iblk m c 2 t) (iblk m c 3 t) (iblk m c 4 t) (iblk m c 5 t) (iblk m c 6 t) (ix2 r j) = val11 m c (step t r) j := by
  rw [out11]
  rw [prod_later m c t r ⟨1024 + j.val, by omega⟩ (by simp; try omega) (by simp; omega)]
  have e : (⟨16 + (1024 + j.val), by omega⟩ : Fin 4368) = ⟨1040 + j.val, by omega⟩ := Fin.ext (by simp; omega)
  rw [e]
  rfl

theorem flushed_eq11 (t : Fin cfg0.N) (hf : (cfg0.win 11).flush t = true) :
    (dats m 0 c).flushed 11 t = ((cfg0.win 11).blk t).view.read (Elt Ideal) (fun y : S65536x512.Idx => (val11 m c (y 0) (y 1) : EReal)) := by
  rw [Cert.PremixIdeal.Value.flushed11]
  have ht := lt_points t
  funext y
  rw [View.read_apply]
  obtain ⟨r, j, rfl⟩ := idx2 (a := 512) (b := 512) y
  refine (cell11 m c t r j).trans ?_
  have hi := at11 t
  have e0 : (((cfg0.win 11).blk t).view.emb (ix2 r j)) 0 = step t r := Fin.ext (by
    show win0_11.index t 0 * 512 + 1 * r.val = _
    rw [hi.1]; simp; omega)
  have e1 : (((cfg0.win 11).blk t).view.emb (ix2 r j)) 1 = j := Fin.ext (by
    show win0_11.index t 1 * 512 + 1 * j.val = _
    rw [hi.2]; omega)
  show _ = val11 m c _ _
  rw [e0, e1]

theorem final11 : (dats m 0 c).arrAt 11 cfg0.N = fun y : S65536x512.Idx => (val11 m c (y 0) (y 1) : EReal) :=
  (dats m 0 c).arrAt_eq_of_cover 11 _ (flushed_eq11 m c) fun i => by
    have h0 : (i 0).val < 65536 := (i 0).isLt
    have h1 : (i 1).val < 512 := (i 1).isLt
    let t : Fin cfg0.N := ⟨(i 0).val / 512, show _ < 128 by omega⟩
    refine ⟨t, flush0_11 t, ?_⟩
    show i ∈ ((View.whole main_v18_4).slice (win0_11.rect t)).set
    rw [View.set_slice_whole, Rect.mem_set_unit]
    intro a
    have hi := at11 t
    match a with
    | ⟨0, _⟩ => show win0_11.index t 0 * 512 ≤ (i 0).val ∧ (i 0).val < win0_11.index t 0 * 512 + 512
                rw [hi.1]; simp only [t]; omega
    | ⟨1, _⟩ => show win0_11.index t 1 * 512 ≤ (i 1).val ∧ (i 1).val < win0_11.index t 1 * 512 + 512
                rw [hi.2]; omega

/-- Result 5 at token `n`, column `j`. -/
def val12 (n : Fin 65536) (j : Fin 512) : EReal := P m c n ⟨1552 + j.val, by omega⟩

theorem cell12 (t : Fin cfg0.N) (r : Fin 512) (j : Fin 512) :
    out0_12 (iblk m c 0 t) (iblk m c 1 t) (iblk m c 2 t) (iblk m c 3 t) (iblk m c 4 t) (iblk m c 5 t) (iblk m c 6 t) (ix2 r j) = val12 m c (step t r) j := by
  rw [out12]
  rw [prod_later m c t r ⟨1536 + j.val, by omega⟩ (by simp; try omega) (by simp; omega)]
  have e : (⟨16 + (1536 + j.val), by omega⟩ : Fin 4368) = ⟨1552 + j.val, by omega⟩ := Fin.ext (by simp; omega)
  rw [e]
  rfl

theorem flushed_eq12 (t : Fin cfg0.N) (hf : (cfg0.win 12).flush t = true) :
    (dats m 0 c).flushed 12 t = ((cfg0.win 12).blk t).view.read (Elt Ideal) (fun y : S65536x512.Idx => (val12 m c (y 0) (y 1) : EReal)) := by
  rw [Cert.PremixIdeal.Value.flushed12]
  have ht := lt_points t
  funext y
  rw [View.read_apply]
  obtain ⟨r, j, rfl⟩ := idx2 (a := 512) (b := 512) y
  refine (cell12 m c t r j).trans ?_
  have hi := at12 t
  have e0 : (((cfg0.win 12).blk t).view.emb (ix2 r j)) 0 = step t r := Fin.ext (by
    show win0_12.index t 0 * 512 + 1 * r.val = _
    rw [hi.1]; simp; omega)
  have e1 : (((cfg0.win 12).blk t).view.emb (ix2 r j)) 1 = j := Fin.ext (by
    show win0_12.index t 1 * 512 + 1 * j.val = _
    rw [hi.2]; omega)
  show _ = val12 m c _ _
  rw [e0, e1]

theorem final12 : (dats m 0 c).arrAt 12 cfg0.N = fun y : S65536x512.Idx => (val12 m c (y 0) (y 1) : EReal) :=
  (dats m 0 c).arrAt_eq_of_cover 12 _ (flushed_eq12 m c) fun i => by
    have h0 : (i 0).val < 65536 := (i 0).isLt
    have h1 : (i 1).val < 512 := (i 1).isLt
    let t : Fin cfg0.N := ⟨(i 0).val / 512, show _ < 128 by omega⟩
    refine ⟨t, flush0_12 t, ?_⟩
    show i ∈ ((View.whole main_v18_5).slice (win0_12.rect t)).set
    rw [View.set_slice_whole, Rect.mem_set_unit]
    intro a
    have hi := at12 t
    match a with
    | ⟨0, _⟩ => show win0_12.index t 0 * 512 ≤ (i 0).val ∧ (i 0).val < win0_12.index t 0 * 512 + 512
                rw [hi.1]; simp only [t]; omega
    | ⟨1, _⟩ => show win0_12.index t 1 * 512 ≤ (i 1).val ∧ (i 1).val < win0_12.index t 1 * 512 + 512
                rw [hi.2]; omega

/-- Result 6 at token `n`, column `j`. -/
def val13 (n : Fin 65536) (j : Fin 256) : EReal := P m c n ⟨2064 + j.val, by omega⟩

theorem cell13 (t : Fin cfg0.N) (r : Fin 512) (j : Fin 256) :
    out0_13 (iblk m c 0 t) (iblk m c 1 t) (iblk m c 2 t) (iblk m c 3 t) (iblk m c 4 t) (iblk m c 5 t) (iblk m c 6 t) (ix2 r j) = val13 m c (step t r) j := by
  rw [out13]
  rw [prod_later m c t r ⟨2048 + j.val, by omega⟩ (by simp; try omega) (by simp; omega)]
  have e : (⟨16 + (2048 + j.val), by omega⟩ : Fin 4368) = ⟨2064 + j.val, by omega⟩ := Fin.ext (by simp; omega)
  rw [e]
  rfl

theorem flushed_eq13 (t : Fin cfg0.N) (hf : (cfg0.win 13).flush t = true) :
    (dats m 0 c).flushed 13 t = ((cfg0.win 13).blk t).view.read (Elt Ideal) (fun y : S65536x256.Idx => (val13 m c (y 0) (y 1) : EReal)) := by
  rw [Cert.PremixIdeal.Value.flushed13]
  have ht := lt_points t
  funext y
  rw [View.read_apply]
  obtain ⟨r, j, rfl⟩ := idx2 (a := 512) (b := 256) y
  refine (cell13 m c t r j).trans ?_
  have hi := at13 t
  have e0 : (((cfg0.win 13).blk t).view.emb (ix2 r j)) 0 = step t r := Fin.ext (by
    show win0_13.index t 0 * 512 + 1 * r.val = _
    rw [hi.1]; simp; omega)
  have e1 : (((cfg0.win 13).blk t).view.emb (ix2 r j)) 1 = j := Fin.ext (by
    show win0_13.index t 1 * 256 + 1 * j.val = _
    rw [hi.2]; omega)
  show _ = val13 m c _ _
  rw [e0, e1]

theorem final13 : (dats m 0 c).arrAt 13 cfg0.N = fun y : S65536x256.Idx => (val13 m c (y 0) (y 1) : EReal) :=
  (dats m 0 c).arrAt_eq_of_cover 13 _ (flushed_eq13 m c) fun i => by
    have h0 : (i 0).val < 65536 := (i 0).isLt
    have h1 : (i 1).val < 256 := (i 1).isLt
    let t : Fin cfg0.N := ⟨(i 0).val / 512, show _ < 128 by omega⟩
    refine ⟨t, flush0_13 t, ?_⟩
    show i ∈ ((View.whole main_v18_6).slice (win0_13.rect t)).set
    rw [View.set_slice_whole, Rect.mem_set_unit]
    intro a
    have hi := at13 t
    match a with
    | ⟨0, _⟩ => show win0_13.index t 0 * 512 ≤ (i 0).val ∧ (i 0).val < win0_13.index t 0 * 512 + 512
                rw [hi.1]; simp only [t]; omega
    | ⟨1, _⟩ => show win0_13.index t 1 * 256 ≤ (i 1).val ∧ (i 1).val < win0_13.index t 1 * 256 + 256
                rw [hi.2]; omega

/-- Result 7 at token `n`, column `j`. -/
def val14 (n : Fin 65536) (j : Fin 1024) : EReal := Ideal.logistic (P m c n ⟨2320 + j.val, by omega⟩)

theorem cell14 (t : Fin cfg0.N) (r : Fin 512) (j : Fin 1024) :
    out0_14 (iblk m c 0 t) (iblk m c 1 t) (iblk m c 2 t) (iblk m c 3 t) (iblk m c 4 t) (iblk m c 5 t) (iblk m c 6 t) (ix2 r j) = val14 m c (step t r) j := by
  rw [out14]
  rw [prod_later m c t r ⟨2304 + j.val, by omega⟩ (by simp; try omega) (by simp; omega)]
  have e : (⟨16 + (2304 + j.val), by omega⟩ : Fin 4368) = ⟨2320 + j.val, by omega⟩ := Fin.ext (by simp; omega)
  rw [e]
  rfl

theorem flushed_eq14 (t : Fin cfg0.N) (hf : (cfg0.win 14).flush t = true) :
    (dats m 0 c).flushed 14 t = ((cfg0.win 14).blk t).view.read (Elt Ideal) (fun y : S65536x1024.Idx => (val14 m c (y 0) (y 1) : EReal)) := by
  rw [Cert.PremixIdeal.Value.flushed14]
  have ht := lt_points t
  funext y
  rw [View.read_apply]
  obtain ⟨r, j, rfl⟩ := idx2 (a := 512) (b := 1024) y
  refine (cell14 m c t r j).trans ?_
  have hi := at14 t
  have e0 : (((cfg0.win 14).blk t).view.emb (ix2 r j)) 0 = step t r := Fin.ext (by
    show win0_14.index t 0 * 512 + 1 * r.val = _
    rw [hi.1]; simp; omega)
  have e1 : (((cfg0.win 14).blk t).view.emb (ix2 r j)) 1 = j := Fin.ext (by
    show win0_14.index t 1 * 1024 + 1 * j.val = _
    rw [hi.2]; omega)
  show _ = val14 m c _ _
  rw [e0, e1]

theorem final14 : (dats m 0 c).arrAt 14 cfg0.N = fun y : S65536x1024.Idx => (val14 m c (y 0) (y 1) : EReal) :=
  (dats m 0 c).arrAt_eq_of_cover 14 _ (flushed_eq14 m c) fun i => by
    have h0 : (i 0).val < 65536 := (i 0).isLt
    have h1 : (i 1).val < 1024 := (i 1).isLt
    let t : Fin cfg0.N := ⟨(i 0).val / 512, show _ < 128 by omega⟩
    refine ⟨t, flush0_14 t, ?_⟩
    show i ∈ ((View.whole main_v18_7).slice (win0_14.rect t)).set
    rw [View.set_slice_whole, Rect.mem_set_unit]
    intro a
    have hi := at14 t
    match a with
    | ⟨0, _⟩ => show win0_14.index t 0 * 512 ≤ (i 0).val ∧ (i 0).val < win0_14.index t 0 * 512 + 512
                rw [hi.1]; simp only [t]; omega
    | ⟨1, _⟩ => show win0_14.index t 1 * 1024 ≤ (i 1).val ∧ (i 1).val < win0_14.index t 1 * 1024 + 1024
                rw [hi.2]; omega

/-- Result 8 at token `n`, column `j`. -/
def val15 (n : Fin 65536) (j : Fin 1024) : EReal := Ideal.logistic (P m c n ⟨3344 + j.val, by omega⟩)

theorem cell15 (t : Fin cfg0.N) (r : Fin 512) (j : Fin 1024) :
    out0_15 (iblk m c 0 t) (iblk m c 1 t) (iblk m c 2 t) (iblk m c 3 t) (iblk m c 4 t) (iblk m c 5 t) (iblk m c 6 t) (ix2 r j) = val15 m c (step t r) j := by
  rw [out15]
  rw [prod_later m c t r ⟨3328 + j.val, by omega⟩ (by simp; try omega) (by simp; omega)]
  have e : (⟨16 + (3328 + j.val), by omega⟩ : Fin 4368) = ⟨3344 + j.val, by omega⟩ := Fin.ext (by simp; omega)
  rw [e]
  rfl

theorem flushed_eq15 (t : Fin cfg0.N) (hf : (cfg0.win 15).flush t = true) :
    (dats m 0 c).flushed 15 t = ((cfg0.win 15).blk t).view.read (Elt Ideal) (fun y : S65536x1024.Idx => (val15 m c (y 0) (y 1) : EReal)) := by
  rw [Cert.PremixIdeal.Value.flushed15]
  have ht := lt_points t
  funext y
  rw [View.read_apply]
  obtain ⟨r, j, rfl⟩ := idx2 (a := 512) (b := 1024) y
  refine (cell15 m c t r j).trans ?_
  have hi := at15 t
  have e0 : (((cfg0.win 15).blk t).view.emb (ix2 r j)) 0 = step t r := Fin.ext (by
    show win0_15.index t 0 * 512 + 1 * r.val = _
    rw [hi.1]; simp; omega)
  have e1 : (((cfg0.win 15).blk t).view.emb (ix2 r j)) 1 = j := Fin.ext (by
    show win0_15.index t 1 * 1024 + 1 * j.val = _
    rw [hi.2]; omega)
  show _ = val15 m c _ _
  rw [e0, e1]

theorem final15 : (dats m 0 c).arrAt 15 cfg0.N = fun y : S65536x1024.Idx => (val15 m c (y 0) (y 1) : EReal) :=
  (dats m 0 c).arrAt_eq_of_cover 15 _ (flushed_eq15 m c) fun i => by
    have h0 : (i 0).val < 65536 := (i 0).isLt
    have h1 : (i 1).val < 1024 := (i 1).isLt
    let t : Fin cfg0.N := ⟨(i 0).val / 512, show _ < 128 by omega⟩
    refine ⟨t, flush0_15 t, ?_⟩
    show i ∈ ((View.whole main_v18_8).slice (win0_15.rect t)).set
    rw [View.set_slice_whole, Rect.mem_set_unit]
    intro a
    have hi := at15 t
    match a with
    | ⟨0, _⟩ => show win0_15.index t 0 * 512 ≤ (i 0).val ∧ (i 0).val < win0_15.index t 0 * 512 + 512
                rw [hi.1]; simp only [t]; omega
    | ⟨1, _⟩ => show win0_15.index t 1 * 1024 ≤ (i 1).val ∧ (i 1).val < win0_15.index t 1 * 1024 + 1024
                rw [hi.2]; omega

end Cert.Proof.PremixKernel

end
-- ==== Proof.Premix.Ref.lean ====
/- The projection's reference, read at an index: the same hidden rows, products and results. -/
module

public import proofs.«01_k».proof.Proof.Gen.PremixRefIdeal.Read
public import proofs.«01_k».proof.Proof.Premix.Spec

@[expose] public section

set_option maxRecDepth 16384

noncomputable section

namespace Cert.Proof.PremixReference

open Cert.PremixRefIdeal Cert.PremixRefIdeal.Gen Cert.PremixRefIdeal.Read Idealize.ShloMosaic Cert.Proof.Projection

/-! ### The decay's logarithm -/

theorem div_sixteen (x : EReal) : Ideal.div x (Ideal.ofBits .f32 0x41800000#32) = x * Ideal.ofBits .f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = ((1 / 16 : ℝ) : EReal) := by
    simp [Ideal.ofBits, Ideal.ieee, -EReal.coe_mul]; norm_num
  rw [h1, h2]
  unfold Ideal.div
  rw [if_neg (by norm_num)]
  congr 1
  rw [← EReal.coe_inv]
  norm_num

theorem log_one : Ideal.log 1 = 0 := by
  rw [show (1 : EReal) = ((1 : ℝ) : EReal) from rfl]
  rw [Ideal.log_coe, if_neg (by norm_num), Real.log_one]
  rfl

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- Minus the softplus of the opposite is the logarithm of the logistic function. -/
theorem neg_softplus (z : EReal) :
    -(max (-z) 0 + Ideal.log1p (Ideal.exp (-(max (-z) (-(-z)))))) = min z 0 - Ideal.log1p (Ideal.exp (0 - max z (-z))) := by
  rw [neg_neg, max_comm (-z) z, zero_sub]
  induction z using EReal.rec with
  | bot => simp [Ideal.log1p, log_one]
  | top => simp [Ideal.log1p, log_one]
  | coe r =>
    have hl : ∃ l : ℝ, Ideal.log1p (Ideal.exp ((-(max r (-r)) : ℝ) : EReal)) = (l : EReal) := by
      refine ⟨Real.log (1 + Real.exp (-(max r (-r)))), ?_⟩
      have hp : 0 < 1 + Real.exp (-(max r (-r))) := by positivity
      unfold Ideal.log1p
      rw [Ideal.exp_coe, show (1 : EReal) = ((1 : ℝ) : EReal) from rfl, ← EReal.coe_add]
      exact if_neg (not_le.mpr hp)
    obtain ⟨l, hl⟩ := hl
    rw [show -(r : EReal) = ((-r : ℝ) : EReal) from rfl, coe_max, show -((max r (-r) : ℝ) : EReal) = ((-(max r (-r)) : ℝ) : EReal) from rfl, hl,
      show (0 : EReal) = ((0 : ℝ) : EReal) from rfl, coe_max, coe_min, ← EReal.coe_add, ← EReal.coe_neg, ← EReal.coe_sub]
    congr 1
    rcases le_total r 0 with hr | hr
    · rw [max_eq_left (by linarith), min_eq_left hr]; ring
    · rw [max_eq_right (by linarith), min_eq_right hr]; ring

variable (x0 : Vec Ideal S65536x1024 .f32) (x1 : Vec Ideal S1024 .f32) (x2 x3 : Vec Ideal S8x1x1024 .f32) (x4 : Vec Ideal S1024x4368 .f32)
  (x5 : Vec Ideal S16x256 .f32) (x6 : Vec Ideal S256 .f32)

/-- The projection of the arguments. -/
abbrev P (n : Fin 65536) (j : Fin 4368) : EReal :=
  proj (fun n k => x0 (ix2 n k)) (fun k => x1 (ix1 k)) (fun b k => x2 (ix3 b 0 k)) (fun b k => x3 (ix3 b 0 k)) (fun k j => x4 (ix2 k j)) n j
abbrev D (n : Fin 65536) (j : Fin 256) : EReal :=
  decay (fun n k => x0 (ix2 n k)) (fun k => x1 (ix1 k)) (fun b k => x2 (ix3 b 0 k)) (fun b k => x3 (ix3 b 0 k)) (fun k j => x4 (ix2 k j))
    (fun r j => x5 (ix2 r j)) (fun j => x6 (ix1 j)) n j

theorem hidden_at (b : Fin 8) (s : Fin 8192) (k : Fin 1024) (n : Fin 65536) (hn : n.val = b.val * 8192 + s.val) :
    val_main_v19 (F := Ideal) x0 x1 x2 x3 (ix3 b s k)
      = hidden (fun k => x0 (ix2 n k)) (fun k => x1 (ix1 k)) (fun k => x2 (ix3 (seqOf n) 0 k)) (fun k => x3 (ix3 (seqOf n) 0 k)) k := by
  have e : (⟨b.val * 8192 + s.val, by omega⟩ : Fin 65536) = n := Fin.ext hn.symm
  have e' : seqOf n = b := Fin.ext (by simp; omega)
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_2]
  simp only [e, e']
  unfold Projection.hidden
  rfl

theorem prod_at (n : Fin 65536) (j : Fin 4368) : val_main_v21 (F := Ideal) x0 x1 x2 x3 x4 (ix2 n j) = P x0 x1 x2 x3 x4 n j := by
  pointwise [val_main_v21, val_main_v20]
  unfold P proj
  refine Finset.sum_congr rfl fun k _ => ?_
  rw [hidden_at x0 x1 x2 x3 _ _ _ n (by simp; omega)]

theorem decay_at (n : Fin 65536) (j : Fin 256) : val_main_v35 (F := Ideal) x0 x1 x2 x3 x4 x5 x6 (ix2 n j) = D x0 x1 x2 x3 x4 x5 x6 n j := by
  pointwise [val_main_v35, val_main_v34, val_main_v33, val_main_v32, val_main_v25]
  simp only [prod_at]
  rfl

theorem res7 (n : Fin 65536) (j : Fin 256) :
    val_main_v41 (F := Ideal) x0 x1 x2 x3 x4 (ix2 n j) = P x0 x1 x2 x3 x4 n ⟨j.val, by omega⟩ * Ideal.ofBits .f32 0x3E000000#32 := by
  pointwise [val_main_v41, val_main_v40, val_main_v39, val_main_v22, val_main_cst_4]
  rw [prod_at]

theorem res8 (n : Fin 65536) (j : Fin 256) : val_main_v42 (F := Ideal) x0 x1 x2 x3 x4 (ix2 n j) = P x0 x1 x2 x3 x4 n ⟨256 + j.val, by omega⟩ := by
  pointwise [val_main_v42, val_main_v23]
  rw [prod_at]

theorem res9 (n : Fin 65536) (j : Fin 512) : val_main_v43 (F := Ideal) x0 x1 x2 x3 x4 (ix2 n j) = P x0 x1 x2 x3 x4 n ⟨512 + j.val, by omega⟩ := by
  pointwise [val_main_v43, val_main_v24]
  rw [prod_at]

theorem res12 (n : Fin 65536) (j : Fin 512) : val_main_v46 (F := Ideal) x0 x1 x2 x3 x4 (ix2 n j) = P x0 x1 x2 x3 x4 n ⟨1552 + j.val, by omega⟩ := by
  pointwise [val_main_v46, val_main_v27]
  rw [prod_at]

theorem res10 (n : Fin 65536) (j : Fin 256) : val_main_v38 (F := Ideal) x0 x1 x2 x3 x4 x5 x6 (ix2 n j) = logSig (D x0 x1 x2 x3 x4 x5 x6 n j) := by
  have h := decay_at x0 x1 x2 x3 x4 x5 x6 n j
  pointwise [val_main_v38, val_main_v37, val_main_v36, val_main_cst_3, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]
  rw [h]
  unfold logSig
  rw [div_sixteen, ← neg_softplus, if_neg (fun hne => hne rfl)]
  rfl

theorem res11 (n : Fin 65536) (j : Fin 512) :
    val_main_v45 (F := Ideal) x0 x1 x2 x3 x4 (ix2 n j) = P x0 x1 x2 x3 x4 n ⟨1040 + j.val, by omega⟩ * Ideal.logistic (P x0 x1 x2 x3 x4 n ⟨1040 + j.val, by omega⟩) := by
  pointwise [val_main_v45, val_main_v44, val_main_v26, val_main_call1_v0, val_main_call1_v1, val_main_call1_cst, val_main_call1_v2, val_main_call1_v3, val_main_call1_cst_0, val_main_call1_v4, val_main_call1_v5]
  rw [prod_at]
  rfl

theorem res13 (n : Fin 65536) (j : Fin 256) : val_main_v48 (F := Ideal) x0 x1 x2 x3 x4 (ix2 n j) = P x0 x1 x2 x3 x4 n ⟨2064 + j.val, by omega⟩ := by
  pointwise [val_main_v48, val_main_v47, val_main_v28, val_main_v29]
  by_cases h : j.val < 128
  · rw [dif_pos h, prod_at]
  · rw [dif_neg h, prod_at]
    congr 1
    exact Fin.ext (by simp; omega)

theorem res14 (n : Fin 65536) (j : Fin 1024) :
    val_main_v55 (F := Ideal) x0 x1 x2 x3 x4 (ix2 n j) = Ideal.logistic (P x0 x1 x2 x3 x4 n ⟨2320 + j.val, by omega⟩) := by
  pointwise [val_main_v55, val_main_v54, val_main_v53, val_main_v52, val_main_v51, val_main_v50, val_main_v49, val_main_v30, val_main_cst_5,
    val_main_cst_6]
  rw [prod_at]
  rfl

theorem res15 (n : Fin 65536) (j : Fin 1024) :
    val_main_v62 (F := Ideal) x0 x1 x2 x3 x4 (ix2 n j) = Ideal.logistic (P x0 x1 x2 x3 x4 n ⟨3344 + j.val, by omega⟩) := by
  pointwise [val_main_v62, val_main_v61, val_main_v60, val_main_v59, val_main_v58, val_main_v57, val_main_v56, val_main_v31, val_main_cst_7,
    val_main_cst_8]
  rw [prod_at]
  rfl

end Cert.Proof.PremixReference

end
-- ==== Proof.Premix.Claim.lean ====
/- The projection's value claim: the kernel's nine arrays and the reference's are the same functions of the arguments. -/
module

public import proofs.«01_k».proof.Defs
public import proofs.«01_k».proof.Proof.Premix.Array
public import proofs.«01_k».proof.Proof.Premix.Ref

@[expose] public section

set_option maxRecDepth 16384

noncomputable section

namespace Cert.Proof

open Idealize.ShloMosaic Idealize.SL.Sem Idealize.ShloMosaic.TcCoe Cert.Proof.Projection

namespace PremixReference

open Cert.PremixRefIdeal Cert.PremixRefIdeal.Gen Cert.PremixRefIdeal.Read

variable (m : (ℓ : Loc Cert.PremixIdeal.nD Cert.PremixIdeal.τ Cert.PremixIdeal.sig) → Buf (Elt Ideal) ℓ) (c : Dev Cert.PremixIdeal.nD)

/-- The kernel's arguments, as the reference's. -/
abbrev a0 : Vec Ideal S65536x1024 .f32 := m ((c.tc : Thread Cert.PremixIdeal.nD Cert.PremixIdeal.τ).loc Cert.PremixIdeal.main_arg0)
abbrev a1 : Vec Ideal S1024 .f32 := m ((c.tc : Thread Cert.PremixIdeal.nD Cert.PremixIdeal.τ).loc Cert.PremixIdeal.main_arg1)
abbrev a2 : Vec Ideal S8x1x1024 .f32 := m ((c.tc : Thread Cert.PremixIdeal.nD Cert.PremixIdeal.τ).loc Cert.PremixIdeal.main_arg2)
abbrev a3 : Vec Ideal S8x1x1024 .f32 := m ((c.tc : Thread Cert.PremixIdeal.nD Cert.PremixIdeal.τ).loc Cert.PremixIdeal.main_arg3)
abbrev a4 : Vec Ideal S1024x4368 .f32 := m ((c.tc : Thread Cert.PremixIdeal.nD Cert.PremixIdeal.τ).loc Cert.PremixIdeal.main_arg4)
abbrev a5 : Vec Ideal S16x256 .f32 := m ((c.tc : Thread Cert.PremixIdeal.nD Cert.PremixIdeal.τ).loc Cert.PremixIdeal.main_arg5)
abbrev a6 : Vec Ideal S256 .f32 := m ((c.tc : Thread Cert.PremixIdeal.nD Cert.PremixIdeal.τ).loc Cert.PremixIdeal.main_arg6)

theorem same7 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v41 (F := Ideal) x0 x1 x2 x3 x4 = fun y : S65536x256.Idx => (PremixKernel.val7 m c (y 0) (y 1) : EReal) := by
  subst e0 e1 e2 e3 e4
  funext y
  obtain ⟨n, j, rfl⟩ := PremixKernel.idx2 (a := 65536) (b := 256) y
  exact res7 _ _ _ _ _ n j

theorem same8 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v42 (F := Ideal) x0 x1 x2 x3 x4 = fun y : S65536x256.Idx => (PremixKernel.val8 m c (y 0) (y 1) : EReal) := by
  subst e0 e1 e2 e3 e4
  funext y
  obtain ⟨n, j, rfl⟩ := PremixKernel.idx2 (a := 65536) (b := 256) y
  exact res8 _ _ _ _ _ n j

theorem same9 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v43 (F := Ideal) x0 x1 x2 x3 x4 = fun y : S65536x512.Idx => (PremixKernel.val9 m c (y 0) (y 1) : EReal) := by
  subst e0 e1 e2 e3 e4
  funext y
  obtain ⟨n, j, rfl⟩ := PremixKernel.idx2 (a := 65536) (b := 512) y
  exact res9 _ _ _ _ _ n j

theorem same10 (x0 : Vec Ideal S65536x1024 .f32) (x1 : Vec Ideal S1024 .f32) (x2 : Vec Ideal S8x1x1024 .f32) (x3 : Vec Ideal S8x1x1024 .f32) (x4 : Vec Ideal S1024x4368 .f32) (x5 : Vec Ideal S16x256 .f32) (x6 : Vec Ideal S256 .f32) (e0 : x0 = a0 m c) (e1 : x1 = a1 m c) (e2 : x2 = a2 m c) (e3 : x3 = a3 m c) (e4 : x4 = a4 m c) (e5 : x5 = a5 m c) (e6 : x6 = a6 m c) :
    val_main_v38 (F := Ideal) x0 x1 x2 x3 x4 x5 x6 = fun y : S65536x256.Idx => (PremixKernel.val10 m c (y 0) (y 1) : EReal) := by
  subst e0 e1 e2 e3 e4 e5 e6
  funext y
  obtain ⟨n, j, rfl⟩ := PremixKernel.idx2 (a := 65536) (b := 256) y
  exact res10 _ _ _ _ _ _ _ n j

theorem same11 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v45 (F := Ideal) x0 x1 x2 x3 x4 = fun y : S65536x512.Idx => (PremixKernel.val11 m c (y 0) (y 1) : EReal) := by
  subst e0 e1 e2 e3 e4
  funext y
  obtain ⟨n, j, rfl⟩ := PremixKernel.idx2 (a := 65536) (b := 512) y
  exact res11 _ _ _ _ _ n j

theorem same12 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v46 (F := Ideal) x0 x1 x2 x3 x4 = fun y : S65536x512.Idx => (PremixKernel.val12 m c (y 0) (y 1) : EReal) := by
  subst e0 e1 e2 e3 e4
  funext y
  obtain ⟨n, j, rfl⟩ := PremixKernel.idx2 (a := 65536) (b := 512) y
  exact res12 _ _ _ _ _ n j

theorem same13 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v48 (F := Ideal) x0 x1 x2 x3 x4 = fun y : S65536x256.Idx => (PremixKernel.val13 m c (y 0) (y 1) : EReal) := by
  subst e0 e1 e2 e3 e4
  funext y
  obtain ⟨n, j, rfl⟩ := PremixKernel.idx2 (a := 65536) (b := 256) y
  exact res13 _ _ _ _ _ n j

theorem same14 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v55 (F := Ideal) x0 x1 x2 x3 x4 = fun y : S65536x1024.Idx => (PremixKernel.val14 m c (y 0) (y 1) : EReal) := by
  subst e0 e1 e2 e3 e4
  funext y
  obtain ⟨n, j, rfl⟩ := PremixKernel.idx2 (a := 65536) (b := 1024) y
  exact res14 _ _ _ _ _ n j

theorem same15 (x0 : Vec Ideal S65536x1024 .f32) (x1 : Vec Ideal S1024 .f32) (x2 : Vec Ideal S8x1x1024 .f32) (x3 : Vec Ideal S8x1x1024 .f32) (x4 : Vec Ideal S1024x4368 .f32) (e0 : x0 = a0 m c) (e1 : x1 = a1 m c) (e2 : x2 = a2 m c) (e3 : x3 = a3 m c) (e4 : x4 = a4 m c) :
    val_main_v62 (F := Ideal) x0 x1 x2 x3 x4 = fun y : S65536x1024.Idx => (PremixKernel.val15 m c (y 0) (y 1) : EReal) := by
  subst e0 e1 e2 e3 e4
  funext y
  obtain ⟨n, j, rfl⟩ := PremixKernel.idx2 (a := 65536) (b := 1024) y
  exact res15 _ _ _ _ _ n j

end PremixReference

section
open Cert.PremixIdeal Cert.PremixIdeal.Gen

/-- What the kernel's run leaves. -/
theorem premix_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18_0) = (fun y : S65536x256.Idx => (PremixKernel.val7 m c (y 0) (y 1) : EReal))
      ∧ r.2.mem ((c.tc : Thread nD τ).loc main_v18_1) = (fun y : S65536x256.Idx => (PremixKernel.val8 m c (y 0) (y 1) : EReal))
      ∧ r.2.mem ((c.tc : Thread nD τ).loc main_v18_2) = (fun y : S65536x512.Idx => (PremixKernel.val9 m c (y 0) (y 1) : EReal))
      ∧ r.2.mem ((c.tc : Thread nD τ).loc main_v18_3) = (fun y : S65536x256.Idx => (PremixKernel.val10 m c (y 0) (y 1) : EReal))
      ∧ r.2.mem ((c.tc : Thread nD τ).loc main_v18_4) = (fun y : S65536x512.Idx => (PremixKernel.val11 m c (y 0) (y 1) : EReal))
      ∧ r.2.mem ((c.tc : Thread nD τ).loc main_v18_5) = (fun y : S65536x512.Idx => (PremixKernel.val12 m c (y 0) (y 1) : EReal))
      ∧ r.2.mem ((c.tc : Thread nD τ).loc main_v18_6) = (fun y : S65536x256.Idx => (PremixKernel.val13 m c (y 0) (y 1) : EReal))
      ∧ r.2.mem ((c.tc : Thread nD τ).loc main_v18_7) = (fun y : S65536x1024.Idx => (PremixKernel.val14 m c (y 0) (y 1) : EReal))
      ∧ r.2.mem ((c.tc : Thread nD τ).loc main_v18_8) = (fun y : S65536x1024.Idx => (PremixKernel.val15 m c (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.PremixIdeal.Value.run_blocks m g)
  obtain ⟨h7, h8, h9, h10, h11, h12, h13, h14, h15, hk⟩ := h c
  exact ⟨h7.trans (PremixKernel.final7 m c), h8.trans (PremixKernel.final8 m c), h9.trans (PremixKernel.final9 m c), h10.trans (PremixKernel.final10 m c), h11.trans (PremixKernel.final11 m c), h12.trans (PremixKernel.final12 m c), h13.trans (PremixKernel.final13 m c), h14.trans (PremixKernel.final14 m c), h15.trans (PremixKernel.final15 m c), hk⟩

end

section
open Cert.PremixRefIdeal Cert.PremixRefIdeal.Gen Cert.PremixRefIdeal.Read

/-- What the reference's run leaves. -/
theorem premix_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v41) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.PremixRefIdeal.Value.run m g)
  obtain ⟨h7, h8, h9, h10, h11, h12, h13, h14, h15, hk⟩ := h c
  exact ⟨h7.trans (val_main_v41_eq _ _ _ _ _),
    h8.trans (val_main_v42_eq _ _ _ _ _),
    h9.trans (val_main_v43_eq _ _ _ _ _),
    h10.trans (val_main_v38_eq m c),
    h11.trans (val_main_v45_eq _ _ _ _ _),
    h12.trans (val_main_v46_eq _ _ _ _ _),
    h13.trans (val_main_v48_eq _ _ _ _ _),
    h14.trans (val_main_v55_eq _ _ _ _ _),
    h15.trans (val_main_v62_eq _ _ _ _ _), hk⟩

end

theorem algebraic_premix : Cert.algebraic_PremixIdeal_PremixRefIdeal := by
  intro m g m' g' _ hm
  refine ⟨fun c y => PremixKernel.val7 m c (y 0) (y 1), fun c y => PremixKernel.val8 m c (y 0) (y 1), fun c y => PremixKernel.val9 m c (y 0) (y 1), fun c y => PremixKernel.val10 m c (y 0) (y 1), fun c y => PremixKernel.val11 m c (y 0) (y 1), fun c y => PremixKernel.val12 m c (y 0) (y 1), fun c y => PremixKernel.val13 m c (y 0) (y 1), fun c y => PremixKernel.val14 m c (y 0) (y 1), fun c y => PremixKernel.val15 m c (y 0) (y 1), premix_kernel m g, ?_⟩
  refine (θ_run Cert.PremixRefIdeal.defs _ _).mono (fun r h c => ?_) (premix_reference m' g')
  obtain ⟨h7, h8, h9, h10, h11, h12, h13, h14, h15, hk⟩ := h c
  obtain ⟨e0, e1, e2, e3, e4, e5, e6⟩ := hm c
  exact ⟨h7.trans (PremixReference.same7 m c _ _ _ _ _ e0 e1 e2 e3 e4),
    h8.trans (PremixReference.same8 m c _ _ _ _ _ e0 e1 e2 e3 e4),
    h9.trans (PremixReference.same9 m c _ _ _ _ _ e0 e1 e2 e3 e4),
    h10.trans (PremixReference.same10 m c _ _ _ _ _ _ _ e0 e1 e2 e3 e4 e5 e6),
    h11.trans (PremixReference.same11 m c _ _ _ _ _ e0 e1 e2 e3 e4),
    h12.trans (PremixReference.same12 m c _ _ _ _ _ e0 e1 e2 e3 e4),
    h13.trans (PremixReference.same13 m c _ _ _ _ _ e0 e1 e2 e3 e4),
    h14.trans (PremixReference.same14 m c _ _ _ _ _ e0 e1 e2 e3 e4),
    h15.trans (PremixReference.same15 m c _ _ _ _ _ e0 e1 e2 e3 e4), hk⟩

end Cert.Proof

end
-- ==== Proof.Postmix.Spec.lean ====
/- The products after the mixers, written once over the extended reals: the two mixers' outputs taken up, gated and
   added, the output product, and the residual. -/
module

public import Idealize.ShloMosaic.Lib.Pointwise

@[expose] public section

noncomputable section

namespace Cert.Proof.Merge

open Idealize.ShloMosaic

section
variable (yg ys : Fin 512 → EReal) (sa sb : Fin 1024 → EReal) (ug us : Fin 512 → Fin 1024 → EReal)

/-- A token's two mixer outputs, each taken up by its own weight and gated, added. -/
def merged (k : Fin 1024) : EReal := sa k * (∑ l, yg l * ug l k) + sb k * ∑ l, ys l * us l k

/-- The residual row: the token's row plus its sequence's gate times the output product. -/
def residual (x g : Fin 1024 → EReal) (wo : Fin 1024 → Fin 1024 → EReal) (j : Fin 1024) : EReal :=
  x j + g j * ∑ k, merged yg ys sa sb ug us k * wo k j

end

/-- The sequence of a token. -/
abbrev seqOf (n : Fin 65536) : Fin 8 := ⟨n.val / 8192, by omega⟩

end Cert.Proof.Merge

end
-- ==== Proof.Postmix.Block.lean ====
/- One step of the products after the mixers: its residual block, entry by entry, from the step's input blocks. -/
module

public import proofs.«01_k».proof.Proof.Gen.PostmixIdeal.Frame
public import proofs.«01_k».proof.Proof.Postmix.Spec

@[expose] public section

set_option maxRecDepth 16384

noncomputable section

namespace Cert.Proof.PostmixKernel

open Cert.PostmixIdeal Cert.PostmixIdeal.Gen Idealize.ShloMosaic Idealize.ShloMosaic.TcCoe Cert.Proof.Merge

section
variable (a0 a1 : Vec Ideal S256x512 .bf16) (a2 a3 : Vec Ideal S256x1024 .bf16) (a4 : Vec Ideal S256x1024 .f32) (a5 : Vec Ideal S1x1x1024 .f32)
  (a6 a7 : Vec Ideal S512x1024 .bf16) (a8 : Vec Ideal S1024x1024 .bf16)

/-- The residual of 256 rows. -/
abbrev half (r : Fin 256) (j : Fin 1024) : EReal :=
  residual (fun l => a0 (ix2 r l)) (fun l => a1 (ix2 r l)) (fun k => a2 (ix2 r k)) (fun k => a3 (ix2 r k)) (fun l k => a6 (ix2 l k)) (fun l k => a7 (ix2 l k))
    (fun k => a4 (ix2 r k)) (fun k => a5 (ix3 0 0 k)) (fun k j => a8 (ix2 k j)) j

theorem first_half (r : Fin 256) (j : Fin 1024) :
    k0_pay8 (k0_pay4 a0 a6) a1 (k0_pay6 a7) (constant S256x1024 .f32 0#32) a2 a3 a8 a4 a5 (ix2 r j) = half a0 a1 a2 a3 a4 a5 a6 a7 a8 r j := by
  pointwise [k0_pay8, k0_pay4, k0_pay6]
  rfl

theorem second_half (r : Fin 256) (j : Fin 1024) :
    k0_pay12 (k0_pay7 (k0_pay5 a0 a6) a1 a7 a2 a3 a8) a4 a5 (ix2 r j) = half a0 a1 a2 a3 a4 a5 a6 a7 a8 r j := by
  pointwise [k0_pay12, k0_pay7, k0_pay5]
  rfl

end
/-! ### The step's two halves -/

theorem idx2 {a b : ℕ} (x : Shape.Idx ⟨2, ![a, b]⟩) : ∃ (r : Fin a) (j : Fin b), x = ix2 r j :=
  ⟨x 0, x 1, by funext k; match k with | ⟨0, _⟩ => rfl | ⟨1, _⟩ => rfl⟩

section
variable {e : EltTy}

theorem at_rows {a b d : ℕ} (X : Vec Ideal ⟨2, ![a, b]⟩ e) (o : ℕ) (h) (r : Fin d) (l : Fin b) (k : Fin a) (hk : k.val = o + r.val) :
    View.ld (S := ⟨2, ![a, b]⟩) X (Rect.unit ![o, 0] ![d, b] h) (ix2 r l) = X (ix2 k l) := by
  show X _ = X _
  congr 1
  funext q
  match q with
  | ⟨0, _⟩ => exact Fin.ext (by simp [hk])
  | ⟨1, _⟩ => exact Fin.ext (by simp)

theorem at_gate (X : Vec Ideal S1x1x1024 e) (h) (j : Fin 1024) :
    View.ld (S := S1x1x1024) X (Rect.unit ![0, 0, 0] ![1, 1, 1024] h) (ix3 0 0 j) = X (ix3 0 0 j) := by
  show X _ = X _
  congr 1
  funext q
  match q with
  | ⟨0, _⟩ => rfl
  | ⟨1, _⟩ => rfl
  | ⟨2, _⟩ => exact Fin.ext (by simp)

end

section
variable (x0 x1 : Vec Ideal S512x512 .bf16) (x2 x3 : Vec Ideal S512x1024 .bf16) (x4 : Vec Ideal S512x1024 .f32) (x5 : Vec Ideal S1x1x1024 .f32)
  (x6 x7 : Vec Ideal S512x1024 .bf16) (x8 : Vec Ideal S1024x1024 .bf16)

/-- The residual of the step's block. -/
abbrev step (r : Fin 512) (j : Fin 1024) : EReal :=
  residual (fun l => x0 (ix2 r l)) (fun l => x1 (ix2 r l)) (fun k => x2 (ix2 r k)) (fun k => x3 (ix2 r k)) (fun l k => x6 (ix2 l k)) (fun l k => x7 (ix2 l k))
    (fun k => x4 (ix2 r k)) (fun k => x5 (ix3 0 0 k)) (fun k j => x8 (ix2 k j)) j

/-- The step's residual at an entry of the block. -/
def stepAt (y : S512x1024.Idx) : EReal := step x0 x1 x2 x3 x4 x5 x6 x7 x8 (y 0) (y 1)

theorem part (o : ℕ) (h0 h1 h2 h3 h4 h5 h6 h7 h8 hy) (f : Vec Ideal S256x1024 .f32)
    (hf : ∀ r j, f (ix2 r j) = half (View.ld (S := S512x512) x0 (Rect.unit ![o, 0] ![256, 512] h0)) (View.ld (S := S512x512) x1 (Rect.unit ![o, 0] ![256, 512] h1))
      (View.ld (S := S512x1024) x2 (Rect.unit ![o, 0] ![256, 1024] h2)) (View.ld (S := S512x1024) x3 (Rect.unit ![o, 0] ![256, 1024] h3))
      (View.ld (S := S512x1024) x4 (Rect.unit ![o, 0] ![256, 1024] h4)) (View.ld (S := S1x1x1024) x5 (Rect.unit ![0, 0, 0] ![1, 1, 1024] h5))
      (View.ld (S := S512x1024) x6 (Rect.unit ![0, 0] ![512, 1024] h6)) (View.ld (S := S512x1024) x7 (Rect.unit ![0, 0] ![512, 1024] h7))
      (View.ld (S := S1024x1024) x8 (Rect.unit ![0, 0] ![1024, 1024] h8)) r j) (ho : o + 256 ≤ 512) (y : S256x1024.Idx) :
    f y = stepAt x0 x1 x2 x3 x4 x5 x6 x7 x8 ((Rect.unit (s := S512x1024) ![o, 0] ![256, 1024] hy).emb y) := by
  obtain ⟨r, j, rfl⟩ := idx2 (a := 256) (b := 1024) y
  have he : (Rect.unit (s := S512x1024) ![o, 0] ![256, 1024] hy).emb (ix2 r j) = ix2 (⟨o + r.val, by omega⟩ : Fin 512) j := by
    funext k; match k with | ⟨0, _⟩ => exact Fin.ext (by simp) | ⟨1, _⟩ => exact Fin.ext (by simp)
  rw [he, hf]
  show half _ _ _ _ _ _ _ _ _ r j = step x0 x1 x2 x3 x4 x5 x6 x7 x8 ⟨o + r.val, by omega⟩ j
  unfold half step
  congr 1
  · exact funext fun l => at_rows x0 o _ r l _ rfl
  · exact funext fun l => at_rows x1 o _ r l _ rfl
  · exact funext fun l => at_rows x2 o _ r l _ rfl
  · exact funext fun l => at_rows x3 o _ r l _ rfl
  · exact funext fun k => funext fun l => at_rows x6 0 _ k l _ (Nat.zero_add _).symm
  · exact funext fun k => funext fun l => at_rows x7 0 _ k l _ (Nat.zero_add _).symm
  · exact funext fun l => at_rows x4 o _ r l _ rfl
  · exact funext fun l => at_gate x5 _ l
  · exact funext fun k => funext fun l => at_rows x8 0 _ k l _ (Nat.zero_add _).symm

end

theorem out_A (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .bf16) (harg13 : arg13.IsWhole) (arg14 : Memref sig .tc .vmem S16x1 .f32) (harg14 : arg14.IsWhole) (arg15 : Memref sig .tc .vmem S512x1024 .f32) (harg15 : arg15.IsWhole) (arg16 : Memref sig .tc .vmem S512x1152 .f32) (harg16 : arg16.IsWhole) (arg17 : Memref sig .tc .vmem S1x1x512 .i32) (harg17 : arg17.IsWhole) (arg18 : Memref sig .tc .vmem S1x1x512 .i32) (harg18 : arg18.IsWhole) (arg19 : Memref sig .tc .vmem S32x128 .f32) (harg19 : arg19.IsWhole) (arg20 : Memref sig .tc .vmem S32x128 .f32) (harg20 : arg20.IsWhole) (hc0 : cond0_0 i)
    (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1x1024 .f32) (x6 : Vec Ideal S512x1024 .bf16) (x7 : Vec Ideal S512x1024 .bf16) (x8 : Vec Ideal S1024x1024 .bf16) (x9 : Vec Ideal S1x1024 .f32) (x10 : Vec Ideal S1x1x1024 .f32) (x11 : Vec Ideal S1x1x1024 .f32) (x12 : Vec Ideal S1024x128 .bf16) (x13 : Vec Ideal S16x1 .f32) (r : Fin 512) (j : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 (ix2 r j) = step x0 x1 x2 x3 x4 x5 x6 x7 x8 r j := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  refine (View.canon_apply_of_pieces (Val := Elt Ideal) (e := .f32) (stepAt x0 x1 x2 x3 x4 x5 x6 x7 x8) _ ?_ (ix2 r j) (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 _)).trans rfl
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  simp only [List.forall_mem_cons]
  refine ⟨?_, ?_, by simp⟩
  · exact part x0 x1 x2 x3 x4 x5 x6 x7 x8 256 _ _ _ _ _ _ _ _ _ _ _ (fun r j => second_half _ _ _ _ _ _ _ _ _ r j) (by omega)
  · exact part x0 x1 x2 x3 x4 x5 x6 x7 x8 0 _ _ _ _ _ _ _ _ _ _ _ (fun r j => first_half _ _ _ _ _ _ _ _ _ r j) (by omega)

theorem out_B (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .bf16) (harg13 : arg13.IsWhole) (arg14 : Memref sig .tc .vmem S16x1 .f32) (harg14 : arg14.IsWhole) (arg15 : Memref sig .tc .vmem S512x1024 .f32) (harg15 : arg15.IsWhole) (arg16 : Memref sig .tc .vmem S512x1152 .f32) (harg16 : arg16.IsWhole) (arg17 : Memref sig .tc .vmem S1x1x512 .i32) (harg17 : arg17.IsWhole) (arg18 : Memref sig .tc .vmem S1x1x512 .i32) (harg18 : arg18.IsWhole) (arg19 : Memref sig .tc .vmem S32x128 .f32) (harg19 : arg19.IsWhole) (arg20 : Memref sig .tc .vmem S32x128 .f32) (harg20 : arg20.IsWhole) (hc0 : ¬cond0_0 i)
    (x0 : Vec Ideal S512x512 .bf16) (x1 : Vec Ideal S512x512 .bf16) (x2 : Vec Ideal S512x1024 .bf16) (x3 : Vec Ideal S512x1024 .bf16) (x4 : Vec Ideal S512x1024 .f32) (x5 : Vec Ideal S1x1x1024 .f32) (x6 : Vec Ideal S512x1024 .bf16) (x7 : Vec Ideal S512x1024 .bf16) (x8 : Vec Ideal S1024x1024 .bf16) (x9 : Vec Ideal S1x1024 .f32) (x10 : Vec Ideal S1x1x1024 .f32) (x11 : Vec Ideal S1x1x1024 .f32) (x12 : Vec Ideal S1024x128 .bf16) (x13 : Vec Ideal S16x1 .f32) (xs0 : Vec Ideal S32x128 .f32) (r : Fin 512) (j : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 (ix2 r j) = step x0 x1 x2 x3 x4 x5 x6 x7 x8 r j := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0)]
  refine (View.canon_apply_of_pieces (Val := Elt Ideal) (e := .f32) (stepAt x0 x1 x2 x3 x4 x5 x6 x7 x8) _ ?_ (ix2 r j) (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 _)).trans rfl
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread]
  simp only [List.forall_mem_cons]
  refine ⟨?_, ?_, by simp⟩
  · exact part x0 x1 x2 x3 x4 x5 x6 x7 x8 256 _ _ _ _ _ _ _ _ _ _ _ (fun r j => second_half _ _ _ _ _ _ _ _ _ r j) (by omega)
  · exact part x0 x1 x2 x3 x4 x5 x6 x7 x8 0 _ _ _ _ _ _ _ _ _ _ _ (fun r j => first_half _ _ _ _ _ _ _ _ _ r j) (by omega)

end Cert.Proof.PostmixKernel

end
-- ==== Proof.Postmix.Array.lean ====
/- The arrays of the products after the mixers: the blocks of every step and the residual array. -/
module

public import proofs.«01_k».proof.Proof.Gen.PostmixIdeal.Value
public import proofs.«01_k».proof.Proof.Postmix.Block

@[expose] public section

set_option maxRecDepth 16384

noncomputable section

namespace Cert.Proof.PostmixKernel

open Cert.PostmixIdeal Cert.PostmixIdeal.Gen Idealize.ShloMosaic Idealize.ShloMosaic.TcCoe Cert.Proof.Merge

variable (m : (ℓ : Loc nD τ sig) → Buf (Elt Ideal) ℓ) (c : Dev nD)

/-! ### The weights, cast -/

theorem V_w6 (k : Fin 512) (j : Fin 1024) : (V m c main_v4 : Vec Ideal S512x1024 .bf16) (ix2 k j)
    = (m ((c : Thread nD τ).loc main_arg6) : Vec Ideal S512x1024 .f32) (ix2 k j) := by
  unfold_abbrev_sides
  after_results
  pointwise []

theorem V_w7 (k : Fin 512) (j : Fin 1024) : (V m c main_v5 : Vec Ideal S512x1024 .bf16) (ix2 k j)
    = (m ((c : Thread nD τ).loc main_arg7) : Vec Ideal S512x1024 .f32) (ix2 k j) := by
  unfold_abbrev_sides
  after_results
  pointwise []

theorem V_w8 (k : Fin 1024) (j : Fin 1024) : (V m c main_v6 : Vec Ideal S1024x1024 .bf16) (ix2 k j)
    = (m ((c : Thread nD τ).loc main_arg8) : Vec Ideal S1024x1024 .f32) (ix2 k j) := by
  unfold_abbrev_sides
  after_results
  pointwise []

/-! ### Which block each window is at -/

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = t.val ∧ win0_1.index t 1 = 0 :=
  (by decide +kernel : ∀ t : Fin grid0.N, win0_1.index t 0 = t.val ∧ win0_1.index t 1 = 0)

theorem at2 : ∀ t : Fin cfg0.N, win0_2.index t 0 = t.val ∧ win0_2.index t 1 = 0 :=
  (by decide +kernel : ∀ t : Fin grid0.N, win0_2.index t 0 = t.val ∧ win0_2.index t 1 = 0)

theorem at3 : ∀ t : Fin cfg0.N, win0_3.index t 0 = t.val ∧ win0_3.index t 1 = 0 :=
  (by decide +kernel : ∀ t : Fin grid0.N, win0_3.index t 0 = t.val ∧ win0_3.index t 1 = 0)

theorem at4 : ∀ t : Fin cfg0.N, win0_4.index t 0 = t.val ∧ win0_4.index t 1 = 0 :=
  (by decide +kernel : ∀ t : Fin grid0.N, win0_4.index t 0 = t.val ∧ win0_4.index t 1 = 0)

theorem at14 : ∀ t : Fin cfg0.N, win0_14.index t 0 = t.val ∧ win0_14.index t 1 = 0 :=
  (by decide +kernel : ∀ t : Fin grid0.N, win0_14.index t 0 = t.val ∧ win0_14.index t 1 = 0)

theorem at6 : ∀ t : Fin cfg0.N, win0_6.index t 0 = 0 ∧ win0_6.index t 1 = 0 :=
  (by decide +kernel : ∀ t : Fin grid0.N, win0_6.index t 0 = 0 ∧ win0_6.index t 1 = 0)

theorem at7 : ∀ t : Fin cfg0.N, win0_7.index t 0 = 0 ∧ win0_7.index t 1 = 0 :=
  (by decide +kernel : ∀ t : Fin grid0.N, win0_7.index t 0 = 0 ∧ win0_7.index t 1 = 0)

theorem at8 : ∀ t : Fin cfg0.N, win0_8.index t 0 = 0 ∧ win0_8.index t 1 = 0 :=
  (by decide +kernel : ∀ t : Fin grid0.N, win0_8.index t 0 = 0 ∧ win0_8.index t 1 = 0)

theorem at5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

theorem lt_points (t : Fin cfg0.N) : t.val < 128 := t.isLt

/-! ### What each window's block holds -/

/-- Row `r` of step `t`. -/
abbrev token (t : Fin cfg0.N) (r : Fin 512) : Fin 65536 := ⟨512 * t.val + r.val, by have := lt_points t; omega⟩

theorem blk0 (t : Fin cfg0.N) (r : Fin 512) (k : Fin 512) :
    (iblk m c 0 t : Vec Ideal S512x512 .bf16) (ix2 r k) = (m ((c : Thread nD τ).loc main_arg0) : Vec Ideal S65536x512 .bf16) (ix2 (token t r) k) := by
  unfold iblk
  rw [View.read_apply]
  show V m c main_arg0 _ = _
  have hi := at0 t
  rw [V_main_arg0]
  refine congrArg _ (funext fun a => Fin.ext ?_)
  match a with
  | ⟨0, _⟩ => show win0_0.index t 0 * 512 + 1 * r.val = 512 * t.val + r.val; rw [hi.1]; omega
  | ⟨1, _⟩ => show win0_0.index t 1 * 512 + 1 * k.val = k.val; rw [hi.2]; omega

theorem blk1 (t : Fin cfg0.N) (r : Fin 512) (k : Fin 512) :
    (iblk m c 1 t : Vec Ideal S512x512 .bf16) (ix2 r k) = (m ((c : Thread nD τ).loc main_arg1) : Vec Ideal S65536x512 .bf16) (ix2 (token t r) k) := by
  unfold iblk
  rw [View.read_apply]
  show V m c main_arg1 _ = _
  have hi := at1 t
  rw [V_main_arg1]
  refine congrArg _ (funext fun a => Fin.ext ?_)
  match a with
  | ⟨0, _⟩ => show win0_1.index t 0 * 512 + 1 * r.val = 512 * t.val + r.val; rw [hi.1]; omega
  | ⟨1, _⟩ => show win0_1.index t 1 * 512 + 1 * k.val = k.val; rw [hi.2]; omega

theorem blk2 (t : Fin cfg0.N) (r : Fin 512) (k : Fin 1024) :
    (iblk m c 2 t : Vec Ideal S512x1024 .bf16) (ix2 r k) = (m ((c : Thread nD τ).loc main_arg2) : Vec Ideal S65536x1024 .bf16) (ix2 (token t r) k) := by
  unfold iblk
  rw [View.read_apply]
  show V m c main_arg2 _ = _
  have hi := at2 t
  rw [V_main_arg2]
  refine congrArg _ (funext fun a => Fin.ext ?_)
  match a with
  | ⟨0, _⟩ => show win0_2.index t 0 * 512 + 1 * r.val = 512 * t.val + r.val; rw [hi.1]; omega
  | ⟨1, _⟩ => show win0_2.index t 1 * 1024 + 1 * k.val = k.val; rw [hi.2]; omega

theorem blk3 (t : Fin cfg0.N) (r : Fin 512) (k : Fin 1024) :
    (iblk m c 3 t : Vec Ideal S512x1024 .bf16) (ix2 r k) = (m ((c : Thread nD τ).loc main_arg3) : Vec Ideal S65536x1024 .bf16) (ix2 (token t r) k) := by
  unfold iblk
  rw [View.read_apply]
  show V m c main_arg3 _ = _
  have hi := at3 t
  rw [V_main_arg3]
  refine congrArg _ (funext fun a => Fin.ext ?_)
  match a with
  | ⟨0, _⟩ => show win0_3.index t 0 * 512 + 1 * r.val = 512 * t.val + r.val; rw [hi.1]; omega
  | ⟨1, _⟩ => show win0_3.index t 1 * 1024 + 1 * k.val = k.val; rw [hi.2]; omega

theorem blk4 (t : Fin cfg0.N) (r : Fin 512) (k : Fin 1024) :
    (iblk m c 4 t : Vec Ideal S512x1024 .f32) (ix2 r k) = (m ((c : Thread nD τ).loc main_arg4) : Vec Ideal S65536x1024 .f32) (ix2 (token t r) k) := by
  unfold iblk
  rw [View.read_apply]
  show V m c main_arg4 _ = _
  have hi := at4 t
  rw [V_main_arg4]
  refine congrArg _ (funext fun a => Fin.ext ?_)
  match a with
  | ⟨0, _⟩ => show win0_4.index t 0 * 512 + 1 * r.val = 512 * t.val + r.val; rw [hi.1]; omega
  | ⟨1, _⟩ => show win0_4.index t 1 * 1024 + 1 * k.val = k.val; rw [hi.2]; omega

theorem blk5 (t : Fin cfg0.N) (k : Fin 1024) :
    (iblk m c 5 t : Vec Ideal S1x1x1024 .f32) (ix3 0 0 k) = (m ((c : Thread nD τ).loc main_arg5) : Vec Ideal S8x1x1024 .f32) (ix3 ⟨t.val / 16, by have := lt_points t; omega⟩ 0 k) := by
  unfold iblk
  rw [View.read_apply]
  show V m c main_arg5 _ = _
  have hi := at5 t
  rw [V_main_arg5]
  refine congrArg _ (funext fun a => Fin.ext ?_)
  match a with
  | ⟨0, _⟩ => show win0_5.index t 0 * 1 + 1 * 0 = t.val / 16; rw [hi.1]; omega
  | ⟨1, _⟩ => show win0_5.index t 1 * 1 + 1 * 0 = 0; rw [hi.2.1]
  | ⟨2, _⟩ => show win0_5.index t 2 * 1024 + 1 * k.val = k.val; rw [hi.2.2]; omega

theorem blk6 (t : Fin cfg0.N) (k : Fin 512) (j : Fin 1024) :
    (iblk m c 6 t : Vec Ideal S512x1024 .bf16) (ix2 k j) = (m ((c : Thread nD τ).loc main_arg6) : Vec Ideal S512x1024 .f32) (ix2 k j) := by
  refine Eq.trans ?_ (V_w6 m c k j)
  unfold iblk
  rw [View.read_apply]
  show V m c main_v4 _ = _
  have hi := at6 t
  refine congrArg _ (funext fun a => Fin.ext ?_)
  match a with
  | ⟨0, _⟩ => show win0_6.index t 0 * 512 + 1 * k.val = k.val; rw [hi.1]; omega
  | ⟨1, _⟩ => show win0_6.index t 1 * 1024 + 1 * j.val = j.val; rw [hi.2]; omega

theorem blk7 (t : Fin cfg0.N) (k : Fin 512) (j : Fin 1024) :
    (iblk m c 7 t : Vec Ideal S512x1024 .bf16) (ix2 k j) = (m ((c : Thread nD τ).loc main_arg7) : Vec Ideal S512x1024 .f32) (ix2 k j) := by
  refine Eq.trans ?_ (V_w7 m c k j)
  unfold iblk
  rw [View.read_apply]
  show V m c main_v5 _ = _
  have hi := at7 t
  refine congrArg _ (funext fun a => Fin.ext ?_)
  match a with
  | ⟨0, _⟩ => show win0_7.index t 0 * 512 + 1 * k.val = k.val; rw [hi.1]; omega
  | ⟨1, _⟩ => show win0_7.index t 1 * 1024 + 1 * j.val = j.val; rw [hi.2]; omega

theorem blk8 (t : Fin cfg0.N) (k : Fin 1024) (j : Fin 1024) :
    (iblk m c 8 t : Vec Ideal S1024x1024 .bf16) (ix2 k j) = (m ((c : Thread nD τ).loc main_arg8) : Vec Ideal S1024x1024 .f32) (ix2 k j) := by
  refine Eq.trans ?_ (V_w8 m c k j)
  unfold iblk
  rw [View.read_apply]
  show V m c main_v6 _ = _
  have hi := at8 t
  refine congrArg _ (funext fun a => Fin.ext ?_)
  match a with
  | ⟨0, _⟩ => show win0_8.index t 0 * 1024 + 1 * k.val = k.val; rw [hi.1]; omega
  | ⟨1, _⟩ => show win0_8.index t 1 * 1024 + 1 * j.val = j.val; rw [hi.2]; omega

/-! ### The residual array -/

/-- The residual at token `n`, column `j`. -/
def val14 (n : Fin 65536) (j : Fin 1024) : EReal :=
  residual (fun l => (m ((c : Thread nD τ).loc main_arg0) : Vec Ideal S65536x512 .bf16) (ix2 n l)) (fun l => (m ((c : Thread nD τ).loc main_arg1) : Vec Ideal S65536x512 .bf16) (ix2 n l))
    (fun k => (m ((c : Thread nD τ).loc main_arg2) : Vec Ideal S65536x1024 .bf16) (ix2 n k)) (fun k => (m ((c : Thread nD τ).loc main_arg3) : Vec Ideal S65536x1024 .bf16) (ix2 n k))
    (fun l k => (m ((c : Thread nD τ).loc main_arg6) : Vec Ideal S512x1024 .f32) (ix2 l k)) (fun l k => (m ((c : Thread nD τ).loc main_arg7) : Vec Ideal S512x1024 .f32) (ix2 l k))
    (fun k => (m ((c : Thread nD τ).loc main_arg4) : Vec Ideal S65536x1024 .f32) (ix2 n k)) (fun k => (m ((c : Thread nD τ).loc main_arg5) : Vec Ideal S8x1x1024 .f32) (ix3 (seqOf n) 0 k))
    (fun k j => (m ((c : Thread nD τ).loc main_arg8) : Vec Ideal S1024x1024 .f32) (ix2 k j)) j

theorem step_at (t : Fin cfg0.N) (r : Fin 512) (j : Fin 1024) :
    step (iblk m c 0 t) (iblk m c 1 t) (iblk m c 2 t) (iblk m c 3 t) (iblk m c 4 t) (iblk m c 5 t) (iblk m c 6 t) (iblk m c 7 t) (iblk m c 8 t) r j
      = val14 m c (token t r) j := by
  have ht := lt_points t
  have e : (⟨t.val / 16, by omega⟩ : Fin 8) = seqOf (token t r) := Fin.ext (by simp; omega)
  unfold step val14
  congr 1
  · exact funext fun l => blk0 m c t r l
  · exact funext fun l => blk1 m c t r l
  · exact funext fun l => blk2 m c t r l
  · exact funext fun l => blk3 m c t r l
  · exact funext fun k => funext fun l => blk6 m c t k l
  · exact funext fun k => funext fun l => blk7 m c t k l
  · exact funext fun l => blk4 m c t r l
  · funext l; rw [← e]; exact blk5 m c t l
  · exact funext fun k => funext fun l => blk8 m c t k l

theorem cut14 (t : Fin cfg0.N) (f : Vec Ideal S512x1024 .f32) (hf : ∀ (r : Fin 512) (j : Fin 1024), f (ix2 r j) = val14 m c (token t r) j) :
    (cfg0.win 14).cut (grid0.coords t) f = ((cfg0.win 14).blk t).view.read (Elt Ideal) (fun y : S65536x1024.Idx => (val14 m c (y 0) (y 1) : EReal)) := by
  have ht := lt_points t
  funext y
  rw [View.read_apply]
  obtain ⟨r, j, rfl⟩ := idx2 (a := 512) (b := 1024) y
  refine (hf r j).trans ?_
  have hi := at14 t
  have e0 : (((cfg0.win 14).blk t).view.emb (ix2 r j)) 0 = token t r := Fin.ext (by
    show win0_14.index t 0 * 512 + 1 * r.val = _
    rw [hi.1]; simp; omega)
  have e1 : (((cfg0.win 14).blk t).view.emb (ix2 r j)) 1 = j := Fin.ext (by
    show win0_14.index t 1 * 1024 + 1 * j.val = _
    rw [hi.2]; omega)
  show _ = val14 m c _ _
  rw [e0, e1]

theorem flushed_eq14 (t : Fin cfg0.N) (_ : (cfg0.win 14).flush t = true) :
    (dats m 0 c).flushed 14 t = ((cfg0.win 14).blk t).view.read (Elt Ideal) (fun y : S65536x1024.Idx => (val14 m c (y 0) (y 1) : EReal)) := by
  by_cases h : t.val % 128 = 0
  · rw [Cert.PostmixIdeal.Value.flushed14_A m c t h]
    exact cut14 m c t _ fun r j => (out_A _ _ _ _ _ _ _ _ _ _ _ _ _ _ _ _ _ _ _ _ _ _ _ _ _ _ _ _ _ _ _ _ _ _ _ _ _ _ _ _ _ _ _ _ _ _ _ _ _ _ _ _ _ _ _ _ _ r j).trans (step_at m c t r j)
  · rw [Cert.PostmixIdeal.Value.flushed14_B m c t h]
    exact cut14 m c t _ fun r j => (out_B _ _ _ _ _ _ _ _ _ _ _ _ _ _ _ _ _ _ _ _ _ _ _ _ _ _ _ _ _ _ _ _ _ _ _ _ _ _ _ _ _ _ _ _ _ _ _ _ _ _ _ _ _ _ _ _ _ _ r j).trans (step_at m c t r j)

theorem final14 : (dats m 0 c).arrAt 14 cfg0.N = fun y : S65536x1024.Idx => (val14 m c (y 0) (y 1) : EReal) :=
  (dats m 0 c).arrAt_eq_of_cover 14 _ (flushed_eq14 m c) fun i =>
    (Cert.PostmixIdeal.Value.covered_iff14 i).mpr ⟨Nat.zero_le _, (i 0).isLt, Nat.zero_le _, (i 1).isLt⟩

end Cert.Proof.PostmixKernel

end
-- ==== Proof.Postmix.Ref.lean ====
/- The reference of the products after the mixers, read at an index. -/
module

public import proofs.«01_k».proof.Proof.Gen.PostmixRefIdeal.Read
public import proofs.«01_k».proof.Proof.Postmix.Spec

@[expose] public section

set_option maxRecDepth 16384

noncomputable section

namespace Cert.Proof.PostmixReference

open Cert.PostmixRefIdeal Cert.PostmixRefIdeal.Gen Cert.PostmixRefIdeal.Read Idealize.ShloMosaic Cert.Proof.Merge

variable (x0 x1 : Vec Ideal S65536x512 .bf16) (x2 x3 : Vec Ideal S65536x1024 .bf16) (x4 : Vec Ideal S65536x1024 .f32) (x5 : Vec Ideal S8x1x1024 .f32)
  (x6 x7 : Vec Ideal S512x1024 .f32) (x8 : Vec Ideal S1024x1024 .f32)

/-- The residual of the arguments. -/
abbrev R (n : Fin 65536) (j : Fin 1024) : EReal :=
  residual (fun l => x0 (ix2 n l)) (fun l => x1 (ix2 n l)) (fun k => x2 (ix2 n k)) (fun k => x3 (ix2 n k)) (fun l k => x6 (ix2 l k)) (fun l k => x7 (ix2 l k))
    (fun k => x4 (ix2 n k)) (fun k => x5 (ix3 (seqOf n) 0 k)) (fun k j => x8 (ix2 k j)) j

theorem merged_at (n : Fin 65536) (k : Fin 1024) : val_main_v8 (F := Ideal) x0 x1 x2 x3 x6 x7 (ix2 n k)
    = merged (fun l => x0 (ix2 n l)) (fun l => x1 (ix2 n l)) (fun k => x2 (ix2 n k)) (fun k => x3 (ix2 n k)) (fun l k => x6 (ix2 l k)) (fun l k => x7 (ix2 l k)) k := by
  pointwise [val_main_v8, val_main_v7, val_main_v6, val_main_v5, val_main_v4, val_main_v3, val_main_v2, val_main_v1, val_main_v0]
  rfl

theorem res (n : Fin 65536) (j : Fin 1024) :
    val_main_v15 (F := Ideal) x0 x1 x2 x3 x4 x5 x6 x7 x8 (ix2 n j) = R x0 x1 x2 x3 x4 x5 x6 x7 x8 n j := by
  pointwise [val_main_v15, val_main_v14, val_main_v13, val_main_v12, val_main_v11, val_main_v10, val_main_v9]
  simp only [merged_at]
  rfl

end Cert.Proof.PostmixReference

end
-- ==== Proof.Postmix.Claim.lean ====
/- The value claim of the products after the mixers: the kernel's residual array and the reference's are one function of the arguments. -/
module

public import proofs.«01_k».proof.Defs
public import proofs.«01_k».proof.Proof.Postmix.Array
public import proofs.«01_k».proof.Proof.Postmix.Ref

@[expose] public section

set_option maxRecDepth 16384

noncomputable section

namespace Cert.Proof

open Idealize.ShloMosaic Idealize.SL.Sem Idealize.ShloMosaic.TcCoe

namespace PostmixReference

open Cert.PostmixRefIdeal Cert.PostmixRefIdeal.Gen Cert.PostmixRefIdeal.Read

variable (m : (ℓ : Loc Cert.PostmixIdeal.nD Cert.PostmixIdeal.τ Cert.PostmixIdeal.sig) → Buf (Elt Ideal) ℓ) (c : Dev Cert.PostmixIdeal.nD)

/-- The kernel's arguments, as the reference's. -/
abbrev a0 : Vec Ideal S65536x512 .bf16 := m ((c.tc : Thread Cert.PostmixIdeal.nD Cert.PostmixIdeal.τ).loc Cert.PostmixIdeal.main_arg0)
abbrev a1 : Vec Ideal S65536x512 .bf16 := m ((c.tc : Thread Cert.PostmixIdeal.nD Cert.PostmixIdeal.τ).loc Cert.PostmixIdeal.main_arg1)
abbrev a2 : Vec Ideal S65536x1024 .bf16 := m ((c.tc : Thread Cert.PostmixIdeal.nD Cert.PostmixIdeal.τ).loc Cert.PostmixIdeal.main_arg2)
abbrev a3 : Vec Ideal S65536x1024 .bf16 := m ((c.tc : Thread Cert.PostmixIdeal.nD Cert.PostmixIdeal.τ).loc Cert.PostmixIdeal.main_arg3)
abbrev a4 : Vec Ideal S65536x1024 .f32 := m ((c.tc : Thread Cert.PostmixIdeal.nD Cert.PostmixIdeal.τ).loc Cert.PostmixIdeal.main_arg4)
abbrev a5 : Vec Ideal S8x1x1024 .f32 := m ((c.tc : Thread Cert.PostmixIdeal.nD Cert.PostmixIdeal.τ).loc Cert.PostmixIdeal.main_arg5)
abbrev a6 : Vec Ideal S512x1024 .f32 := m ((c.tc : Thread Cert.PostmixIdeal.nD Cert.PostmixIdeal.τ).loc Cert.PostmixIdeal.main_arg6)
abbrev a7 : Vec Ideal S512x1024 .f32 := m ((c.tc : Thread Cert.PostmixIdeal.nD Cert.PostmixIdeal.τ).loc Cert.PostmixIdeal.main_arg7)
abbrev a8 : Vec Ideal S1024x1024 .f32 := m ((c.tc : Thread Cert.PostmixIdeal.nD Cert.PostmixIdeal.τ).loc Cert.PostmixIdeal.main_arg8)

theorem same (x0 : Vec Ideal S65536x512 .bf16) (x1 : Vec Ideal S65536x512 .bf16) (x2 : Vec Ideal S65536x1024 .bf16) (x3 : Vec Ideal S65536x1024 .bf16) (x4 : Vec Ideal S65536x1024 .f32) (x5 : Vec Ideal S8x1x1024 .f32) (x6 : Vec Ideal S512x1024 .f32) (x7 : Vec Ideal S512x1024 .f32) (x8 : Vec Ideal S1024x1024 .f32)
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v15 (F := Ideal) x0 x1 x2 x3 x4 x5 x6 x7 x8 = fun y : S65536x1024.Idx => (PostmixKernel.val14 m c (y 0) (y 1) : EReal) := by
  subst e0 e1 e2 e3 e4 e5 e6 e7 e8
  funext y
  obtain ⟨n, j, rfl⟩ := PostmixKernel.idx2 (a := 65536) (b := 1024) y
  exact res _ _ _ _ _ _ _ _ _ n j

end PostmixReference

section
open Cert.PostmixIdeal Cert.PostmixIdeal.Gen

/-- What the kernel's run leaves. -/
theorem postmix_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = (fun y : S65536x1024.Idx => (PostmixKernel.val14 m c (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (Cert.PostmixIdeal.Value.run_blocks m g)
  obtain ⟨h14, -, -, -, -, hk⟩ := h c
  exact ⟨h14.trans (PostmixKernel.final14 m c), hk⟩

end

section
open Cert.PostmixRefIdeal Cert.PostmixRefIdeal.Gen Cert.PostmixRefIdeal.Read

/-- What the reference's run leaves. -/
theorem postmix_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (Cert.PostmixRefIdeal.Value.run m g)
  obtain ⟨h0, hk⟩ := h c
  exact ⟨h0.trans (val_main_v15_eq _ _ _ _ _ _ _ _ _), hk⟩

end

theorem algebraic_postmix : Cert.algebraic_PostmixIdeal_PostmixRefIdeal := by
  intro m g m' g' _ hm
  refine ⟨fun c y => PostmixKernel.val14 m c (y 0) (y 1), postmix_kernel m g, ?_⟩
  refine (θ_run Cert.PostmixRefIdeal.defs _ _).mono (fun r h c => ?_) (postmix_reference m' g')
  obtain ⟨h0, hk⟩ := h c
  obtain ⟨e0, e1, e2, e3, e4, e5, e6, e7, e8, -⟩ := hm c
  exact ⟨h0.trans (PostmixReference.same m c _ _ _ _ _ _ _ _ _ e0 e1 e2 e3 e4 e5 e6 e7 e8), hk⟩

end Cert.Proof

end
-- ==== Proof.Moe.Pre.lean ====
/- The experts' call's precondition, read word by word: every block's two words name experts, and there is a live block. -/
module

public import proofs.«01_k».proof.Pre_experts_named
public import Idealize.ShloMosaic.Lib.ReduceAll
public import Idealize.ShloMosaic.Lib.Affine
public import Idealize.ShloMosaic.Lib.Pointwise
public import Idealize.ShloMosaic.Lib.StableHlo.Predicate

@[expose] public section

noncomputable section

namespace Cert.Pre_experts_named.Gen

open Idealize.ShloMosaic Cert.Pre_experts_named

instance facts : Cert.Pre_experts_named.Facts where
  bcast_S_S152 := by decide
  reducesTo_S152_S_d0 := by decide
  h_S_ := by decide
  bcast_S_S1 := by decide
  reducesTo_S1_S_d0 := by decide

end Cert.Pre_experts_named.Gen

namespace Cert.Proof.Experts

open Idealize.ShloMosaic Cert.Pre_experts_named Cert.Pre_experts_named.Facts

variable {F : FTy → Type} [FloatOps F]

/-- A word at least zero and below sixteen, both as a signed number. -/
theorem lt_sixteen (w : BitVec 32) (h : IntOp.andi (IntOp.cmpi .sge w 0#32) (IntOp.cmpi .slt w 16#32) = 1#1) : w.toNat < 16 := by
  obtain ⟨h0, h1⟩ := IntOp.andi_eq_one.mp h
  simp only [IntOp.cmpi] at h0 h1
  by_contra hn
  have e0 : (0#32).sle w = true := by
    cases hh : (0#32).sle w
    · rw [hh] at h0; exact absurd h0 (by decide)
    · rfl
  have e1 : w.slt 16#32 = true := by
    cases hh : w.slt 16#32
    · rw [hh] at h1; exact absurd h1 (by decide)
    · rfl
  rw [BitVec.sle_iff_toInt_le] at e0
  rw [BitVec.slt_iff_toInt_lt] at e1
  have := BitVec.toInt_eq_toNat_cond w
  simp at e0 e1
  split_ifs at this <;> omega

/-- A word at least one, as a signed number. -/
theorem one_le (w : BitVec 32) (h : IntOp.cmpi .sge w 1#32 = 1#1) : 1 ≤ w.toInt := by
  simp only [IntOp.cmpi] at h
  have e0 : (1#32).sle w = true := by
    cases hh : (1#32).sle w
    · rw [hh] at h; exact absurd h (by decide)
    · rfl
  rw [BitVec.sle_iff_toInt_le] at e0
  simpa using e0

/-- The three conditions apart. -/
theorem words {x0 x1 : IVec S152 32} {x2 : IVec S1 32} {x3 : FVec F S77824x1152 .f32} {x4 x5 : FVec F S2x16x1024x512 .f32} {x6 : FVec F S2x16x512x1024 .f32}
    (h : Cert.Pre_experts_named.fn (F := F) x0 x1 x2 x3 x4 x5 x6 = fun _ => 1#1) :
    (∀ i, (x0 i).toNat < 16) ∧ (∀ i, (x1 i).toNat < 16) ∧ ∀ i, 1 ≤ (x2 i).toInt := by
  have : Subsingleton S_.Idx := ⟨fun a b => funext fun k => k.elim0⟩
  have h0 := congrFun h ix0
  unfold fn fn_part1 at h0
  dsimp only at h0
  obtain ⟨h0, e2⟩ := IntOp.andi_eq_one.mp h0
  obtain ⟨e0, e1⟩ := IntOp.andi_eq_one.mp h0
  exact ⟨fun i => lt_sixteen _ (Host.reduce_andi_all _ _ _ _ _ e0 i), fun i => lt_sixteen _ (Host.reduce_andi_all _ _ _ _ _ e1 i),
    fun i => one_le _ (Host.reduce_andi_all _ _ _ _ _ e2 i)⟩

/-- A small number as a signed word. -/
theorem small_toInt (j : ℕ) (hj : j < 152) : (BitVec.ofNat 32 j).toInt = j := by
  have := BitVec.toInt_eq_toNat_cond (BitVec.ofNat 32 j)
  simp only [BitVec.toNat_ofNat] at this
  split_ifs at this <;> omega

theorem small_toNat (j : ℕ) (hj : j < 152) : (BitVec.ofNat 32 j).toNat = j := by
  simp only [BitVec.toNat_ofNat]; omega

/-- One less than a word at least one. -/
theorem pred_word (n : BitVec 32) (hn : 1 ≤ n.toInt) : (n - 1#32).toInt = n.toInt - 1 ∧ ((n - 1#32).toNat : ℤ) = n.toInt - 1 := by
  have h0 := BitVec.toInt_eq_toNat_cond n
  have h1 := BitVec.toInt_eq_toNat_cond (n - 1#32)
  have h2 : (n - 1#32).toNat = (2 ^ 32 - 1 + n.toNat) % 2 ^ 32 := by simp [BitVec.toNat_sub]
  have h3 := n.isLt
  split_ifs at h0 h1 <;> omega

/-- The lesser of a block's number and the last live block's is a block's number. -/
theorem min_block (j : ℕ) (hj : j < 152) (n : BitVec 32) (hn : 1 ≤ n.toInt) :
    (Scalar.minsi (BitVec.ofNat 32 j) (Scalar.subi n 1#32)).toNat ≤ j := by
  show (if (BitVec.ofNat 32 j).slt (n - 1#32) then BitVec.ofNat 32 j else n - 1#32).toNat ≤ j
  obtain ⟨h1, h2⟩ := pred_word n hn
  have h3 := small_toInt j hj
  split_ifs with h
  · rw [small_toNat j hj]
  · rw [BitVec.slt_iff_toInt_lt] at h; omega

/-- At a live block it is the block's own. -/
theorem min_live (j : ℕ) (hj : j < 152) (n : BitVec 32) (hl : (BitVec.ofNat 32 j).slt n = true) :
    (Scalar.minsi (BitVec.ofNat 32 j) (Scalar.subi n 1#32)).toNat = j := by
  show (if (BitVec.ofNat 32 j).slt (n - 1#32) then BitVec.ofNat 32 j else n - 1#32).toNat = j
  rw [BitVec.slt_iff_toInt_lt] at hl
  have h3 := small_toInt j hj
  obtain ⟨h1, h2⟩ := pred_word n (by omega)
  split_ifs with h
  · rw [small_toNat j hj]
  · rw [BitVec.slt_iff_toInt_lt] at h; omega

end Cert.Proof.Experts

end
-- ==== Proof.Moe.OkBits.lean ====
/- The tables' side condition: words below sixteen and a live block put every block inside its array. -/
module

public import proofs.«01_k».proof.Proof.Moe.FrameBits
public import proofs.«01_k».proof.Proof.Moe.Pre

@[expose] public section

noncomputable section

namespace Cert.Proof.MoeB

open Cert.Moe Cert.Moe.Gen Idealize.ShloMosaic Idealize.ShloMosaic.TcCoe

variable {F : FTy → Type} [FloatOps F]

/-- A block of a stack of experts, by its number. -/
theorem inside_up (n : ℕ) (h : n < 16) : ∀ a, ((![0, n, 0, 0] : Fin 4 → ℕ) a + 1) * S1x1x1024x512.size a ≤ S2x16x1024x512.size a
  | ⟨0, _⟩ => by show (0 + 1) * 1 ≤ 2; omega
  | ⟨1, _⟩ => by show (n + 1) * 1 ≤ 16; omega
  | ⟨2, _⟩ => by show (0 + 1) * 1024 ≤ 1024; omega
  | ⟨3, _⟩ => by show (0 + 1) * 512 ≤ 512; omega

theorem inside_down (n : ℕ) (h : n < 16) : ∀ a, ((![0, n, 0, 0] : Fin 4 → ℕ) a + 1) * S1x1x512x1024.size a ≤ S2x16x512x1024.size a
  | ⟨0, _⟩ => by show (0 + 1) * 1 ≤ 2; omega
  | ⟨1, _⟩ => by show (n + 1) * 1 ≤ 16; omega
  | ⟨2, _⟩ => by show (0 + 1) * 512 ≤ 512; omega
  | ⟨3, _⟩ => by show (0 + 1) * 1024 ≤ 1024; omega

/-- A block of the rows, by its number. -/
theorem inside_rows (n : ℕ) (h : n < 152) : ∀ a, ((![n, 0] : Fin 2 → ℕ) a + 1) * S512x1152.size a ≤ S77824x1152.size a
  | ⟨0, _⟩ => by show (n + 1) * 512 ≤ 77824; omega
  | ⟨1, _⟩ => by show (0 + 1) * 1152 ≤ 1152; omega

theorem coord_lt (i : grid0.Coords) : (i 0).val < 152 := (i 0).isLt

theorem ok_of_words (pf : pre0.Contents (Elt F)) (h0 : ∀ x : S152.Idx, (pf 0 x : BitVec 32).toNat < 16) (h1 : ∀ x : S152.Idx, (pf 1 x : BitVec 32).toNat < 16)
    (h2 : ∀ x : S1.Idx, 1 ≤ (pf 2 x : BitVec 32).toInt) : ok0 pf :=
  ⟨fun i => ⟨inside_rows _ (lt_of_le_of_lt (Experts.min_block (i 0).val (coord_lt i) _ (h2 _)) (coord_lt i)), Or.inl rfl⟩,
    fun i => ⟨inside_up _ (h0 _), Or.inl rfl⟩, fun i => ⟨inside_up _ (h0 _), Or.inl rfl⟩, fun i => ⟨inside_down _ (h0 _), Or.inl rfl⟩,
    fun i => ⟨inside_up _ (h1 _), Or.inl rfl⟩, fun i => ⟨inside_up _ (h1 _), Or.inl rfl⟩, fun i => ⟨inside_down _ (h1 _), Or.inl rfl⟩⟩

/-- The precondition, of core `c`'s arguments, gives the side condition. -/
theorem ok_of_pre (m : (ℓ : Loc nD τ sig) → Buf (Elt F) ℓ)
    (h : ∀ c : Dev nD, Cert.Pre_experts_named.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) : Ok m :=
  have hw := Experts.words (h 0)
  ok_of_words (tbl m) hw.1 hw.2.1 hw.2.2

end Cert.Proof.MoeB

end
-- ==== Proof.Moe.RunIdeal.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource the program's assertions are over. -/
abbrev MM (F : FTy → Type) [FloatOps F] := MT nD τ sig Unit (Elt F) ℕ (UR sig nD τ) ℕ

/-- The three tables as the kernel is handed them: the experts of lower and of higher number, and the count of live blocks. -/
abbrev T0 : Memref sig .tc .smem S152 .i32 := Memref.whole main_arg0
abbrev T1 : Memref sig .tc .smem S152 .i32 := Memref.whole main_arg1
abbrev T2 : Memref sig .tc .smem S1 .i32 := Memref.whole main_arg2

/-- A table's contents on core `c`, and the half of it the kernel reads. -/
abbrev Tb (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : Tb (F := F) c M) : sProp (MM F) :=
  M.view.loc (c : Thread nD τ) ↦{fullShare.right} f

/-- The count of live blocks: the one word of the third table. -/
abbrev word {c : Dev nD} (t2 : Tb (F := F) c T2) : BitVec 32 := t2 ((Rect.unit (s := S1) ![0] S1.size inb_S1_S1_0).emb (Shape.Idx.first (numel1_S1.symm ▸ Nat.one_pos)))

-- the run's proof term is large
set_option maxHeartbeats 1000000 in
/-- The kernel at a live block: on whole staging buffers it ends with the inputs as they were and the output holding the pieces found. -/
noncomputable def runA (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2)
    (hc1 : k0_cond1 i (word t2) = 1#1) (hc2 : ¬ k0_cond2 i (word t2) = 1#1) :
    { L : List (View.Piece (Elt F) S512x1024 .f32) //
      ∀ (E : Set ℕ) (K : PUnit → sProp (MM F)),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ tbPt c T0 t0 ∗ tbPt c T1 t1 ∗ tbPt c T2 t2
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L) ∗ tbPt c T0 t0 ∗ tbPt c T1 t1 ∗ tbPt c T2 t2) -∗ K ⟨⟩))
          ⊢ wp frame (wpE (defs₀ (F := F)) Variants.none c none) E (cc0_moe i T0 (Memref.isWhole_whole _) T1 (Memref.isWhole_whole _) T2 (Memref.isWhole_whole _) a0 h0 a1 h1 a2 h2 a3 h3 a4 h4 a5 h5 a6 h6 a7 h7) K } := by
  refine ⟨?_, fun E K => ?run⟩
  case run =>
    simp only [cc0_moe_eq_skeleton]; unfold cc0_moe_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HT0]; · iexact HT0
    isplitl [HT1]; · iexact HT1
    iexact HT2

-- the run's proof term is large
set_option maxHeartbeats 1000000 in
/-- The kernel at a block that is not live: likewise. -/
noncomputable def runB (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2)
    (hc1 : ¬ k0_cond1 i (word t2) = 1#1) (hc2 : k0_cond2 i (word t2) = 1#1) :
    { L : List (View.Piece (Elt F) S512x1024 .f32) //
      ∀ (E : Set ℕ) (K : PUnit → sProp (MM F)),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ tbPt c T0 t0 ∗ tbPt c T1 t1 ∗ tbPt c T2 t2
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L) ∗ tbPt c T0 t0 ∗ tbPt c T1 t1 ∗ tbPt c T2 t2) -∗ K ⟨⟩))
          ⊢ wp frame (wpE (defs₀ (F := F)) Variants.none c none) E (cc0_moe i T0 (Memref.isWhole_whole _) T1 (Memref.isWhole_whole _) T2 (Memref.isWhole_whole _) a0 h0 a1 h1 a2 h2 a3 h3 a4 h4 a5 h5 a6 h6 a7 h7) K } := by
  refine ⟨?_, fun E K => ?run⟩
  case run =>
    simp only [cc0_moe_eq_skeleton]; unfold cc0_moe_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HT0]; · iexact HT0
    isplitl [HT1]; · iexact HT1
    iexact HT2

end Cert.Proof.MoeI

end
-- ==== Proof.Moe.FrameIdeal.lean ====
module

public import proofs.«01_k».proof.Proof.Moe.RunIdeal
public import Idealize.ShloMosaic.Lib.Claim

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which of the two branches runs -/

/-- The first branch runs at a block of lower number than the count of live blocks. -/
theorem cond1_iff (i : grid0.Coords) (w : BitVec 32) : k0_cond1 i w = 1#1 ↔ (BitVec.ofNat 32 (i 0).val).slt w = true := by
  unfold k0_cond1; dsimp only [Scalar.cmpi, Scalar.extui, IntOp.cmpi]
  cases (BitVec.ofNat 32 (i 0).val).slt w <;> decide
/-- The second branch runs at every other block. -/
theorem cond2_iff (i : grid0.Coords) (w : BitVec 32) : k0_cond2 i w = 1#1 ↔ ¬ k0_cond1 i w = 1#1 := by
  rw [cond1_iff]
  unfold k0_cond2; dsimp only [Scalar.cmpi, Scalar.extui, IntOp.cmpi]
  have e : w.sle (BitVec.ofNat 32 (i 0).val) = !(BitVec.ofNat 32 (i 0).val).slt w := by
    rw [BitVec.sle_eq_not_slt]
  rw [e]
  cases (BitVec.ofNat 32 (i 0).val).slt w <;> decide
/-- So one of the two stores the output's block at every point. -/
theorem never_idle (pf : pre0.Contents (Elt F)) (i : grid0.Coords) : idle0 pf 7 i = false := by
  have h := cond2_iff i (pf.atD 2 ![0])
  by_cases h1 : k0_cond1 i (pf.atD 2 ![0]) = 1#1
  · show (!(k0_cond1 i (pf.atD 2 ![0]) == 1#1) && !(k0_cond2 i (pf.atD 2 ![0]) == 1#1)) = false
    rw [h1]; rfl
  · show (!(k0_cond1 i (pf.atD 2 ![0]) == 1#1) && !(k0_cond2 i (pf.atD 2 ![0]) == 1#1)) = false
    rw [h.mpr h1]; exact Bool.and_false _

/-! ## The region's entry -/

/-- A core's buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The pipeline's side condition: each block named by a table's word lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp (MM F)) = iprop(tbPt c T0 (tbl m 0) ∗ tbPt c T1 (tbl m 1) ∗ tbPt c T2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S512x1152 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x512x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024x512 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1x1024x512 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x512x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S512x1024 .f32 := spec0_7.stage ((cfgM m hO).slots t 7)
abbrev hs7 (hO : Ok m) (t : Fin (cfgM m hO).N) : (ms7 m hO t).IsWhole := hstage0_7 (((cfgM m hO).slots t 7).cast nbuf0_7)

/-- The kernel at point `t`, on the buffers the pipeline hands it. -/
abbrev bodyAt (hO : Ok m) (t : Fin (cfgM m hO).N) : Prog (TpuEff nD τ sig (Elt F) Λ₀ .tc) PUnit :=
  cc0_moe (grid0.coords t) T0 (Memref.isWhole_whole _) T1 (Memref.isWhole_whole _) T2 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t)

/-! ## What the output's buffer holds after each point -/

/-- One staging buffer of the output, through which its contents are stated. -/
abbrev VO : View sig .tc .vmem S512x1024 .f32 := (Memref.whole cc0_stg7_0 : Memref sig .tc .vmem S512x1024 .f32).view

/-- The one store covers the block. -/
theorem coverA (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2) (hc1 : k0_cond1 i (word t2) = 1#1) (hc2 : ¬ k0_cond2 i (word t2) = 1#1) (y : S512x1024.Idx) :
    ∃ pc ∈ (runA c i a0 h0 a1 h1 a2 h2 a3 h3 a4 h4 a5 h5 a6 h6 a7 h7 x0 x1 x2 x3 x4 x5 x6 t0 t1 t2 hc1 hc2).1, y ∈ pc.1.set :=
  View.cover_of_tiledL (runA c i a0 h0 a1 h1 a2 h2 a3 h3 a4 h4 a5 h5 a6 h6 a7 h7 x0 x1 x2 x3 x4 x5 x6 t0 t1 t2 hc1 hc2).1 S512x1024.size (by sl_kernel_rfl) y
/-- What is left in the output's buffer. -/
def outA (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2) (hc1 : k0_cond1 i (word t2) = 1#1) (hc2 : ¬ k0_cond2 i (word t2) = 1#1) : Vec F S512x1024 .f32 :=
  VO.read (Elt F) (VO.writes (Elt F) VO.junk (runA c i a0 h0 a1 h1 a2 h2 a3 h3 a4 h4 a5 h5 a6 h6 a7 h7 x0 x1 x2 x3 x4 x5 x6 t0 t1 t2 hc1 hc2).1)

/-- The one store covers the block. -/
theorem coverB (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2) (hc1 : ¬ k0_cond1 i (word t2) = 1#1) (hc2 : k0_cond2 i (word t2) = 1#1) (y : S512x1024.Idx) :
    ∃ pc ∈ (runB c i a0 h0 a1 h1 a2 h2 a3 h3 a4 h4 a5 h5 a6 h6 a7 h7 x0 x1 x2 x3 x4 x5 x6 t0 t1 t2 hc1 hc2).1, y ∈ pc.1.set :=
  View.cover_of_tiledL (runB c i a0 h0 a1 h1 a2 h2 a3 h3 a4 h4 a5 h5 a6 h6 a7 h7 x0 x1 x2 x3 x4 x5 x6 t0 t1 t2 hc1 hc2).1 S512x1024.size (by sl_kernel_rfl) y
/-- What is left in the output's buffer. -/
def outB (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec F S512x1152 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (t0 : Tb (F := F) c T0) (t1 : Tb (F := F) c T1) (t2 : Tb (F := F) c T2) (hc1 : ¬ k0_cond1 i (word t2) = 1#1) (hc2 : k0_cond2 i (word t2) = 1#1) : Vec F S512x1024 .f32 :=
  VO.read (Elt F) (VO.writes (Elt F) VO.junk (runB c i a0 h0 a1 h1 a2 h2 a3 h3 a4 h4 a5 h5 a6 h6 a7 h7 x0 x1 x2 x3 x4 x5 x6 t0 t1 t2 hc1 hc2).1)

/-- The block at point `t`: by the branch that runs there. -/
def outsAt (hO : Ok m) (c : Dev nD) (t : Fin (cfgM m hO).N) : Vec F S512x1024 .f32 :=
  if h : k0_cond1 (grid0.coords t) (word (c := c) (tbl m 2)) = 1#1 then
    outA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h (fun h2 => (cond2_iff _ _).mp h2 h)
  else
    outB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h ((cond2_iff _ _).mpr h)

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = outsAt m hO c t := by dsimp only [dats]; try rfl

/-! An input's buffer holds its block at every point, fetched there or not. -/

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The kernel at a point -/

/-- What it is called with, -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))
/-- and what it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7]
  rw [show (dats m hO 0 c).Φ t.castSucc = iprop(Pipeline.ΦA spec0 c ∗ Pipeline.ΦT pre0 (tbl m) c) from rfl, PhiT_eq]
  by_cases hc : k0_cond1 (grid0.coords t) (word (c := c) (tbl m 2)) = 1#1
  · rw [show outsAt m hO c t = outA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc (fun h2 => (cond2_iff _ _).mp h2 hc) from dif_pos hc]
    unfold outA
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc (fun h2 => (cond2_iff _ _).mp h2 hc)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc (fun h2 => (cond2_iff _ _).mp h2 hc))
  · rw [show outsAt m hO c t = outB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc ((cond2_iff _ _).mpr hc) from dif_neg hc]
    unfold outB
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc ((cond2_iff _ _).mpr hc)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) hc ((cond2_iff _ _).mpr hc))

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem leaves7 (hO : Ok m) (c : Dev nD) (t : Fin (cfgM m hO).N) :
    owns (c : Thread nD τ) (ms7 m hO t) fullShare ((dats m hO 0 c).after 7 t) ⊢ (dats (F := F) m hO 0 c).leavesExact 7 t := by
  have e : (cfgM m hO).idle 7 ((cfgM m hO).grid.coords t) = false := never_idle (tbl m) _
  unfold Dat.leavesExact
  rw [e]
  exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  exact sep_mono .rfl (sep_mono .rfl (sep_mono .rfl (sep_mono .rfl (sep_mono .rfl (sep_mono .rfl (sep_mono .rfl (sep_mono .rfl (sep_mono .rfl (leaves7 m hO c t)))))))))

/-! ## The run and the frame -/

set_option backward.isDefEq.respectTransparency.types false in
/-- Every run ends, with the arrays at what the proof data says and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame, under the side condition of the tables. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).2 main_arg0 (by decide : main_arg0 ∈ Pipeline.restRefs sig spec0), (h.1 c).2 main_arg1 (by decide : main_arg1 ∈ Pipeline.restRefs sig spec0),
    (h.1 c).2 main_arg2 (by decide : main_arg2 ∈ Pipeline.restRefs sig spec0),
    ((h.1 c).1 0).trans (((dats m hO 0 c).arrAt_in 0 rfl _).trans (A_eq m hO c 0)), ((h.1 c).1 4).trans (((dats m hO 0 c).arrAt_in 4 rfl _).trans (A_eq m hO c 4)),
    ((h.1 c).1 5).trans (((dats m hO 0 c).arrAt_in 5 rfl _).trans (A_eq m hO c 5)), ((h.1 c).1 6).trans (((dats m hO 0 c).arrAt_in 6 rfl _).trans (A_eq m hO c 6))⟩, h.2⟩) (run_main_quiescent m ρ hO)

end Cert.Proof.MoeI

end
-- ==== Proof.Moe.Spec.lean ====
/- The experts' layer, written once over the extended reals: a row's two weights times its two experts' outputs. -/
module

public import Idealize.ShloMosaic.Lib.Pointwise

@[expose] public section

noncomputable section

namespace Cert.Proof.Experts

open Idealize.ShloMosaic

/-- One expert on a row: the gate's product through x times its logistic, times the second product, through the third weight. -/
def ffn (h : Fin 1024 → EReal) (gate up : Fin 1024 → Fin 512 → EReal) (down : Fin 512 → Fin 1024 → EReal) (d : Fin 1024) : EReal :=
  ∑ k : Fin 512, (∑ l, h l * gate l k) * Ideal.logistic (∑ l, h l * gate l k) * (∑ l, h l * up l k) * down k d

/-- The expert a word names, the word brought into range. -/
abbrev named (w : BitVec 32) : Fin 16 := ⟨min w.toInt.toNat 15, by omega⟩

/-- A word below sixteen is the number of the expert it names. -/
theorem named_val (w : BitVec 32) (h : w.toNat < 16) : (named w).val = w.toNat := by
  have : w.toInt = (w.toNat : ℤ) := BitVec.toInt_eq_toNat_of_lt (by omega)
  show min w.toInt.toNat 15 = w.toNat
  omega

/-- A row's entry: of a live block the two experts weighted and added, of any other zero. -/
def entry (live : Prop) [Decidable live] (h : Fin 1024 → EReal) (w0 w1 : EReal) (g0 u0 : Fin 1024 → Fin 512 → EReal) (d0 : Fin 512 → Fin 1024 → EReal)
    (g1 u1 : Fin 1024 → Fin 512 → EReal) (d1 : Fin 512 → Fin 1024 → EReal) (d : Fin 1024) : EReal :=
  if live then w0 * ffn h g0 u0 d0 d + w1 * ffn h g1 u1 d1 d else 0

/-- The block of a row. -/
abbrev blockOf (n : Fin 77824) : Fin 152 := ⟨n.val / 512, by omega⟩

/-- The layer's result at row `n`, column `d`. -/
def val (a0 a1 : Shape.Idx ⟨1, ![152]⟩ → BitVec 32) (a2 : Shape.Idx ⟨1, ![1]⟩ → BitVec 32) (x : Shape.Idx ⟨2, ![77824, 1152]⟩ → EReal)
    (wg wu : Shape.Idx ⟨4, ![2, 16, 1024, 512]⟩ → EReal) (wd : Shape.Idx ⟨4, ![2, 16, 512, 1024]⟩ → EReal) (n : Fin 77824) (d : Fin 1024) : EReal :=
  entry ((BitVec.ofNat 32 (n.val / 512)).slt (a2 (ix1 0)) = true) (fun l => x (ix2 n ⟨l.val, by omega⟩)) (x (ix2 n 1024)) (x (ix2 n 1025))
    (fun l k => wg (ix4 0 (named (a0 (ix1 (blockOf n)))) l k)) (fun l k => wu (ix4 0 (named (a0 (ix1 (blockOf n)))) l k))
    (fun k d => wd (ix4 0 (named (a0 (ix1 (blockOf n)))) k d))
    (fun l k => wg (ix4 0 (named (a1 (ix1 (blockOf n)))) l k)) (fun l k => wu (ix4 0 (named (a1 (ix1 (blockOf n)))) l k))
    (fun k d => wd (ix4 0 (named (a1 (ix1 (blockOf n)))) k d)) d

end Cert.Proof.Experts

end
-- ==== Proof.Moe.Block.lean ====
/- One step of the experts' kernel: its block, entry by entry, from the step's input blocks. -/
module

public import proofs.«01_k».proof.Proof.Moe.FrameIdeal
public import proofs.«01_k».proof.Proof.Moe.Spec

@[expose] public section

set_option maxRecDepth 16384

noncomputable section

namespace Cert.Proof.MoeI

open Cert.MoeIdeal Cert.MoeIdeal.Gen Idealize.ShloMosaic Idealize.ShloMosaic.TcCoe Cert.Proof.Experts

section
variable (v8 : Vec Ideal S512x1024 .f32) (v10 v11 : Vec Ideal S512x1 .f32) (x1 x2 x4 x5 : Vec Ideal S1x1x1024x512 .f32) (x3 x6 : Vec Ideal S1x1x512x1024 .f32)

/-- The two experts' outputs weighted and added, from the blocks. -/
abbrev both (r : Fin 512) (d : Fin 1024) : EReal :=
  v10 (ix2 r 0) * ffn (fun l => v8 (ix2 r l)) (fun l k => x1 (ix4 0 0 l k)) (fun l k => x2 (ix4 0 0 l k)) (fun k d => x3 (ix4 0 0 k d)) d
    + v11 (ix2 r 0) * ffn (fun l => v8 (ix2 r l)) (fun l k => x4 (ix4 0 0 l k)) (fun l k => x5 (ix4 0 0 l k)) (fun k d => x6 (ix4 0 0 k d)) d

theorem stored (r : Fin 512) (d : Fin 1024) :
    k0_pay1 v10 v11 (k0_pay4 v8 x1 x2) (k0_pay5 v8 x4 x5) (k0_pay6 x3) x6 (ix2 r d) = both v8 v10 v11 x1 x2 x4 x5 x3 x6 r d := by
  pointwise [k0_pay1, k0_pay4, k0_pay5, k0_pay6, k0_pay3]
  rfl

end

theorem idx2 {a b : ℕ} (x : Shape.Idx ⟨2, ![a, b]⟩) : ∃ (r : Fin a) (j : Fin b), x = ix2 r j :=
  ⟨x 0, x 1, by funext k; match k with | ⟨0, _⟩ => rfl | ⟨1, _⟩ => rfl⟩

/-! ### The loads -/

theorem ld_cols {b : ℕ} (X : Vec Ideal S512x1152 .f32) (o : ℕ) (h) (r : Fin 512) (l : Fin b) (k : Fin 1152) (hk : k.val = o + l.val) :
    View.ld (S := S512x1152) X (Rect.unit ![0, o] ![512, b] h) (ix2 r l) = X (ix2 r k) := by
  show X _ = X _
  congr 1
  funext q
  match q with
  | ⟨0, _⟩ => exact Fin.ext (by simp)
  | ⟨1, _⟩ => exact Fin.ext (by simp [hk])

theorem ld_whole {b d : ℕ} (X : Vec Ideal ⟨4, ![1, 1, b, d]⟩ .f32) (h) (l : Fin b) (k : Fin d) :
    View.ld (S := ⟨4, ![1, 1, b, d]⟩) X (Rect.unit ![0, 0, 0, 0] ![1, 1, b, d] h) (ix4 0 0 l k) = X (ix4 0 0 l k) := by
  show X _ = X _
  congr 1
  funext q
  match q with
  | ⟨0, _⟩ => rfl
  | ⟨1, _⟩ => rfl
  | ⟨2, _⟩ => exact Fin.ext (by simp)
  | ⟨3, _⟩ => exact Fin.ext (by simp)

section
variable (x0 : Vec Ideal S512x1152 .f32) (x1 x2 x4 x5 : Vec Ideal S1x1x1024x512 .f32) (x3 x6 : Vec Ideal S1x1x512x1024 .f32)

/-- The live step's entry, from the step's input blocks. -/
abbrev step (r : Fin 512) (d : Fin 1024) : EReal :=
  x0 (ix2 r 1024) * ffn (fun l => x0 (ix2 r ⟨l.val, by omega⟩)) (fun l k => x1 (ix4 0 0 l k)) (fun l k => x2 (ix4 0 0 l k)) (fun k d => x3 (ix4 0 0 k d)) d
    + x0 (ix2 r 1025) * ffn (fun l => x0 (ix2 r ⟨l.val, by omega⟩)) (fun l k => x4 (ix4 0 0 l k)) (fun l k => x5 (ix4 0 0 l k)) (fun k d => x6 (ix4 0 0 k d)) d

/-- The same at an index of the block. -/
def stepAt (y : S512x1024.Idx) : EReal := step x0 x1 x2 x4 x5 x3 x6 (y 0) (y 1)

theorem emb_whole (h) (r : Fin 512) (d : Fin 1024) : (Rect.unit (s := S512x1024) ![0, 0] ![512, 1024] h).emb (ix2 r d) = ix2 r d := by
  funext k; match k with | ⟨0, _⟩ => exact Fin.ext (by simp) | ⟨1, _⟩ => exact Fin.ext (by simp)

theorem part (h0 h1 h2 g1 g2 g3 g4 g5 g6 hy) (y : S512x1024.Idx) :
    k0_pay1 (View.ld (S := S512x1152) x0 (Rect.unit ![0, 1024] ![512, 1] h1)) (View.ld (S := S512x1152) x0 (Rect.unit ![0, 1025] ![512, 1] h2))
      (k0_pay4 (View.ld (S := S512x1152) x0 (Rect.unit ![0, 0] ![512, 1024] h0)) (View.ld (S := S1x1x1024x512) x1 (Rect.unit ![0, 0, 0, 0] ![1, 1, 1024, 512] g1))
        (View.ld (S := S1x1x1024x512) x2 (Rect.unit ![0, 0, 0, 0] ![1, 1, 1024, 512] g2)))
      (k0_pay5 (View.ld (S := S512x1152) x0 (Rect.unit ![0, 0] ![512, 1024] h0)) (View.ld (S := S1x1x1024x512) x4 (Rect.unit ![0, 0, 0, 0] ![1, 1, 1024, 512] g4))
        (View.ld (S := S1x1x1024x512) x5 (Rect.unit ![0, 0, 0, 0] ![1, 1, 1024, 512] g5)))
      (k0_pay6 (View.ld (S := S1x1x512x1024) x3 (Rect.unit ![0, 0, 0, 0] ![1, 1, 512, 1024] g3)))
      (View.ld (S := S1x1x512x1024) x6 (Rect.unit ![0, 0, 0, 0] ![1, 1, 512, 1024] g6)) y
    = stepAt x0 x1 x2 x4 x5 x3 x6 ((Rect.unit (s := S512x1024) ![0, 0] ![512, 1024] hy).emb y) := by
  obtain ⟨r, d, rfl⟩ := idx2 (a := 512) (b := 1024) y
  rw [emb_whole]
  refine (stored _ _ _ _ _ _ _ _ _ r d).trans ?_
  show both _ _ _ _ _ _ _ _ _ r d = step x0 x1 x2 x4 x5 x3 x6 r d
  have eh : (fun l : Fin 1024 => View.ld (S := S512x1152) x0 (Rect.unit ![0, 0] ![512, 1024] h0) (ix2 r l)) = fun l => x0 (ix2 r ⟨l.val, by omega⟩) :=
    funext fun l => ld_cols x0 0 _ r l _ (Nat.zero_add _).symm
  have ew0 : View.ld (S := S512x1152) x0 (Rect.unit ![0, 1024] ![512, 1] h1) (ix2 r 0) = x0 (ix2 r 1024) := ld_cols x0 1024 _ r (0 : Fin 1) 1024 rfl
  have ew1 : View.ld (S := S512x1152) x0 (Rect.unit ![0, 1025] ![512, 1] h2) (ix2 r 0) = x0 (ix2 r 1025) := ld_cols x0 1025 _ r (0 : Fin 1) 1025 rfl
  unfold both step
  refine congrArg₂ (· + ·) (congrArg₂ (· * ·) ew0 ?_) (congrArg₂ (· * ·) ew1 ?_)
  · exact congr (congr (congr (congr (congrArg ffn eh) (funext fun l => funext fun k => ld_whole x1 _ l k)) (funext fun l => funext fun k => ld_whole x2 _ l k))
      (funext fun l => funext fun k => ld_whole x3 _ l k)) rfl
  · exact congr (congr (congr (congr (congrArg ffn eh) (funext fun l => funext fun k => ld_whole x4 _ l k)) (funext fun l => funext fun k => ld_whole x5 _ l k))
      (funext fun l => funext fun k => ld_whole x6 _ l k)) rfl

end

theorem out_A (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec Ideal S512x1152 .f32) (x1 : Vec Ideal S1x1x1024x512 .f32) (x2 : Vec Ideal S1x1x1024x512 .f32) (x3 : Vec Ideal S1x1x512x1024 .f32) (x4 : Vec Ideal S1x1x1024x512 .f32) (x5 : Vec Ideal S1x1x1024x512 .f32) (x6 : Vec Ideal S1x1x512x1024 .f32) (t0 : Tb (F := Ideal) c T0) (t1 : Tb (F := Ideal) c T1) (t2 : Tb (F := Ideal) c T2) (hc1 : k0_cond1 i (word t2) = 1#1) (hc2 : ¬ k0_cond2 i (word t2) = 1#1) (r : Fin 512) (d : Fin 1024) :
    (outA c i a0 h0 a1 h1 a2 h2 a3 h3 a4 h4 a5 h5 a6 h6 a7 h7 x0 x1 x2 x3 x4 x5 x6 t0 t1 t2 hc1 hc2 (ix2 r d) : EReal) = step x0 x1 x2 x4 x5 x3 x6 r d := by
  unfold outA
  rw [View.read_writes_eq_canon _ _ _ (coverA c i a0 h0 a1 h1 a2 h2 a3 h3 a4 h4 a5 h5 a6 h6 a7 h7 x0 x1 x2 x3 x4 x5 x6 t0 t1 t2 hc1 hc2)]
  refine (View.canon_apply_of_pieces (Val := Elt Ideal) (e := .f32) (stepAt x0 x1 x2 x4 x5 x3 x6) _ ?_ (ix2 r d) (coverA c i a0 h0 a1 h1 a2 h2 a3 h3 a4 h4 a5 h5 a6 h6 a7 h7 x0 x1 x2 x3 x4 x5 x6 t0 t1 t2 hc1 hc2 _)).trans rfl
  unfold runA
  dsimp only
  sl_unfold_words
  simp only [View.readAt_eq_ld, h0.read_unread, h1.read_unread, h2.read_unread, h3.read_unread, h4.read_unread, h5.read_unread, h6.read_unread]
  simp only [List.forall_mem_cons]
  refine ⟨?_, by simp⟩
  exact part x0 x1 x2 x4 x5 x3 x6 _ _ _ _ _ _ _ _ _ _

theorem out_B (c : Dev nD) (i : grid0.Coords) (a0 : Memref sig .tc .vmem S512x1152 .f32) (h0 : a0.IsWhole) (a1 : Memref sig .tc .vmem S1x1x1024x512 .f32) (h1 : a1.IsWhole) (a2 : Memref sig .tc .vmem S1x1x1024x512 .f32) (h2 : a2.IsWhole) (a3 : Memref sig .tc .vmem S1x1x512x1024 .f32) (h3 : a3.IsWhole) (a4 : Memref sig .tc .vmem S1x1x1024x512 .f32) (h4 : a4.IsWhole) (a5 : Memref sig .tc .vmem S1x1x1024x512 .f32) (h5 : a5.IsWhole) (a6 : Memref sig .tc .vmem S1x1x512x1024 .f32) (h6 : a6.IsWhole) (a7 : Memref sig .tc .vmem S512x1024 .f32) (h7 : a7.IsWhole)
    (x0 : Vec Ideal S512x1152 .f32) (x1 : Vec Ideal S1x1x1024x512 .f32) (x2 : Vec Ideal S1x1x1024x512 .f32) (x3 : Vec Ideal S1x1x512x1024 .f32) (x4 : Vec Ideal S1x1x1024x512 .f32) (x5 : Vec Ideal S1x1x1024x512 .f32) (x6 : Vec Ideal S1x1x512x1024 .f32) (t0 : Tb (F := Ideal) c T0) (t1 : Tb (F := Ideal) c T1) (t2 : Tb (F := Ideal) c T2) (hc1 : ¬ k0_cond1 i (word t2) = 1#1) (hc2 : k0_cond2 i (word t2) = 1#1) (r : Fin 512) (d : Fin 1024) :
    (outB c i a0 h0 a1 h1 a2 h2 a3 h3 a4 h4 a5 h5 a6 h6 a7 h7 x0 x1 x2 x3 x4 x5 x6 t0 t1 t2 hc1 hc2 (ix2 r d) : EReal) = (0 : EReal) := by
  unfold outB
  rw [View.read_writes_eq_canon _ _ _ (coverB c i a0 h0 a1 h1 a2 h2 a3 h3 a4 h4 a5 h5 a6 h6 a7 h7 x0 x1 x2 x3 x4 x5 x6 t0 t1 t2 hc1 hc2)]
  refine (View.canon_apply_of_pieces (Val := Elt Ideal) (e := .f32) ((fun _ => (0 : EReal))) _ ?_ (ix2 r d) (coverB c i a0 h0 a1 h1 a2 h2 a3 h3 a4 h4 a5 h5 a6 h6 a7 h7 x0 x1 x2 x3 x4 x5 x6 t0 t1 t2 hc1 hc2 _)).trans rfl
  unfold runB
  dsimp only
  simp only [List.forall_mem_cons]
  refine ⟨?_, by simp⟩
  intro y
  show Ideal.ofBits .f32 0#32 = 0
  simp [Ideal.ofBits, Ideal.ieee]

end Cert.Proof.MoeI

end
-- ==== Proof.Moe.OkIdeal.lean ====
/- The tables' side condition: words below sixteen and a live block put every block inside its array. -/
module

public import proofs.«01_k».proof.Proof.Moe.FrameIdeal
public import proofs.«01_k».proof.Proof.Moe.Pre

@[expose] public section

noncomputable section

namespace Cert.Proof.MoeI

open Cert.MoeIdeal Cert.MoeIdeal.Gen Idealize.ShloMosaic Idealize.ShloMosaic.TcCoe

variable {F : FTy → Type} [FloatOps F]

/-- A block of a stack of experts, by its number. -/
theorem inside_up (n : ℕ) (h : n < 16) : ∀ a, ((![0, n, 0, 0] : Fin 4 → ℕ) a + 1) * S1x1x1024x512.size a ≤ S2x16x1024x512.size a
  | ⟨0, _⟩ => by show (0 + 1) * 1 ≤ 2; omega
  | ⟨1, _⟩ => by show (n + 1) * 1 ≤ 16; omega
  | ⟨2, _⟩ => by show (0 + 1) * 1024 ≤ 1024; omega
  | ⟨3, _⟩ => by show (0 + 1) * 512 ≤ 512; omega

theorem inside_down (n : ℕ) (h : n < 16) : ∀ a, ((![0, n, 0, 0] : Fin 4 → ℕ) a + 1) * S1x1x512x1024.size a ≤ S2x16x512x1024.size a
  | ⟨0, _⟩ => by show (0 + 1) * 1 ≤ 2; omega
  | ⟨1, _⟩ => by show (n + 1) * 1 ≤ 16; omega
  | ⟨2, _⟩ => by show (0 + 1) * 512 ≤ 512; omega
  | ⟨3, _⟩ => by show (0 + 1) * 1024 ≤ 1024; omega

/-- A block of the rows, by its number. -/
theorem inside_rows (n : ℕ) (h : n < 152) : ∀ a, ((![n, 0] : Fin 2 → ℕ) a + 1) * S512x1152.size a ≤ S77824x1152.size a
  | ⟨0, _⟩ => by show (n + 1) * 512 ≤ 77824; omega
  | ⟨1, _⟩ => by show (0 + 1) * 1152 ≤ 1152; omega

theorem coord_lt (i : grid0.Coords) : (i 0).val < 152 := (i 0).isLt

theorem ok_of_words (pf : pre0.Contents (Elt F)) (h0 : ∀ x : S152.Idx, (pf 0 x : BitVec 32).toNat < 16) (h1 : ∀ x : S152.Idx, (pf 1 x : BitVec 32).toNat < 16)
    (h2 : ∀ x : S1.Idx, 1 ≤ (pf 2 x : BitVec 32).toInt) : ok0 pf :=
  ⟨fun i => ⟨inside_rows _ (lt_of_le_of_lt (Experts.min_block (i 0).val (coord_lt i) _ (h2 _)) (coord_lt i)), Or.inl rfl⟩,
    fun i => ⟨inside_up _ (h0 _), Or.inl rfl⟩, fun i => ⟨inside_up _ (h0 _), Or.inl rfl⟩, fun i => ⟨inside_down _ (h0 _), Or.inl rfl⟩,
    fun i => ⟨inside_up _ (h1 _), Or.inl rfl⟩, fun i => ⟨inside_up _ (h1 _), Or.inl rfl⟩, fun i => ⟨inside_down _ (h1 _), Or.inl rfl⟩⟩

/-- The precondition, of core `c`'s arguments, gives the side condition. -/
theorem ok_of_pre (m : (ℓ : Loc nD τ sig) → Buf (Elt F) ℓ)
    (h : ∀ c : Dev nD, Cert.Pre_experts_named.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) : Ok m :=
  have hw := Experts.words (h 0)
  ok_of_words (tbl m) hw.1 hw.2.1 hw.2.2

end Cert.Proof.MoeI

end
-- ==== Proof.Moe.Array.lean ====
/- The arrays of the experts' kernel: the blocks of every step and the array of results. -/
module

public import proofs.«01_k».proof.Proof.Moe.Block
public import proofs.«01_k».proof.Proof.Moe.OkIdeal
public import Idealize.ShloMosaic.Lib.Pipeline.Value

@[expose] public section

set_option maxRecDepth 16384
set_option backward.isDefEq.respectTransparency.types false

noncomputable section

namespace Cert.Proof.MoeI

open Cert.MoeIdeal Cert.MoeIdeal.Gen Idealize.ShloMosaic Idealize.ShloMosaic.TcCoe Cert.Proof.Experts

variable (m : (ℓ : Loc nD τ sig) → Buf (Elt Ideal) ℓ)

/-- The arguments on core `c`. -/
abbrev A0 (c : Dev nD) : Vec Ideal S152 .i32 := m ((c.tc : Thread nD τ).loc main_arg0)
abbrev A1 (c : Dev nD) : Vec Ideal S152 .i32 := m ((c.tc : Thread nD τ).loc main_arg1)
abbrev A2 (c : Dev nD) : Vec Ideal S1 .i32 := m ((c.tc : Thread nD τ).loc main_arg2)
abbrev A3 (c : Dev nD) : Vec Ideal S77824x1152 .f32 := m ((c.tc : Thread nD τ).loc main_arg3)
abbrev A4 (c : Dev nD) : Vec Ideal S2x16x1024x512 .f32 := m ((c.tc : Thread nD τ).loc main_arg4)
abbrev A5 (c : Dev nD) : Vec Ideal S2x16x1024x512 .f32 := m ((c.tc : Thread nD τ).loc main_arg5)
abbrev A6 (c : Dev nD) : Vec Ideal S2x16x512x1024 .f32 := m ((c.tc : Thread nD τ).loc main_arg6)

/-- The layer's result on core `c`. -/
def value (c : Dev nD) (n : Fin 77824) (d : Fin 1024) : EReal := val (A0 m c) (A1 m c) (A2 m c) (A3 m c) (A4 m c) (A5 m c) (A6 m c) n d

/-! ### A step's number -/

theorem coords_val : ∀ t : Fin grid0.N, (grid0.coords t 0).val = t.val := by decide +kernel

theorem lt_points (t : Fin grid0.N) : t.val < 152 := t.isLt

/-- Row `r` of step `t`. -/
abbrev token (t : Fin grid0.N) (r : Fin 512) : Fin 77824 := ⟨512 * t.val + r.val, by have := lt_points t; omega⟩

theorem blockOf_token (t : Fin grid0.N) (r : Fin 512) : blockOf (token t r) = ⟨t.val, lt_points t⟩ := Fin.ext (by
  show (512 * t.val + r.val) / 512 = t.val
  omega)

/-! ### The tables' words -/

theorem tbl0 (c : Dev nD) (j : Fin 152) : (tbl m 0 : Vec Ideal S152 .i32) (ix1 j) = A0 m c (ix1 j) := by
  obtain rfl : c = 0 := Subsingleton.elim _ _; rfl
theorem tbl1 (c : Dev nD) (j : Fin 152) : (tbl m 1 : Vec Ideal S152 .i32) (ix1 j) = A1 m c (ix1 j) := by
  obtain rfl : c = 0 := Subsingleton.elim _ _; rfl

theorem tbl2 (c : Dev nD) (x : S1.Idx) : (tbl m 2 : Vec Ideal S1 .i32) x = A2 m c (ix1 0) := by
  obtain rfl : c = 0 := Subsingleton.elim _ _
  show A2 m 0 x = _
  congr 1
  funext a
  match a with
  | ⟨0, _⟩ => exact Subsingleton.elim (α := Fin 1) _ _

/-- The place of a step's word in a table. -/
theorem place (i : grid0.Coords) (h) (h1) : (Rect.unit (s := S152) ![(Scalar.indexCast (BitVec.ofNat 32 (i 0).val)).toNat] S1.size h).emb (Shape.Idx.first h1) = ix1 (⟨(i 0).val, coord_lt i⟩ : Fin 152) := by
  funext a
  match a with
  | ⟨0, _⟩ =>
    refine Fin.ext ?_
    show (BitVec.ofNat 32 (i 0).val).toNat + 1 * 0 = (i 0).val
    rw [small_toNat _ (coord_lt i)]; omega

theorem word0 (c : Dev nD) (i : grid0.Coords) : ((tbl m).at 0 (Rect.unit (s := S152) ![(Scalar.indexCast (BitVec.ofNat 32 (i 0).val)).toNat] S1.size (k0_off1_inb i)) numel1_S1 : BitVec 32) = A0 m c (ix1 ⟨(i 0).val, coord_lt i⟩) :=
  (congrArg (tbl m 0 : Vec Ideal S152 .i32) (place i _ _)).trans (tbl0 m c _)
theorem word1 (c : Dev nD) (i : grid0.Coords) : ((tbl m).at 1 (Rect.unit (s := S152) ![(Scalar.indexCast (BitVec.ofNat 32 (i 0).val)).toNat] S1.size (k0_off1_inb i)) numel1_S1 : BitVec 32) = A1 m c (ix1 ⟨(i 0).val, coord_lt i⟩) :=
  (congrArg (tbl m 1 : Vec Ideal S152 .i32) (place i _ _)).trans (tbl1 m c _)

section
variable (hO : Ok m) (c : Dev nD)

/-! ### What each window's block holds -/

theorem blk0 (t : Fin grid0.N) (hl : (BitVec.ofNat 32 t.val).slt (A2 m c (ix1 0)) = true) (r : Fin 512) (k : Fin 1152) :
    (iblk m hO c 0 t : Vec Ideal S512x1152 .f32) (ix2 r k) = A3 m c (ix2 (token t r) k) := by
  unfold iblk
  rw [View.read_apply]
  show V m c main_arg3 _ = m _ _
  have hi : cc0_transform_0 inb_S1_S1_0 numel1_S1 (tbl m) (grid0.coords t) 0 = t.val := by
    show (Scalar.minsi (BitVec.ofNat 32 (grid0.coords t 0).val) (Scalar.subi ((tbl m 2 : Vec Ideal S1 .i32) _) 1#32)).toNat = _
    rw [tbl2 m c, coords_val t]
    exact min_live _ (lt_points t) _ hl
  refine congrArg _ (funext fun a => Fin.ext ?_)
  match a with
  | ⟨0, _⟩ => show cc0_transform_0 inb_S1_S1_0 numel1_S1 (tbl m) (grid0.coords t) 0 * 512 + 1 * r.val = 512 * t.val + r.val; rw [hi]; omega
  | ⟨1, _⟩ => show 0 * 1152 + 1 * k.val = k.val; omega

theorem blk1 (hw : ∀ j, (A0 m c (ix1 j) : BitVec 32).toNat < 16) (t : Fin grid0.N) (l : Fin 1024) (k : Fin 512) :
    (iblk m hO c 1 t : Vec Ideal S1x1x1024x512 .f32) (ix4 0 0 l k) = A4 m c (ix4 0 (named (A0 m c (ix1 ⟨t.val, lt_points t⟩))) l k) := by
  unfold iblk
  rw [View.read_apply]
  show V m c main_arg4 _ = m _ _
  have hi : cc0_transform_1 k0_off1_inb numel1_S1 (tbl m) (grid0.coords t) 1 = (named (A0 m c (ix1 ⟨t.val, lt_points t⟩))).val := by
    rw [named_val _ (hw _)]
    refine congrArg BitVec.toNat ((word0 m c (grid0.coords t)).trans ?_)
    exact congrArg (fun j => A0 m c (ix1 j)) (Fin.ext (coords_val t))
  refine congrArg _ (funext fun a => Fin.ext ?_)
  match a with
  | ⟨0, _⟩ => rfl
  | ⟨1, _⟩ => show cc0_transform_1 k0_off1_inb numel1_S1 (tbl m) (grid0.coords t) 1 * 1 + 1 * 0 = (named (A0 m c (ix1 ⟨t.val, lt_points t⟩))).val; rw [hi]; omega
  | ⟨2, _⟩ => show 0 * 1024 + 1 * l.val = l.val; omega
  | ⟨3, _⟩ => show 0 * 512 + 1 * k.val = k.val; omega

theorem blk2 (hw : ∀ j, (A0 m c (ix1 j) : BitVec 32).toNat < 16) (t : Fin grid0.N) (l : Fin 1024) (k : Fin 512) :
    (iblk m hO c 2 t : Vec Ideal S1x1x1024x512 .f32) (ix4 0 0 l k) = A5 m c (ix4 0 (named (A0 m c (ix1 ⟨t.val, lt_points t⟩))) l k) := by
  unfold iblk
  rw [View.read_apply]
  show V m c main_arg5 _ = m _ _
  have hi : cc0_transform_2 k0_off1_inb numel1_S1 (tbl m) (grid0.coords t) 1 = (named (A0 m c (ix1 ⟨t.val, lt_points t⟩))).val := by
    rw [named_val _ (hw _)]
    refine congrArg BitVec.toNat ((word0 m c (grid0.coords t)).trans ?_)
    exact congrArg (fun j => A0 m c (ix1 j)) (Fin.ext (coords_val t))
  refine congrArg _ (funext fun a => Fin.ext ?_)
  match a with
  | ⟨0, _⟩ => rfl
  | ⟨1, _⟩ => show cc0_transform_2 k0_off1_inb numel1_S1 (tbl m) (grid0.coords t) 1 * 1 + 1 * 0 = (named (A0 m c (ix1 ⟨t.val, lt_points t⟩))).val; rw [hi]; omega
  | ⟨2, _⟩ => show 0 * 1024 + 1 * l.val = l.val; omega
  | ⟨3, _⟩ => show 0 * 512 + 1 * k.val = k.val; omega

theorem blk3 (hw : ∀ j, (A0 m c (ix1 j) : BitVec 32).toNat < 16) (t : Fin grid0.N) (l : Fin 512) (k : Fin 1024) :
    (iblk m hO c 3 t : Vec Ideal S1x1x512x1024 .f32) (ix4 0 0 l k) = A6 m c (ix4 0 (named (A0 m c (ix1 ⟨t.val, lt_points t⟩))) l k) := by
  unfold iblk
  rw [View.read_apply]
  show V m c main_arg6 _ = m _ _
  have hi : cc0_transform_3 k0_off1_inb numel1_S1 (tbl m) (grid0.coords t) 1 = (named (A0 m c (ix1 ⟨t.val, lt_points t⟩))).val := by
    rw [named_val _ (hw _)]
    refine congrArg BitVec.toNat ((word0 m c (grid0.coords t)).trans ?_)
    exact congrArg (fun j => A0 m c (ix1 j)) (Fin.ext (coords_val t))
  refine congrArg _ (funext fun a => Fin.ext ?_)
  match a with
  | ⟨0, _⟩ => rfl
  | ⟨1, _⟩ => show cc0_transform_3 k0_off1_inb numel1_S1 (tbl m) (grid0.coords t) 1 * 1 + 1 * 0 = (named (A0 m c (ix1 ⟨t.val, lt_points t⟩))).val; rw [hi]; omega
  | ⟨2, _⟩ => show 0 * 512 + 1 * l.val = l.val; omega
  | ⟨3, _⟩ => show 0 * 1024 + 1 * k.val = k.val; omega

theorem blk4 (hw : ∀ j, (A1 m c (ix1 j) : BitVec 32).toNat < 16) (t : Fin grid0.N) (l : Fin 1024) (k : Fin 512) :
    (iblk m hO c 4 t : Vec Ideal S1x1x1024x512 .f32) (ix4 0 0 l k) = A4 m c (ix4 0 (named (A1 m c (ix1 ⟨t.val, lt_points t⟩))) l k) := by
  unfold iblk
  rw [View.read_apply]
  show V m c main_arg4 _ = m _ _
  have hi : cc0_transform_4 k0_off1_inb numel1_S1 (tbl m) (grid0.coords t) 1 = (named (A1 m c (ix1 ⟨t.val, lt_points t⟩))).val := by
    rw [named_val _ (hw _)]
    refine congrArg BitVec.toNat ((word1 m c (grid0.coords t)).trans ?_)
    exact congrArg (fun j => A1 m c (ix1 j)) (Fin.ext (coords_val t))
  refine congrArg _ (funext fun a => Fin.ext ?_)
  match a with
  | ⟨0, _⟩ => rfl
  | ⟨1, _⟩ => show cc0_transform_4 k0_off1_inb numel1_S1 (tbl m) (grid0.coords t) 1 * 1 + 1 * 0 = (named (A1 m c (ix1 ⟨t.val, lt_points t⟩))).val; rw [hi]; omega
  | ⟨2, _⟩ => show 0 * 1024 + 1 * l.val = l.val; omega
  | ⟨3, _⟩ => show 0 * 512 + 1 * k.val = k.val; omega

theorem blk5 (hw : ∀ j, (A1 m c (ix1 j) : BitVec 32).toNat < 16) (t : Fin grid0.N) (l : Fin 1024) (k : Fin 512) :
    (iblk m hO c 5 t : Vec Ideal S1x1x1024x512 .f32) (ix4 0 0 l k) = A5 m c (ix4 0 (named (A1 m c (ix1 ⟨t.val, lt_points t⟩))) l k) := by
  unfold iblk
  rw [View.read_apply]
  show V m c main_arg5 _ = m _ _
  have hi : cc0_transform_5 k0_off1_inb numel1_S1 (tbl m) (grid0.coords t) 1 = (named (A1 m c (ix1 ⟨t.val, lt_points t⟩))).val := by
    rw [named_val _ (hw _)]
    refine congrArg BitVec.toNat ((word1 m c (grid0.coords t)).trans ?_)
    exact congrArg (fun j => A1 m c (ix1 j)) (Fin.ext (coords_val t))
  refine congrArg _ (funext fun a => Fin.ext ?_)
  match a with
  | ⟨0, _⟩ => rfl
  | ⟨1, _⟩ => show cc0_transform_5 k0_off1_inb numel1_S1 (tbl m) (grid0.coords t) 1 * 1 + 1 * 0 = (named (A1 m c (ix1 ⟨t.val, lt_points t⟩))).val; rw [hi]; omega
  | ⟨2, _⟩ => show 0 * 1024 + 1 * l.val = l.val; omega
  | ⟨3, _⟩ => show 0 * 512 + 1 * k.val = k.val; omega

theorem blk6 (hw : ∀ j, (A1 m c (ix1 j) : BitVec 32).toNat < 16) (t : Fin grid0.N) (l : Fin 512) (k : Fin 1024) :
    (iblk m hO c 6 t : Vec Ideal S1x1x512x1024 .f32) (ix4 0 0 l k) = A6 m c (ix4 0 (named (A1 m c (ix1 ⟨t.val, lt_points t⟩))) l k) := by
  unfold iblk
  rw [View.read_apply]
  show V m c main_arg6 _ = m _ _
  have hi : cc0_transform_6 k0_off1_inb numel1_S1 (tbl m) (grid0.coords t) 1 = (named (A1 m c (ix1 ⟨t.val, lt_points t⟩))).val := by
    rw [named_val _ (hw _)]
    refine congrArg BitVec.toNat ((word1 m c (grid0.coords t)).trans ?_)
    exact congrArg (fun j => A1 m c (ix1 j)) (Fin.ext (coords_val t))
  refine congrArg _ (funext fun a => Fin.ext ?_)
  match a with
  | ⟨0, _⟩ => rfl
  | ⟨1, _⟩ => show cc0_transform_6 k0_off1_inb numel1_S1 (tbl m) (grid0.coords t) 1 * 1 + 1 * 0 = (named (A1 m c (ix1 ⟨t.val, lt_points t⟩))).val; rw [hi]; omega
  | ⟨2, _⟩ => show 0 * 512 + 1 * l.val = l.val; omega
  | ⟨3, _⟩ => show 0 * 1024 + 1 * k.val = k.val; omega

/-! ### The step's block -/

theorem live_iff (t : Fin grid0.N) : k0_cond1 (grid0.coords t) (word (c := c) (tbl m 2)) = 1#1 ↔ (BitVec.ofNat 32 t.val).slt (A2 m c (ix1 0)) = true := by
  rw [cond1_iff, coords_val t]
  unfold word
  rw [tbl2 m c]

theorem outs (hw0 : ∀ j, (A0 m c (ix1 j) : BitVec 32).toNat < 16) (hw1 : ∀ j, (A1 m c (ix1 j) : BitVec 32).toNat < 16) (t : Fin grid0.N) (r : Fin 512) (d : Fin 1024) :
    (outsAt m hO c t (ix2 r d) : EReal) = value m c (token t r) d := by
  have hb : (token t r).val / 512 = t.val := congrArg Fin.val (blockOf_token t r)
  unfold value val entry
  rw [hb, blockOf_token]
  unfold outsAt
  by_cases h : k0_cond1 (grid0.coords t) (word (c := c) (tbl m 2)) = 1#1
  · have hl := (live_iff m c t).mp h
    rw [dif_pos h, if_pos hl]
    refine (out_A _ _ _ _ _ _ _ _ _ _ _ _ _ _ _ _ _ _ _ _ _ _ _ _ _ _ _ _ _ _ r d).trans ?_
    unfold step
    refine congrArg₂ (· + ·) (congrArg₂ (· * ·) (blk0 m hO c t hl r _) ?_) (congrArg₂ (· * ·) (blk0 m hO c t hl r _) ?_)
    · exact congr (congr (congr (congr (congrArg ffn (funext fun l => blk0 m hO c t hl r _)) (funext fun l => funext fun k => blk1 m hO c hw0 t l k))
        (funext fun l => funext fun k => blk2 m hO c hw0 t l k)) (funext fun l => funext fun k => blk3 m hO c hw0 t l k)) rfl
    · exact congr (congr (congr (congr (congrArg ffn (funext fun l => blk0 m hO c t hl r _)) (funext fun l => funext fun k => blk4 m hO c hw1 t l k))
        (funext fun l => funext fun k => blk5 m hO c hw1 t l k)) (funext fun l => funext fun k => blk6 m hO c hw1 t l k)) rfl
  · have hl := fun e => h ((live_iff m c t).mpr e)
    rw [dif_neg h, if_neg hl]
    exact out_B _ _ _ _ _ _ _ _ _ _ _ _ _ _ _ _ _ _ _ _ _ _ _ _ _ _ _ _ _ _ r d

/-! ### The array -/

/-- The result as the array's contents. -/
abbrev result (c : Dev nD) : Vec Ideal S77824x1024 .f32 := fun y => (value m c (y 0) (y 1) : EReal)

theorem index7 (i : grid0.Coords) : cc0_transform_7 i 0 = (i 0).val := small_toNat _ (coord_lt i)

theorem emb7 (t : Fin grid0.N) (r : Fin 512) (j : Fin 1024) : (((cfgM m hO).win 7).blk t).view.emb (ix2 r j) = (ix2 (token t r) j : S77824x1024.Idx) := by
  have hi : cc0_transform_7 (grid0.coords t) 0 = t.val := (index7 _).trans (coords_val t)
  refine funext fun a => Fin.ext ?_
  match a with
  | ⟨0, _⟩ => show cc0_transform_7 (grid0.coords t) 0 * 512 + 1 * r.val = 512 * t.val + r.val; rw [hi]; omega
  | ⟨1, _⟩ => show 0 * 1024 + 1 * j.val = j.val; omega

theorem cut7 (t : Fin grid0.N) (f : Vec Ideal S512x1024 .f32) (hf : ∀ (r : Fin 512) (j : Fin 1024), f (ix2 r j) = value m c (token t r) j) :
    ((cfgM m hO).win 7).cut (grid0.coords t) f = (((cfgM m hO).win 7).blk t).view.read (Elt Ideal) (result m c) := by
  funext y
  rw [View.read_apply]
  obtain ⟨r, j, rfl⟩ := idx2 (a := 512) (b := 1024) y
  exact (hf r j).trans (congrArg (result m c) (emb7 m hO t r j)).symm

theorem flushed7 (hw0 : ∀ j, (A0 m c (ix1 j) : BitVec 32).toNat < 16) (hw1 : ∀ j, (A1 m c (ix1 j) : BitVec 32).toNat < 16) (t : Fin grid0.N) :
    (dats m hO 0 c).flushed 7 t = (((cfgM m hO).win 7).blk t).view.read (Elt Ideal) (result m c) := by
  show ((cfgM m hO).win 7).cut (grid0.coords t) ((dats m hO 0 c).after 7 t) = _
  rw [after7]
  exact cut7 m hO c t _ fun r j => outs m hO c hw0 hw1 t r j

theorem flush7 : ∀ t : Fin grid0.N, Pipeline.Window.flushOf grid0 true cc0_transform_7 t = true := by decide +kernel

theorem covered7 (i : S77824x1024.Idx) : ∃ t : Fin (cfgM m hO).N, ((cfgM m hO).win 7).flush t = true ∧ i ∈ (((cfgM m hO).win 7).blk t).view.set := by
  obtain ⟨n, j, rfl⟩ := idx2 (a := 77824) (b := 1024) i
  have ht : n.val / 512 < 152 := by omega
  let t : Fin grid0.N := ⟨n.val / 512, ht⟩
  have e : token t ⟨n.val % 512, by omega⟩ = n := Fin.ext (by show 512 * (n.val / 512) + n.val % 512 = n.val; omega)
  have he := emb7 m hO t ⟨n.val % 512, by omega⟩ j
  rw [e] at he
  exact ⟨t, flush7 t, he ▸ View.emb_mem_set _ _⟩

/-- What the array of results ends holding. -/
theorem final7 (hw0 : ∀ j, (A0 m c (ix1 j) : BitVec 32).toNat < 16) (hw1 : ∀ j, (A1 m c (ix1 j) : BitVec 32).toNat < 16) :
    (dats m hO 0 c).arrAt 7 (cfgM m hO).N = result m c :=
  (dats m hO 0 c).arrAt_eq_of_cover 7 _ (fun t _ => flushed7 m hO c hw0 hw1 t) fun i => covered7 m hO i

end

end Cert.Proof.MoeI

end
-- ==== Proof.Moe.Ref.lean ====
/- The reference of the experts' layer, read at an index. -/
module

public import proofs.«01_k».proof.Proof.Gen.MoeRefIdeal.Read
public import Idealize.ShloMosaic.Lib.ValueIdxCore
public import proofs.«01_k».proof.Proof.Moe.Spec

@[expose] public section

set_option maxRecDepth 16384

noncomputable section

namespace Cert.Proof.Experts

open Idealize.ShloMosaic

/-! ### Whole matrices picked out of a stack -/

section
variable {α : Type} {N A B C w : ℕ}

/-- One matrix of a stack per start index. -/
abbrev pickDims (N A B C : ℕ)
    (wf : GatherDims.WF ⟨3, ![N, B, C]⟩ ⟨2, ![A, 1]⟩ ⟨3, ![A, B, C]⟩ [1, 2] [0] [] [0] [] 1 ![1, B, C]) :
    GatherDims ⟨3, ![N, B, C]⟩ ⟨2, ![A, 1]⟩ ⟨3, ![A, B, C]⟩ where
  offsetDims := [1, 2]
  collapsedSliceDims := [0]
  operandBatchingDims := []
  startIndicesBatchingDims := []
  startIndexMap := [0]
  indexVectorDim := 1
  sliceSizes := ![1, B, C]
  wf := wf

/-- Read at `(b, r, d)`: entry `(r, d)` of the matrix whose number is the start index `b`, read signed and brought into range. -/
theorem gather_pick (hN : 0 < N)
    (wf : GatherDims.WF ⟨3, ![N, B, C]⟩ ⟨2, ![A, 1]⟩ ⟨3, ![A, B, C]⟩ [1, 2] [0] [] [0] [] 1 ![1, B, C])
    (x : (⟨3, ![N, B, C]⟩ : Shape).Idx → α) (idx : IVec ⟨2, ![A, 1]⟩ w) (b : Fin A) (r : Fin B) (d : Fin C) :
    Host.gather (pickDims N A B C wf) x idx (ix3 b r d) = x (ix3 ⟨min (idx (ix2 b 0)).toInt.toNat (N - 1), by omega⟩ r d) := by
  unfold Host.gather
  congr 1
  funext a
  refine Fin.ext ?_
  show (pickDims N A B C wf).start (ix3 b r d) idx a + (pickDims N A B C wf).batchCoord (ix3 b r d) a
      + (pickDims N A B C wf).offCoord (ix3 b r d) a = _
  rw [GatherDims.batchCoord_eq_zero _ _ _ (fun h => by simp at h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N A B C wf).startIndexMap from List.mem_singleton.mpr rfl)]
    have hsi : (pickDims N A B C wf).siIdx (ix3 b r d) ⟨List.idxOf (0 : Fin 3) (pickDims N A B C wf).startIndexMap,
        List.idxOf_lt_length_iff.2 (List.mem_singleton.mpr rfl)⟩ = ix2 b 0 := by
      funext q; refine Fin.ext ?_
      match q with
      | ⟨0, _⟩ => rfl
      | ⟨1, _⟩ => rfl
    show min (idx _).toInt.toNat _ = _
    rw [hsi]
    rfl
  · unfold GatherDims.start
    rw [dif_neg (show (1 : Fin 3) ∉ (pickDims N A B C wf).startIndexMap from fun h => by simp at h)]
    show 0 + 0 + _ = r.val
    rw [Nat.zero_add]
    unfold GatherDims.offCoord
    rw [dif_pos ((GatherDims.mem_sKept _ _).mpr ⟨show (1 : Fin 3) ∉ ([0] : List (Fin 3)) from by decide, show (1 : Fin 3) ∉ ([] : List (Fin 3)) from by decide⟩)]
    rfl
  · unfold GatherDims.start
    rw [dif_neg (show (2 : Fin 3) ∉ (pickDims N A B C wf).startIndexMap from fun h => by simp at h)]
    show 0 + 0 + _ = d.val
    rw [Nat.zero_add]
    unfold GatherDims.offCoord
    rw [dif_pos ((GatherDims.mem_sKept _ _).mpr ⟨show (2 : Fin 3) ∉ ([0] : List (Fin 3)) from by decide, show (2 : Fin 3) ∉ ([] : List (Fin 3)) from by decide⟩)]
    rfl

end

end Cert.Proof.Experts

namespace Cert.Proof.MoeReference

open Cert.MoeRefIdeal Cert.MoeRefIdeal.Gen Cert.MoeRefIdeal.Read Idealize.ShloMosaic Cert.Proof.Experts

variable (x0 x1 : Vec Ideal S152 .i32) (x2 : Vec Ideal S1 .i32) (x3 : Vec Ideal S77824x1152 .f32) (x4 x5 : Vec Ideal S2x16x1024x512 .f32)
  (x6 : Vec Ideal S2x16x512x1024 .f32)

/-- Row `r` of block `b`. -/
abbrev row (b : Fin 152) (r : Fin 512) : Fin 77824 := ⟨b.val * 512 + r.val, by omega⟩

theorem pick_gate (x : Vec Ideal S16x1024x512 .f32) (idx : Vec Ideal S152x1 .i32) (b : Fin 152) (l : Fin 1024) (k : Fin 512) :
    Host.gather gather_S16x1024x512_S152x1_S152x1024x512_12_0_n_n_0_1_11024512 x idx (ix3 b l k) = x (ix3 (named (idx (ix2 b 0))) l k) :=
  gather_pick (by omega) _ x idx b l k

theorem pick_down (x : Vec Ideal S16x512x1024 .f32) (idx : Vec Ideal S152x1 .i32) (b : Fin 152) (k : Fin 512) (d : Fin 1024) :
    Host.gather gather_S16x512x1024_S152x1_S152x512x1024_12_0_n_n_0_1_15121024 x idx (ix3 b k d) = x (ix3 (named (idx (ix2 b 0))) k d) :=
  gather_pick (by omega) _ x idx b k d

theorem stack_6 (e : Fin 16) (l : Fin 1024) (k : Fin 512) : val_main_v6 (F := Ideal) x4 (ix3 e l k) = x4 (ix4 0 e l k) := by
  pointwise [val_main_v6, val_main_v5]

theorem stack_9 (e : Fin 16) (l : Fin 1024) (k : Fin 512) : val_main_v9 (F := Ideal) x5 (ix3 e l k) = x5 (ix4 0 e l k) := by
  pointwise [val_main_v9, val_main_v8]

theorem stack_23 (e : Fin 16) (l : Fin 1024) (k : Fin 512) : val_main_v23 (F := Ideal) x4 (ix3 e l k) = x4 (ix4 0 e l k) := by
  pointwise [val_main_v23, val_main_v22]

theorem stack_26 (e : Fin 16) (l : Fin 1024) (k : Fin 512) : val_main_v26 (F := Ideal) x5 (ix3 e l k) = x5 (ix4 0 e l k) := by
  pointwise [val_main_v26, val_main_v25]

theorem stack_12 (e : Fin 16) (k : Fin 512) (d : Fin 1024) : val_main_v12 (F := Ideal) x6 (ix3 e k d) = x6 (ix4 0 e k d) := by
  pointwise [val_main_v12, val_main_v11]

theorem stack_29 (e : Fin 16) (k : Fin 512) (d : Fin 1024) : val_main_v29 (F := Ideal) x6 (ix3 e k d) = x6 (ix4 0 e k d) := by
  pointwise [val_main_v29, val_main_v28]

theorem word_0 (b : Fin 152) : val_main_call0_v0 (F := Ideal) x0 (ix2 b 0) = x0 (ix1 b) := by
  pointwise [val_main_call0_v0]

theorem word_1 (b : Fin 152) : val_main_call1_v0 (F := Ideal) x0 (ix2 b 0) = x0 (ix1 b) := by
  pointwise [val_main_call1_v0]

theorem word_2 (b : Fin 152) : val_main_call2_v0 (F := Ideal) x0 (ix2 b 0) = x0 (ix1 b) := by
  pointwise [val_main_call2_v0]

theorem word_4 (b : Fin 152) : val_main_call4_v0 (F := Ideal) x1 (ix2 b 0) = x1 (ix1 b) := by
  pointwise [val_main_call4_v0]

theorem word_5 (b : Fin 152) : val_main_call5_v0 (F := Ideal) x1 (ix2 b 0) = x1 (ix1 b) := by
  pointwise [val_main_call5_v0]

theorem word_6 (b : Fin 152) : val_main_call6_v0 (F := Ideal) x1 (ix2 b 0) = x1 (ix1 b) := by
  pointwise [val_main_call6_v0]

theorem expert_7 (b : Fin 152) (l : Fin 1024) (k : Fin 512) : val_main_v7 (F := Ideal) x0 x4 (ix3 b l k) = x4 (ix4 0 (named (x0 (ix1 b))) l k) := by
  unfold val_main_v7
  rw [pick_gate, word_0, stack_6]

theorem expert_10 (b : Fin 152) (l : Fin 1024) (k : Fin 512) : val_main_v10 (F := Ideal) x0 x5 (ix3 b l k) = x5 (ix4 0 (named (x0 (ix1 b))) l k) := by
  unfold val_main_v10
  rw [pick_gate, word_1, stack_9]

theorem expert_24 (b : Fin 152) (l : Fin 1024) (k : Fin 512) : val_main_v24 (F := Ideal) x1 x4 (ix3 b l k) = x4 (ix4 0 (named (x1 (ix1 b))) l k) := by
  unfold val_main_v24
  rw [pick_gate, word_4, stack_23]

theorem expert_27 (b : Fin 152) (l : Fin 1024) (k : Fin 512) : val_main_v27 (F := Ideal) x1 x5 (ix3 b l k) = x5 (ix4 0 (named (x1 (ix1 b))) l k) := by
  unfold val_main_v27
  rw [pick_gate, word_5, stack_26]

theorem expert_13 (b : Fin 152) (k : Fin 512) (d : Fin 1024) : val_main_v13 (F := Ideal) x0 x6 (ix3 b k d) = x6 (ix4 0 (named (x0 (ix1 b))) k d) := by
  unfold val_main_v13
  rw [pick_down, word_2, stack_12]

theorem expert_30 (b : Fin 152) (k : Fin 512) (d : Fin 1024) : val_main_v30 (F := Ideal) x1 x6 (ix3 b k d) = x6 (ix4 0 (named (x1 (ix1 b))) k d) := by
  unfold val_main_v30
  rw [pick_down, word_6, stack_29]

theorem tokens (b : Fin 152) (r : Fin 512) (l : Fin 1024) : val_main_v1 (F := Ideal) x3 (ix3 b r l) = x3 (ix2 (row b r) ⟨l.val, by omega⟩) := by
  pointwise [val_main_v1, val_main_v0]

theorem weight0 (b : Fin 152) (r : Fin 512) : val_main_v4 (F := Ideal) x3 (ix3 b r 0) = x3 (ix2 (row b r) 1024) := by
  pointwise [val_main_v4, val_main_v3, val_main_v2]

theorem weight1 (b : Fin 152) (r : Fin 512) : val_main_v21 (F := Ideal) x3 (ix3 b r 0) = x3 (ix2 (row b r) 1025) := by
  pointwise [val_main_v21, val_main_v3, val_main_v2]

theorem hidden0 (b : Fin 152) (r k : Fin 512) : val_main_v17 (F := Ideal) x0 x3 x4 x5 (ix3 b r k)
    = (∑ l : Fin 1024, x3 (ix2 (row b r) ⟨l.val, by omega⟩) * x4 (ix4 0 (named (x0 (ix1 b))) l k))
      * Ideal.logistic (∑ l : Fin 1024, x3 (ix2 (row b r) ⟨l.val, by omega⟩) * x4 (ix4 0 (named (x0 (ix1 b))) l k))
      * ∑ l : Fin 1024, x3 (ix2 (row b r) ⟨l.val, by omega⟩) * x5 (ix4 0 (named (x0 (ix1 b))) l k) := by
  pointwise [val_main_v17, val_main_v16, val_main_v15, val_main_v14, val_main_call3_v5, val_main_call3_v4, val_main_call3_v3, val_main_call3_v2,
    val_main_call3_v1, val_main_call3_v0, val_main_call3_cst, val_main_call3_cst_0]
  simp only [expert_7, expert_10, tokens]
  simp [Ideal.logistic]

theorem hidden1 (b : Fin 152) (r k : Fin 512) : val_main_v34 (F := Ideal) x1 x3 x4 x5 (ix3 b r k)
    = (∑ l : Fin 1024, x3 (ix2 (row b r) ⟨l.val, by omega⟩) * x4 (ix4 0 (named (x1 (ix1 b))) l k))
      * Ideal.logistic (∑ l : Fin 1024, x3 (ix2 (row b r) ⟨l.val, by omega⟩) * x4 (ix4 0 (named (x1 (ix1 b))) l k))
      * ∑ l : Fin 1024, x3 (ix2 (row b r) ⟨l.val, by omega⟩) * x5 (ix4 0 (named (x1 (ix1 b))) l k) := by
  pointwise [val_main_v34, val_main_v33, val_main_v32, val_main_v31, val_main_call7_v5, val_main_call7_v4, val_main_call7_v3, val_main_call7_v2,
    val_main_call7_v1, val_main_call7_v0, val_main_call7_cst, val_main_call7_cst_0]
  simp only [expert_24, expert_27, tokens]
  simp [Ideal.logistic]

theorem mixed (b : Fin 152) (r : Fin 512) (d : Fin 1024) : val_main_v38 (F := Ideal) x0 x1 x3 x4 x5 x6 (ix3 b r d)
    = x3 (ix2 (row b r) 1024) * ffn (fun l => x3 (ix2 (row b r) ⟨l.val, by omega⟩)) (fun l k => x4 (ix4 0 (named (x0 (ix1 b))) l k))
        (fun l k => x5 (ix4 0 (named (x0 (ix1 b))) l k)) (fun k d => x6 (ix4 0 (named (x0 (ix1 b))) k d)) d
      + x3 (ix2 (row b r) 1025) * ffn (fun l => x3 (ix2 (row b r) ⟨l.val, by omega⟩)) (fun l k => x4 (ix4 0 (named (x1 (ix1 b))) l k))
        (fun l k => x5 (ix4 0 (named (x1 (ix1 b))) l k)) (fun k d => x6 (ix4 0 (named (x1 (ix1 b))) k d)) d := by
  pointwise [val_main_v38, val_main_v37, val_main_v36, val_main_v35, val_main_v20, val_main_v19, val_main_v18]
  simp only [hidden0, hidden1, expert_13, expert_30, weight0, weight1]
  rfl

theorem live_at (b : Fin 152) (r : Fin 512) (d : Fin 1024) : val_main_call8_v1 (F := Ideal) x2 (ix3 b r d)
    = IntOp.cmpi .slt (BitVec.ofNat 32 b.val) (x2 (ix1 0)) := by
  pointwise [val_main_call8_v1, val_main_v43, val_main_v42, val_main_v41, val_main_v40, val_main_v39]

theorem result (b : Fin 152) (r : Fin 512) (d : Fin 1024) :
    val_main_v45 (F := Ideal) x0 x1 x2 x3 x4 x5 x6 (ix2 (row b r) d) = val x0 x1 x2 x3 x4 x5 x6 (row b r) d := by
  pointwise [val_main_v45, val_main_v44, val_main_call8_v2, val_main_call8_v0, val_main_cst]
  have hb : (b.val * 512 + r.val) / 512 = b.val := by omega
  have eb : (⟨(b.val * 512 + r.val) / 512, by omega⟩ : Fin 152) = b := Fin.ext hb
  have er : (⟨(b.val * 512 + r.val) % 512, by omega⟩ : Fin 512) = r := Fin.ext (by simp)
  rw [eb, er, live_at, mixed]
  have hk : blockOf (row b r) = b := eb
  unfold val entry
  rw [hk]
  show Scalar.select _ _ (Ideal.ofBits .f32 0#32) = if (BitVec.ofNat 32 ((b.val * 512 + r.val) / 512)).slt (x2 (ix1 0)) = true then _ else _
  have hz : Ideal.ofBits .f32 0#32 = 0 := by simp [Ideal.ofBits, Ideal.ieee]
  rw [hb, hz]
  cases h : (BitVec.ofNat 32 b.val).slt (x2 (ix1 0)) <;> simp [IntOp.cmpi, Scalar.select, h]

end Cert.Proof.MoeReference

end
-- ==== Proof.Moe.Claim.lean ====
/- The value claim of the experts' layer: the kernel's array of results and the reference's are one function of the arguments. -/
module

public import proofs.«01_k».proof.Defs
public import proofs.«01_k».proof.Proof.Moe.Array
public import proofs.«01_k».proof.Proof.Moe.Ref

@[expose] public section

set_option maxRecDepth 16384

noncomputable section

namespace Cert.Proof

open Idealize.ShloMosaic Idealize.SL.Sem Idealize.ShloMosaic.TcCoe

namespace MoeReference

open Cert.MoeRefIdeal Cert.MoeRefIdeal.Gen Cert.MoeRefIdeal.Read

theorem same (m : (ℓ : Loc Cert.MoeIdeal.nD Cert.MoeIdeal.τ Cert.MoeIdeal.sig) → Buf (Elt Ideal) ℓ) (c : Dev Cert.MoeIdeal.nD)
    (x0 : Vec Ideal S152 .i32) (x1 : Vec Ideal S152 .i32) (x2 : Vec Ideal S1 .i32) (x3 : Vec Ideal S77824x1152 .f32) (x4 x5 : Vec Ideal S2x16x1024x512 .f32) (x6 : Vec Ideal S2x16x512x1024 .f32)
    (e0 : x0 = MoeI.A0 m c) (e1 : x1 = MoeI.A1 m c) (e2 : x2 = MoeI.A2 m c) (e3 : x3 = MoeI.A3 m c) (e4 : x4 = MoeI.A4 m c) (e5 : x5 = MoeI.A5 m c) (e6 : x6 = MoeI.A6 m c) :
    val_main_v45 (F := Ideal) x0 x1 x2 x3 x4 x5 x6 = MoeI.result m c := by
  subst e0 e1 e2 e3 e4 e5 e6
  funext y
  obtain ⟨n, d, rfl⟩ := MoeI.idx2 (a := 77824) (b := 1024) y
  have e : row ⟨n.val / 512, by omega⟩ ⟨n.val % 512, by omega⟩ = n := Fin.ext (by show n.val / 512 * 512 + n.val % 512 = n.val; omega)
  have h := result (MoeI.A0 m c) (MoeI.A1 m c) (MoeI.A2 m c) (MoeI.A3 m c) (MoeI.A4 m c) (MoeI.A5 m c) (MoeI.A6 m c) ⟨n.val / 512, by omega⟩ ⟨n.val % 512, by omega⟩ d
  rw [e] at h
  exact h

end MoeReference

section
open Cert.MoeIdeal Cert.MoeIdeal.Gen

/-- What the kernel's run leaves. -/
theorem moe_kernel (m : (ℓ : Loc nD τ sig) → Buf (Elt Ideal) ℓ) (g : Dev nD → PrngReg) (h : Cert.Pre_MoeIdeal m) :
    θ_run (defs (F := Ideal)) (onTc (τ := τ) (main (F := Ideal))) ⟨m, fun _ => 0, g⟩ (fun r => ∀ c : Dev nD,
      r.2.mem ((c.tc : Thread nD τ).loc main_v0) = MoeI.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO := MoeI.ok_of_pre m h
  refine (θ_run defs _ _).mono (fun r hr c => ?_) (MoeI.run_main m g hO)
  have hw := Experts.words (h c)
  exact ⟨((hr c).1 7).trans (MoeI.final7 m hO c (fun j => hw.1 _) (fun j => hw.2.1 _)),
    (hr c).2 main_arg0 (by decide : main_arg0 ∈ Pipeline.restRefs sig spec0), (hr c).2 main_arg1 (by decide : main_arg1 ∈ Pipeline.restRefs sig spec0),
    (hr c).2 main_arg2 (by decide : main_arg2 ∈ Pipeline.restRefs sig spec0),
    ((hr c).1 0).trans (((MoeI.dats m hO 0 c).arrAt_in 0 rfl _).trans (MoeI.A_eq m hO c 0)), ((hr c).1 4).trans (((MoeI.dats m hO 0 c).arrAt_in 4 rfl _).trans (MoeI.A_eq m hO c 4)),
    ((hr c).1 5).trans (((MoeI.dats m hO 0 c).arrAt_in 5 rfl _).trans (MoeI.A_eq m hO c 5)), ((hr c).1 6).trans (((MoeI.dats m hO 0 c).arrAt_in 6 rfl _).trans (MoeI.A_eq m hO c 6))⟩

end

section
open Cert.MoeRefIdeal Cert.MoeRefIdeal.Gen Cert.MoeRefIdeal.Read

/-- What the reference's run leaves. -/
theorem moe_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.MoeRefIdeal.Value.run m g)
  obtain ⟨h0, hk⟩ := h c
  exact ⟨h0.trans (val_main_v45_eq _ _), hk⟩

end

theorem algebraic_moe : Cert.algebraic_MoeIdeal_MoeRefIdeal := by
  intro m g m' g' h hm
  refine ⟨fun c => MoeI.result m c, moe_kernel m g h, ?_⟩
  refine (θ_run Cert.MoeRefIdeal.defs _ _).mono (fun r h c => ?_) (moe_reference m' g')
  obtain ⟨h0, hk⟩ := h c
  obtain ⟨e0, e1, e2, e3, e4, e5, e6⟩ := hm c
  exact ⟨h0.trans (MoeReference.same m c _ _ _ _ _ _ _ e0 e1 e2 e3 e4 e5 e6), hk⟩

end Cert.Proof

end
-- ==== Proof.Modulation.Spec.lean ====
/- The modulation, written once over the extended reals: silu of a sequence's condition, its product with a column of the
   weight, and the bias. -/
module

public import Idealize.ShloMosaic.Lib.Pointwise

@[expose] public section

noncomputable section

namespace Cert.Proof.Condition

open Idealize.ShloMosaic

/-- silu of the condition times the column, plus the bias. -/
def modulated (c w : Fin 1024 → EReal) (b : EReal) : EReal := (∑ k, c k * Ideal.logistic (c k) * w k) + b

theorem idx3 {a b d : ℕ} (x : Shape.Idx ⟨3, ![a, b, d]⟩) : ∃ (l : Fin a) (r : Fin b) (j : Fin d), x = ix3 l r j :=
  ⟨x 0, x 1, x 2, by funext k; match k with | ⟨0, _⟩ => rfl | ⟨1, _⟩ => rfl | ⟨2, _⟩ => rfl⟩

end Cert.Proof.Condition

end
-- ==== Proof.Modulation.Array.lean ====
/- The modulation's call: one step's block from the step's input blocks, and the array that the blocks make. -/
module

public import proofs.«01_k».proof.Proof.Gen.ModulationIdeal.Value
public import proofs.«01_k».proof.Proof.Modulation.Spec

@[expose] public section

set_option maxRecDepth 16384

noncomputable section

namespace Cert.Proof.ModulationKernel

open Cert.ModulationIdeal Cert.ModulationIdeal.Gen Idealize.ShloMosaic Idealize.ShloMosaic.TcCoe Cert.Proof.Condition

/-! ### One step -/

section
variable (x0 : Vec Ideal S8x1024 .f32) (x1 : Vec Ideal S1x1024x1024 .f32) (x2 : Vec Ideal S1x1x1024 .f32)

theorem canon_whole (f : Vec Ideal S1x8x1024 .f32) (r : Fin 8) (j : Fin 1024) :
    View.canon (Val := Elt Ideal) (s := S1x8x1024) (e := .f32) [⟨r0_3, f⟩] (ix3 0 r j) = f (ix3 0 r j) := by
  have h : r0_3.emb (ix3 0 r j) = ix3 0 r j := by
    funext k
    match k with
    | ⟨0, _⟩ => rfl
    | ⟨1, _⟩ => exact Fin.ext (by simp [r0_3])
    | ⟨2, _⟩ => exact Fin.ext (by simp [r0_3])
  exact (congrArg _ h.symm).trans (View.canon_cons_emb _ _ _ _)

theorem out3 (r : Fin 8) (j : Fin 1024) :
    out0_3 x0 x1 x2 (ix3 0 r j) = modulated (fun k => x0 (ix2 r k)) (fun k => x1 (ix3 0 k j)) (x2 (ix3 0 0 j)) := by
  unfold out0_3
  refine (canon_whole _ r j).trans ?_
  pointwise [k0_pay1]
  rfl

end

/-! ### The blocks -/

variable (m : (ℓ : Loc nD τ sig) → Buf (Elt Ideal) ℓ) (c : Dev nD)

theorem V_bias (l : Fin 2) (j : Fin 6144) : (V m c main_v0 : Vec Ideal S2x1x6144 .f32) (ix3 l 0 j)
    = (m ((c : Thread nD τ).loc main_arg2) : Vec Ideal S2x6144 .f32) (ix2 l j) := by
  unfold_abbrev_sides
  after_results
  pointwise []

theorem at0 : ∀ t : Fin cfg0.N, win0_0.index t 0 = 0 ∧ win0_0.index t 1 = 0 :=
  (by decide +kernel : ∀ t : Fin grid0.N, win0_0.index t 0 = 0 ∧ win0_0.index t 1 = 0)

theorem at1 : ∀ t : Fin cfg0.N, win0_1.index t 0 = t.val / 6 ∧ win0_1.index t 1 = 0 ∧ win0_1.index t 2 = t.val % 6 :=
  (by decide +kernel : ∀ t : Fin grid0.N, win0_1.index t 0 = t.val / 6 ∧ win0_1.index t 1 = 0 ∧ win0_1.index t 2 = t.val % 6)

theorem at2 : ∀ t : Fin cfg0.N, win0_2.index t 0 = t.val / 6 ∧ win0_2.index t 1 = 0 ∧ win0_2.index t 2 = t.val % 6 :=
  (by decide +kernel : ∀ t : Fin grid0.N, win0_2.index t 0 = t.val / 6 ∧ win0_2.index t 1 = 0 ∧ win0_2.index t 2 = t.val % 6)

theorem at3 : ∀ t : Fin cfg0.N, win0_3.index t 0 = t.val / 6 ∧ win0_3.index t 1 = 0 ∧ win0_3.index t 2 = t.val % 6 :=
  (by decide +kernel : ∀ t : Fin grid0.N, win0_3.index t 0 = t.val / 6 ∧ win0_3.index t 1 = 0 ∧ win0_3.index t 2 = t.val % 6)

theorem flush3 : ∀ t : Fin cfg0.N, (cfg0.win 3).flush t = true :=
  (by decide +kernel : ∀ t : Fin grid0.N, win0_3.flush t = true)

theorem lt_points (t : Fin cfg0.N) : t.val < 12 := t.isLt

/-- The layer of step `t`. -/
abbrev layer (t : Fin cfg0.N) : Fin 2 := ⟨t.val / 6, by have := lt_points t; omega⟩

/-- Column `j` of step `t`. -/
abbrev column (t : Fin cfg0.N) (j : Fin 1024) : Fin 6144 := ⟨1024 * (t.val % 6) + j.val, by omega⟩

theorem blk0 (t : Fin cfg0.N) (r : Fin 8) (k : Fin 1024) :
    (iblk m c 0 t : Vec Ideal S8x1024 .f32) (ix2 r k) = (m ((c : Thread nD τ).loc main_arg0) : Vec Ideal S8x1024 .f32) (ix2 r k) := by
  unfold iblk
  rw [View.read_apply]
  show V m c main_arg0 _ = _
  have hi := at0 t
  rw [V_main_arg0]
  refine congrArg _ (funext fun a => Fin.ext ?_)
  match a with
  | ⟨0, _⟩ => show win0_0.index t 0 * 8 + 1 * r.val = r.val; rw [hi.1]; omega
  | ⟨1, _⟩ => show win0_0.index t 1 * 1024 + 1 * k.val = k.val; rw [hi.2]; omega

theorem blk1 (t : Fin cfg0.N) (k j : Fin 1024) :
    (iblk m c 1 t : Vec Ideal S1x1024x1024 .f32) (ix3 0 k j)
      = (m ((c : Thread nD τ).loc main_arg1) : Vec Ideal S2x1024x6144 .f32) (ix3 (layer t) k (column t j)) := by
  unfold iblk
  rw [View.read_apply]
  show V m c main_arg1 _ = _
  have hi := at1 t
  rw [V_main_arg1]
  refine congrArg _ (funext fun a => Fin.ext ?_)
  match a with
  | ⟨0, _⟩ => show win0_1.index t 0 * 1 + 1 * 0 = t.val / 6; rw [hi.1]; omega
  | ⟨1, _⟩ => show win0_1.index t 1 * 1024 + 1 * k.val = k.val; rw [hi.2.1]; omega
  | ⟨2, _⟩ => show win0_1.index t 2 * 1024 + 1 * j.val = 1024 * (t.val % 6) + j.val; rw [hi.2.2]; omega

theorem blk2 (t : Fin cfg0.N) (j : Fin 1024) :
    (iblk m c 2 t : Vec Ideal S1x1x1024 .f32) (ix3 0 0 j)
      = (m ((c : Thread nD τ).loc main_arg2) : Vec Ideal S2x6144 .f32) (ix2 (layer t) (column t j)) := by
  refine Eq.trans ?_ (V_bias m c (layer t) (column t j))
  unfold iblk
  rw [View.read_apply]
  show V m c main_v0 _ = _
  have hi := at2 t
  refine congrArg _ (funext fun a => Fin.ext ?_)
  match a with
  | ⟨0, _⟩ => show win0_2.index t 0 * 1 + 1 * 0 = t.val / 6; rw [hi.1]; omega
  | ⟨1, _⟩ => show win0_2.index t 1 * 1 + 1 * 0 = 0; rw [hi.2.1]
  | ⟨2, _⟩ => show win0_2.index t 2 * 1024 + 1 * j.val = 1024 * (t.val % 6) + j.val; rw [hi.2.2]; omega

/-! ### The array -/

/-- The modulation of layer `l` and sequence `r`, column `j`. -/
def val3 (l : Fin 2) (r : Fin 8) (j : Fin 6144) : EReal :=
  modulated (fun k => (m ((c : Thread nD τ).loc main_arg0) : Vec Ideal S8x1024 .f32) (ix2 r k))
    (fun k => (m ((c : Thread nD τ).loc main_arg1) : Vec Ideal S2x1024x6144 .f32) (ix3 l k j))
    ((m ((c : Thread nD τ).loc main_arg2) : Vec Ideal S2x6144 .f32) (ix2 l j))

/-- The array of them. -/
def result : S2x8x6144.Idx → EReal := fun y => val3 m c (y 0) (y 1) (y 2)

theorem emb3 (t : Fin cfg0.N) (r : Fin 8) (j : Fin 1024) :
    ((cfg0.win 3).blk t).view.emb (ix3 0 r j) = (ix3 (layer t) r (column t j) : S2x8x6144.Idx) := by
  have hi := at3 t
  refine funext fun a => Fin.ext ?_
  match a with
  | ⟨0, _⟩ => show win0_3.index t 0 * 1 + 1 * 0 = t.val / 6; rw [hi.1]; omega
  | ⟨1, _⟩ => show win0_3.index t 1 * 8 + 1 * r.val = r.val; rw [hi.2.1]; omega
  | ⟨2, _⟩ => show win0_3.index t 2 * 1024 + 1 * j.val = 1024 * (t.val % 6) + j.val; rw [hi.2.2]; omega

theorem flushed_eq3 (t : Fin cfg0.N) (_ : (cfg0.win 3).flush t = true) :
    (dats m 0 c).flushed 3 t = ((cfg0.win 3).blk t).view.read (Elt Ideal) (result m c) := by
  rw [Cert.ModulationIdeal.Value.flushed3 m c t]
  funext y
  rw [View.read_apply]
  obtain ⟨l, r, j, rfl⟩ := idx3 (a := 1) (b := 8) (d := 1024) y
  obtain rfl : l = 0 := Subsingleton.elim _ _
  refine Eq.trans ?_ (congrArg (result m c) (emb3 t r j)).symm
  refine (out3 _ _ _ r j).trans ?_
  show _ = val3 m c (layer t) r (column t j)
  unfold val3
  congr 1
  · exact funext fun k => blk0 m c t r k
  · exact funext fun k => blk1 m c t k j
  · exact blk2 m c t j

theorem covered3 (i : S2x8x6144.Idx) : ∃ t : Fin cfg0.N, (cfg0.win 3).flush t = true ∧ i ∈ ((cfg0.win 3).blk t).view.set := by
  obtain ⟨l, r, j, rfl⟩ := idx3 (a := 2) (b := 8) (d := 6144) i
  have ht : 6 * l.val + j.val / 1024 < 12 := by omega
  let t : Fin cfg0.N := ⟨6 * l.val + j.val / 1024, ht⟩
  have e0 : layer t = l := Fin.ext (by show (6 * l.val + j.val / 1024) / 6 = l.val; omega)
  have e1 : column t ⟨j.val % 1024, by omega⟩ = j :=
    Fin.ext (by show 1024 * ((6 * l.val + j.val / 1024) % 6) + j.val % 1024 = j.val; omega)
  have he := emb3 t r ⟨j.val % 1024, by omega⟩
  rw [e0, e1] at he
  exact ⟨t, flush3 t, he ▸ View.emb_mem_set _ _⟩

/-- What the array of results ends holding. -/
theorem final3 : (dats m 0 c).arrAt 3 cfg0.N = result m c :=
  (dats m 0 c).arrAt_eq_of_cover 3 _ (flushed_eq3 m c) covered3

end Cert.Proof.ModulationKernel

end
-- ==== Proof.Modulation.Ref.lean ====
/- The modulation's reference, read at an index. -/
module

public import proofs.«01_k».proof.Proof.Gen.ModulationRefIdeal.Read
public import proofs.«01_k».proof.Proof.Modulation.Spec

@[expose] public section

set_option maxRecDepth 16384

noncomputable section

namespace Cert.Proof.ModulationReference

open Cert.ModulationRefIdeal Cert.ModulationRefIdeal.Gen Cert.ModulationRefIdeal.Read Idealize.ShloMosaic Cert.Proof.Condition

variable (x0 : Vec Ideal S8x1024 .f32) (x1 : Vec Ideal S2x1024x6144 .f32) (x2 : Vec Ideal S2x6144 .f32)

/-- The modulation of the arguments. -/
abbrev R (l : Fin 2) (r : Fin 8) (j : Fin 6144) : EReal :=
  modulated (fun k => x0 (ix2 r k)) (fun k => x1 (ix3 l k j)) (x2 (ix2 l j))

theorem silu_at (r : Fin 8) (k : Fin 1024) : val_main_v0 (F := Ideal) x0 (ix2 r k) = x0 (ix2 r k) * Ideal.logistic (x0 (ix2 r k)) := by
  pointwise [val_main_v0, val_main_call0_v0, val_main_call0_v1, val_main_call0_cst, val_main_call0_v2, val_main_call0_v3,
    val_main_call0_cst_0, val_main_call0_v4, val_main_call0_v5]
  rfl

theorem first (r : Fin 8) (j : Fin 6144) : val_main_v8 (F := Ideal) x0 x1 x2 (ix2 r j) = R x0 x1 x2 0 r j := by
  pointwise [val_main_v8, val_main_v7, val_main_v6, val_main_v5, val_main_v4, val_main_v3, val_main_v2, val_main_v1]
  simp only [silu_at]
  rfl

theorem second (r : Fin 8) (j : Fin 6144) : val_main_v16 (F := Ideal) x0 x1 x2 (ix2 r j) = R x0 x1 x2 1 r j := by
  pointwise [val_main_v16, val_main_v15, val_main_v14, val_main_v13, val_main_v12, val_main_v11, val_main_v10, val_main_v9]
  simp only [silu_at]
  rfl

theorem res (l : Fin 2) (r : Fin 8) (j : Fin 6144) : val_main_v19 (F := Ideal) x0 x1 x2 (ix3 l r j) = R x0 x1 x2 l r j := by
  pointwise [val_main_v19, val_main_v18, val_main_v17]
  by_cases h : l.val < 1
  · obtain rfl : l = 0 := Fin.ext (by show l.val = 0; omega)
    simp only [first]
    rfl
  · obtain rfl : l = 1 := Fin.ext (by show l.val = 1; omega)
    simp only [second]
    rfl

end Cert.Proof.ModulationReference

end
-- ==== Proof.Modulation.Claim.lean ====
/- The modulation's value claim: the kernel's array and the reference's are one function of the arguments. -/
module

public import proofs.«01_k».proof.Defs
public import proofs.«01_k».proof.Proof.Modulation.Array
public import proofs.«01_k».proof.Proof.Modulation.Ref

@[expose] public section

set_option maxRecDepth 16384

noncomputable section

namespace Cert.Proof

open Idealize.ShloMosaic Idealize.SL.Sem Idealize.ShloMosaic.TcCoe

namespace ModulationReference

open Cert.ModulationRefIdeal Cert.ModulationRefIdeal.Gen Cert.ModulationRefIdeal.Read

variable (m : (ℓ : Loc Cert.ModulationIdeal.nD Cert.ModulationIdeal.τ Cert.ModulationIdeal.sig) → Buf (Elt Ideal) ℓ) (c : Dev Cert.ModulationIdeal.nD)

/-- The kernel's arguments, as the reference's. -/
abbrev a0 : Vec Ideal S8x1024 .f32 := m ((c.tc : Thread Cert.ModulationIdeal.nD Cert.ModulationIdeal.τ).loc Cert.ModulationIdeal.main_arg0)
abbrev a1 : Vec Ideal S2x1024x6144 .f32 := m ((c.tc : Thread Cert.ModulationIdeal.nD Cert.ModulationIdeal.τ).loc Cert.ModulationIdeal.main_arg1)
abbrev a2 : Vec Ideal S2x6144 .f32 := m ((c.tc : Thread Cert.ModulationIdeal.nD Cert.ModulationIdeal.τ).loc Cert.ModulationIdeal.main_arg2)

theorem same (x0 : Vec Ideal S8x1024 .f32) (x1 : Vec Ideal S2x1024x6144 .f32) (x2 : Vec Ideal S2x6144 .f32)
    (e0 : x0 = a0 m c) (e1 : x1 = a1 m c) (e2 : x2 = a2 m c) : val_main_v19 (F := Ideal) x0 x1 x2 = ModulationKernel.result m c := by
  subst e0 e1 e2
  funext y
  obtain ⟨l, r, j, rfl⟩ := Condition.idx3 (a := 2) (b := 8) (d := 6144) y
  exact res _ _ _ l r j

end ModulationReference

section
open Cert.ModulationIdeal Cert.ModulationIdeal.Gen

/-- What the kernel's run leaves. -/
theorem modulation_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = ModulationKernel.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ModulationIdeal.Value.run_blocks m g)
  obtain ⟨h3, hk⟩ := h c
  exact ⟨h3.trans (ModulationKernel.final3 m c), hk⟩

end

section
open Cert.ModulationRefIdeal Cert.ModulationRefIdeal.Gen Cert.ModulationRefIdeal.Read

/-- What the reference's run leaves. -/
theorem modulation_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v19) = val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ModulationRefIdeal.Value.run m g)
  obtain ⟨h0, hk⟩ := h c
  exact ⟨h0.trans (val_main_v19_eq _ _ _), hk⟩

end

theorem algebraic_modulation : Cert.algebraic_ModulationIdeal_ModulationRefIdeal := by
  intro m g m' g' _ hm
  refine ⟨fun c => ModulationKernel.result m c, modulation_kernel m g, ?_⟩
  refine (θ_run Cert.ModulationRefIdeal.defs _ _).mono (fun r h c => ?_) (modulation_reference m' g')
  obtain ⟨h0, hk⟩ := h c
  obtain ⟨e0, e1, e2⟩ := hm c
  exact ⟨h0.trans (ModulationReference.same m c _ _ _ e0 e1 e2), hk⟩

end Cert.Proof

end
-- ==== Proof.Gla.Pre.lean ====
/- The linear attention's precondition, read entry by entry: no logarithm of a decay is plus infinity. -/
module

public import proofs.«01_k».proof.Pre_decays_below_infinity
public import Idealize.ShloMosaic.Lib.ReduceAll
public import Idealize.ShloMosaic.Lib.Affine
public import Idealize.ShloMosaic.Lib.Pointwise
public import Idealize.ShloMosaic.Lib.KernelVsHost

@[expose] public section

noncomputable section

namespace Cert.Pre_decays_below_infinity.Gen

open Idealize.ShloMosaic Cert.Pre_decays_below_infinity

instance facts : Cert.Pre_decays_below_infinity.Facts where
  bcast_S_S65536x256 := by decide
  reducesTo_S65536x256_S_d0_1 := by decide
  h_S_ := by decide

end Cert.Pre_decays_below_infinity.Gen

namespace Cert.Proof.Linear

open Idealize.ShloMosaic Cert.Pre_decays_below_infinity Cert.Pre_decays_below_infinity.Facts

theorem ne_top_of_word (x : EReal) (h : Ideal.cmp .olt x (Ideal.ofBits .f32 0x7F800000#32) = 1#1) : x ≠ ⊤ := by
  have htop : Ideal.ofBits .f32 0x7F800000#32 = ⊤ := by simp [Ideal.ofBits, Ideal.ieee]
  rw [htop] at h
  rintro rfl
  simp [Ideal.cmp] at h

/-- Every entry of the decays' array is below plus infinity. -/
theorem decays_ne_top {x0 x1 : FVec Ideal S65536x256 .bf16} {x2 : FVec Ideal S65536x512 .bf16} {x3 : FVec Ideal S65536x256 .f32} {x4 : FVec Ideal S65536x512 .bf16}
    {x5 : FVec Ideal S512 .f32} (h : Cert.Pre_decays_below_infinity.fn (F := Ideal) x0 x1 x2 x3 x4 x5 = fun _ => 1#1) (i : S65536x256.Idx) : (x3 i : EReal) ≠ ⊤ := by
  have h0 := congrFun h ix0
  unfold fn at h0
  dsimp only at h0
  have : Subsingleton S_.Idx := ⟨fun a b => funext fun k => k.elim0⟩
  exact ne_top_of_word _ (Host.reduce_andi_all _ _ _ _ _ h0 i)

end Cert.Proof.Linear

end
-- ==== Proof.Gla.Chunk.lean ====
/- One chunk of 64 rows of the linear attention's kernel, as functions of the chunk's rows and of the state before it, and a
   step of the grid as sixteen of them. -/
module

public import proofs.«01_k».proof.Proof.Gen.GlaIdeal.Frame
public import Idealize.ShloMosaic.Lib.Pointwise

@[expose] public section

set_option maxRecDepth 16384

noncomputable section

namespace Cert.Proof.GlaKernel

open Cert.GlaIdeal Cert.GlaIdeal.Gen Idealize.ShloMosaic Idealize.ShloMosaic.TcCoe

section
variable (la : Vec Ideal S64x256 .f32) (q k : Vec Ideal S64x256 .bf16) (v : Vec Ideal S64x512 .bf16)

/-- The chunk's decays, a row of the table per column of the keys. -/
def decay : FVec Ideal S256x128 .f32 := k0_pay25 (k0_pay12 la)

/-- The keys' products with the values, heads 0 and 1. -/
def kvLow : FVec Ideal S128x256 .f32 := k0_pay33 (k0_pay11 la) (k0_pay26 k) v (k0_pay28 (F := Ideal))

/-- The keys' products with the values, heads 2 and 3. -/
def kvHigh : FVec Ideal S128x256 .f32 := k0_pay36 (k0_pay34 (k0_pay11 la) (k0_pay26 k) (k0_pay28 (F := Ideal))) (k0_pay35 v) (constant S128x256 .f32 0x00000000#32)

/-- The state of the four heads. -/
abbrev State := FVec Ideal S64x128 .f32 × FVec Ideal S64x128 .f32 × FVec Ideal S64x128 .f32 × FVec Ideal S64x128 .f32

/-- The state after the chunk, from the state before it. -/
def next (s : State) : State :=
  (k0_pay274 (decay la) (kvLow la k v) s.1, k0_pay275 (decay la) (kvLow la k v) s.2.1,
   k0_pay272 (kvHigh la k v) s.2.2.1 (k0_pay271 (decay la)), k0_pay273 (decay la) (kvHigh la k v) s.2.2.2)

/-- The masked scores and the decayed queries side by side. -/
def left : FVec Ideal S64x512 .bf16 :=
  k0_pay260 (k0_pay4) (k0_pay27 (k0_pay11 la) q) (k0_pay31 k0_pay5 (k0_pay11 la) (k0_pay26 k) (k0_pay27 (k0_pay11 la) q) (k0_pay28 (F := Ideal)))

/-- The chunk's rows before the norm. -/
def rows (s : State) : FVec Ideal S64x512 .f32 :=
  k0_pay336 (k0_pay7 (F := Ideal)) (k0_pay32 (k0_pay7 (F := Ideal)) v) (left la q k) s.1 s.2.1 s.2.2.1 s.2.2.2

/-- The chunk's rows. -/
def out (g : Vec Ideal S1x512 .f32) (rs : Vec Ideal S64x512 .bf16) (s : State) : FVec Ideal S64x512 .bf16 :=
  k0_pay349 (k0_pay8 g) (k0_pay344 (k0_pay8 g) (rows la q k v s)) (k0_pay345 (k0_pay8 g) (rows la q k v s)) (k0_pay346 (k0_pay8 g) (rows la q k v s))
    (k0_pay347 (rows la q k v s)) (k0_pay348 (rows la q k v s)) rs

end

/-! ### A step of the grid -/

theorem inb256 (n : ℕ) : ∀ a, (![64 * (n % 16), 0] : Fin 2 → ℕ) a + S64x256.size a ≤ S1024x256.size a := by
  intro a
  match a with
  | ⟨0, _⟩ => show 64 * (n % 16) + 64 ≤ 1024; omega
  | ⟨1, _⟩ => show 0 + 256 ≤ 256; omega

theorem inb512 (n : ℕ) : ∀ a, (![64 * (n % 16), 0] : Fin 2 → ℕ) a + S64x512.size a ≤ S1024x512.size a := by
  intro a
  match a with
  | ⟨0, _⟩ => show 64 * (n % 16) + 64 ≤ 1024; omega
  | ⟨1, _⟩ => show 0 + 512 ≤ 512; omega

/-- Chunk `n` of a block of 256 columns. -/
def at256 {e : EltTy} (x : Vec Ideal S1024x256 e) (n : ℕ) : Vec Ideal S64x256 e :=
  View.ld (S := S1024x256) x (Rect.unit ![64 * (n % 16), 0] S64x256.size (inb256 n))

/-- Chunk `n` of a block of 512 columns. -/
def at512 {e : EltTy} (x : Vec Ideal S1024x512 e) (n : ℕ) : Vec Ideal S64x512 e :=
  View.ld (S := S1024x512) x (Rect.unit ![64 * (n % 16), 0] S64x512.size (inb512 n))

section
variable (x0 x1 : Vec Ideal S1024x256 .bf16) (x2 : Vec Ideal S1024x512 .bf16) (x3 : Vec Ideal S1024x256 .f32) (x4 : Vec Ideal S1024x512 .bf16)
  (x5 : Vec Ideal S1x512 .f32)

/-- The state before chunk `n`, from the state at the step's entry. -/
def stateAt (s : State) : ℕ → State
  | 0 => s
  | n + 1 => next (at256 x3 n) (at256 x1 n) (at512 x2 n) (stateAt s n)

/-- The rows of chunk `n`. -/
def chunkAt (s : State) (n : ℕ) : FVec Ideal S64x512 .bf16 :=
  out (at256 x3 n) (at256 x0 n) (at256 x1 n) (at512 x2 n) (View.ld (S := S1x512) x5 (Rect.unit ![0, 0] S1x512.size inb_S1x512_S1x512_0_0)) (at512 x4 n) (stateAt x1 x2 x3 s n)

/-- The step's block at an entry. -/
def blockAt (s : State) (y : S1024x512.Idx) : EReal :=
  chunkAt x0 x1 x2 x3 x4 x5 s ((y 0).val / 64)
    (fun a => match a with | ⟨0, _⟩ => ⟨(y 0).val % 64, Nat.mod_lt _ (by decide)⟩ | ⟨1, _⟩ => y 1)

theorem part (s : State) (n : ℕ) (hn : n < 16) (o : ℕ) (ho : o = 64 * n) (h) (f : FVec Ideal S64x512 .bf16) (hf : f = chunkAt x0 x1 x2 x3 x4 x5 s n) (y : S64x512.Idx) :
    f y = blockAt x0 x1 x2 x3 x4 x5 s ((Rect.unit (s := S1024x512) ![o, 0] S64x512.size h).emb y) := by
  subst ho hf
  have h0 : (y 0).val < 64 := (y 0).isLt
  have e0 : (((Rect.unit (s := S1024x512) ![64 * n, 0] S64x512.size h).emb y) 0).val = 64 * n + (y 0).val := by simp
  unfold blockAt
  rw [show (((Rect.unit (s := S1024x512) ![64 * n, 0] S64x512.size h).emb y) 0).val / 64 = n by rw [e0]; omega]
  congr 1
  funext a
  match a with
  | ⟨0, _⟩ => exact Fin.ext (by show (y 0).val = _ % 64; rw [e0]; omega)
  | ⟨1, _⟩ => exact Fin.ext (by simp)

/-- The state at a step's entry, read from the scratch. -/
def enter (xs : Vec Ideal S4x64x128 .f32) : State :=
  (k0_pay261 (View.ld (S := S4x64x128) xs (Rect.unit ![0, 0, 0] S1x64x128.size inb_S4x64x128_S1x64x128_0_0_0)),
   k0_pay261 (View.ld (S := S4x64x128) xs (Rect.unit ![1, 0, 0] S1x64x128.size inb_S4x64x128_S1x64x128_1_0_0)),
   k0_pay261 (View.ld (S := S4x64x128) xs (Rect.unit ![2, 0, 0] S1x64x128.size inb_S4x64x128_S1x64x128_2_0_0)),
   k0_pay261 (View.ld (S := S4x64x128) xs (Rect.unit ![3, 0, 0] S1x64x128.size inb_S4x64x128_S1x64x128_3_0_0)))

/-- A head of a state. -/
def head (s : State) : ℕ → FVec Ideal S64x128 .f32
  | 0 => s.1
  | 1 => s.2.1
  | 2 => s.2.2.1
  | _ => s.2.2.2

/-- A state as the scratch holds it. -/
def stored (s : State) (y : S4x64x128.Idx) : EReal := head s (y 0).val (ix2 (y 1) (y 2))

theorem idx3 {a b d : ℕ} (x : Shape.Idx ⟨3, ![a, b, d]⟩) : ∃ (l : Fin a) (r : Fin b) (j : Fin d), x = ix3 l r j :=
  ⟨x 0, x 1, x 2, by funext i; match i with | ⟨0, _⟩ => rfl | ⟨1, _⟩ => rfl | ⟨2, _⟩ => rfl⟩

theorem part_state (s : State) (h : ℕ) (hh : h < 4) (hb) (f : FVec Ideal S1x64x128 .f32) (hf : f = shapeCast (s := S64x128) S1x64x128 (head s h) shapeCasts_S64x128_S1x64x128)
    (y : S1x64x128.Idx) : f y = stored s ((Rect.unit (s := S4x64x128) ![h, 0, 0] S1x64x128.size hb).emb y) := by
  subst hf
  obtain ⟨a, b, c, rfl⟩ := idx3 (a := 1) (b := 64) (d := 128) y
  have ha : a = 0 := Subsingleton.elim _ _
  subst ha
  have he : (Rect.unit (s := S4x64x128) ![h, 0, 0] S1x64x128.size hb).emb (ix3 0 b c) = ix3 (⟨h, hh⟩ : Fin 4) b c := by
    funext k; match k with | ⟨0, _⟩ => exact Fin.ext (by simp) | ⟨1, _⟩ => exact Fin.ext (by simp) | ⟨2, _⟩ => exact Fin.ext (by simp)
  rw [he]
  show _ = head s h (ix2 b c)
  pointwise []

end

end Cert.Proof.GlaKernel

end
-- ==== Proof.Gla.Spec.lean ====
/- A chunk of the gated linear attention, written once over the extended reals, for one head: 64 rows of log decays, queries,
   keys and values, and the state before them. -/
module

public import Idealize.ShloMosaic.Lib.Pointwise

@[expose] public section

noncomputable section

namespace Cert.Proof.Linear

open Idealize.ShloMosaic

section
variable (L Q K : Fin 64 → Fin 64 → EReal) (V : Fin 64 → Fin 128 → EReal) (S : Fin 64 → Fin 128 → EReal)

/-- The log decay from the chunk's start through row `i`. -/
def cumul (i d : Fin 64) : EReal := ∑ j : Fin 64, if j ≤ i then L j d else 0

/-- The chunk's whole log decay. -/
def total (d : Fin 64) : EReal := cumul L 63 d

/-- The queries with the decay since the chunk's start. -/
def decayed (i d : Fin 64) : EReal := Q i d * Ideal.exp (cumul L i d)

/-- The keys without the decay since the chunk's start. -/
def undecayed (j d : Fin 64) : EReal := K j d * Ideal.exp (-cumul L j d)

/-- The keys with the decay to the chunk's end. -/
def carried (j d : Fin 64) : EReal := K j d * Ideal.exp (total L d - cumul L j d)

/-- The score of row `i` against row `j`, none of a later row. -/
def score (i j : Fin 64) : EReal := if j ≤ i then ∑ d, decayed L Q i d * undecayed L K j d else 0

/-- The state after the chunk. -/
def step (d : Fin 64) (e : Fin 128) : EReal := Ideal.exp (total L d) * S d e + ∑ j, carried L K j d * V j e

/-- The rows: the chunk's own part and the state's. -/
def mixed (i : Fin 64) (e : Fin 128) : EReal := (∑ j, score L Q K i j * V j e) + ∑ d, decayed L Q i d * S d e

end

/-- A row after the norm, its gain and its gate. -/
def normed (o g s : Fin 128 → EReal) (e : Fin 128) : EReal :=
  o e * Ideal.rsqrt (Ideal.div (∑ e', o e' * o e') (Ideal.ofBits .f32 0x43000000#32) + Ideal.ofBits .f32 0x358637BD#32) * g e * s e

/-! ### Extended reals -/

theorem add_sub_self {x : EReal} (h : x ≠ ⊤) : x + (x - x) = x := by
  induction x with
  | bot => rfl
  | coe r => rw [← EReal.coe_sub, ← EReal.coe_add]; congr 1; ring
  | top => exact absurd rfl h

theorem sum_ne_top {ι : Type} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

theorem cumul_ne_top {L : Fin 64 → Fin 64 → EReal} (h : ∀ j d, L j d ≠ ⊤) (i d : Fin 64) : cumul L i d ≠ ⊤ :=
  sum_ne_top _ _ fun j => by split <;> simp [h]

/-- A sum split into a value and the rest that rounding leaves. -/
theorem sum_split_self {ι : Type} [Fintype ι] (f : ι → EReal) (h : ∀ i, f i ≠ ⊤) : ∑ i, f i + ∑ i, (f i - f i) = ∑ i, f i := by
  rw [← Finset.sum_add_distrib]
  exact Finset.sum_congr rfl fun i _ => add_sub_self (h i)

theorem exp_mul {b e : EReal} (hb : b ≠ ⊤) (he : e ≠ ⊤) : Ideal.exp (-b) * Ideal.exp e = Ideal.exp (e - b) := by
  induction b with
  | top => exact absurd rfl hb
  | bot =>
    induction e with
    | top => exact absurd rfl he
    | bot => show (⊤ : EReal) * 0 = Ideal.exp (⊥ - ⊥); rw [mul_zero]; rfl
    | coe e => show (⊤ : EReal) * (Real.exp e : EReal) = ⊤; exact EReal.top_mul_coe_of_pos (Real.exp_pos e)
  | coe b =>
    induction e with
    | top => exact absurd rfl he
    | bot => show ((Real.exp (-b) : ℝ) : EReal) * 0 = Ideal.exp (⊥ - (b : EReal)); rw [mul_zero]; rfl
    | coe e =>
      show ((Real.exp (-b) : ℝ) : EReal) * (Real.exp e : EReal) = ((Real.exp (e - b) : ℝ) : EReal)
      rw [← EReal.coe_mul, ← Real.exp_add]
      congr 2
      ring

end Cert.Proof.Linear

end
-- ==== Proof.Gla.Whole.lean ====
/- The gated linear attention of every sequence: the state before each chunk of 64 tokens, chunk after chunk, and the rows. -/
module

public import proofs.«01_k».proof.Proof.Gla.Spec
public import Idealize.ShloMosaic.Lib.Pointwise

@[expose] public section

noncomputable section

namespace Cert.Proof.Linear

open Idealize.ShloMosaic

/-- Column `d` of head `h` in the keys. -/
def col (h : Fin 4) (d : Fin 64) : Fin 256 := ⟨64 * h.val + d.val, by omega⟩

/-- Column `e` of head `h` in the values. -/
def vcol (h : Fin 4) (e : Fin 128) : Fin 512 := ⟨128 * h.val + e.val, by omega⟩

theorem col_val (h : Fin 4) (d : Fin 64) : (col h d).val = 64 * h.val + d.val := rfl
theorem vcol_val (h : Fin 4) (e : Fin 128) : (vcol h e).val = 128 * h.val + e.val := rfl

/-- Row `j` of chunk `n` of sequence `b`. -/
def token (b n j : ℕ) : Fin 65536 := ⟨(8192 * b + 64 * n + j) % 65536, Nat.mod_lt _ (by decide)⟩

section
variable (q k : (⟨2, ![65536, 256]⟩ : Shape).Idx → EReal) (v : (⟨2, ![65536, 512]⟩ : Shape).Idx → EReal) (la : (⟨2, ![65536, 256]⟩ : Shape).Idx → EReal)
  (g : (⟨2, ![65536, 512]⟩ : Shape).Idx → EReal) (gain : (⟨1, ![512]⟩ : Shape).Idx → EReal)

/-- A chunk's rows of one head, of log decays, queries or keys. -/
def rows64 (x : (⟨2, ![65536, 256]⟩ : Shape).Idx → EReal) (b : ℕ) (h : Fin 4) (n : ℕ) (j d : Fin 64) : EReal := x (ix2 (token b n j.val) (col h d))

/-- A chunk's rows of one head, of values or gates. -/
def rows128 (x : (⟨2, ![65536, 512]⟩ : Shape).Idx → EReal) (b : ℕ) (h : Fin 4) (n : ℕ) (j : Fin 64) (e : Fin 128) : EReal := x (ix2 (token b n j.val) (vcol h e))

/-- The state of a head before chunk `n` of sequence `b`. -/
def before (b : ℕ) (h : Fin 4) : ℕ → Fin 64 → Fin 128 → EReal
  | 0 => fun _ _ => 0
  | n + 1 => step (rows64 la b h n) (rows64 k b h n) (rows128 v b h n) (before b h n)

/-- The result at row `i` of chunk `n` of sequence `b`, head `h`, column `e`. -/
def attended (b : ℕ) (n : ℕ) (i : Fin 64) (h : Fin 4) (e : Fin 128) : EReal :=
  normed (fun e => mixed (rows64 la b h n) (rows64 q b h n) (rows64 k b h n) (rows128 v b h n) (before k v la b h n) i e)
    (fun e => gain (ix1 (vcol h e))) (fun e => rows128 g b h n i e) e

/-- The result at a token and a column. -/
def attention (n : Fin 65536) (j : Fin 512) : EReal :=
  attended q k v la g gain (n.val / 8192) (n.val % 8192 / 64) ⟨n.val % 64, Nat.mod_lt _ (by decide)⟩ ⟨j.val / 128, by omega⟩ ⟨j.val % 128, Nat.mod_lt _ (by decide)⟩

end

end Cert.Proof.Linear

end
-- ==== Proof.Gla.Read.lean ====
/- The kernel's chunk read at an entry: what each head's rows and state are, in the terms of `Spec`. -/
module

public import proofs.«01_k».proof.Proof.Gla.Chunk
public import proofs.«01_k».proof.Proof.Gla.Whole

@[expose] public section

set_option maxRecDepth 16384

noncomputable section

namespace Cert.Proof.GlaKernel

open Cert.GlaIdeal Cert.GlaIdeal.Gen Idealize.ShloMosaic Idealize.ShloMosaic.TcCoe Cert.Proof.Linear

/-! ### Lanes: 4 heads of 64 columns in the keys, of 128 in the values -/

theorem sum_col (f : Fin 256 → EReal) : ∑ x, f x = ∑ h : Fin 4, ∑ d : Fin 64, f (col h d) := by
  rw [← Fintype.sum_prod_type' (f := fun h d => f (col h d))]
  refine (Fintype.sum_equiv (finProdFinEquiv (m := 4) (n := 64)) _ _ fun x => ?_).symm
  exact congrArg f (Fin.ext (by show 64 * x.1.val + x.2.val = x.2.val + 64 * x.1.val; omega))

/-- A sum against values that are 0 off one head. -/
theorem sum_group (h : Fin 4) (f w : Fin 4 → Fin 64 → EReal) :
    (∑ g : Fin 4, ∑ d : Fin 64, f g d * if g.val = h.val then w g d else 0) = ∑ d, f h d * w h d := by
  rw [Finset.sum_eq_single h]
  · exact Finset.sum_congr rfl fun d _ => by rw [if_pos rfl]
  · intro g _ hg
    exact Finset.sum_eq_zero fun d _ => by rw [if_neg (fun q => hg (Fin.ext q)), mul_zero]
  · intro hh; exact absurd (Finset.mem_univ _) hh

/-! ### The constant masks -/

theorem sle_word (j i : Fin 64) : IntOp.cmpi .sle (BitVec.ofNat 32 j.val) (BitVec.ofNat 32 i.val) = if j ≤ i then 1#1 else 0#1 := by
  revert i j; decide

theorem tri (i j : Fin 64) : k0_pay3 (F := Ideal) (ix2 i j) = if j ≤ i then 1 else 0 := by
  pointwise [k0_pay3]
  rw [sle_word]
  split <;> rfl

theorem causal (i j : Fin 64) (h : Fin 4) : k0_pay4 (ix2 i (col h j)) = if j ≤ i then 1#1 else 0#1 := by
  pointwise [k0_pay4]
  rw [← sle_word]
  congr 1
  revert h j; decide

theorem lane_eq (g : Fin 4) (d : Fin 64) (h : Fin 4) : IntOp.cmpi .eq (k0_pay5 (ix2 0 (col g d))) (BitVec.ofNat 32 h.val) = if g.val = h.val then 1#1 else 0#1 := by
  pointwise [k0_pay5]
  revert g d h; decide

theorem select_if (p : Prop) [Decidable p] (a b : EReal) : Scalar.select (if p then 1#1 else 0#1) a b = if p then a else b := by
  split <;> rfl

section
variable (la : Vec Ideal S64x256 .f32) (q k : Vec Ideal S64x256 .bf16) (v : Vec Ideal S64x512 .bf16) (hla : ∀ x, la x ≠ ⊤)

/-- A head's log decays. -/
abbrev headL (h : Fin 4) (j d : Fin 64) : EReal := la (ix2 j (col h d))
/-- A head's queries, or its keys. -/
abbrev headQ (h : Fin 4) (j d : Fin 64) : EReal := q (ix2 j (col h d))
/-- A head's values. -/
abbrev headV (h : Fin 4) (j : Fin 64) (e : Fin 128) : EReal := v (ix2 j (vcol h e))

include hla

theorem cumul_eq (h : Fin 4) (i d : Fin 64) : k0_pay11 la (ix2 i (col h d)) = cumul (headL la h) i d := by
  pointwise [k0_pay11, k0_pay9, k0_pay10]
  rw [← Finset.sum_add_distrib]
  refine Finset.sum_congr rfl fun j _ => ?_
  rw [tri]
  split
  · rw [one_mul, one_mul]; exact add_sub_self (hla _)
  · rw [zero_mul, zero_mul, add_zero]

theorem total_eq (h : Fin 4) (d : Fin 64) (e : Fin 128) : k0_pay12 la (ix2 (col h d) e) = total (headL la h) d := by
  pointwise [k0_pay12, k0_pay9, k0_pay10, k0_pay6]
  rw [sum_split_self _ fun _ => hla _]
  unfold total cumul
  exact Finset.sum_congr rfl fun j _ => (if_pos (Fin.le_last j)).symm

theorem decay_eq (h : Fin 4) (d : Fin 64) (e : Fin 128) : decay la (ix2 (col h d) e) = Ideal.exp (total (headL la h) d) := by
  pointwise [decay, k0_pay25]
  rw [total_eq la hla]

theorem kend (h : Fin 4) (j d : Fin 64) : k0_pay30 (k0_pay11 la) (k0_pay26 k) (k0_pay28 (F := Ideal)) (ix2 j (col h d)) = carried (headL la h) (headQ k h) j d := by
  pointwise [k0_pay30, k0_pay29, k0_pay28, k0_pay26]
  rw [cumul_eq la hla, cumul_eq la hla, mul_assoc, zero_sub, exp_mul (cumul_ne_top (fun _ _ => hla _) _ _) (cumul_ne_top (fun _ _ => hla _) _ _)]
  rfl

theorem qdec (h : Fin 4) (i d : Fin 64) : k0_pay27 (k0_pay11 la) q (ix2 i (col h d)) = decayed (headL la h) (headQ q h) i d := by
  pointwise [k0_pay27]
  rw [cumul_eq la hla]
  rfl

theorem next_eq (s : State) (h : Fin 4) (d : Fin 64) (e : Fin 128) :
    head (next la k v s) h.val (ix2 d e) = step (headL la h) (headQ k h) (headV v h) (fun d e => head s h.val (ix2 d e)) d e := by
  have hd := fun h => decay_eq la hla h d e
  have hk := fun h j => kend la k hla h j d
  unfold step
  rw [← hd]
  simp only [← hk]
  match h with
  | 0 =>
    show (next la k v s).1 (ix2 d e) = _
    pointwise [next, k0_pay274, kvLow, k0_pay33]
    have h1 : ∀ p, (⟨d.val, p⟩ : Fin 256) = col 0 d := fun p => Fin.ext (by show d.val = 64 * 0 + d.val; omega)
    have h2 : ∀ p, (⟨d.val, p⟩ : Fin 256) = col 0 d := fun p => Fin.ext (by show d.val = 64 * 0 + d.val; omega)
    have h3 : ∀ p, (⟨e.val, p⟩ : Fin 512) = vcol 0 e := fun p => Fin.ext (by show e.val = 128 * 0 + e.val; omega)
    simp only [h1, h2, h3]
    rfl
  | 1 =>
    show (next la k v s).2.1 (ix2 d e) = _
    pointwise [next, k0_pay275, kvLow, k0_pay33]
    have h1 : ∀ p, (⟨64 + d.val, p⟩ : Fin 256) = col 1 d := fun p => Fin.ext (by show 64 + d.val = 64 * 1 + d.val; omega)
    have h2 : ∀ p, (⟨64 + d.val, p⟩ : Fin 256) = col 1 d := fun p => Fin.ext (by show 64 + d.val = 64 * 1 + d.val; omega)
    have h3 : ∀ p, (⟨128 + e.val, p⟩ : Fin 512) = vcol 1 e := fun p => Fin.ext (by show 128 + e.val = 128 * 1 + e.val; omega)
    simp only [h1, h2, h3]
    rfl
  | 2 =>
    show (next la k v s).2.2.1 (ix2 d e) = _
    pointwise [next, k0_pay272, k0_pay271, kvHigh, k0_pay34, k0_pay35, k0_pay36]
    have h1 : ∀ p, (⟨128 + d.val, p⟩ : Fin 256) = col 2 d := fun p => Fin.ext (by show 128 + d.val = 64 * 2 + d.val; omega)
    have h2 : ∀ p, (⟨128 + d.val, p⟩ : Fin 256) = col 2 d := fun p => Fin.ext (by show 128 + d.val = 64 * 2 + d.val; omega)
    have h3 : ∀ p, (⟨256 + e.val, p⟩ : Fin 512) = vcol 2 e := fun p => Fin.ext (by show 256 + e.val = 128 * 2 + e.val; omega)
    simp only [h1, h2, h3]
    rfl
  | 3 =>
    show (next la k v s).2.2.2 (ix2 d e) = _
    pointwise [next, k0_pay273, kvHigh, k0_pay34, k0_pay35, k0_pay36]
    have h1 : ∀ p, (⟨192 + d.val, p⟩ : Fin 256) = col 3 d := fun p => Fin.ext (by show 192 + d.val = 64 * 3 + d.val; omega)
    have h2 : ∀ p, (⟨128 + (64 + d.val), p⟩ : Fin 256) = col 3 d := fun p => Fin.ext (by show 128 + (64 + d.val) = 64 * 3 + d.val; omega)
    have h3 : ∀ p, (⟨256 + (128 + e.val), p⟩ : Fin 512) = vcol 3 e := fun p => Fin.ext (by show 256 + (128 + e.val) = 128 * 3 + e.val; omega)
    simp only [h1, h2, h3]
    rfl

theorem att (g : Fin 4) (i j : Fin 64) : k0_pay31 k0_pay5 (k0_pay11 la) (k0_pay26 k) (k0_pay27 (k0_pay11 la) q) (k0_pay28 (F := Ideal)) (ix2 i (col g j))
    = ∑ d, decayed (headL la g) (headQ q g) i d * undecayed (headL la g) (headQ k g) j d := by
  pointwise [k0_pay31, k0_pay29, k0_pay28, k0_pay26]
  rw [sum_col, ← sum_group g (fun g d => decayed (headL la g) (headQ q g) i d) (fun g d => undecayed (headL la g) (headQ k g) j d)]
  refine Finset.sum_congr rfl fun h _ => Finset.sum_congr rfl fun d _ => ?_
  rw [qdec la q hla]
  congr 1
  simp only [zero_sub]
  have key : ∀ h, k (ix2 j (col h d)) * Ideal.exp (-k0_pay11 la (ix2 j (col h d))) = undecayed (headL la h) (headQ k h) j d := fun h => by rw [cumul_eq la hla]; rfl
  rw [← key]
  match g with
  | 0 =>
    have hj : ∀ p, (⟨(col 0 j).val, p⟩ : Fin 64) = j := fun p => Fin.ext (by show 64 * 0 + j.val = j.val; omega)
    rw [dif_pos (by show 64 * 0 + j.val < 64; omega)]
    simp only [hj]
    exact (congrArg (fun w => Scalar.select w _ 0) (lane_eq h d 0)).trans (select_if _ _ _)
  | 1 =>
    have hj : ∀ p, (⟨(col 1 j).val - 64, p⟩ : Fin 64) = j := fun p => Fin.ext (by show 64 * 1 + j.val - 64 = j.val; omega)
    rw [dif_neg (by show ¬64 * 1 + j.val < 64; omega), dif_pos (by show 64 * 1 + j.val - 64 < 64; omega)]
    simp only [hj]
    exact (congrArg (fun w => Scalar.select w _ 0) (lane_eq h d 1)).trans (select_if _ _ _)
  | 2 =>
    have hj : ∀ p, (⟨(col 2 j).val - 64 - 64, p⟩ : Fin 64) = j := fun p => Fin.ext (by show 64 * 2 + j.val - 64 - 64 = j.val; omega)
    rw [dif_neg (by show ¬64 * 2 + j.val < 64; omega), dif_neg (by show ¬64 * 2 + j.val - 64 < 64; omega), dif_pos (by show 64 * 2 + j.val - 64 - 64 < 64; omega)]
    simp only [hj]
    exact (congrArg (fun w => Scalar.select w _ 0) (lane_eq h d 2)).trans (select_if _ _ _)
  | 3 =>
    have hj : ∀ p, (⟨(col 3 j).val - 64 - 64 - 64, p⟩ : Fin 64) = j := fun p => Fin.ext (by show 64 * 3 + j.val - 64 - 64 - 64 = j.val; omega)
    rw [dif_neg (by show ¬64 * 3 + j.val < 64; omega), dif_neg (by show ¬64 * 3 + j.val - 64 < 64; omega), dif_neg (by show ¬64 * 3 + j.val - 64 - 64 < 64; omega)]
    simp only [hj]
    exact (congrArg (fun w => Scalar.select w _ 0) (lane_eq h d 3)).trans (select_if _ _ _)

theorem left_scores (g : Fin 4) (i j : Fin 64) : left la q k (ix2 i (Fin.castAdd 256 (col g j))) = score (headL la g) (headQ q g) (headQ k g) i j := by
  pointwise [left, k0_pay260]
  rw [dif_pos (by show 64 * g.val + j.val < 256; omega)]
  show Scalar.select (k0_pay4 (ix2 i (col g j))) (k0_pay31 k0_pay5 (k0_pay11 la) (k0_pay26 k) (k0_pay27 (k0_pay11 la) q) (k0_pay28 (F := Ideal)) (ix2 i (col g j))) 0 = _
  rw [causal, att la q k hla, select_if]
  rfl

theorem left_queries (g : Fin 4) (i d : Fin 64) : left la q k (ix2 i (Fin.natAdd 256 (col g d))) = decayed (headL la g) (headQ q g) i d := by
  pointwise [left, k0_pay260]
  have hj : ∀ p, (⟨(Fin.natAdd 256 (col g d)).val - 256, p⟩ : Fin 256) = col g d := fun p => Fin.ext (by show 256 + (64 * g.val + d.val) - 256 = 64 * g.val + d.val; omega)
  rw [dif_neg (by show ¬256 + (64 * g.val + d.val) < 256; omega)]
  simp only [hj]
  exact qdec la q hla g i d

omit hla

set_option maxHeartbeats 1000000 in
/-- The right factor's upper half: the values on the blocks of the diagonal. -/
theorem vbd (g h : Fin 4) (j : Fin 64) (e : Fin 128) :
    k0_pay32 (k0_pay7 (F := Ideal)) v (ix2 (col g j) (vcol h e)) = if g.val = h.val then headV v g j e else 0 := by
  have hg := g.isLt; have hh := h.isLt; have hj := j.isLt; have he := e.isLt
  have hr := col_val g j; have hc := vcol_val h e; have hc' := vcol_val g e
  pointwise [k0_pay32, k0_pay7]
  generalize col g j = r at *
  generalize hw : vcol h e = w at *
  by_cases hgh : g.val = h.val
  · rw [if_pos hgh]
    split_ifs <;> first
    | (exfalso; omega)
    | exact congrArg v (congrArg₂ ix2 (Fin.ext (by (try dsimp only) <;> omega)) (Fin.ext (by (try dsimp only) <;> omega)))
  · rw [if_neg hgh]
    split_ifs <;> first
    | rfl
    | (exfalso; omega)

set_option maxHeartbeats 1000000 in
theorem rows_eq (hla : ∀ x, la x ≠ ⊤) (s : State) (i : Fin 64) (h : Fin 4) (e : Fin 128) :
    rows la q k v s (ix2 i (vcol h e)) = mixed (headL la h) (headQ q h) (headQ k h) (headV v h) (fun d e => head s h.val (ix2 d e)) i e := by
  pointwise [rows, k0_pay336]
  refine (Fin.sum_univ_add (a := 256) (b := 256) _).trans ?_
  unfold mixed
  refine congrArg₂ (· + ·) ?_ ?_
  · rw [sum_col, ← sum_group h (fun g j => score (headL la g) (headQ q g) (headQ k g) i j) (fun g j => headV v g j e)]
    refine Finset.sum_congr rfl fun g _ => Finset.sum_congr rfl fun j _ => ?_
    rw [left_scores la q k hla, ← vbd, dif_pos (by show 64 * g.val + j.val < 256; omega)]
    rfl
  · rw [sum_col, ← sum_group h (fun g d => decayed (headL la g) (headQ q g) i d) (fun g d => head s g.val (ix2 d e))]
    refine Finset.sum_congr rfl fun g _ => Finset.sum_congr rfl fun d _ => ?_
    rw [left_queries la q k hla, dif_neg (by show ¬256 + (64 * g.val + d.val) < 256; omega)]
    congr 1
    pointwise [k0_pay7]
    have hg := g.isLt; have hh := h.isLt; have hd := d.isLt; have he := e.isLt
    have hr : (Fin.natAdd 256 (col g d)).val = 256 + (64 * g.val + d.val) := rfl
    have hc := vcol_val h e
    have at_head : ∀ (n : ℕ) (hn : n = g.val) (a : Fin 64) (b : Fin 128), a.val = d.val → b.val = e.val → head s n (ix2 a b) = head s g.val (ix2 d e) :=
      fun n hn a b ha hb => by rw [hn, Fin.ext ha, Fin.ext hb]
    by_cases hgh : g.val = h.val
    · rw [if_pos hgh]
      split_ifs <;> first
      | (exfalso; omega)
      | exact at_head 0 (by omega) _ _ (by dsimp only <;> omega) (by dsimp only <;> omega)
      | exact at_head 1 (by omega) _ _ (by dsimp only <;> omega) (by dsimp only <;> omega)
      | exact at_head 2 (by omega) _ _ (by dsimp only <;> omega) (by dsimp only <;> omega)
      | exact at_head 3 (by omega) _ _ (by dsimp only <;> omega) (by dsimp only <;> omega)
    · rw [if_neg hgh]
      split_ifs <;> first
      | rfl
      | (exfalso; omega)

theorem out_eq (g : Vec Ideal S1x512 .f32) (rs : Vec Ideal S64x512 .bf16) (s : State) (i : Fin 64) (h : Fin 4) (e : Fin 128) :
    out la q k v g rs s (ix2 i (vcol h e)) = normed (fun e => rows la q k v s (ix2 i (vcol h e))) (fun e => g (ix2 0 (vcol h e))) (fun e => rs (ix2 i (vcol h e))) e := by
  pointwise [out, k0_pay349, k0_pay344, k0_pay345, k0_pay346, k0_pay347, k0_pay348, k0_pay8]
  unfold normed
  match h with
  | 0 =>
    have h1 : ∀ (x : Fin 128) p, (⟨x.val, p⟩ : Fin 512) = vcol 0 x := fun x p => Fin.ext (by show x.val = 128 * 0 + x.val; omega)
    rw [dif_pos (by show 128 * 0 + e.val < 128; omega)]
    simp only [h1]
  | 1 =>
    have h1 : ∀ (x : Fin 128) p, (⟨128 + x.val, p⟩ : Fin 512) = vcol 1 x := fun x p => Fin.ext (by show 128 + x.val = 128 * 1 + x.val; omega)
    have h2 : ∀ p, (⟨128 + ((vcol 1 e).val - 128), p⟩ : Fin 512) = vcol 1 e := fun p => Fin.ext (by show 128 + (128 * 1 + e.val - 128) = 128 * 1 + e.val; omega)
    rw [dif_neg (by show ¬128 * 1 + e.val < 128; omega), dif_pos (by show 128 * 1 + e.val - 128 < 128; omega)]
    simp only [h1, h2]
  | 2 =>
    have h1 : ∀ (x : Fin 128) p, (⟨256 + x.val, p⟩ : Fin 512) = vcol 2 x := fun x p => Fin.ext (by show 256 + x.val = 128 * 2 + x.val; omega)
    have h2 : ∀ p, (⟨256 + ((vcol 2 e).val - 128 - 128), p⟩ : Fin 512) = vcol 2 e := fun p => Fin.ext (by show 256 + (128 * 2 + e.val - 128 - 128) = 128 * 2 + e.val; omega)
    rw [dif_neg (by show ¬128 * 2 + e.val < 128; omega), dif_neg (by show ¬128 * 2 + e.val - 128 < 128; omega), dif_pos (by show 128 * 2 + e.val - 128 - 128 < 128; omega)]
    simp only [h1, h2]
  | 3 =>
    have h1 : ∀ (x : Fin 128) p, (⟨384 + x.val, p⟩ : Fin 512) = vcol 3 x := fun x p => Fin.ext (by show 384 + x.val = 128 * 3 + x.val; omega)
    have h2 : ∀ p, (⟨384 + ((vcol 3 e).val - 128 - 128 - 128), p⟩ : Fin 512) = vcol 3 e := fun p => Fin.ext (by show 384 + (128 * 3 + e.val - 128 - 128 - 128) = 128 * 3 + e.val; omega)
    rw [dif_neg (by show ¬128 * 3 + e.val < 128; omega), dif_neg (by show ¬128 * 3 + e.val - 128 < 128; omega), dif_neg (by show ¬128 * 3 + e.val - 128 - 128 < 128; omega)]
    simp only [h1, h2]

end

end Cert.Proof.GlaKernel

end
-- ==== Proof.Gla.StepA.lean ====
/- A step of the grid, block and state, is sixteen chunks one after another: the first step of a sequence. -/
module

public import proofs.«01_k».proof.Proof.Gla.Chunk
public import Idealize.ShloMosaic.Lib.Pipeline.ReadBack
public import Idealize.ShloMosaic.Lib.Pipeline.CanonAppend

@[expose] public section

set_option maxRecDepth 16384

noncomputable section

namespace Cert.Proof.GlaKernel

open Cert.GlaIdeal Cert.GlaIdeal.Gen Idealize.ShloMosaic Idealize.ShloMosaic.TcCoe

/-- The state that a sequence starts from. -/
def begin : State := enter (k0_pay2 (F := Ideal))

theorem begin_eq : begin = enter (k0_pay2 (F := Ideal)) := rfl

theorem read_fill (v : Memref sig .tc .vmem S4x64x128 .f32) (r : Rect S4x64x128) :
    v.view.readCov (Val := Elt Ideal) [⟨Rect.unit (s := S4x64x128) ![0, 0, 0] (no_index S4x64x128.size) inb_S4x64x128_S4x64x128_0_0_0, k0_pay2 (F := Ideal)⟩] r.toLoadRect = View.ld (k0_pay2 (F := Ideal)) r :=
  View.readCov_fill _ _ _ _ r (by decide)

theorem out_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S1024x512 .bf16) (harg8 : arg8.IsWhole) (arg9 : Memref sig .tc .vmem S4x64x128 .f32) (harg9 : arg9.IsWhole) (hc0 : cond0_0 i)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x512 .f32) (y : S1024x512.Idx) :
    out0_A_6 (F := Ideal) c i arg2 harg2 arg3 harg3 arg4 harg4 arg5 harg5 arg6 harg6 arg7 harg7 arg8 harg8 arg9 harg9 hc0 x0 x1 x2 x3 x4 x5 y = blockAt x0 x1 x2 x3 x4 x5 begin y := by
  rw [begin_eq]
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  refine View.canon_apply_of_pieces (Val := Elt Ideal) (e := .bf16) (blockAt x0 x1 x2 x3 x4 x5 (enter (k0_pay2 (F := Ideal)))) _ ?_ y (cover0_A_6 c i arg2 harg2 arg3 harg3 arg4 harg4 arg5 harg5 arg6 harg6 arg7 harg7 arg8 harg8 arg9 harg9 hc0 x0 x1 x2 x3 x4 x5 y)
  unfold kernelRun0_A
  dsimp only
  sl_unfold_words
  simp only [View.readAt_eq_ld, harg2.read_unread, harg3.read_unread, harg4.read_unread, harg5.read_unread, harg6.read_unread, harg7.read_unread, read_fill]
  generalize k0_pay2 (F := Ideal) = xs0
  simp only [List.forall_mem_cons]
  refine ⟨?_, ?_, ?_, ?_, ?_, ?_, ?_, ?_, ?_, ?_, ?_, ?_, ?_, ?_, ?_, ?_, by simp⟩
  · refine fun y => part x0 x1 x2 x3 x4 x5 (enter xs0) 15 (by omega) 960 rfl _ _ ?_ y
    sl_kernel_rfl
  · refine fun y => part x0 x1 x2 x3 x4 x5 (enter xs0) 14 (by omega) 896 rfl _ _ ?_ y
    sl_kernel_rfl
  · refine fun y => part x0 x1 x2 x3 x4 x5 (enter xs0) 13 (by omega) 832 rfl _ _ ?_ y
    sl_kernel_rfl
  · refine fun y => part x0 x1 x2 x3 x4 x5 (enter xs0) 12 (by omega) 768 rfl _ _ ?_ y
    sl_kernel_rfl
  · refine fun y => part x0 x1 x2 x3 x4 x5 (enter xs0) 11 (by omega) 704 rfl _ _ ?_ y
    sl_kernel_rfl
  · refine fun y => part x0 x1 x2 x3 x4 x5 (enter xs0) 10 (by omega) 640 rfl _ _ ?_ y
    sl_kernel_rfl
  · refine fun y => part x0 x1 x2 x3 x4 x5 (enter xs0) 9 (by omega) 576 rfl _ _ ?_ y
    sl_kernel_rfl
  · refine fun y => part x0 x1 x2 x3 x4 x5 (enter xs0) 8 (by omega) 512 rfl _ _ ?_ y
    sl_kernel_rfl
  · refine fun y => part x0 x1 x2 x3 x4 x5 (enter xs0) 7 (by omega) 448 rfl _ _ ?_ y
    sl_kernel_rfl
  · refine fun y => part x0 x1 x2 x3 x4 x5 (enter xs0) 6 (by omega) 384 rfl _ _ ?_ y
    sl_kernel_rfl
  · refine fun y => part x0 x1 x2 x3 x4 x5 (enter xs0) 5 (by omega) 320 rfl _ _ ?_ y
    sl_kernel_rfl
  · refine fun y => part x0 x1 x2 x3 x4 x5 (enter xs0) 4 (by omega) 256 rfl _ _ ?_ y
    sl_kernel_rfl
  · refine fun y => part x0 x1 x2 x3 x4 x5 (enter xs0) 3 (by omega) 192 rfl _ _ ?_ y
    sl_kernel_rfl
  · refine fun y => part x0 x1 x2 x3 x4 x5 (enter xs0) 2 (by omega) 128 rfl _ _ ?_ y
    sl_kernel_rfl
  · refine fun y => part x0 x1 x2 x3 x4 x5 (enter xs0) 1 (by omega) 64 rfl _ _ ?_ y
    sl_kernel_rfl
  · refine fun y => part x0 x1 x2 x3 x4 x5 (enter xs0) 0 (by omega) 0 rfl _ _ ?_ y
    sl_kernel_rfl

theorem state_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S1024x512 .bf16) (harg8 : arg8.IsWhole) (arg9 : Memref sig .tc .vmem S4x64x128 .f32) (harg9 : arg9.IsWhole) (hc0 : cond0_0 i)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x512 .f32) (y : S4x64x128.Idx) :
    sout0_A_0 (F := Ideal) c i arg2 harg2 arg3 harg3 arg4 harg4 arg5 harg5 arg6 harg6 arg7 harg7 arg8 harg8 arg9 harg9 hc0 x0 x1 x2 x3 x4 x5 y = stored (stateAt x1 x2 x3 begin 16) y := by
  rw [begin_eq]
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread, read_fill]
  generalize k0_pay2 (F := Ideal) = xs0
  refine View.canon_append_of_pieces (Val := Elt Ideal) (e := .f32) (stored (stateAt x1 x2 x3 (enter xs0) 16)) [_] [_, _, _, _] ?_ y ?_
  swap
  · exact View.cover_of_tiledL _ ![1, 64, 128] (by sl_kernel_rfl) y
  simp only [List.forall_mem_cons]
  refine ⟨?_, ?_, ?_, ?_, by simp⟩
  · refine fun y => part_state (stateAt x1 x2 x3 (enter xs0) 16) 3 (by omega) _ _ ?_ y
    sl_kernel_rfl
  · refine fun y => part_state (stateAt x1 x2 x3 (enter xs0) 16) 2 (by omega) _ _ ?_ y
    sl_kernel_rfl
  · refine fun y => part_state (stateAt x1 x2 x3 (enter xs0) 16) 1 (by omega) _ _ ?_ y
    sl_kernel_rfl
  · refine fun y => part_state (stateAt x1 x2 x3 (enter xs0) 16) 0 (by omega) _ _ ?_ y
    sl_kernel_rfl

end Cert.Proof.GlaKernel

end
-- ==== Proof.Gla.StepB.lean ====
/- A step of the grid, block and state, is sixteen chunks one after another: a step that continues a sequence. -/
module

public import proofs.«01_k».proof.Proof.Gla.Chunk

@[expose] public section

set_option maxRecDepth 16384

noncomputable section

namespace Cert.Proof.GlaKernel

open Cert.GlaIdeal Cert.GlaIdeal.Gen Idealize.ShloMosaic Idealize.ShloMosaic.TcCoe

theorem out_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S1024x512 .bf16) (harg8 : arg8.IsWhole) (arg9 : Memref sig .tc .vmem S4x64x128 .f32) (harg9 : arg9.IsWhole) (hc0 : ¬cond0_0 i)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x512 .f32) (xs0 : Vec Ideal S4x64x128 .f32) (y : S1024x512.Idx) :
    out0_B_6 (F := Ideal) c i arg2 harg2 arg3 harg3 arg4 harg4 arg5 harg5 arg6 harg6 arg7 harg7 arg8 harg8 arg9 harg9 hc0 x0 x1 x2 x3 x4 x5 xs0 y = blockAt x0 x1 x2 x3 x4 x5 (enter xs0) y := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  refine View.canon_apply_of_pieces (Val := Elt Ideal) (e := .bf16) (blockAt x0 x1 x2 x3 x4 x5 (enter xs0)) _ ?_ y (cover0_B_6 c i arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, harg2.read_unread, harg3.read_unread, harg4.read_unread, harg5.read_unread, harg6.read_unread, harg7.read_unread, harg9.read_unread]
  simp only [List.forall_mem_cons]
  refine ⟨?_, ?_, ?_, ?_, ?_, ?_, ?_, ?_, ?_, ?_, ?_, ?_, ?_, ?_, ?_, ?_, by simp⟩
  · refine fun y => part x0 x1 x2 x3 x4 x5 (enter xs0) 15 (by omega) 960 rfl _ _ ?_ y
    sl_kernel_rfl
  · refine fun y => part x0 x1 x2 x3 x4 x5 (enter xs0) 14 (by omega) 896 rfl _ _ ?_ y
    sl_kernel_rfl
  · refine fun y => part x0 x1 x2 x3 x4 x5 (enter xs0) 13 (by omega) 832 rfl _ _ ?_ y
    sl_kernel_rfl
  · refine fun y => part x0 x1 x2 x3 x4 x5 (enter xs0) 12 (by omega) 768 rfl _ _ ?_ y
    sl_kernel_rfl
  · refine fun y => part x0 x1 x2 x3 x4 x5 (enter xs0) 11 (by omega) 704 rfl _ _ ?_ y
    sl_kernel_rfl
  · refine fun y => part x0 x1 x2 x3 x4 x5 (enter xs0) 10 (by omega) 640 rfl _ _ ?_ y
    sl_kernel_rfl
  · refine fun y => part x0 x1 x2 x3 x4 x5 (enter xs0) 9 (by omega) 576 rfl _ _ ?_ y
    sl_kernel_rfl
  · refine fun y => part x0 x1 x2 x3 x4 x5 (enter xs0) 8 (by omega) 512 rfl _ _ ?_ y
    sl_kernel_rfl
  · refine fun y => part x0 x1 x2 x3 x4 x5 (enter xs0) 7 (by omega) 448 rfl _ _ ?_ y
    sl_kernel_rfl
  · refine fun y => part x0 x1 x2 x3 x4 x5 (enter xs0) 6 (by omega) 384 rfl _ _ ?_ y
    sl_kernel_rfl
  · refine fun y => part x0 x1 x2 x3 x4 x5 (enter xs0) 5 (by omega) 320 rfl _ _ ?_ y
    sl_kernel_rfl
  · refine fun y => part x0 x1 x2 x3 x4 x5 (enter xs0) 4 (by omega) 256 rfl _ _ ?_ y
    sl_kernel_rfl
  · refine fun y => part x0 x1 x2 x3 x4 x5 (enter xs0) 3 (by omega) 192 rfl _ _ ?_ y
    sl_kernel_rfl
  · refine fun y => part x0 x1 x2 x3 x4 x5 (enter xs0) 2 (by omega) 128 rfl _ _ ?_ y
    sl_kernel_rfl
  · refine fun y => part x0 x1 x2 x3 x4 x5 (enter xs0) 1 (by omega) 64 rfl _ _ ?_ y
    sl_kernel_rfl
  · refine fun y => part x0 x1 x2 x3 x4 x5 (enter xs0) 0 (by omega) 0 rfl _ _ ?_ y
    sl_kernel_rfl

theorem state_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S1024x512 .bf16) (harg8 : arg8.IsWhole) (arg9 : Memref sig .tc .vmem S4x64x128 .f32) (harg9 : arg9.IsWhole) (hc0 : ¬cond0_0 i)
    (x0 : Vec Ideal S1024x256 .bf16) (x1 : Vec Ideal S1024x256 .bf16) (x2 : Vec Ideal S1024x512 .bf16) (x3 : Vec Ideal S1024x256 .f32) (x4 : Vec Ideal S1024x512 .bf16) (x5 : Vec Ideal S1x512 .f32) (xs0 : Vec Ideal S4x64x128 .f32) (y : S4x64x128.Idx) :
    sout0_B_0 (F := Ideal) c i arg2 harg2 arg3 harg3 arg4 harg4 arg5 harg5 arg6 harg6 arg7 harg7 arg8 harg8 arg9 harg9 hc0 x0 x1 x2 x3 x4 x5 xs0 y = stored (stateAt x1 x2 x3 (enter xs0) 16) y := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  refine View.canon_apply_of_pieces (Val := Elt Ideal) (e := .f32) (stored (stateAt x1 x2 x3 (enter xs0) 16)) _ ?_ y (scover0_B_0 c i arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, harg2.read_unread, harg3.read_unread, harg4.read_unread, harg5.read_unread, harg6.read_unread, harg7.read_unread, harg9.read_unread]
  simp only [List.forall_mem_cons]
  refine ⟨?_, ?_, ?_, ?_, by simp⟩
  · refine fun y => part_state (stateAt x1 x2 x3 (enter xs0) 16) 3 (by omega) _ _ ?_ y
    sl_kernel_rfl
  · refine fun y => part_state (stateAt x1 x2 x3 (enter xs0) 16) 2 (by omega) _ _ ?_ y
    sl_kernel_rfl
  · refine fun y => part_state (stateAt x1 x2 x3 (enter xs0) 16) 1 (by omega) _ _ ?_ y
    sl_kernel_rfl
  · refine fun y => part_state (stateAt x1 x2 x3 (enter xs0) 16) 0 (by omega) _ _ ?_ y
    sl_kernel_rfl

end Cert.Proof.GlaKernel

end
-- ==== Proof.Gla.Array.lean ====
/- The kernel's array: the blocks of every grid step, the state each step leaves to the next, and the result. -/
module

public import proofs.«01_k».proof.Proof.Gen.GlaIdeal.Value
public import proofs.«01_k».proof.Proof.Gla.Read
public import proofs.«01_k».proof.Proof.Gla.StepA
public import proofs.«01_k».proof.Proof.Gla.StepB

@[expose] public section

set_option maxRecDepth 16384

noncomputable section

namespace Cert.Proof.GlaKernel

open Cert.GlaIdeal Cert.GlaIdeal.Gen Idealize.ShloMosaic Idealize.ShloMosaic.TcCoe Cert.Proof.Linear

variable (m : (ℓ : Loc nD τ sig) → Buf (Elt Ideal) ℓ) (c : Dev nD)

/-- The arguments. -/
abbrev argQ : Vec Ideal S65536x256 .bf16 := m ((c : Thread nD τ).loc main_arg0)
abbrev argK : Vec Ideal S65536x256 .bf16 := m ((c : Thread nD τ).loc main_arg1)
abbrev argV : Vec Ideal S65536x512 .bf16 := m ((c : Thread nD τ).loc main_arg2)
abbrev argL : Vec Ideal S65536x256 .f32 := m ((c : Thread nD τ).loc main_arg3)
abbrev argG : Vec Ideal S65536x512 .bf16 := m ((c : Thread nD τ).loc main_arg4)
abbrev argN : Vec Ideal S512 .f32 := m ((c : Thread nD τ).loc main_arg5)

theorem V_gain (j : Fin 512) : (V m c main_v0 : Vec Ideal S1x512 .f32) (ix2 0 j) = argN m c (ix1 j) := by
  unfold_abbrev_sides
  after_results
  pointwise []

/-! ### Which block each window is at -/

theorem lt_points (t : Fin cfg0.N) : t.val < 64 := lt_of_lt_of_eq t.isLt N_0

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = t.val ∧ win0_1.index t 1 = 0 :=
  (by decide +kernel : ∀ t : Fin grid0.N, win0_1.index t 0 = t.val ∧ win0_1.index t 1 = 0)

theorem at2 : ∀ t : Fin cfg0.N, win0_2.index t 0 = t.val ∧ win0_2.index t 1 = 0 :=
  (by decide +kernel : ∀ t : Fin grid0.N, win0_2.index t 0 = t.val ∧ win0_2.index t 1 = 0)

theorem at3 : ∀ t : Fin cfg0.N, win0_3.index t 0 = t.val ∧ win0_3.index t 1 = 0 :=
  (by decide +kernel : ∀ t : Fin grid0.N, win0_3.index t 0 = t.val ∧ win0_3.index t 1 = 0)

theorem at4 : ∀ t : Fin cfg0.N, win0_4.index t 0 = t.val ∧ win0_4.index t 1 = 0 :=
  (by decide +kernel : ∀ t : Fin grid0.N, win0_4.index t 0 = t.val ∧ win0_4.index t 1 = 0)

theorem at5 : ∀ t : Fin cfg0.N, win0_5.index t 0 = 0 ∧ win0_5.index t 1 = 0 :=
  (by decide +kernel : ∀ t : Fin grid0.N, win0_5.index t 0 = 0 ∧ win0_5.index t 1 = 0)

theorem at6 : ∀ t : Fin cfg0.N, win0_6.index t 0 = t.val ∧ win0_6.index t 1 = 0 :=
  (by decide +kernel : ∀ t : Fin grid0.N, win0_6.index t 0 = t.val ∧ win0_6.index t 1 = 0)

/-! ### What each window's block holds -/

/-- Row `r` of step `t`. -/
abbrev place (t : Fin cfg0.N) (r : Fin 1024) : Fin 65536 := ⟨1024 * t.val + r.val, by have := lt_points t; omega⟩

theorem blk0 (t : Fin cfg0.N) (r : Fin 1024) (k : Fin 256) : (iblk m c 0 t : Vec Ideal S1024x256 .bf16) (ix2 r k) = argQ m c (ix2 (place t r) k) := by
  unfold iblk
  rw [View.read_apply]
  show V m c main_arg0 _ = _
  have hi := at0 t
  rw [V_main_arg0]
  refine congrArg _ (funext fun a => Fin.ext ?_)
  match a with
  | ⟨0, _⟩ => show win0_0.index t 0 * 1024 + 1 * r.val = 1024 * t.val + r.val; rw [hi.1]; omega
  | ⟨1, _⟩ => show win0_0.index t 1 * 256 + 1 * k.val = k.val; rw [hi.2]; omega

theorem blk1 (t : Fin cfg0.N) (r : Fin 1024) (k : Fin 256) : (iblk m c 1 t : Vec Ideal S1024x256 .bf16) (ix2 r k) = argK m c (ix2 (place t r) k) := by
  unfold iblk
  rw [View.read_apply]
  show V m c main_arg1 _ = _
  have hi := at1 t
  rw [V_main_arg1]
  refine congrArg _ (funext fun a => Fin.ext ?_)
  match a with
  | ⟨0, _⟩ => show win0_1.index t 0 * 1024 + 1 * r.val = 1024 * t.val + r.val; rw [hi.1]; omega
  | ⟨1, _⟩ => show win0_1.index t 1 * 256 + 1 * k.val = k.val; rw [hi.2]; omega

theorem blk2 (t : Fin cfg0.N) (r : Fin 1024) (k : Fin 512) : (iblk m c 2 t : Vec Ideal S1024x512 .bf16) (ix2 r k) = argV m c (ix2 (place t r) k) := by
  unfold iblk
  rw [View.read_apply]
  show V m c main_arg2 _ = _
  have hi := at2 t
  rw [V_main_arg2]
  refine congrArg _ (funext fun a => Fin.ext ?_)
  match a with
  | ⟨0, _⟩ => show win0_2.index t 0 * 1024 + 1 * r.val = 1024 * t.val + r.val; rw [hi.1]; omega
  | ⟨1, _⟩ => show win0_2.index t 1 * 512 + 1 * k.val = k.val; rw [hi.2]; omega

theorem blk3 (t : Fin cfg0.N) (r : Fin 1024) (k : Fin 256) : (iblk m c 3 t : Vec Ideal S1024x256 .f32) (ix2 r k) = argL m c (ix2 (place t r) k) := by
  unfold iblk
  rw [View.read_apply]
  show V m c main_arg3 _ = _
  have hi := at3 t
  rw [V_main_arg3]
  refine congrArg _ (funext fun a => Fin.ext ?_)
  match a with
  | ⟨0, _⟩ => show win0_3.index t 0 * 1024 + 1 * r.val = 1024 * t.val + r.val; rw [hi.1]; omega
  | ⟨1, _⟩ => show win0_3.index t 1 * 256 + 1 * k.val = k.val; rw [hi.2]; omega

theorem blk4 (t : Fin cfg0.N) (r : Fin 1024) (k : Fin 512) : (iblk m c 4 t : Vec Ideal S1024x512 .bf16) (ix2 r k) = argG m c (ix2 (place t r) k) := by
  unfold iblk
  rw [View.read_apply]
  show V m c main_arg4 _ = _
  have hi := at4 t
  rw [V_main_arg4]
  refine congrArg _ (funext fun a => Fin.ext ?_)
  match a with
  | ⟨0, _⟩ => show win0_4.index t 0 * 1024 + 1 * r.val = 1024 * t.val + r.val; rw [hi.1]; omega
  | ⟨1, _⟩ => show win0_4.index t 1 * 512 + 1 * k.val = k.val; rw [hi.2]; omega

theorem blk5 (t : Fin cfg0.N) (k : Fin 512) : (iblk m c 5 t : Vec Ideal S1x512 .f32) (ix2 0 k) = argN m c (ix1 k) := by
  refine Eq.trans ?_ (V_gain m c k)
  unfold iblk
  rw [View.read_apply]
  show V m c main_v0 _ = _
  have hi := at5 t
  refine congrArg _ (funext fun a => Fin.ext ?_)
  match a with
  | ⟨0, _⟩ => show win0_5.index t 0 * 1 + 1 * 0 = 0; rw [hi.1]
  | ⟨1, _⟩ => show win0_5.index t 1 * 512 + 1 * k.val = k.val; rw [hi.2]; omega

/-! ### A chunk of a step -/

theorem at256_apply {e : EltTy} (x : Vec Ideal S1024x256 e) (n : ℕ) (j : Fin 64) (k : Fin 256) :
    at256 x n (ix2 j k) = x (ix2 ⟨64 * (n % 16) + j.val, by omega⟩ k) := by
  show x _ = x _
  refine congrArg x (funext fun a => ?_)
  match a with
  | ⟨0, _⟩ => exact Fin.ext (by simp)
  | ⟨1, _⟩ => exact Fin.ext (by simp)

theorem at512_apply {e : EltTy} (x : Vec Ideal S1024x512 e) (n : ℕ) (j : Fin 64) (k : Fin 512) :
    at512 x n (ix2 j k) = x (ix2 ⟨64 * (n % 16) + j.val, by omega⟩ k) := by
  show x _ = x _
  refine congrArg x (funext fun a => ?_)
  match a with
  | ⟨0, _⟩ => exact Fin.ext (by simp)
  | ⟨1, _⟩ => exact Fin.ext (by simp)

/-- Row `j` of chunk `n` of step `t` is a row of the sequence's chunk. -/
theorem place_eq (t : Fin cfg0.N) (n : ℕ) (hn : n < 16) (j : Fin 64) (h) :
    place t ⟨64 * (n % 16) + j.val, h⟩ = token (t.val / 8) (16 * (t.val % 8) + n) j.val :=
  Fin.ext (by
    have := lt_points t
    show 1024 * t.val + (64 * (n % 16) + j.val) = (8192 * (t.val / 8) + 64 * (16 * (t.val % 8) + n) + j.val) % 65536
    omega)

section
variable (t : Fin cfg0.N) (n : ℕ) (hn : n < 16) (h : Fin 4)
include hn

theorem headL_at : headL (at256 (iblk m c 3 t : Vec Ideal S1024x256 .f32) n) h = rows64 (argL m c) (t.val / 8) h (16 * (t.val % 8) + n) := by
  funext j d
  unfold headL rows64
  rw [at256_apply, blk3, place_eq t n hn]

theorem headQ_at : headQ (at256 (iblk m c 0 t : Vec Ideal S1024x256 .bf16) n) h = rows64 (argQ m c) (t.val / 8) h (16 * (t.val % 8) + n) := by
  funext j d
  unfold headQ rows64
  rw [at256_apply, blk0, place_eq t n hn]

theorem headK_at : headQ (at256 (iblk m c 1 t : Vec Ideal S1024x256 .bf16) n) h = rows64 (argK m c) (t.val / 8) h (16 * (t.val % 8) + n) := by
  funext j d
  unfold headQ rows64
  rw [at256_apply, blk1, place_eq t n hn]

theorem headV_at : headV (at512 (iblk m c 2 t : Vec Ideal S1024x512 .bf16) n) h = rows128 (argV m c) (t.val / 8) h (16 * (t.val % 8) + n) := by
  funext j d
  unfold headV rows128
  rw [at512_apply, blk2, place_eq t n hn]

theorem gate_at (i : Fin 64) (e : Fin 128) : at512 (iblk m c 4 t : Vec Ideal S1024x512 .bf16) n (ix2 i (vcol h e)) = rows128 (argG m c) (t.val / 8) h (16 * (t.val % 8) + n) i e := by
  unfold rows128
  rw [at512_apply, blk4, place_eq t n hn]

end

variable (hla : ∀ x, argL m c x ≠ ⊤)
include hla

theorem chunk_ne_top (t : Fin cfg0.N) (n : ℕ) (x : S64x256.Idx) : (at256 (iblk m c 3 t : Vec Ideal S1024x256 .f32) n x : EReal) ≠ (⊤ : EReal) := by
  obtain ⟨j, d, rfl⟩ : ∃ (j : Fin 64) (d : Fin 256), x = ix2 j d := ⟨x 0, x 1, by funext i; match i with | ⟨0, _⟩ => rfl | ⟨1, _⟩ => rfl⟩
  rw [at256_apply, blk3]
  exact hla _

/-- A state that holds the sequence's states before a chunk. -/
def Holds (s : State) (b n : ℕ) : Prop :=
  ∀ (h : Fin 4), (fun (d : Fin 64) (e : Fin 128) => (head s h.val (ix2 d e) : EReal)) = before (argK m c) (argV m c) (argL m c) b h n

theorem holds_at (t : Fin cfg0.N) (s : State) (hs : Holds m c s (t.val / 8) (16 * (t.val % 8))) : ∀ n, n ≤ 16 →
    Holds m c (stateAt (iblk m c 1 t) (iblk m c 2 t) (iblk m c 3 t) s n) (t.val / 8) (16 * (t.val % 8) + n)
  | 0, _ => hs
  | n + 1, hn => by
    intro h
    have ih := holds_at t s hs n (by omega) h
    funext d e
    show head (next _ _ _ _) h.val (ix2 d e) = step _ _ _ _ d e
    rw [next_eq _ _ _ (chunk_ne_top m c hla t n), headL_at m c t n (by omega), headK_at m c t n (by omega), headV_at m c t n (by omega), ih]
    rfl

omit hla in
theorem head_enter (xs : Vec Ideal S4x64x128 .f32) (h : Fin 4) (d : Fin 64) (e : Fin 128) : head (enter xs) h.val (ix2 d e) = xs (ix3 h d e) := by
  match h with
  | 0 =>
    show (enter xs).1 (ix2 d e) = _
    unfold enter
    dsimp only
    pointwise [k0_pay261]
  | 1 =>
    show (enter xs).2.1 (ix2 d e) = _
    unfold enter
    dsimp only
    pointwise [k0_pay261]
  | 2 =>
    show (enter xs).2.2.1 (ix2 d e) = _
    unfold enter
    dsimp only
    pointwise [k0_pay261]
  | 3 =>
    show (enter xs).2.2.2 (ix2 d e) = _
    unfold enter
    dsimp only
    pointwise [k0_pay261]

omit hla in
theorem begin_holds (b : ℕ) : Holds m c begin b 0 := by
  intro h
  funext d e
  unfold begin
  rw [head_enter]
  pointwise [k0_pay2]
  rfl

omit hla in
theorem enter_holds (s : State) (b n : ℕ) (hs : Holds m c s b n) (xs : Vec Ideal S4x64x128 .f32) (hx : ∀ y, xs y = stored s y) : Holds m c (enter xs) b n := by
  intro h
  refine Eq.trans ?_ (hs h)
  funext d e
  rw [head_enter, hx]
  rfl

omit hla in
theorem left_A (t : Fin cfg0.N) (h0 : t.val % 8 = 0) (y : S4x64x128.Idx) :
    (outsAt0 m c t.val t.isLt).2 y = stored (stateAt (iblk m c 1 t) (iblk m c 2 t) (iblk m c 3 t) begin 16) y := by
  rw [outsAt0_A m c t h0]
  dsimp only
  exact state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) ((hcond0_0 t).mpr h0) (iblk m c 0 t) (iblk m c 1 t) (iblk m c 2 t) (iblk m c 3 t) (iblk m c 4 t) (iblk m c 5 t) y

omit hla in
theorem left_B (t : Fin cfg0.N) (h0 : ¬t.val % 8 = 0) (y : S4x64x128.Idx) :
    (outsAt0 m c t.val t.isLt).2 y = stored (stateAt (iblk m c 1 t) (iblk m c 2 t) (iblk m c 3 t) (enter (outsAt0 m c (t.val - 1) (by omega)).2) 16) y := by
  rw [outsAt0_B m c t h0]
  dsimp only
  exact state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) (fun h => h0 ((hcond0_0 t).mp h)) (iblk m c 0 t) (iblk m c 1 t) (iblk m c 2 t) (iblk m c 3 t) (iblk m c 4 t) (iblk m c 5 t) _ y

/-- What a step leaves is the state before the next chunk. -/
theorem left_state : ∀ (n : ℕ) (hn : n < cfg0.N), ∃ s : State, Holds m c s (n / 8) (16 * (n % 8) + 16) ∧ ∀ y, (outsAt0 m c n hn).2 y = stored s y := by
  intro n
  induction n with
  | zero =>
    intro hn
    exact ⟨_, holds_at m c hla ⟨0, hn⟩ begin (begin_holds m c _) 16 le_rfl, left_A m c ⟨0, hn⟩ rfl⟩
  | succ n ih =>
    intro hn
    by_cases h0 : (n + 1) % 8 = 0
    · refine ⟨_, holds_at m c hla ⟨n + 1, hn⟩ begin ?_ 16 le_rfl, left_A m c ⟨n + 1, hn⟩ h0⟩
      show Holds m c begin _ (16 * ((n + 1) % 8))
      rw [h0]
      exact begin_holds m c _
    · obtain ⟨s, hs, hy⟩ := ih (Nat.lt_of_succ_lt hn)
      refine ⟨_, holds_at m c hla ⟨n + 1, hn⟩ (enter (outsAt0 m c n (Nat.lt_of_succ_lt hn)).2) ?_ 16 le_rfl, left_B m c ⟨n + 1, hn⟩ h0⟩
      have e1 : (n + 1) / 8 = n / 8 := by omega
      have e2 : 16 * ((n + 1) % 8) = 16 * (n % 8) + 16 := by omega
      show Holds m c _ ((n + 1) / 8) (16 * ((n + 1) % 8))
      rw [e1, e2]
      exact enter_holds m c s _ _ hs _ hy

/-! ### The array -/

/-- The result at token `n`, column `j`. -/
abbrev val6 (n : Fin 65536) (j : Fin 512) : EReal := attention (argQ m c) (argK m c) (argV m c) (argL m c) (argG m c) (argN m c) n j

theorem block_eq (t : Fin cfg0.N) (s : State) (hs : Holds m c s (t.val / 8) (16 * (t.val % 8))) (r : Fin 1024) (j : Fin 512) :
    blockAt (iblk m c 0 t) (iblk m c 1 t) (iblk m c 2 t) (iblk m c 3 t) (iblk m c 4 t) (iblk m c 5 t) s (ix2 r j) = val6 m c (place t r) j := by
  have ht := lt_points t
  have hn : r.val / 64 < 16 := by omega
  have hj : j = vcol ⟨j.val / 128, by omega⟩ ⟨j.val % 128, Nat.mod_lt _ (by decide)⟩ := Fin.ext (by show j.val = 128 * (j.val / 128) + j.val % 128; omega)
  have hst := holds_at m c hla t s hs (r.val / 64) (by omega)
  unfold val6 attention attended
  have eb : (place t r).val / 8192 = t.val / 8 := by show (1024 * t.val + r.val) / 8192 = _; omega
  have en : (place t r).val % 8192 / 64 = 16 * (t.val % 8) + r.val / 64 := by show (1024 * t.val + r.val) % 8192 / 64 = _; omega
  have ei : (⟨(place t r).val % 64, Nat.mod_lt _ (by decide)⟩ : Fin 64) = ⟨r.val % 64, Nat.mod_lt _ (by decide)⟩ := Fin.ext (by show (1024 * t.val + r.val) % 64 = r.val % 64; omega)
  rw [eb, en, ei]
  have hb : blockAt (iblk m c 0 t) (iblk m c 1 t) (iblk m c 2 t) (iblk m c 3 t) (iblk m c 4 t) (iblk m c 5 t) s (ix2 r j)
      = chunkAt (iblk m c 0 t) (iblk m c 1 t) (iblk m c 2 t) (iblk m c 3 t) (iblk m c 4 t) (iblk m c 5 t) s (r.val / 64)
        (ix2 (⟨r.val % 64, Nat.mod_lt _ (by decide)⟩ : Fin 64) (vcol ⟨j.val / 128, by omega⟩ ⟨j.val % 128, Nat.mod_lt _ (by decide)⟩)) := by
    unfold blockAt
    refine congrArg (chunkAt (iblk m c 0 t) (iblk m c 1 t) (iblk m c 2 t) (iblk m c 3 t) (iblk m c 4 t) (iblk m c 5 t) s (r.val / 64)) (funext fun a => ?_)
    match a with
    | ⟨0, _⟩ => rfl
    | ⟨1, _⟩ => exact hj
  rw [hb]
  unfold chunkAt
  rw [out_eq]
  unfold normed
  have hr : ∀ e, rows (at256 (iblk m c 3 t : Vec Ideal S1024x256 .f32) (r.val / 64)) (at256 (iblk m c 0 t : Vec Ideal S1024x256 .bf16) (r.val / 64)) (at256 (iblk m c 1 t : Vec Ideal S1024x256 .bf16) (r.val / 64)) (at512 (iblk m c 2 t : Vec Ideal S1024x512 .bf16) (r.val / 64))
      (stateAt (iblk m c 1 t) (iblk m c 2 t) (iblk m c 3 t) s (r.val / 64)) (ix2 (⟨r.val % 64, Nat.mod_lt _ (by decide)⟩ : Fin 64) (vcol ⟨j.val / 128, by omega⟩ e))
        = mixed (rows64 (argL m c) (t.val / 8) ⟨j.val / 128, by omega⟩ (16 * (t.val % 8) + r.val / 64)) (rows64 (argQ m c) (t.val / 8) ⟨j.val / 128, by omega⟩ (16 * (t.val % 8) + r.val / 64))
          (rows64 (argK m c) (t.val / 8) ⟨j.val / 128, by omega⟩ (16 * (t.val % 8) + r.val / 64)) (rows128 (argV m c) (t.val / 8) ⟨j.val / 128, by omega⟩ (16 * (t.val % 8) + r.val / 64))
          (before (argK m c) (argV m c) (argL m c) (t.val / 8) ⟨j.val / 128, by omega⟩ (16 * (t.val % 8) + r.val / 64)) ⟨r.val % 64, Nat.mod_lt _ (by decide)⟩ e := fun e => by
    rw [rows_eq _ _ _ _ (chunk_ne_top m c hla t _), headL_at m c t _ hn, headQ_at m c t _ hn, headK_at m c t _ hn, headV_at m c t _ hn, hst]
  have hg : ∀ k : Fin 512, (View.ld (S := S1x512) (iblk m c 5 t : Vec Ideal S1x512 .f32) (Rect.unit ![0, 0] S1x512.size inb_S1x512_S1x512_0_0) : Vec Ideal S1x512 .f32) (ix2 0 k) = argN m c (ix1 k) := fun k => by
    refine Eq.trans (congrArg (iblk m c 5 t : Vec Ideal S1x512 .f32) (a₂ := ix2 (0 : Fin 1) k) (funext fun a => ?_)) (blk5 m c t k)
    match a with | ⟨0, _⟩ => rfl | ⟨1, _⟩ => exact Fin.ext (by show 0 + 1 * k.val = k.val; omega)
  simp only [hr, gate_at m c t _ hn, hg]

theorem cut6 (t : Fin cfg0.N) (f : Vec Ideal S1024x512 .bf16) (hf : ∀ (r : Fin 1024) (j : Fin 512), f (ix2 r j) = val6 m c (place t r) j) :
    (cfg0.win 6).cut (grid0.coords t) f = ((cfg0.win 6).blk t).view.read (Elt Ideal) (fun y : S65536x512.Idx => (val6 m c (y 0) (y 1) : EReal)) := by
  have ht := lt_points t
  funext y
  rw [View.read_apply]
  obtain ⟨r, j, rfl⟩ : ∃ (r : Fin 1024) (j : Fin 512), y = ix2 r j := ⟨y 0, y 1, by funext i; match i with | ⟨0, _⟩ => rfl | ⟨1, _⟩ => rfl⟩
  refine (hf r j).trans ?_
  have hi := at6 t
  have e0 : (((cfg0.win 6).blk t).view.emb (ix2 r j)) 0 = place t r := Fin.ext (by
    show win0_6.index t 0 * 1024 + 1 * r.val = _
    rw [hi.1]; simp; omega)
  have e1 : (((cfg0.win 6).blk t).view.emb (ix2 r j)) 1 = j := Fin.ext (by
    show win0_6.index t 1 * 512 + 1 * j.val = _
    rw [hi.2]; omega)
  show _ = val6 m c _ _
  rw [e0, e1]

theorem flushed_eq6 (t : Fin cfg0.N) (_ : (cfg0.win 6).flush t = true) :
    (dats m 0 c).flushed 6 t = ((cfg0.win 6).blk t).view.read (Elt Ideal) (fun y : S65536x512.Idx => (val6 m c (y 0) (y 1) : EReal)) := by
  have ht := lt_points t
  by_cases h : t.val % 8 = 0
  · rw [Cert.GlaIdeal.Value.flushed6_A m c t h]
    exact cut6 m c hla t _ fun r j => (out_A _ _ _ _ _ _ _ _ _ _ _ _ _ _ _ _ _ _ _ _ _ _ _ _ _ _).trans
      (block_eq m c hla t _ (by rw [h]; exact begin_holds m c _) r j)
  · rw [Cert.GlaIdeal.Value.flushed6_B m c t h]
    obtain ⟨s, hs, hy⟩ := left_state m c hla (t.val - 1) (by have := t.isLt; omega)
    refine cut6 m c hla t _ fun r j => (out_B _ _ _ _ _ _ _ _ _ _ _ _ _ _ _ _ _ _ _ _ _ _ _ _ _ _ _).trans
      (block_eq m c hla t _ (enter_holds m c s _ _ ?_ _ hy) r j)
    rw [show t.val / 8 = (t.val - 1) / 8 by omega, show 16 * (t.val % 8) = 16 * ((t.val - 1) % 8) + 16 by omega]
    exact hs

theorem final6 : (dats m 0 c).arrAt 6 cfg0.N = fun y : S65536x512.Idx => (val6 m c (y 0) (y 1) : EReal) :=
  (dats m 0 c).arrAt_eq_of_cover 6 _ (flushed_eq6 m c hla) fun i =>
    (Cert.GlaIdeal.Value.covered_iff6 i).mpr ⟨Nat.zero_le _, (i 0).isLt, Nat.zero_le _, (i 1).isLt⟩

end Cert.Proof.GlaKernel

end
-- ==== Proof.Gla.RefSum.lean ====
/- The running sum of the log decays in a chunk. -/
module

public import proofs.«01_k».proof.Proof.Gen.GlaRefIdeal.Run
public import proofs.«01_k».proof.Proof.Gla.Whole

@[expose] public section

set_option maxRecDepth 16384

noncomputable section

namespace Cert.Proof.GlaReference

open Cert.GlaRefIdeal Cert.GlaRefIdeal.Gen Idealize.ShloMosaic Idealize.ShloMosaic.TcCoe Cert.Proof.Linear

/-- The shape of a window over the rows of a chunk. -/
abbrev Win : Shape := ⟨5, ![1, 1, 64, 1, 1]⟩

theorem foldl_sum {ι : Type} (g : ι → EReal) : ∀ (l : List ι) (a : EReal), l.foldl (fun r n => r + g n) a = a + (l.map g).sum
  | [], a => by simp
  | x :: l, a => by rw [List.foldl_cons, foldl_sum g l, List.map_cons, List.sum_cons, add_assoc]

/-- A window's position is its row. -/
def winEquiv : Win.Idx ≃ Fin 64 where
  toFun w := w 2
  invFun k := ix5 (0 : Fin 1) (0 : Fin 1) k (0 : Fin 1) (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv k := rfl

theorem sum_window (f : Fin 64 → EReal) (i : Fin 64) :
    (∑ k : Fin 64, if h : 63 ≤ i.val + k.val then f ⟨i.val + k.val - 63, by omega⟩ else 0) = ∑ j, if j ≤ i then f j else 0 := by
  have e : ∀ k : Fin 64, (if h : 63 ≤ i.val + k.val then f ⟨i.val + k.val - 63, by omega⟩ else 0)
      = if 63 ≤ i.val + k.val then f ⟨(i.val + k.val - 63) % 64, by omega⟩ else 0 := fun k => by
    split
    · exact congrArg f (Fin.ext (by show i.val + k.val - 63 = (i.val + k.val - 63) % 64; omega))
    · rfl
  rw [Finset.sum_congr rfl fun k _ => e k, ← Finset.sum_filter, ← Finset.sum_filter]
  refine Finset.sum_nbij' (fun k => ⟨(i.val + k.val - 63) % 64, by omega⟩) (fun j => ⟨(j.val + 63 - i.val) % 64, by omega⟩) ?_ ?_ ?_ ?_ ?_
  · intro k hk
    simp only [Finset.mem_filter, Finset.mem_univ, true_and, Fin.le_def] at hk ⊢
    omega
  · intro j hj
    simp only [Finset.mem_filter, Finset.mem_univ, true_and, Fin.le_def] at hj ⊢
    omega
  · intro k hk
    simp only [Finset.mem_filter, Finset.mem_univ, true_and] at hk
    exact Fin.ext (by show ((i.val + k.val - 63) % 64 + 63 - i.val) % 64 = k.val; omega)
  · intro j hj
    simp only [Finset.mem_filter, Finset.mem_univ, true_and, Fin.le_def] at hj
    exact Fin.ext (by show (i.val + (j.val + 63 - i.val) % 64 - 63) % 64 = j.val; omega)
  · intro k _; rfl

theorem dite_same {α : Type} {P Q : Prop} {_ : Decidable P} {_ : Decidable Q} (hPQ : P ↔ Q) (f : P → α) (g : Q → α) (hfg : ∀ p q, f p = g q) (z : α) :
    dite P f (fun _ => z) = dite Q g (fun _ => z) := by
  by_cases h : P
  · rw [dif_pos h, dif_pos (hPQ.mp h)]; exact hfg _ _
  · rw [dif_neg h, dif_neg fun q => h (hPQ.mpr q)]

theorem cumsum_apply (x : Vec Ideal S8x128x64x4x64 .f32) (init : Vec Ideal S_ .f32) (h0 : ∀ y, init y = (0 : EReal)) (hw hu)
    (b : Fin 8) (n : Fin 128) (i : Fin 64) (h : Fin 4) (d : Fin 64) :
    (Host.reduceWindowAdd (F := Ideal) (φ := .f32) (s := S8x128x64x4x64) (t := S8x128x64x4x64) (u := S_) ![1, 1, 64, 1, 1] ![1, 1, 1, 1, 1] ![0, 0, 63, 0, 0] ![0, 0, 0, 0, 0] x init hw hu) (ix5 b n i h d)
      = ∑ j : Fin 64, if j ≤ i then (x (ix5 b n j h d) : EReal) else 0 := by
  show Host.reduceWindow (· + ·) _ _ _ _ x (fun _ : (⟨0, ![]⟩ : Shape).Idx => init (Shape.Idx.first hu)) hw (by decide) (ix5 b n i h d) = _
  rw [h0]
  unfold Host.reduceWindow
  dsimp only
  rw [foldl_sum, zero_add, ← Fin.sum_univ_def]
  let P : Win.Idx → Prop := fun w => ∀ a : Fin 5, (![0, 0, 63, 0, 0] : Fin 5 → ℕ) a ≤ ((ix5 b n i h d : S8x128x64x4x64.Idx) a).val * (![1, 1, 1, 1, 1] : Fin 5 → ℕ) a + (w a).val
      ∧ ((ix5 b n i h d : S8x128x64x4x64.Idx) a).val * (![1, 1, 1, 1, 1] : Fin 5 → ℕ) a + (w a).val - (![0, 0, 63, 0, 0] : Fin 5 → ℕ) a < S8x128x64x4x64.size a
  refine Eq.trans (Finset.sum_congr rfl fun k _ => ?_) (Equiv.sum_comp Win.rowMajor.symm (fun w : Win.Idx => (if hin : P w
      then x (fun a => ⟨((ix5 b n i h d : S8x128x64x4x64.Idx) a).val * (![1, 1, 1, 1, 1] : Fin 5 → ℕ) a + (w a).val - (![0, 0, 63, 0, 0] : Fin 5 → ℕ) a, (hin a).2⟩) else (0 : EReal))) |>.trans ?_)
  · refine dite_same Iff.rfl _ _ ?_ _
    intro _ _
    rfl
  rw [← sum_window (fun j => x (ix5 b n j h d)) i]
  refine Fintype.sum_equiv winEquiv _ _ fun w => ?_
  have hw0 : (w 0).val = 0 := by have := (w 0).isLt; exact Nat.lt_one_iff.mp this
  have hw1 : (w 1).val = 0 := by have := (w 1).isLt; exact Nat.lt_one_iff.mp this
  have hw3 : (w 3).val = 0 := by have := (w 3).isLt; exact Nat.lt_one_iff.mp this
  have hw4 : (w 4).val = 0 := by have := (w 4).isLt; exact Nat.lt_one_iff.mp this
  have hw2 : (w 2).val < 64 := (w 2).isLt
  have hk : (winEquiv w).val = (w 2).val := rfl
  have hb := b.isLt
  have hn := n.isLt
  have hh := h.isLt
  have hd := d.isLt
  have hi := i.isLt
  by_cases hc : 63 ≤ i.val + (w 2).val
  · have hin : ∀ a : Fin 5, (![0, 0, 63, 0, 0] : Fin 5 → ℕ) a ≤ ((ix5 b n i h d : S8x128x64x4x64.Idx) a).val * (![1, 1, 1, 1, 1] : Fin 5 → ℕ) a + (w a).val
      ∧ ((ix5 b n i h d : S8x128x64x4x64.Idx) a).val * (![1, 1, 1, 1, 1] : Fin 5 → ℕ) a + (w a).val - (![0, 0, 63, 0, 0] : Fin 5 → ℕ) a < S8x128x64x4x64.size a := by
      intro a
      match a with
      | ⟨0, _⟩ => show 0 ≤ b.val * 1 + (w 0).val ∧ b.val * 1 + (w 0).val - 0 < 8; omega
      | ⟨1, _⟩ => show 0 ≤ n.val * 1 + (w 1).val ∧ n.val * 1 + (w 1).val - 0 < 128; omega
      | ⟨2, _⟩ => show 63 ≤ i.val * 1 + (w 2).val ∧ i.val * 1 + (w 2).val - 63 < 64; omega
      | ⟨3, _⟩ => show 0 ≤ h.val * 1 + (w 3).val ∧ h.val * 1 + (w 3).val - 0 < 4; omega
      | ⟨4, _⟩ => show 0 ≤ d.val * 1 + (w 4).val ∧ d.val * 1 + (w 4).val - 0 < 64; omega
    rw [dif_pos hin, dif_pos (by rw [hk]; exact hc)]
    refine congrArg x (funext fun a => Fin.ext ?_)
    match a with
    | ⟨0, _⟩ => show b.val * 1 + (w 0).val - 0 = b.val; omega
    | ⟨1, _⟩ => show n.val * 1 + (w 1).val - 0 = n.val; omega
    | ⟨2, _⟩ => show i.val * 1 + (w 2).val - 63 = i.val + (w 2).val - 63; omega
    | ⟨3, _⟩ => show h.val * 1 + (w 3).val - 0 = h.val; omega
    | ⟨4, _⟩ => show d.val * 1 + (w 4).val - 0 = d.val; omega
  · rw [dif_neg (fun hin => hc (by have := (hin 2).1; change 63 ≤ i.val * 1 + (w 2).val at this; omega)), dif_neg (by rw [hk]; exact hc)]

end Cert.Proof.GlaReference

end
-- ==== Proof.Gla.RefVals.lean ====
/- The reference's values before its loop, read at an entry. -/
module

public import proofs.«01_k».proof.Proof.Gla.RefSum

@[expose] public section

set_option maxRecDepth 16384

noncomputable section

namespace Cert.Proof.GlaReference

open Cert.GlaRefIdeal Cert.GlaRefIdeal.Gen Idealize.ShloMosaic Idealize.ShloMosaic.TcCoe Cert.Proof.Linear

section
variable (x0 x1 : Vec Ideal S65536x256 .bf16) (x2 : Vec Ideal S65536x512 .bf16) (x3 : Vec Ideal S65536x256 .f32)

/-- The log decays by sequence, chunk, row and head, and their running sums in a chunk. -/
def decays : Vec Ideal S8x128x64x4x64 .f32 := shapeCast S8x128x64x4x64 x3 shapeCasts_S65536x256_S8x128x64x4x64
def running : Vec Ideal S8x128x64x4x64 .f32 :=
  Host.reduceWindowAdd (F := Ideal) (φ := .f32) ![1, 1, 64, 1, 1] ![1, 1, 1, 1, 1] ![0, 0, 63, 0, 0] ![0, 0, 0, 0, 0] (decays x3) (broadcastInDim S_ ![] bcast_S_S_ (constant S_ .f32 0x00000000#32))
    reduceWindows_S8x128x64x4x64_S8x128x64x4x64_w1s1p0_0_w1s1p0_0_w64s1p63_0_w1s1p0_0_w1s1p0_0 h_S_
/-- The values by sequence, chunk, row and head. -/
def valuesOf : Vec Ideal S8x128x64x4x128 .f32 := shapeCast S8x128x64x4x128 (extf .f32 x2 bitsLt_bf16_f32 : FVec Ideal S65536x512 .f32) shapeCasts_S65536x512_S8x128x64x4x128
/-- The queries with their decay, the keys without theirs. -/
def queries : Vec Ideal S8x128x64x4x64 .f32 :=
  mulf (shapeCast S8x128x64x4x64 (extf .f32 x0 bitsLt_bf16_f32 : FVec Ideal S65536x256 .f32) shapeCasts_S65536x256_S8x128x64x4x64) (Host.exp (F := Ideal) (φ := .f32) (running x3))
def keys : Vec Ideal S8x128x64x4x64 .f32 :=
  mulf (shapeCast S8x128x64x4x64 (extf .f32 x1 bitsLt_bf16_f32 : FVec Ideal S65536x256 .f32) shapeCasts_S65536x256_S8x128x64x4x64) (Host.exp (F := Ideal) (φ := .f32) (Host.negf (F := Ideal) (φ := .f32) (running x3)))
/-- The mask of the rows up to and including a row. -/
def mask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The scores of a chunk. -/
def scores : Vec Ideal S8x128x4x64x64 .f32 :=
  select (broadcastInDim S8x128x4x64x64 ![3, 4] bcast_S64x64_S8x128x4x64x64_3_4 mask)
    (Host.dotGeneral (F := Ideal) (φ₁ := .f32) (φ₂ := .f32) dot_S8x128x64x4x64_S8x128x64x4x64_S8x128x4x64x64_4_4_2_2_013_013 none (queries x0 x3) (keys x1 x3))
    (broadcastInDim S8x128x4x64x64 ![] bcast_S_S8x128x4x64x64 (id (constant (F := Ideal) S_ .f32 0x00000000#32)))
/-- The rows' own part. -/
def own : Vec Ideal S8x128x64x4x128 .f32 :=
  transpose S8x128x64x4x128 [0, 1, 4, 2, 3] (Host.dotGeneral (F := Ideal) (φ₁ := .f32) (φ₂ := .f32) dot_S8x128x64x4x128_S8x128x4x64x64_S8x128x4x128x64_2_4_4_3_013_012 none (valuesOf x2) (scores x0 x1 x3))
    transposes_S8x128x4x128x64_S8x128x64x4x128_0_1_4_2_3
/-- A chunk's whole log decay. -/
def whole : Vec Ideal S8x128x4x64 .f32 :=
  shapeCast S8x128x4x64 (extractStridedSlice S8x128x1x4x64 ![0, 0, 63, 0, 0] (running x3) slices_S8x128x64x4x64_S8x128x1x4x64_0_0_63_0_0) shapeCasts_S8x128x1x4x64_S8x128x4x64
/-- What a chunk adds to the state. -/
def added : Vec Ideal S128x8x4x64x128 .f32 :=
  Host.dotGeneral (F := Ideal) (φ₁ := .f32) (φ₂ := .f32) dot_S8x128x64x4x64_S8x128x64x4x128_S128x8x4x64x128_2_2_4_4_103_103 none
    (mulf (shapeCast S8x128x64x4x64 (extf .f32 x1 bitsLt_bf16_f32 : FVec Ideal S65536x256 .f32) shapeCasts_S65536x256_S8x128x64x4x64)
      (Host.exp (F := Ideal) (φ := .f32) (subf (broadcastInDim S8x128x64x4x64 ![0, 1, 2, 3, 4] bcast_S8x128x1x4x64_S8x128x64x4x64_0_1_2_3_4
        (broadcastInDim S8x128x1x4x64 ![0, 1, 3, 4] bcast_S8x128x4x64_S8x128x1x4x64_0_1_3_4 (whole x3))) (running x3))))
    (valuesOf x2)
/-- What a chunk multiplies the state by. -/
def factors : Vec Ideal S128x8x4x64 .f32 := transpose S128x8x4x64 [1, 0, 2, 3] (Host.exp (F := Ideal) (φ := .f32) (whole x3)) transposes_S8x128x4x64_S128x8x4x64_1_0_2_3

variable (b : Fin 8) (n : Fin 128) (i j : Fin 64) (h : Fin 4) (d : Fin 64) (e : Fin 128)

theorem cast256 (x : Vec Ideal S65536x256 .f32) : shapeCast S8x128x64x4x64 x shapeCasts_S65536x256_S8x128x64x4x64 (ix5 b n i h d) = rows64 x b.val h n.val i d := by
  unfold rows64
  pointwise []
  refine congrArg x (funext fun a => Fin.ext ?_)
  match a with
  | ⟨0, _⟩ => show _ = (8192 * b.val + 64 * n.val + i.val) % 65536; simp; omega
  | ⟨1, _⟩ => show _ = 64 * h.val + d.val; simp; omega

theorem values_at : valuesOf x2 (ix5 b n i h e) = rows128 x2 b.val h n.val i e := by
  unfold rows128
  pointwise [valuesOf]
  refine congrArg x2 (funext fun a => Fin.ext ?_)
  match a with
  | ⟨0, _⟩ => show _ = (8192 * b.val + 64 * n.val + i.val) % 65536; simp; omega
  | ⟨1, _⟩ => show _ = 128 * h.val + e.val; simp; omega

theorem running_at : running x3 (ix5 b n i h d) = cumul (rows64 x3 b.val h n.val) i d := by
  unfold running cumul
  rw [cumsum_apply _ _ (fun y => by pointwise []) _ _ b n i h d]
  refine Finset.sum_congr rfl fun j _ => ?_
  unfold decays
  rw [cast256]

theorem queries_at : queries x0 x3 (ix5 b n i h d) = decayed (rows64 x3 b.val h n.val) (rows64 x0 b.val h n.val) i d := by
  show (shapeCast S8x128x64x4x64 x0 shapeCasts_S65536x256_S8x128x64x4x64 (ix5 b n i h d) : EReal) * Ideal.exp (running x3 (ix5 b n i h d)) = _
  rw [cast256, running_at]
  rfl

theorem keys_at : keys x1 x3 (ix5 b n i h d) = undecayed (rows64 x3 b.val h n.val) (rows64 x1 b.val h n.val) i d := by
  show (shapeCast S8x128x64x4x64 x1 shapeCasts_S65536x256_S8x128x64x4x64 (ix5 b n i h d) : EReal) * Ideal.exp (-(running x3 (ix5 b n i h d) : EReal)) = _
  rw [cast256, running_at]
  rfl

theorem whole_at : whole x3 (ix4 b n h d) = total (rows64 x3 b.val h n.val) d := by
  unfold total
  rw [← running_at]
  pointwise [whole]

theorem factors_at : factors x3 (ix4 n b h d) = Ideal.exp (total (rows64 x3 b.val h n.val) d) := by
  rw [← whole_at]
  pointwise [factors]

theorem toInt_small (n : ℕ) (h : n < 1024) : (BitVec.ofNat 32 n).toInt = n := by
  rw [BitVec.toInt_ofNat', Int.bmod_eq_of_le] <;> omega

theorem mask_at : mask (ix2 i j) = if j ≤ i then 1#1 else 0#1 := by
  have hi : (BitVec.ofNat 32 i.val).toInt = i.val := toInt_small _ (by omega)
  have hj : (BitVec.ofNat 32 j.val).toInt = j.val := toInt_small _ (by omega)
  have hc : IntOp.cmpi .sge (BitVec.ofNat 32 i.val + 0#32) (BitVec.ofNat 32 j.val) = 1#1 ↔ j ≤ i := by
    rw [IntOp.cmpi_sge, BitVec.add_zero, hi, hj, Fin.le_def]
    omega
  show (if IntOp.cmpi .sge (BitVec.ofNat 32 i.val + 0#32) (BitVec.ofNat 32 j.val) = 1#1 then 1#1 else 0#1 : BitVec 1) = _
  by_cases h : j ≤ i
  · rw [if_pos (hc.mpr h), if_pos h]
  · rw [if_neg (fun q => h (hc.mp q)), if_neg h]

theorem scores_at : scores x0 x1 x3 (ix5 b n h i j) = score (rows64 x3 b.val h n.val) (rows64 x0 b.val h n.val) (rows64 x1 b.val h n.val) i j := by
  pointwise [scores]
  unfold score
  simp only [queries_at, keys_at, mask_at]
  by_cases h : j ≤ i
  · simp only [h, if_true]
    rfl
  · simp only [h, if_false]
    show Ideal.ofBits .f32 0#32 = 0
    simp [Ideal.ofBits, Ideal.ieee]

theorem row_form (x : Vec Ideal S65536x256 .bf16) (h1 h2) : (x (ix2 ⟨b.val * 8192 + n.val * 64 + i.val, h1⟩ ⟨h.val * 64 + d.val, h2⟩) : EReal) = rows64 x b.val h n.val i d := by
  unfold rows64
  refine congrArg x (funext fun a => Fin.ext ?_)
  match a with
  | ⟨0, _⟩ => show b.val * 8192 + n.val * 64 + i.val = (8192 * b.val + 64 * n.val + i.val) % 65536; omega
  | ⟨1, _⟩ => show h.val * 64 + d.val = 64 * h.val + d.val; omega

theorem own_at : own x0 x1 x2 x3 (ix5 b n i h e) = ∑ j, score (rows64 x3 b.val h n.val) (rows64 x0 b.val h n.val) (rows64 x1 b.val h n.val) i j * rows128 x2 b.val h n.val j e := by
  pointwise [own]
  simp only [values_at, scores_at, mul_comm]

theorem added_at : added x1 x2 x3 (ix5 n b h d e) = ∑ j, carried (rows64 x3 b.val h n.val) (rows64 x1 b.val h n.val) j d * rows128 x2 b.val h n.val j e := by
  pointwise [added]
  simp only [values_at, running_at, whole_at, row_form]
  rfl

end

end Cert.Proof.GlaReference

end
-- ==== Proof.Gla.RefLoop.lean ====
/- The reference's loop over the chunks: the state before each chunk. -/
module

public import proofs.«01_k».proof.Proof.Gla.RefVals
public import Idealize.ShloMosaic.Lib.WordCmp
public import Idealize.ShloMosaic.Lib.WordArith.Masks

@[expose] public section

set_option maxRecDepth 16384

noncomputable section

namespace Cert.Proof.GlaReference

open Cert.GlaRefIdeal Cert.GlaRefIdeal.Gen Cert.GlaRefIdeal.Value Idealize.ShloMosaic Idealize.ShloMosaic.TcCoe Idealize.SL Idealize.SL.Sem Cert.Proof.Linear
open Idealize.ShloMosaic.StableHlo Idealize.ShloMosaic.WordCmp

/-! ### A chunk's slice of an array, and an array with a chunk's slice put in -/

section
variable (k : ℕ) (hk : k < 128) (b : Fin 8) (h : Fin 4) (d : Fin 64) (e : Fin 128)

theorem slice4 (x : Vec Ideal S128x8x4x64 .f32) (st : Fin 4 → Int) (hst : ∀ a, st a = ((![k, 0, 0, 0] : Fin 4 → ℕ) a : Int)) (hf hc) :
    shapeCast S8x4x64 (Host.dynamicSlice (s := S128x8x4x64) S1x8x4x64 x st hf) hc (ix3 b h d) = x (ix4 ⟨k, hk⟩ b h d) := by
  rw [dynamicSlice_eq_extract S1x8x4x64 x st hf ![k, 0, 0, 0] ⟨rfl, fun a => by
    match a with
    | ⟨0, _⟩ => show k + 1 ≤ 128; omega
    | ⟨1, _⟩ => show 0 + 8 ≤ 8; omega
    | ⟨2, _⟩ => show 0 + 4 ≤ 4; omega
    | ⟨3, _⟩ => show 0 + 64 ≤ 64; omega⟩ hst]
  pointwise []

theorem slice5 (x : Vec Ideal S128x8x4x64x128 .f32) (st : Fin 5 → Int) (hst : ∀ a, st a = ((![k, 0, 0, 0, 0] : Fin 5 → ℕ) a : Int)) (hf hc) :
    shapeCast S8x4x64x128 (Host.dynamicSlice (s := S128x8x4x64x128) S1x8x4x64x128 x st hf) hc (ix4 b h d e) = x (ix5 ⟨k, hk⟩ b h d e) := by
  rw [dynamicSlice_eq_extract S1x8x4x64x128 x st hf ![k, 0, 0, 0, 0] ⟨rfl, fun a => by
    match a with
    | ⟨0, _⟩ => show k + 1 ≤ 128; omega
    | ⟨1, _⟩ => show 0 + 8 ≤ 8; omega
    | ⟨2, _⟩ => show 0 + 4 ≤ 4; omega
    | ⟨3, _⟩ => show 0 + 64 ≤ 64; omega
    | ⟨4, _⟩ => show 0 + 128 ≤ 128; omega⟩ hst]
  pointwise []

include hk in
theorem update5 (x : Vec Ideal S128x8x4x64x128 .f32) (u : Vec Ideal S1x8x4x64x128 .f32) (st : Fin 5 → Int) (hst : ∀ a, st a = ((![k, 0, 0, 0, 0] : Fin 5 → ℕ) a : Int)) (hf) (n : Fin 128) :
    Host.dynamicUpdateSlice (s := S128x8x4x64x128) x u st hf (ix5 n b h d e) = if n.val = k then u (ix5 (0 : Fin 1) b h d e) else x (ix5 n b h d e) := by
  rw [dynamicUpdateSlice_eq_update x u st hf ![k, 0, 0, 0, 0] ⟨rfl, fun a => by
    match a with
    | ⟨0, _⟩ => show k + 1 ≤ 128; omega
    | ⟨1, _⟩ => show 0 + 8 ≤ 8; omega
    | ⟨2, _⟩ => show 0 + 4 ≤ 4; omega
    | ⟨3, _⟩ => show 0 + 64 ≤ 64; omega
    | ⟨4, _⟩ => show 0 + 128 ≤ 128; omega⟩ hst]
  unfold updateSlice
  by_cases hn : n.val = k
  · rw [if_pos hn, dif_pos (fun a => by
      match a with
      | ⟨0, _⟩ => show k ≤ n.val ∧ n.val < k + 1; omega
      | ⟨1, _⟩ => show 0 ≤ b.val ∧ b.val < 0 + 8; omega
      | ⟨2, _⟩ => show 0 ≤ h.val ∧ h.val < 0 + 4; omega
      | ⟨3, _⟩ => show 0 ≤ d.val ∧ d.val < 0 + 64; omega
      | ⟨4, _⟩ => show 0 ≤ e.val ∧ e.val < 0 + 128; omega)]
    refine congrArg u (funext fun a => Fin.ext ?_)
    match a with
    | ⟨0, _⟩ => show n.val - k = 0; omega
    | ⟨1, _⟩ => rfl
    | ⟨2, _⟩ => rfl
    | ⟨3, _⟩ => rfl
    | ⟨4, _⟩ => rfl
  · rw [if_neg hn, dif_neg (fun hin => hn (by have := hin 0; change k ≤ n.val ∧ n.val < k + 1 at this; omega))]

end

/-! ### What the loop is entered with -/

variable (m : (ℓ : Loc nD τ sig) → Buf (Elt Ideal) ℓ) (c : Dev nD)

abbrev refQ : Vec Ideal S65536x256 .bf16 := m (c.tc.loc main_arg0)
abbrev refK : Vec Ideal S65536x256 .bf16 := m (c.tc.loc main_arg1)
abbrev refV : Vec Ideal S65536x512 .bf16 := m (c.tc.loc main_arg2)
abbrev refL : Vec Ideal S65536x256 .f32 := m (c.tc.loc main_arg3)
abbrev refG : Vec Ideal S65536x512 .bf16 := m (c.tc.loc main_arg4)
abbrev refN : Vec Ideal S512 .f32 := m (c.tc.loc main_arg5)

theorem entry_factors : entryContents preI m c (Proc.devRef .tc main_v31_0) = factors (refL m c) := by
  simp only [entryContents, afterL_cons, afterL_nil]
  after_reads_simp
  rfl

theorem entry_added : entryContents preI m c (Proc.devRef .tc main_v31_1) = added (refK m c) (refV m c) (refL m c) := by
  simp only [entryContents, afterL_cons, afterL_nil]
  after_reads_simp
  rfl

theorem entry_state (y : S8x4x64x128.Idx) : entryContents preI m c (Proc.devRef .tc main_v31_3) y = (0 : EReal) := by
  simp only [entryContents, afterL_cons, afterL_nil]
  after_reads_simp
  show Ideal.ofBits .f32 0#32 = 0
  simp [Ideal.ofBits, Ideal.ieee]

theorem entry_queries : entryContents preI m c (Proc.devRef .tc main_v9) = queries (refQ m c) (refL m c) := by
  simp only [entryContents, afterL_cons, afterL_nil]
  after_reads_simp
  rfl

theorem entry_own : entryContents preI m c (Proc.devRef .tc main_v18) = own (refQ m c) (refK m c) (refV m c) (refL m c) := by
  simp only [entryContents, afterL_cons, afterL_nil]
  after_reads_simp
  rfl

/-! ### The trips -/

/-- A buffer that neither the condition nor the body writes is as at the entry. -/
theorem kept (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc, kept r hc h0 h1 h2 h3 h4 k]
    rfl

theorem at_factors : ∀ k, atK m k c (Proc.devRef .tc main_v31_0) = factors (refL m c)
  | 0 => entry_factors m c
  | k + 1 => (trip_main_v31_0 (after condOps (atK m k c))).trans ((cond_keeps (atK m k c) main_v31_0 (by decide)).trans (at_factors k))

theorem at_added : ∀ k, atK m k c (Proc.devRef .tc main_v31_1) = added (refK m c) (refV m c) (refL m c)
  | 0 => entry_added m c
  | k + 1 => (trip_main_v31_1 (after condOps (atK m k c))).trans ((cond_keeps (atK m k c) main_v31_1 (by decide)).trans (at_added k))

theorem counter_start (k : ℕ) (hk : k < 128) : (Scf.iv 0#32 1#32 k : BitVec 32).toInt = k := by
  have e : (Scf.iv 0#32 1#32 k : BitVec 32) = BitVec.ofNat 32 k := BitVec.eq_of_toNat_eq (by
    rw [WordArith.toNat_iv_zero_one k (by omega), BitVec.toNat_ofNat]; omega)
  rw [e, BitVec.toInt_ofNat', Int.bmod_eq_of_le] <;> omega

theorem starts4 (k : ℕ) (hk : k < 128) (a : Fin 4) :
    (((![fun _ => Scf.iv 0#32 1#32 k, constantI S_ 32 0#32, constantI S_ 32 0#32, constantI S_ 32 0#32] : Fin 4 → (⟨S_, .i32⟩ : BufTy).Contents (Elt Ideal))) a (Shape.Idx.first h_S_)).toInt
      = ((![k, 0, 0, 0] : Fin 4 → ℕ) a : Int) := by
  match a with
  | ⟨0, _⟩ => exact counter_start k hk
  | ⟨1, _⟩ => rfl
  | ⟨2, _⟩ => rfl
  | ⟨3, _⟩ => rfl

theorem starts5 (k : ℕ) (hk : k < 128) (a : Fin 5) :
    (((![fun _ => Scf.iv 0#32 1#32 k, constantI S_ 32 0#32, constantI S_ 32 0#32, constantI S_ 32 0#32, constantI S_ 32 0#32] : Fin 5 → (⟨S_, .i32⟩ : BufTy).Contents (Elt Ideal))) a (Shape.Idx.first h_S_)).toInt
      = ((![k, 0, 0, 0, 0] : Fin 5 → ℕ) a : Int) := by
  match a with
  | ⟨0, _⟩ => exact counter_start k hk
  | ⟨1, _⟩ => rfl
  | ⟨2, _⟩ => rfl
  | ⟨3, _⟩ => rfl
  | ⟨4, _⟩ => rfl

/-- One trip's state at an entry. -/
theorem trip_apply (k : ℕ) (hk : k < 128) (f : Vec Ideal S128x8x4x64 .f32) (a : Vec Ideal S128x8x4x64x128 .f32) (s : Vec Ideal S8x4x64x128 .f32)
    (st : Fin 4 → Int) (hst : ∀ a, st a = ((![k, 0, 0, 0] : Fin 4 → ℕ) a : Int)) (st' : Fin 5 → Int) (hst' : ∀ a, st' a = ((![k, 0, 0, 0, 0] : Fin 5 → ℕ) a : Int)) (hf hc hf' hc')
    (b : Fin 8) (h : Fin 4) (d : Fin 64) (e : Fin 128) :
    addf (F := Ideal) (φ := .f32) (mulf (F := Ideal) (φ := .f32) (broadcastInDim S8x4x64x128 ![0, 1, 2, 3] bcast_S8x4x64x1_S8x4x64x128_0_1_2_3 (broadcastInDim S8x4x64x1 ![0, 1, 2] bcast_S8x4x64_S8x4x64x1_0_1_2
      (shapeCast S8x4x64 (Host.dynamicSlice (s := S128x8x4x64) S1x8x4x64 f st hf) hc))) s) (shapeCast S8x4x64x128 (Host.dynamicSlice (s := S128x8x4x64x128) S1x8x4x64x128 a st' hf') hc') (ix4 b h d e)
      = (f (ix4 ⟨k, hk⟩ b h d) * s (ix4 b h d e) + a (ix5 ⟨k, hk⟩ b h d e) : EReal) := by
  rw [← slice4 k hk b h d f st hst hf hc, ← slice5 k hk b h d e a st' hst' hf' hc']
  generalize shapeCast S8x4x64 (Host.dynamicSlice (s := S128x8x4x64) S1x8x4x64 f st hf) hc = p
  generalize shapeCast S8x4x64x128 (Host.dynamicSlice (s := S128x8x4x64x128) S1x8x4x64x128 a st' hf') hc' = q
  pointwise []

theorem at_state : ∀ k, k ≤ 128 → ∀ (b : Fin 8) (h : Fin 4) (d : Fin 64) (e : Fin 128),
    atK m k c (Proc.devRef .tc main_v31_3) (ix4 b h d e) = before (refK m c) (refV m c) (refL m c) b.val h k d e
  | 0, _, b, h, d, e => entry_state m c _
  | k + 1, hk, b, h, d, e => by
    have ih := at_state k (by omega) b h d e
    refine (congrFun (trip_main_v31_3 (after condOps (atK m k c))) _).trans ?_
    rw [cond_keeps (atK m k c) main_v31_0 (by decide), cond_keeps (atK m k c) main_v31_1 (by decide), cond_keeps (atK m k c) main_v31_2 (by decide),
      cond_keeps (atK m k c) main_v31_3 (by decide), at_factors, at_added, atK_ctr]
    refine (trip_apply k (by omega) _ _ _ _ (starts4 k (by omega)) _ (starts5 k (by omega)) _ _ _ _ b h d e).trans ?_
    rw [ih, factors_at, added_at]
    rfl

theorem at_states : ∀ k, k ≤ 128 → ∀ (n : Fin 128), n.val < k → ∀ (b : Fin 8) (h : Fin 4) (d : Fin 64) (e : Fin 128),
    atK m k c (Proc.devRef .tc main_v31_4) (ix5 n b h d e) = before (refK m c) (refV m c) (refL m c) b.val h n.val d e
  | 0, _, n, hn, _, _, _, _ => by omega
  | k + 1, hk, n, hn, b, h, d, e => by
    have ih := at_states k (by omega) n
    refine (congrFun (trip_main_v31_4 (after condOps (atK m k c))) _).trans ?_
    rw [cond_keeps (atK m k c) main_v31_4 (by decide), cond_keeps (atK m k c) main_v31_2 (by decide),
      cond_keeps (atK m k c) main_v31_3 (by decide), atK_ctr]
    refine (update5 k (by omega) b h d e _ _ _ (starts5 k (by omega)) _ n).trans ?_
    by_cases hk' : n.val = k
    · rw [if_pos hk', hk', ← at_state m c k (by omega) b h d e]
      pointwise []
    · rw [if_neg hk']
      exact ih (by omega) b h d e

end Cert.Proof.GlaReference

end
-- ==== Proof.Gla.RefPost.lean ====
/- The reference after its loop: the rows, their norm, gain and gate. -/
module

public import proofs.«01_k».proof.Proof.Gla.RefLoop

@[expose] public section

set_option maxRecDepth 16384

noncomputable section

namespace Cert.Proof.GlaReference

open Cert.GlaRefIdeal Cert.GlaRefIdeal.Gen Cert.GlaRefIdeal.Value Idealize.ShloMosaic Idealize.ShloMosaic.TcCoe Idealize.SL Idealize.SL.Sem Cert.Proof.Linear
open Idealize.ShloMosaic.StableHlo

/-- The rows of every token: their own part and the state's. -/
def rowsOf (s : Vec Ideal S128x8x4x64x128 .f32) (q : Vec Ideal S8x128x64x4x64 .f32) (o : Vec Ideal S8x128x64x4x128 .f32) : Vec Ideal S8x8192x4x128 .f32 :=
  shapeCast S8x8192x4x128 (addf (F := Ideal) (φ := .f32) o (transpose S8x128x64x4x128 [0, 1, 4, 2, 3]
    (Host.dotGeneral (F := Ideal) (φ₁ := .f32) (φ₂ := .f32) dot_S128x8x4x64x128_S8x128x64x4x64_S8x128x4x128x64_3_4_4_2_102_013 none s q)
    transposes_S8x128x4x128x64_S8x128x64x4x128_0_1_4_2_3)) shapeCasts_S8x128x64x4x128_S8x8192x4x128

/-- Their norm, gain and gate. -/
def finish (r : Vec Ideal S8x8192x4x128 .f32) (g : Vec Ideal S65536x512 .bf16) (gain : Vec Ideal S512 .f32) : Vec Ideal S65536x512 .bf16 :=
  truncf .bf16 (mulf (F := Ideal) (φ := .f32) (shapeCast S65536x512 (mulf (F := Ideal) (φ := .f32) (mulf (F := Ideal) (φ := .f32) r
    (broadcastInDim S8x8192x4x128 ![0, 1, 2, 3] bcast_S8x8192x4x1_S8x8192x4x128_0_1_2_3 (Host.rsqrt (F := Ideal) (φ := .f32) (addf (F := Ideal) (φ := .f32)
      (Host.divf (F := Ideal) (φ := .f32) (broadcastInDim S8x8192x4x1 ![0, 1, 2] bcast_S8x8192x4_S8x8192x4x1_0_1_2 (Host.reduceAdd (F := Ideal) (φ := .f32) (mulf (F := Ideal) (φ := .f32) r r) (constant (F := Ideal) S_ .f32 0x00000000#32) reducesTo_S8x8192x4x128_S8x8192x4_d3 h_S_))
        (broadcastInDim S8x8192x4x1 ![] bcast_S_S8x8192x4x1 (constant (F := Ideal) S_ .f32 0x43000000#32)))
      (broadcastInDim S8x8192x4x1 ![] bcast_S_S8x8192x4x1 (constant (F := Ideal) S_ .f32 0x358637BD#32))))))
    (broadcastInDim S8x8192x4x128 ![0, 1, 2, 3] bcast_S1x1x4x128_S8x8192x4x128_0_1_2_3 (broadcastInDim S1x1x4x128 ![2, 3] bcast_S4x128_S1x1x4x128_2_3 (shapeCast S4x128 gain shapeCasts_S512_S4x128))))
    shapeCasts_S8x8192x4x128_S65536x512) (extf .f32 g bitsLt_bf16_f32 : FVec Ideal S65536x512 .f32)) bitsLt_bf16_f32

theorem rowsOf_at (s : Vec Ideal S128x8x4x64x128 .f32) (q : Vec Ideal S8x128x64x4x64 .f32) (o : Vec Ideal S8x128x64x4x128 .f32) (b : Fin 8) (t : Fin 8192) (h : Fin 4) (e : Fin 128) :
    (rowsOf s q o (ix4 b t h e) : EReal) = o (ix5 b ⟨t.val / 64, by omega⟩ ⟨t.val % 64, Nat.mod_lt _ (by decide)⟩ h e)
      + ∑ d : Fin 64, (s (ix5 ⟨t.val / 64, by omega⟩ b h d e) : EReal) * q (ix5 b ⟨t.val / 64, by omega⟩ ⟨t.val % 64, Nat.mod_lt _ (by decide)⟩ h d) := by
  pointwise [rowsOf]

theorem finish_at (r : Vec Ideal S8x8192x4x128 .f32) (g : Vec Ideal S65536x512 .bf16) (gain : Vec Ideal S512 .f32) (n : Fin 65536) (h : Fin 4) (e : Fin 128) :
    (finish r g gain (ix2 n (vcol h e)) : EReal) = normed (fun e => r (ix4 ⟨n.val / 8192, by omega⟩ ⟨n.val % 8192, Nat.mod_lt _ (by decide)⟩ h e))
      (fun e => gain (ix1 (vcol h e))) (fun e => g (ix2 n (vcol h e))) e := by
  have eh : ∀ h1, (⟨(vcol h e).val / 128, h1⟩ : Fin 4) = h := fun _ => Fin.ext (by show (128 * h.val + e.val) / 128 = h.val; omega)
  have ee : ∀ h1, (⟨(vcol h e).val % 128, h1⟩ : Fin 128) = e := fun _ => Fin.ext (by show (128 * h.val + e.val) % 128 = e.val; omega)
  pointwise [finish]
  unfold normed
  simp only [eh, ee]

theorem post_value (W : Valuation τ sig (Elt Ideal)) : afterL postI W (Proc.devRef .tc main_v53)
    = finish (rowsOf (W (Proc.devRef .tc main_v31_4)) (W (Proc.devRef .tc main_v9)) (W (Proc.devRef .tc main_v18))) (W (Proc.devRef .tc main_arg4)) (W (Proc.devRef .tc main_arg5)) := by
  simp only [afterL_cons, afterL_nil]
  after_results
  rfl

variable (m : (ℓ : Loc nD τ sig) → Buf (Elt Ideal) ℓ) (c : Dev nD)

theorem launch_arg0 : entryContents preI m c (Proc.devRef .tc main_arg0) = m (c.tc.loc main_arg0) := by
  simp only [entryContents, afterL_cons, afterL_nil]
  after_reads_simp
theorem launch_arg1 : entryContents preI m c (Proc.devRef .tc main_arg1) = m (c.tc.loc main_arg1) := by
  simp only [entryContents, afterL_cons, afterL_nil]
  after_reads_simp
theorem launch_arg2 : entryContents preI m c (Proc.devRef .tc main_arg2) = m (c.tc.loc main_arg2) := by
  simp only [entryContents, afterL_cons, afterL_nil]
  after_reads_simp
theorem launch_arg3 : entryContents preI m c (Proc.devRef .tc main_arg3) = m (c.tc.loc main_arg3) := by
  simp only [entryContents, afterL_cons, afterL_nil]
  after_reads_simp
theorem launch_arg4 : entryContents preI m c (Proc.devRef .tc main_arg4) = m (c.tc.loc main_arg4) := by
  simp only [entryContents, afterL_cons, afterL_nil]
  after_reads_simp
theorem launch_arg5 : entryContents preI m c (Proc.devRef .tc main_arg5) = m (c.tc.loc main_arg5) := by
  simp only [entryContents, afterL_cons, afterL_nil]
  after_reads_simp

/-- What the operations after the loop write. -/
abbrev post_W : List (Ref sig .tc) := [main_v32, main_v33, main_v34, main_v35, main_v36, main_cst_3, main_v37, main_v38, main_cst_4, main_v39, main_v40, main_cst_5, main_v41, main_v42,
  main_v43, main_v44, main_v45, main_v46, main_v47, main_v48, main_v49, main_v50, main_v51, main_v52, main_v53]

theorem post_writes : (hostOps0_7 : List (HloOp τ sig (Elt Ideal))).Forall fun op => op.writes ⊆ (post_W.map (Proc.devRef (τ := τ) .tc)).toFinset :=
  StableHlo.forall_writes_sub_of_map rfl

/-- A buffer that nothing from the loop on writes is at the end as at the loop's entry. -/
theorem final_kept (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h7 : r ∉ post_W) : finalContents condOps preI bodyI postI 128 m c (Proc.devRef .tc r) = entryContents preI m c (Proc.devRef .tc r) :=
  (after_of_writes_sub hostOps0_7 _ post_writes h7).trans ((after_of_writes_sub condOps _ condOps_writes hc).trans (kept m c r hc h0 h1 h2 h3 h4 128))

theorem last_kept (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : after condOps (atTrip condOps bodyI (entryContents preI m) 128 c) (Proc.devRef .tc r) = entryContents preI m c (Proc.devRef .tc r) :=
  (after_of_writes_sub condOps _ condOps_writes hc).trans (kept m c r hc h0 h1 h2 h3 h4 128)

/-- The result is the attention of the arguments. -/
theorem final_at (n : Fin 65536) (j : Fin 512) : finalContents condOps preI bodyI postI 128 m c (Proc.devRef .tc main_v53) (ix2 n j)
    = attention (refQ m c) (refK m c) (refV m c) (refL m c) (refG m c) (refN m c) n j := by
  unfold finalContents
  rw [post_value, last_kept m c main_v9 (by decide) (by decide) (by decide) (by decide) (by decide) (by decide), last_kept m c main_v18 (by decide) (by decide) (by decide) (by decide) (by decide) (by decide),
    last_kept m c main_arg4 (by decide) (by decide) (by decide) (by decide) (by decide) (by decide), last_kept m c main_arg5 (by decide) (by decide) (by decide) (by decide) (by decide) (by decide),
    cond_keeps (atK m 128 c) main_v31_4 (by decide), entry_queries, entry_own, launch_arg4, launch_arg5]
  have hj : j = vcol ⟨j.val / 128, by omega⟩ ⟨j.val % 128, Nat.mod_lt _ (by decide)⟩ := Fin.ext (by show j.val = 128 * (j.val / 128) + j.val % 128; omega)
  rw [congrArg (ix2 n) hj, finish_at]
  unfold attention attended
  have ht : token (n.val / 8192) (n.val % 8192 / 64) (n.val % 64) = n := Fin.ext (by show (8192 * (n.val / 8192) + 64 * (n.val % 8192 / 64) + n.val % 64) % 65536 = n.val; omega)
  have hi : (⟨n.val % 8192 % 64, Nat.mod_lt _ (by decide)⟩ : Fin 64) = ⟨n.val % 64, Nat.mod_lt _ (by decide)⟩ := Fin.ext (by show n.val % 8192 % 64 = n.val % 64; omega)
  unfold normed mixed rows128
  simp only [rowsOf_at, own_at, queries_at, at_states m c 128 le_rfl _ (Fin.isLt _), ht, hi, mul_comm (before _ _ _ _ _ _ _ _)]
  rfl

end Cert.Proof.GlaReference

end
-- ==== Proof.Gla.Claim.lean ====
/- The gated linear attention's value claim: the kernel's array and the reference's are one function of the arguments. -/
module

public import proofs.«01_k».proof.Defs
public import proofs.«01_k».proof.Proof.Gla.Pre
public import proofs.«01_k».proof.Proof.Gla.Array
public import proofs.«01_k».proof.Proof.Gla.RefPost

@[expose] public section

set_option maxRecDepth 16384

noncomputable section

namespace Cert.Proof

open Idealize.ShloMosaic Idealize.SL.Sem Idealize.ShloMosaic.TcCoe Idealize.ShloMosaic.StableHlo

section
open Cert.GlaIdeal Cert.GlaIdeal.Gen

variable (m : (ℓ : Loc nD τ sig) → Buf (Elt Ideal) ℓ)

/-- The result on a device. -/
abbrev glaResult (c : Dev nD) : Vec Ideal S65536x512 .bf16 := fun y => (GlaKernel.val6 m c (y 0) (y 1) : EReal)

/-- What the kernel's run leaves. -/
theorem gla_kernel (hla : ∀ c x, (GlaKernel.argL m c x : EReal) ≠ ⊤) (g : Dev nD → PrngReg) :
    θ_run (defs (F := Ideal)) (onTc (τ := τ) (main (F := Ideal))) ⟨m, fun _ => 0, g⟩ (fun r => ∀ c : Dev nD,
      r.2.mem ((c.tc : Thread nD τ).loc main_v1) = glaResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.GlaIdeal.Value.run_blocks m g)
  obtain ⟨h6, hk⟩ := h c
  exact ⟨h6.trans (GlaKernel.final6 m c (hla c)), hk⟩

end

section
open Cert.GlaRefIdeal Cert.GlaRefIdeal.Gen Cert.GlaRefIdeal.Value GlaReference

/-- What the reference's run leaves. -/
theorem gla_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v53) = (fun y : S65536x512.Idx => Linear.attention (refQ m c) (refK m c) (refV m c) (refL m c) (refG m c) (refN m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, ?_, ?_, ?_, ?_, ?_⟩) (Cert.GlaRefIdeal.Value.run_fold m g)
  · rw [h c main_v53 rfl]
    funext y
    obtain ⟨n, j, rfl⟩ : ∃ (n : Fin 65536) (j : Fin 512), y = ix2 n j := ⟨y 0, y 1, eq_ix2 y⟩
    exact final_at m c n j
  · exact (h c main_arg0 rfl).trans ((final_kept m c main_arg0 (by decide) (by decide) (by decide) (by decide) (by decide) (by decide) (by decide)).trans (launch_arg0 m c))
  · exact (h c main_arg1 rfl).trans ((final_kept m c main_arg1 (by decide) (by decide) (by decide) (by decide) (by decide) (by decide) (by decide)).trans (launch_arg1 m c))
  · exact (h c main_arg2 rfl).trans ((final_kept m c main_arg2 (by decide) (by decide) (by decide) (by decide) (by decide) (by decide) (by decide)).trans (launch_arg2 m c))
  · exact (h c main_arg3 rfl).trans ((final_kept m c main_arg3 (by decide) (by decide) (by decide) (by decide) (by decide) (by decide) (by decide)).trans (launch_arg3 m c))
  · exact (h c main_arg4 rfl).trans ((final_kept m c main_arg4 (by decide) (by decide) (by decide) (by decide) (by decide) (by decide) (by decide)).trans (launch_arg4 m c))
  · exact (h c main_arg5 rfl).trans ((final_kept m c main_arg5 (by decide) (by decide) (by decide) (by decide) (by decide) (by decide) (by decide)).trans (launch_arg5 m c))

end

theorem algebraic_gla : Cert.algebraic_GlaIdeal_GlaRefIdeal_pre_decays_below_infinity := by
  intro m g m' g' hp hm
  have hla : ∀ c x, (GlaKernel.argL m c x : EReal) ≠ ⊤ := fun c x => Linear.decays_ne_top (hp c) x
  refine ⟨fun c => glaResult m c, gla_kernel m hla g, ?_⟩
  refine (θ_run Cert.GlaRefIdeal.defs _ _).mono (fun r h c => ?_) (gla_reference m' g')
  obtain ⟨h0, hk⟩ := h c
  obtain ⟨e0, e1, e2, e3, e4, e5⟩ := hm c
  refine ⟨h0.trans ?_, hk⟩
  funext y
  show Linear.attention (GlaReference.refQ m' c) (GlaReference.refK m' c) (GlaReference.refV m' c) (GlaReference.refL m' c) (GlaReference.refG m' c) (GlaReference.refN m' c) (y 0) (y 1)
    = Linear.attention (GlaKernel.argQ m c) (GlaKernel.argK m c) (GlaKernel.argV m c) (GlaKernel.argL m c) (GlaKernel.argG m c) (GlaKernel.argN m c) (y 0) (y 1)
  rw [show GlaReference.refQ m' c = GlaKernel.argQ m c from e0, show GlaReference.refK m' c = GlaKernel.argK m c from e1, show GlaReference.refV m' c = GlaKernel.argV m c from e2,
    show GlaReference.refL m' c = GlaKernel.argL m c from e3, show GlaReference.refG m' c = GlaKernel.argG m c from e4, show GlaReference.refN m' c = GlaKernel.argN m c from e5]

end Cert.Proof

end
-- ==== Proof.lean ====
/- The six calls' claims put together: the frames are the generated modules' except the experts', the values the modules under Proof/. -/
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.Premix
public import proofs.«01_k».proof.Proof.Gen.Premix.Skeleton
public import proofs.«01_k».proof.Proof.Gen.Premix.Launch
public import proofs.«01_k».proof.Proof.Gen.Premix.Points
public import proofs.«01_k».proof.Proof.Gen.Premix.Frame
public import proofs.«01_k».proof.Proof.Gen.PremixIdeal
public import proofs.«01_k».proof.Proof.Gen.PremixIdeal.Skeleton
public import proofs.«01_k».proof.Proof.Gen.PremixIdeal.Launch
public import proofs.«01_k».proof.Proof.Gen.PremixIdeal.Points
public import proofs.«01_k».proof.Proof.Gen.PremixIdeal.Frame
public import proofs.«01_k».proof.Proof.Gen.PremixRefIdeal
public import proofs.«01_k».proof.Proof.Gen.PremixIdeal.Value
public import proofs.«01_k».proof.Proof.Gen.PremixRefIdeal.Run
public import proofs.«01_k».proof.Proof.Gen.PremixRefIdeal.Read
public import proofs.«01_k».proof.Proof.Gen.Postmix
public import proofs.«01_k».proof.Proof.Gen.Postmix.Skeleton
public import proofs.«01_k».proof.Proof.Gen.Postmix.Launch
public import proofs.«01_k».proof.Proof.Gen.Postmix.Points
public import proofs.«01_k».proof.Proof.Gen.Postmix.Frame
public import proofs.«01_k».proof.Proof.Gen.PostmixIdeal
public import proofs.«01_k».proof.Proof.Gen.PostmixIdeal.Skeleton
public import proofs.«01_k».proof.Proof.Gen.PostmixIdeal.Launch
public import proofs.«01_k».proof.Proof.Gen.PostmixIdeal.Points
public import proofs.«01_k».proof.Proof.Gen.PostmixIdeal.Frame
public import proofs.«01_k».proof.Proof.Gen.PostmixRefIdeal
public import proofs.«01_k».proof.Proof.Gen.PostmixIdeal.Value
public import proofs.«01_k».proof.Proof.Gen.PostmixRefIdeal.Run
public import proofs.«01_k».proof.Proof.Gen.PostmixRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.ModulationIdeal.Value
public import proofs.«01_k».proof.Proof.Gen.ModulationRefIdeal.Run
public import proofs.«01_k».proof.Proof.Gen.ModulationRefIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.GlaIdeal.Value
public import proofs.«01_k».proof.Proof.Gen.GlaRefIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import Idealize.ShloMosaic.Adequacy
public import Idealize.ShloMosaic.Init
public import Idealize.ShloMosaic.Lib.Quiescent
public import proofs.«01_k».proof.Proof.Swa.Claim
public import proofs.«01_k».proof.Proof.Premix.Claim
public import proofs.«01_k».proof.Proof.Postmix.Claim
public import proofs.«01_k».proof.Proof.Moe.OkBits
public import proofs.«01_k».proof.Proof.Moe.Claim
public import proofs.«01_k».proof.Proof.Modulation.Claim
public import proofs.«01_k».proof.Proof.Gla.Claim

@[expose] public section

noncomputable section

namespace Cert.Proof

open Idealize.ShloMosaic Idealize.SL.Sem Idealize.ShloMosaic.TcCoe

section
open Cert.SwaRefIdeal Cert.SwaRefIdeal.Gen

/-- The reference writes none of its arguments, and it has no counters. -/
theorem swa_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Cert.SwaRefIdeal.Value.run m g)

end

section
open Cert.PremixRefIdeal Cert.PremixRefIdeal.Gen

/-- The reference writes none of its arguments, and it has no counters. -/
theorem premix_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2.2.2, sem_eq_zero_of_no_sems (by decide) r.2⟩) (Cert.PremixRefIdeal.Value.run m g)

end

section
open Cert.PostmixRefIdeal Cert.PostmixRefIdeal.Gen

/-- The reference writes none of its arguments, and it has no counters. -/
theorem postmix_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => (h c).2, sem_eq_zero_of_no_sems (by decide) r.2⟩) (Cert.PostmixRefIdeal.Value.run m g)

end

section
open Cert.MoeRefIdeal Cert.MoeRefIdeal.Gen

/-- The reference writes none of its arguments, and it has no counters. -/
theorem moe_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Cert.MoeRefIdeal.Value.run m g)

end

section
open Cert.ModulationRefIdeal Cert.ModulationRefIdeal.Gen

/-- The reference writes none of its arguments, and it has no counters. -/
theorem modulation_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.ModulationRefIdeal.Value.run m g)

end

section
open Cert.GlaRefIdeal Cert.GlaRefIdeal.Gen

/-- The reference writes none of its arguments, and it has no counters. -/
theorem gla_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (gla_reference m g)

end

theorem claim : Cert.Claim :=
  ⟨Cert.Swa.Gen.facts, Cert.SwaIdeal.Gen.facts, Cert.SwaRefIdeal.Gen.facts, Cert.Premix.Gen.facts, Cert.PremixIdeal.Gen.facts,
    Cert.PremixRefIdeal.Gen.facts, Cert.Postmix.Gen.facts, Cert.PostmixIdeal.Gen.facts, Cert.PostmixRefIdeal.Gen.facts,
    Cert.Moe.Gen.facts, Cert.MoeIdeal.Gen.facts, Cert.MoeRefIdeal.Gen.facts, Cert.Modulation.Gen.facts, Cert.ModulationIdeal.Gen.facts,
    Cert.ModulationRefIdeal.Gen.facts, Cert.Gla.Gen.facts, Cert.GlaIdeal.Gen.facts, Cert.GlaRefIdeal.Gen.facts,
    Cert.Pre_finite.Gen.facts, Cert.Pre_experts_named.Gen.facts, Cert.Pre_decays_below_infinity.Gen.facts,
    fun m g _ => Cert.Swa.Gen.frame m g, fun m g _ => Cert.SwaIdeal.Gen.frame m g, fun m g _ => Cert.SwaIdeal.Gen.frame m g,
    fun m g _ => swa_ref_frame m g, fun m g _ => swa_ref_frame m g, fun m g _ => Cert.Premix.Gen.frame m g,
    fun m g _ => Cert.PremixIdeal.Gen.frame m g, fun m g _ => premix_ref_frame m g,
    fun m g _ => Cert.Postmix.Gen.frame m g, fun m g _ => Cert.PostmixIdeal.Gen.frame m g, fun m g _ => postmix_ref_frame m g,
    fun m g h => MoeB.frame m g (MoeB.ok_of_pre m h), fun m g h => MoeI.frame m g (MoeI.ok_of_pre m h), fun m g _ => moe_ref_frame m g, fun m g _ => moe_ref_frame m g,
    fun m g _ => Cert.Modulation.Gen.frame m g, fun m g _ => Cert.ModulationIdeal.Gen.frame m g, fun m g _ => modulation_ref_frame m g,
    fun m g _ => Cert.Gla.Gen.frame m g, fun m g _ => Cert.GlaIdeal.Gen.frame m g, fun m g _ => Cert.GlaIdeal.Gen.frame m g, fun m g _ => gla_ref_frame m g, fun m g _ => gla_ref_frame m g,
    IdealRules.named_const.statement Cert.SwaIdeal.κ "mask" .f32 0xF149F2CA#32 ⊥ rfl, algebraic_swa, trivial, algebraic_premix, trivial, algebraic_postmix,
    trivial, algebraic_moe, trivial, algebraic_modulation, trivial, algebraic_gla⟩

end Cert.Proof

end
